-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23)
      ∧ r.2.mem ((c.tc : Thread Cert.Kernel5.nD Cert.Kernel5.τ).loc Cert.Kernel5.main_arg24) = m ((c.tc : Thread Cert.Kernel5.nD Cert.Kernel5.τ).loc Cert.Kernel5.main_arg24)
      ∧ r.2.mem ((c.tc : Thread Cert.Kernel5.nD Cert.Kernel5.τ).loc Cert.Kernel5.main_arg25) = m ((c.tc : Thread Cert.Kernel5.nD Cert.Kernel5.τ).loc Cert.Kernel5.main_arg25)
      ∧ r.2.mem ((c.tc : Thread Cert.Kernel5.nD Cert.Kernel5.τ).loc Cert.Kernel5.main_arg26) = m ((c.tc : Thread Cert.Kernel5.nD Cert.Kernel5.τ).loc Cert.Kernel5.main_arg26)
      ∧ r.2.mem ((c.tc : Thread Cert.Kernel5.nD Cert.Kernel5.τ).loc Cert.Kernel5.main_arg27) = m ((c.tc : Thread Cert.Kernel5.nD Cert.Kernel5.τ).loc Cert.Kernel5.main_arg27))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
      ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
      ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
      ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
      ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23)
      ∧ r.2.mem ((c.tc : Thread Cert.Reference5Ideal.nD Cert.Reference5Ideal.τ).loc Cert.Reference5Ideal.main_arg24) = m ((c.tc : Thread Cert.Reference5Ideal.nD Cert.Reference5Ideal.τ).loc Cert.Reference5Ideal.main_arg24)
      ∧ r.2.mem ((c.tc : Thread Cert.Reference5Ideal.nD Cert.Reference5Ideal.τ).loc Cert.Reference5Ideal.main_arg25) = m ((c.tc : Thread Cert.Reference5Ideal.nD Cert.Reference5Ideal.τ).loc Cert.Reference5Ideal.main_arg25)
      ∧ r.2.mem ((c.tc : Thread Cert.Reference5Ideal.nD Cert.Reference5Ideal.τ).loc Cert.Reference5Ideal.main_arg26) = m ((c.tc : Thread Cert.Reference5Ideal.nD Cert.Reference5Ideal.τ).loc Cert.Reference5Ideal.main_arg26)
      ∧ r.2.mem ((c.tc : Thread Cert.Reference5Ideal.nD Cert.Reference5Ideal.τ).loc Cert.Reference5Ideal.main_arg27) = m ((c.tc : Thread Cert.Reference5Ideal.nD Cert.Reference5Ideal.τ).loc Cert.Reference5Ideal.main_arg27))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v15_0)) (v6 : (c : Dev Cert.KernelIdeal.nD) → Buf (Elt Ideal) ((c.tc : Thread Cert.KernelIdeal.nD Cert.KernelIdeal.τ).loc Cert.KernelIdeal.main_v17)) (v7 : (c : Dev Cert.KernelIdeal.nD) → Buf (Elt Ideal) ((c.tc : Thread Cert.KernelIdeal.nD Cert.KernelIdeal.τ).loc Cert.KernelIdeal.main_v11)) (v8 : (c : Dev Cert.KernelIdeal.nD) → Buf (Elt Ideal) ((c.tc : Thread Cert.KernelIdeal.nD Cert.KernelIdeal.τ).loc Cert.KernelIdeal.main_v12)) (v9 : (c : Dev Cert.KernelIdeal.nD) → Buf (Elt Ideal) ((c.tc : Thread Cert.KernelIdeal.nD Cert.KernelIdeal.τ).loc Cert.KernelIdeal.main_v13)) (v10 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v15_0) = v5 c
          ∧ r.2.mem ((c.tc : Thread Cert.KernelIdeal.nD Cert.KernelIdeal.τ).loc Cert.KernelIdeal.main_v17) = v6 c
          ∧ r.2.mem ((c.tc : Thread Cert.KernelIdeal.nD Cert.KernelIdeal.τ).loc Cert.KernelIdeal.main_v11) = v7 c
          ∧ r.2.mem ((c.tc : Thread Cert.KernelIdeal.nD Cert.KernelIdeal.τ).loc Cert.KernelIdeal.main_v12) = v8 c
          ∧ r.2.mem ((c.tc : Thread Cert.KernelIdeal.nD Cert.KernelIdeal.τ).loc Cert.KernelIdeal.main_v13) = v9 c
          ∧ r.2.mem ((c.tc : Thread Cert.KernelIdeal.nD Cert.KernelIdeal.τ).loc Cert.KernelIdeal.main_v14) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v54) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v55) = v7 c
          ∧ r.2.mem ((c.tc : Thread Cert.ReferenceIdeal.nD Cert.ReferenceIdeal.τ).loc Cert.ReferenceIdeal.main_v56) = v8 c
          ∧ r.2.mem ((c.tc : Thread Cert.ReferenceIdeal.nD Cert.ReferenceIdeal.τ).loc Cert.ReferenceIdeal.main_v57) = v9 c
          ∧ r.2.mem ((c.tc : Thread Cert.ReferenceIdeal.nD Cert.ReferenceIdeal.τ).loc Cert.ReferenceIdeal.main_v58) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_1)) (v1 : (c : Dev Cert.Kernel2Ideal.nD) → Buf (Elt Ideal) ((c.tc : Thread Cert.Kernel2Ideal.nD Cert.Kernel2Ideal.τ).loc Cert.Kernel2Ideal.main_v10)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v12)) (v4 : (c : Dev Cert.Kernel2Ideal.nD) → Buf (Elt Ideal) ((c.tc : Thread Cert.Kernel2Ideal.nD Cert.Kernel2Ideal.τ).loc Cert.Kernel2Ideal.main_v14)) (v5 : (c : Dev Cert.Kernel2Ideal.nD) → Buf (Elt Ideal) ((c.tc : Thread Cert.Kernel2Ideal.nD Cert.Kernel2Ideal.τ).loc Cert.Kernel2Ideal.main_v9_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_1) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v12) = v3 c
          ∧ r.2.mem ((c.tc : Thread Cert.Kernel2Ideal.nD Cert.Kernel2Ideal.τ).loc Cert.Kernel2Ideal.main_v14) = v4 c
          ∧ r.2.mem ((c.tc : Thread Cert.Kernel2Ideal.nD Cert.Kernel2Ideal.τ).loc Cert.Kernel2Ideal.main_v9_4) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v45) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_v41) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v1_0)) (v5 : (c : Dev Cert.Kernel3Ideal.nD) → Buf (Elt Ideal) ((c.tc : Thread Cert.Kernel3Ideal.nD Cert.Kernel3Ideal.τ).loc Cert.Kernel3Ideal.main_v1_1)) (v6 : (c : Dev Cert.Kernel3Ideal.nD) → Buf (Elt Ideal) ((c.tc : Thread Cert.Kernel3Ideal.nD Cert.Kernel3Ideal.τ).loc Cert.Kernel3Ideal.main_v1_2)) (v7 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v1_0) = v4 c
          ∧ r.2.mem ((c.tc : Thread Cert.Kernel3Ideal.nD Cert.Kernel3Ideal.τ).loc Cert.Kernel3Ideal.main_v1_1) = v5 c
          ∧ r.2.mem ((c.tc : Thread Cert.Kernel3Ideal.nD Cert.Kernel3Ideal.τ).loc Cert.Kernel3Ideal.main_v1_2) = v6 c
          ∧ r.2.mem ((c.tc : Thread Cert.Kernel3Ideal.nD Cert.Kernel3Ideal.τ).loc Cert.Kernel3Ideal.main_v1_3) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v5) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_v34) = v6 c
          ∧ r.2.mem ((c.tc : Thread Cert.Reference3Ideal.nD Cert.Reference3Ideal.τ).loc Cert.Reference3Ideal.main_v40) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v1_0)) (v4 : (c : Dev Cert.Kernel4Ideal.nD) → Buf (Elt Ideal) ((c.tc : Thread Cert.Kernel4Ideal.nD Cert.Kernel4Ideal.τ).loc Cert.Kernel4Ideal.main_v1_1)) (v5 : (c : Dev Cert.Kernel4Ideal.nD) → Buf (Elt Ideal) ((c.tc : Thread Cert.Kernel4Ideal.nD Cert.Kernel4Ideal.τ).loc Cert.Kernel4Ideal.main_v1_2)) (v6 : (c : Dev Cert.Kernel4Ideal.nD) → Buf (Elt Ideal) ((c.tc : Thread Cert.Kernel4Ideal.nD Cert.Kernel4Ideal.τ).loc Cert.Kernel4Ideal.main_v2_0)) (v7 : (c : Dev Cert.Kernel4Ideal.nD) → Buf (Elt Ideal) ((c.tc : Thread Cert.Kernel4Ideal.nD Cert.Kernel4Ideal.τ).loc Cert.Kernel4Ideal.main_v2_1)) (v8 : (c : Dev Cert.Kernel4Ideal.nD) → Buf (Elt Ideal) ((c.tc : Thread Cert.Kernel4Ideal.nD Cert.Kernel4Ideal.τ).loc Cert.Kernel4Ideal.main_v2_2)) (v9 : (c : Dev Cert.Kernel4Ideal.nD) → Buf (Elt Ideal) ((c.tc : Thread Cert.Kernel4Ideal.nD Cert.Kernel4Ideal.τ).loc Cert.Kernel4Ideal.main_v3_0)) (v10 : (c : Dev Cert.Kernel4Ideal.nD) → Buf (Elt Ideal) ((c.tc : Thread Cert.Kernel4Ideal.nD Cert.Kernel4Ideal.τ).loc Cert.Kernel4Ideal.main_v3_1)) (v11 : (c : Dev Cert.Kernel4Ideal.nD) → Buf (Elt Ideal) ((c.tc : Thread Cert.Kernel4Ideal.nD Cert.Kernel4Ideal.τ).loc Cert.Kernel4Ideal.main_v3_2)) (v12 : (c : Dev Cert.Kernel4Ideal.nD) → Buf (Elt Ideal) ((c.tc : Thread Cert.Kernel4Ideal.nD Cert.Kernel4Ideal.τ).loc Cert.Kernel4Ideal.main_v4_0)) (v13 : (c : Dev Cert.Kernel4Ideal.nD) → Buf (Elt Ideal) ((c.tc : Thread Cert.Kernel4Ideal.nD Cert.Kernel4Ideal.τ).loc Cert.Kernel4Ideal.main_v4_1)) (v14 : (c : Dev Cert.Kernel4Ideal.nD) → Buf (Elt Ideal) ((c.tc : Thread Cert.Kernel4Ideal.nD Cert.Kernel4Ideal.τ).loc Cert.Kernel4Ideal.main_v4_2)) (v15 : (c : Dev Cert.Kernel4Ideal.nD) → Buf (Elt Ideal) ((c.tc : Thread Cert.Kernel4Ideal.nD Cert.Kernel4Ideal.τ).loc Cert.Kernel4Ideal.main_v5_0)) (v16 : (c : Dev Cert.Kernel4Ideal.nD) → Buf (Elt Ideal) ((c.tc : Thread Cert.Kernel4Ideal.nD Cert.Kernel4Ideal.τ).loc Cert.Kernel4Ideal.main_v5_1)) (v17 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v1_0) = v3 c
          ∧ r.2.mem ((c.tc : Thread Cert.Kernel4Ideal.nD Cert.Kernel4Ideal.τ).loc Cert.Kernel4Ideal.main_v1_1) = v4 c
          ∧ r.2.mem ((c.tc : Thread Cert.Kernel4Ideal.nD Cert.Kernel4Ideal.τ).loc Cert.Kernel4Ideal.main_v1_2) = v5 c
          ∧ r.2.mem ((c.tc : Thread Cert.Kernel4Ideal.nD Cert.Kernel4Ideal.τ).loc Cert.Kernel4Ideal.main_v2_0) = v6 c
          ∧ r.2.mem ((c.tc : Thread Cert.Kernel4Ideal.nD Cert.Kernel4Ideal.τ).loc Cert.Kernel4Ideal.main_v2_1) = v7 c
          ∧ r.2.mem ((c.tc : Thread Cert.Kernel4Ideal.nD Cert.Kernel4Ideal.τ).loc Cert.Kernel4Ideal.main_v2_2) = v8 c
          ∧ r.2.mem ((c.tc : Thread Cert.Kernel4Ideal.nD Cert.Kernel4Ideal.τ).loc Cert.Kernel4Ideal.main_v3_0) = v9 c
          ∧ r.2.mem ((c.tc : Thread Cert.Kernel4Ideal.nD Cert.Kernel4Ideal.τ).loc Cert.Kernel4Ideal.main_v3_1) = v10 c
          ∧ r.2.mem ((c.tc : Thread Cert.Kernel4Ideal.nD Cert.Kernel4Ideal.τ).loc Cert.Kernel4Ideal.main_v3_2) = v11 c
          ∧ r.2.mem ((c.tc : Thread Cert.Kernel4Ideal.nD Cert.Kernel4Ideal.τ).loc Cert.Kernel4Ideal.main_v4_0) = v12 c
          ∧ r.2.mem ((c.tc : Thread Cert.Kernel4Ideal.nD Cert.Kernel4Ideal.τ).loc Cert.Kernel4Ideal.main_v4_1) = v13 c
          ∧ r.2.mem ((c.tc : Thread Cert.Kernel4Ideal.nD Cert.Kernel4Ideal.τ).loc Cert.Kernel4Ideal.main_v4_2) = v14 c
          ∧ r.2.mem ((c.tc : Thread Cert.Kernel4Ideal.nD Cert.Kernel4Ideal.τ).loc Cert.Kernel4Ideal.main_v5_0) = v15 c
          ∧ r.2.mem ((c.tc : Thread Cert.Kernel4Ideal.nD Cert.Kernel4Ideal.τ).loc Cert.Kernel4Ideal.main_v5_1) = v16 c
          ∧ r.2.mem ((c.tc : Thread Cert.Kernel4Ideal.nD Cert.Kernel4Ideal.τ).loc Cert.Kernel4Ideal.main_v5_2) = v17 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v52) = v7 c
          ∧ r.2.mem ((c.tc : Thread Cert.Reference4Ideal.nD Cert.Reference4Ideal.τ).loc Cert.Reference4Ideal.main_v58) = v8 c
          ∧ r.2.mem ((c.tc : Thread Cert.Reference4Ideal.nD Cert.Reference4Ideal.τ).loc Cert.Reference4Ideal.main_v95) = v9 c
          ∧ r.2.mem ((c.tc : Thread Cert.Reference4Ideal.nD Cert.Reference4Ideal.τ).loc Cert.Reference4Ideal.main_v76) = v10 c
          ∧ r.2.mem ((c.tc : Thread Cert.Reference4Ideal.nD Cert.Reference4Ideal.τ).loc Cert.Reference4Ideal.main_v82) = v11 c
          ∧ r.2.mem ((c.tc : Thread Cert.Reference4Ideal.nD Cert.Reference4Ideal.τ).loc Cert.Reference4Ideal.main_v119) = v12 c
          ∧ r.2.mem ((c.tc : Thread Cert.Reference4Ideal.nD Cert.Reference4Ideal.τ).loc Cert.Reference4Ideal.main_v100) = v13 c
          ∧ r.2.mem ((c.tc : Thread Cert.Reference4Ideal.nD Cert.Reference4Ideal.τ).loc Cert.Reference4Ideal.main_v106) = v14 c
          ∧ r.2.mem ((c.tc : Thread Cert.Reference4Ideal.nD Cert.Reference4Ideal.τ).loc Cert.Reference4Ideal.main_v143) = v15 c
          ∧ r.2.mem ((c.tc : Thread Cert.Reference4Ideal.nD Cert.Reference4Ideal.τ).loc Cert.Reference4Ideal.main_v124) = v16 c
          ∧ r.2.mem ((c.tc : Thread Cert.Reference4Ideal.nD Cert.Reference4Ideal.τ).loc Cert.Reference4Ideal.main_v130) = v17 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)
      ∧ m' ((c.tc : Thread Cert.Reference5Ideal.nD Cert.Reference5Ideal.τ).loc Cert.Reference5Ideal.main_arg24) = m ((c.tc : Thread Cert.Kernel5Ideal.nD Cert.Kernel5Ideal.τ).loc Cert.Kernel5Ideal.main_arg24)
      ∧ m' ((c.tc : Thread Cert.Reference5Ideal.nD Cert.Reference5Ideal.τ).loc Cert.Reference5Ideal.main_arg25) = m ((c.tc : Thread Cert.Kernel5Ideal.nD Cert.Kernel5Ideal.τ).loc Cert.Kernel5Ideal.main_arg25)
      ∧ m' ((c.tc : Thread Cert.Reference5Ideal.nD Cert.Reference5Ideal.τ).loc Cert.Reference5Ideal.main_arg26) = m ((c.tc : Thread Cert.Kernel5Ideal.nD Cert.Kernel5Ideal.τ).loc Cert.Kernel5Ideal.main_arg26)
      ∧ m' ((c.tc : Thread Cert.Reference5Ideal.nD Cert.Reference5Ideal.τ).loc Cert.Reference5Ideal.main_arg27) = m ((c.tc : Thread Cert.Kernel5Ideal.nD Cert.Kernel5Ideal.τ).loc Cert.Kernel5Ideal.main_arg27)) →
    ∃ (v0 : (c : Dev Cert.Kernel5Ideal.nD) → Buf (Elt Ideal) ((c.tc : Thread Cert.Kernel5Ideal.nD Cert.Kernel5Ideal.τ).loc Cert.Kernel5Ideal.main_v5)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v7)) (v3 : (c : Dev Cert.Kernel5Ideal.nD) → Buf (Elt Ideal) ((c.tc : Thread Cert.Kernel5Ideal.nD Cert.Kernel5Ideal.τ).loc Cert.Kernel5Ideal.main_v8_0)) (v4 : (c : Dev Cert.Kernel5Ideal.nD) → Buf (Elt Ideal) ((c.tc : Thread Cert.Kernel5Ideal.nD Cert.Kernel5Ideal.τ).loc Cert.Kernel5Ideal.main_v8_1)) (v5 : (c : Dev Cert.Kernel5Ideal.nD) → Buf (Elt Ideal) ((c.tc : Thread Cert.Kernel5Ideal.nD Cert.Kernel5Ideal.τ).loc Cert.Kernel5Ideal.main_v8_2)) (v6 : (c : Dev Cert.Kernel5Ideal.nD) → Buf (Elt Ideal) ((c.tc : Thread Cert.Kernel5Ideal.nD Cert.Kernel5Ideal.τ).loc Cert.Kernel5Ideal.main_v9_0)) (v7 : (c : Dev Cert.Kernel5Ideal.nD) → Buf (Elt Ideal) ((c.tc : Thread Cert.Kernel5Ideal.nD Cert.Kernel5Ideal.τ).loc Cert.Kernel5Ideal.main_v9_1)) (v8 : (c : Dev Cert.Kernel5Ideal.nD) → Buf (Elt Ideal) ((c.tc : Thread Cert.Kernel5Ideal.nD Cert.Kernel5Ideal.τ).loc Cert.Kernel5Ideal.main_v9_2)) (v9 : (c : Dev Cert.Kernel5Ideal.nD) → Buf (Elt Ideal) ((c.tc : Thread Cert.Kernel5Ideal.nD Cert.Kernel5Ideal.τ).loc Cert.Kernel5Ideal.main_v15)) (v10 : (c : Dev Cert.Kernel5Ideal.nD) → Buf (Elt Ideal) ((c.tc : Thread Cert.Kernel5Ideal.nD Cert.Kernel5Ideal.τ).loc Cert.Kernel5Ideal.main_v16)) (v11 : (c : Dev Cert.Kernel5Ideal.nD) → Buf (Elt Ideal) ((c.tc : Thread Cert.Kernel5Ideal.nD Cert.Kernel5Ideal.τ).loc Cert.Kernel5Ideal.main_v17)) (v12 : (c : Dev Cert.Kernel5Ideal.nD) → Buf (Elt Ideal) ((c.tc : Thread Cert.Kernel5Ideal.nD Cert.Kernel5Ideal.τ).loc Cert.Kernel5Ideal.main_v18_0)) (v13 : (c : Dev Cert.Kernel5Ideal.nD) → Buf (Elt Ideal) ((c.tc : Thread Cert.Kernel5Ideal.nD Cert.Kernel5Ideal.τ).loc Cert.Kernel5Ideal.main_v18_1)) (v14 : (c : Dev Cert.Kernel5Ideal.nD) → Buf (Elt Ideal) ((c.tc : Thread Cert.Kernel5Ideal.nD Cert.Kernel5Ideal.τ).loc Cert.Kernel5Ideal.main_v18_2)) (v15 : (c : Dev Cert.Kernel5Ideal.nD) → Buf (Elt Ideal) ((c.tc : Thread Cert.Kernel5Ideal.nD Cert.Kernel5Ideal.τ).loc Cert.Kernel5Ideal.main_v19_0)) (v16 : (c : Dev Cert.Kernel5Ideal.nD) → Buf (Elt Ideal) ((c.tc : Thread Cert.Kernel5Ideal.nD Cert.Kernel5Ideal.τ).loc Cert.Kernel5Ideal.main_v19_1)) (v17 : (c : Dev Cert.Kernel5Ideal.nD) → Buf (Elt Ideal) ((c.tc : Thread Cert.Kernel5Ideal.nD Cert.Kernel5Ideal.τ).loc Cert.Kernel5Ideal.main_v19_2)) (v18 : (c : Dev Cert.Kernel5Ideal.nD) → Buf (Elt Ideal) ((c.tc : Thread Cert.Kernel5Ideal.nD Cert.Kernel5Ideal.τ).loc Cert.Kernel5Ideal.main_v20_0)) (v19 : (c : Dev Cert.Kernel5Ideal.nD) → Buf (Elt Ideal) ((c.tc : Thread Cert.Kernel5Ideal.nD Cert.Kernel5Ideal.τ).loc Cert.Kernel5Ideal.main_v20_1)) (v20 : (c : Dev Cert.Kernel5Ideal.nD) → Buf (Elt Ideal) ((c.tc : Thread Cert.Kernel5Ideal.nD Cert.Kernel5Ideal.τ).loc Cert.Kernel5Ideal.main_v20_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v7) = v2 c
          ∧ r.2.mem ((c.tc : Thread Cert.Kernel5Ideal.nD Cert.Kernel5Ideal.τ).loc Cert.Kernel5Ideal.main_v8_0) = v3 c
          ∧ r.2.mem ((c.tc : Thread Cert.Kernel5Ideal.nD Cert.Kernel5Ideal.τ).loc Cert.Kernel5Ideal.main_v8_1) = v4 c
          ∧ r.2.mem ((c.tc : Thread Cert.Kernel5Ideal.nD Cert.Kernel5Ideal.τ).loc Cert.Kernel5Ideal.main_v8_2) = v5 c
          ∧ r.2.mem ((c.tc : Thread Cert.Kernel5Ideal.nD Cert.Kernel5Ideal.τ).loc Cert.Kernel5Ideal.main_v9_0) = v6 c
          ∧ r.2.mem ((c.tc : Thread Cert.Kernel5Ideal.nD Cert.Kernel5Ideal.τ).loc Cert.Kernel5Ideal.main_v9_1) = v7 c
          ∧ r.2.mem ((c.tc : Thread Cert.Kernel5Ideal.nD Cert.Kernel5Ideal.τ).loc Cert.Kernel5Ideal.main_v9_2) = v8 c
          ∧ r.2.mem ((c.tc : Thread Cert.Kernel5Ideal.nD Cert.Kernel5Ideal.τ).loc Cert.Kernel5Ideal.main_v15) = v9 c
          ∧ r.2.mem ((c.tc : Thread Cert.Kernel5Ideal.nD Cert.Kernel5Ideal.τ).loc Cert.Kernel5Ideal.main_v16) = v10 c
          ∧ r.2.mem ((c.tc : Thread Cert.Kernel5Ideal.nD Cert.Kernel5Ideal.τ).loc Cert.Kernel5Ideal.main_v17) = v11 c
          ∧ r.2.mem ((c.tc : Thread Cert.Kernel5Ideal.nD Cert.Kernel5Ideal.τ).loc Cert.Kernel5Ideal.main_v18_0) = v12 c
          ∧ r.2.mem ((c.tc : Thread Cert.Kernel5Ideal.nD Cert.Kernel5Ideal.τ).loc Cert.Kernel5Ideal.main_v18_1) = v13 c
          ∧ r.2.mem ((c.tc : Thread Cert.Kernel5Ideal.nD Cert.Kernel5Ideal.τ).loc Cert.Kernel5Ideal.main_v18_2) = v14 c
          ∧ r.2.mem ((c.tc : Thread Cert.Kernel5Ideal.nD Cert.Kernel5Ideal.τ).loc Cert.Kernel5Ideal.main_v19_0) = v15 c
          ∧ r.2.mem ((c.tc : Thread Cert.Kernel5Ideal.nD Cert.Kernel5Ideal.τ).loc Cert.Kernel5Ideal.main_v19_1) = v16 c
          ∧ r.2.mem ((c.tc : Thread Cert.Kernel5Ideal.nD Cert.Kernel5Ideal.τ).loc Cert.Kernel5Ideal.main_v19_2) = v17 c
          ∧ r.2.mem ((c.tc : Thread Cert.Kernel5Ideal.nD Cert.Kernel5Ideal.τ).loc Cert.Kernel5Ideal.main_v20_0) = v18 c
          ∧ r.2.mem ((c.tc : Thread Cert.Kernel5Ideal.nD Cert.Kernel5Ideal.τ).loc Cert.Kernel5Ideal.main_v20_1) = v19 c
          ∧ r.2.mem ((c.tc : Thread Cert.Kernel5Ideal.nD Cert.Kernel5Ideal.τ).loc Cert.Kernel5Ideal.main_v20_2) = v20 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23)
          ∧ r.2.mem ((c.tc : Thread Cert.Kernel5Ideal.nD Cert.Kernel5Ideal.τ).loc Cert.Kernel5Ideal.main_arg24) = m ((c.tc : Thread Cert.Kernel5Ideal.nD Cert.Kernel5Ideal.τ).loc Cert.Kernel5Ideal.main_arg24)
          ∧ r.2.mem ((c.tc : Thread Cert.Kernel5Ideal.nD Cert.Kernel5Ideal.τ).loc Cert.Kernel5Ideal.main_arg25) = m ((c.tc : Thread Cert.Kernel5Ideal.nD Cert.Kernel5Ideal.τ).loc Cert.Kernel5Ideal.main_arg25)
          ∧ r.2.mem ((c.tc : Thread Cert.Kernel5Ideal.nD Cert.Kernel5Ideal.τ).loc Cert.Kernel5Ideal.main_arg26) = m ((c.tc : Thread Cert.Kernel5Ideal.nD Cert.Kernel5Ideal.τ).loc Cert.Kernel5Ideal.main_arg26)
          ∧ r.2.mem ((c.tc : Thread Cert.Kernel5Ideal.nD Cert.Kernel5Ideal.τ).loc Cert.Kernel5Ideal.main_arg27) = m ((c.tc : Thread Cert.Kernel5Ideal.nD Cert.Kernel5Ideal.τ).loc Cert.Kernel5Ideal.main_arg27))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_v95) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v82) = v11 c
          ∧ r.2.mem ((c.tc : Thread Cert.Reference5Ideal.nD Cert.Reference5Ideal.τ).loc Cert.Reference5Ideal.main_v119) = v12 c
          ∧ r.2.mem ((c.tc : Thread Cert.Reference5Ideal.nD Cert.Reference5Ideal.τ).loc Cert.Reference5Ideal.main_v100) = v13 c
          ∧ r.2.mem ((c.tc : Thread Cert.Reference5Ideal.nD Cert.Reference5Ideal.τ).loc Cert.Reference5Ideal.main_v106) = v14 c
          ∧ r.2.mem ((c.tc : Thread Cert.Reference5Ideal.nD Cert.Reference5Ideal.τ).loc Cert.Reference5Ideal.main_v143) = v15 c
          ∧ r.2.mem ((c.tc : Thread Cert.Reference5Ideal.nD Cert.Reference5Ideal.τ).loc Cert.Reference5Ideal.main_v124) = v16 c
          ∧ r.2.mem ((c.tc : Thread Cert.Reference5Ideal.nD Cert.Reference5Ideal.τ).loc Cert.Reference5Ideal.main_v130) = v17 c
          ∧ r.2.mem ((c.tc : Thread Cert.Reference5Ideal.nD Cert.Reference5Ideal.τ).loc Cert.Reference5Ideal.main_v167) = v18 c
          ∧ r.2.mem ((c.tc : Thread Cert.Reference5Ideal.nD Cert.Reference5Ideal.τ).loc Cert.Reference5Ideal.main_v148) = v19 c
          ∧ r.2.mem ((c.tc : Thread Cert.Reference5Ideal.nD Cert.Reference5Ideal.τ).loc Cert.Reference5Ideal.main_v154) = v20 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23)
          ∧ r.2.mem ((c.tc : Thread Cert.Reference5Ideal.nD Cert.Reference5Ideal.τ).loc Cert.Reference5Ideal.main_arg24) = m' ((c.tc : Thread Cert.Reference5Ideal.nD Cert.Reference5Ideal.τ).loc Cert.Reference5Ideal.main_arg24)
          ∧ r.2.mem ((c.tc : Thread Cert.Reference5Ideal.nD Cert.Reference5Ideal.τ).loc Cert.Reference5Ideal.main_arg25) = m' ((c.tc : Thread Cert.Reference5Ideal.nD Cert.Reference5Ideal.τ).loc Cert.Reference5Ideal.main_arg25)
          ∧ r.2.mem ((c.tc : Thread Cert.Reference5Ideal.nD Cert.Reference5Ideal.τ).loc Cert.Reference5Ideal.main_arg26) = m' ((c.tc : Thread Cert.Reference5Ideal.nD Cert.Reference5Ideal.τ).loc Cert.Reference5Ideal.main_arg26)
          ∧ r.2.mem ((c.tc : Thread Cert.Reference5Ideal.nD Cert.Reference5Ideal.τ).loc Cert.Reference5Ideal.main_arg27) = m' ((c.tc : Thread Cert.Reference5Ideal.nD Cert.Reference5Ideal.τ).loc Cert.Reference5Ideal.main_arg27))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v8_1)) (v1 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_1) = v0 c
          ∧ r.2.mem ((c.tc : Thread Cert.Kernel6Ideal.nD Cert.Kernel6Ideal.τ).loc Cert.Kernel6Ideal.main_v10) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)) (v1 : (c : Dev Cert.Kernel7Ideal.nD) → Buf (Elt Ideal) ((c.tc : Thread Cert.Kernel7Ideal.nD Cert.Kernel7Ideal.τ).loc Cert.Kernel7Ideal.main_v3_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_v3_0) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8192x1024 : Shape := ⟨2, ![8192, 1024]⟩
abbrev S1024 : Shape := ⟨1, ![1024]⟩
abbrev S1024x6912 : Shape := ⟨2, ![1024, 6912]⟩
abbrev S8192x2048 : Shape := ⟨2, ![8192, 2048]⟩
abbrev S8192x2560 : Shape := ⟨2, ![8192, 2560]⟩
abbrev S8192x128 : Shape := ⟨2, ![8192, 128]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S1024x8192 : Shape := ⟨2, ![1024, 8192]⟩
abbrev S512x1024 : Shape := ⟨2, ![512, 1024]⟩
abbrev S512x2048 : Shape := ⟨2, ![512, 2048]⟩
abbrev S512x2560 : Shape := ⟨2, ![512, 2560]⟩
abbrev S512x128 : Shape := ⟨2, ![512, 128]⟩
abbrev S1024x512 : Shape := ⟨2, ![1024, 512]⟩
abbrev S512 : Shape := ⟨1, ![512]⟩
abbrev S512x1 : Shape := ⟨2, ![512, 1]⟩
abbrev S1024x2048 : Shape := ⟨2, ![1024, 2048]⟩
abbrev S1024x2560 : Shape := ⟨2, ![1024, 2560]⟩
abbrev S1024x128 : Shape := ⟨2, ![1024, 128]⟩
abbrev S2048x2048 : Shape := ⟨2, ![2048, 2048]⟩
abbrev S2048x1280 : Shape := ⟨2, ![2048, 1280]⟩
abbrev S1024x1280 : Shape := ⟨2, ![1024, 1280]⟩
abbrev S1024x256 : Shape := ⟨2, ![1024, 256]⟩
abbrev S2048x128 : Shape := ⟨2, ![2048, 128]⟩

abbrev nBuf : Space → Nat
  | .hbm => 35
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .f32⟩
  | .hbm, ⟨3, _⟩ => ⟨S8192x2048, .f32⟩
  | .hbm, ⟨4, _⟩ => ⟨S8192x2560, .f32⟩
  | .hbm, ⟨5, _⟩ => ⟨S8192x2048, .f32⟩
  | .hbm, ⟨6, _⟩ => ⟨S8192x128, .f32⟩
  | .hbm, ⟨7, _⟩ => ⟨S8192x128, .f32⟩
  | .hbm, ⟨8, _⟩ => ⟨S8192x1024, .f32⟩
  | .hbm, ⟨9, _⟩ => ⟨S1x1024, .f32⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S1024x6912, .bf16⟩
  | .hbm, ⟨16, _⟩ => ⟨S8192x2048, .bf16⟩
  | .hbm, ⟨17, _⟩ => ⟨S8192x2560, .bf16⟩
  | .hbm, ⟨18, _⟩ => ⟨S8192x2048, .bf16⟩
  | .hbm, ⟨19, _⟩ => ⟨S8192x128, .bf16⟩
  | .hbm, ⟨20, _⟩ => ⟨S8192x128, .bf16⟩
  | .hbm, ⟨21, _⟩ => ⟨S8192x2048, .f32⟩
  | .hbm, ⟨22, _⟩ => ⟨S8192x2560, .f32⟩
  | .hbm, ⟨23, _⟩ => ⟨S8192x2048, .f32⟩
  | .hbm, ⟨24, _⟩ => ⟨S8192x128, .f32⟩
  | .hbm, ⟨25, _⟩ => ⟨S8192x128, .f32⟩
  | .hbm, ⟨26, _⟩ => ⟨S1024x8192, .bf16⟩
  | .hbm, ⟨27, _⟩ => ⟨S1024x2048, .f32⟩
  | .hbm, ⟨28, _⟩ => ⟨S1024x2560, .f32⟩
  | .hbm, ⟨29, _⟩ => ⟨S1024x2048, .f32⟩
  | .hbm, ⟨30, _⟩ => ⟨S1024x256, .f32⟩
  | .hbm, ⟨31, _⟩ => ⟨S8192x1024, .f32⟩
  | .hbm, ⟨32, _⟩ => ⟨S8x1024, .f32⟩
  | .hbm, ⟨33, _⟩ => ⟨S1x1024, .f32⟩
  | .hbm, ⟨34, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x6912, .bf16⟩
  | .local _ .vmem, ⟨4, _⟩ => ⟨S512x2048, .f32⟩
  | .local _ .vmem, ⟨5, _⟩ => ⟨S512x2048, .f32⟩
  | .local _ .vmem, ⟨6, _⟩ => ⟨S512x2560, .f32⟩
  | .local _ .vmem, ⟨7, _⟩ => ⟨S512x2560, .f32⟩
  | .local _ .vmem, ⟨8, _⟩ => ⟨S512x2048, .f32⟩
  | .local _ .vmem, ⟨9, _⟩ => ⟨S512x2048, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1024x512, .bf16⟩
  | .local _ .vmem, ⟨15, _⟩ => ⟨S1024x512, .bf16⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S2048x2048, .bf16⟩
  | .local _ .vmem, ⟨20, _⟩ => ⟨S1024x2048, .f32⟩
  | .local _ .vmem, ⟨21, _⟩ => ⟨S1024x2048, .bf16⟩
  | .local _ .vmem, ⟨22, _⟩ => ⟨S1024x2048, .bf16⟩
  | .local _ .vmem, ⟨23, _⟩ => ⟨S2048x1280, .bf16⟩
  | .local _ .vmem, ⟨24, _⟩ => ⟨S2048x1280, .bf16⟩
  | .local _ .vmem, ⟨25, _⟩ => ⟨S1024x1280, .f32⟩
  | .local _ .vmem, ⟨26, _⟩ => ⟨S1024x1280, .f32⟩
  | .local _ .vmem, ⟨27, _⟩ => ⟨S1024x2048, .bf16⟩
  | .local _ .vmem, ⟨28, _⟩ => ⟨S1024x2048, .bf16⟩
  | .local _ .vmem, ⟨29, _⟩ => ⟨S2048x2048, .bf16⟩
  | .local _ .vmem, ⟨30, _⟩ => ⟨S2048x2048, .bf16⟩
  | .local _ .vmem, ⟨31, _⟩ => ⟨S1024x2048, .f32⟩
  | .local _ .vmem, ⟨32, _⟩ => ⟨S1024x2048, .bf16⟩
  | .local _ .vmem, ⟨33, _⟩ => ⟨S1024x2048, .bf16⟩
  | .local _ .vmem, ⟨34, _⟩ => ⟨S2048x128, .bf16⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S1024x256, .f32⟩
  | .local _ .vmem, ⟨39, _⟩ => ⟨S512x2048, .bf16⟩
  | .local _ .vmem, ⟨40, _⟩ => ⟨S512x2048, .bf16⟩
  | .local _ .vmem, ⟨41, _⟩ => ⟨S512x2560, .bf16⟩
  | .local _ .vmem, ⟨42, _⟩ => ⟨S512x2560, .bf16⟩
  | .local _ .vmem, ⟨43, _⟩ => ⟨S512x2048, .bf16⟩
  | .local _ .vmem, ⟨44, _⟩ => ⟨S512x2048, .bf16⟩
  | .local _ .vmem, ⟨45, _⟩ => ⟨S512x128, .bf16⟩
  | .local _ .vmem, ⟨46, _⟩ => ⟨S512x128, .bf16⟩
  | .local _ .vmem, ⟨47, _⟩ => ⟨S512x128, .bf16⟩
  | .local _ .vmem, ⟨48, _⟩ => ⟨S512x128, .bf16⟩
  | .local _ .vmem, ⟨49, _⟩ => ⟨S1024x6912, .bf16⟩
  | .local _ .vmem, ⟨50, _⟩ => ⟨S512x1024, .f32⟩
  | .local _ .vmem, ⟨51, _⟩ => ⟨S512x1024, .f32⟩
  | .local _ .vmem, ⟨52, _⟩ => ⟨S8x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg3_1 : Ref sig .tc := ⟨.vmem, 46, rfl⟩
abbrev cc5_stg4_0 : Ref sig .tc := ⟨.vmem, 47, rfl⟩
abbrev cc5_stg4_1 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc5_stg7_0 : Ref sig .tc := ⟨.vmem, 52, rfl⟩
abbrev cc5_stg8_0 : Ref sig .tc := ⟨.vmem, 53, rfl⟩
abbrev cc5_stg8_1 : Ref sig .tc := ⟨.vmem, 54, rfl⟩
abbrev cc5_stg9_0 : Ref sig .tc := ⟨.vmem, 55, rfl⟩
abbrev cc5_stg9_1 : Ref sig .tc := ⟨.vmem, 56, rfl⟩
abbrev cc5_stg10_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem3_1 : DmaSem sig := 46
abbrev cc5_sem4_0 : DmaSem sig := 47
abbrev cc5_sem4_1 : DmaSem sig := 48
abbrev cc5_sem5_0 : DmaSem sig := 49
abbrev cc5_sem6_0 : DmaSem sig := 50
abbrev cc5_sem6_1 : DmaSem sig := 51
abbrev cc5_sem7_0 : DmaSem sig := 52
abbrev cc5_sem8_0 : DmaSem sig := 53
abbrev cc5_sem8_1 : DmaSem sig := 54
abbrev cc5_sem9_0 : DmaSem sig := 55
abbrev cc5_sem9_1 : DmaSem sig := 56
abbrev cc5_sem10_0 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1024x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x2560 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1024x6912 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S8x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S512x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S512x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 1 → Memref sig .tc .vmem S8x1024 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]
-- ==== ReferenceIdeal.lean ====
abbrev S8192x1024 : Shape := ⟨2, ![8192, 1024]⟩
abbrev S1024 : Shape := ⟨1, ![1024]⟩
abbrev S1024x6912 : Shape := ⟨2, ![1024, 6912]⟩
abbrev S8192x2048 : Shape := ⟨2, ![8192, 2048]⟩
abbrev S8192x2560 : Shape := ⟨2, ![8192, 2560]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6912 : Shape := ⟨2, ![8192, 6912]⟩
abbrev S6912x1024 : Shape := ⟨2, ![6912, 1024]⟩
abbrev S1024x2048 : Shape := ⟨2, ![1024, 2048]⟩
abbrev S1024x2560 : Shape := ⟨2, ![1024, 2560]⟩
abbrev S1024x256 : Shape := ⟨2, ![1024, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6912, .f32⟩
  | .hbm, ⟨3, _⟩ => ⟨S8192x2048, .f32⟩
  | .hbm, ⟨4, _⟩ => ⟨S8192x2560, .f32⟩
  | .hbm, ⟨5, _⟩ => ⟨S8192x2048, .f32⟩
  | .hbm, ⟨6, _⟩ => ⟨S8192x128, .f32⟩
  | .hbm, ⟨7, _⟩ => ⟨S8192x128, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x6912, .f32⟩
  | .hbm, ⟨30, _⟩ => ⟨S8192x2048, .f32⟩
  | .hbm, ⟨31, _⟩ => ⟨S8192x2560, .f32⟩
  | .hbm, ⟨32, _⟩ => ⟨S8192x2048, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x6912, .f32⟩
  | .hbm, ⟨37, _⟩ => ⟨S_, .f32⟩
  | .hbm, ⟨38, _⟩ => ⟨S8192x6912, .f32⟩
  | .hbm, ⟨39, _⟩ => ⟨S8192x6912, .f32⟩
  | .hbm, ⟨40, _⟩ => ⟨S_, .f32⟩
  | .hbm, ⟨41, _⟩ => ⟨S8192x6912, .f32⟩
  | .hbm, ⟨42, _⟩ => ⟨S8192x6912, .f32⟩
  | .hbm, ⟨43, _⟩ => ⟨S_, .f32⟩
  | .hbm, ⟨44, _⟩ => ⟨S8192x6912, .f32⟩
  | .hbm, ⟨45, _⟩ => ⟨S8192x6912, .f32⟩
  | .hbm, ⟨46, _⟩ => ⟨S_, .f32⟩
  | .hbm, ⟨47, _⟩ => ⟨S8192x6912, .f32⟩
  | .hbm, ⟨48, _⟩ => ⟨S8192x6912, .f32⟩
  | .hbm, ⟨49, _⟩ => ⟨S6912x1024, .f32⟩
  | .hbm, ⟨50, _⟩ => ⟨S1024x6912, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1024x2048, .f32⟩
  | .hbm, ⟨79, _⟩ => ⟨S1024x2560, .f32⟩
  | .hbm, ⟨80, _⟩ => ⟨S1024x2048, .f32⟩
  | .hbm, ⟨81, _⟩ => ⟨S1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel2.lean ====
abbrev S8192x512 : Shape := ⟨2, ![8192, 512]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩

abbrev nBuf : Space → Nat
  | .hbm => 30
  | .vmem => 35
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .f32⟩
  | .hbm, ⟨3, _⟩ => ⟨S2048x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S2048x1024, .bf16⟩
  | .hbm, ⟨11, _⟩ => ⟨S1x1024, .f32⟩
  | .hbm, ⟨12, _⟩ => ⟨S_, .f32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S8192x1024, .f32⟩
  | .hbm, ⟨18, _⟩ => ⟨S8192x1024, .f32⟩
  | .hbm, ⟨19, _⟩ => ⟨S8192x512, .bf16⟩
  | .hbm, ⟨20, _⟩ => ⟨S8192x1024, .bf16⟩
  | .hbm, ⟨21, _⟩ => ⟨S8192x512, .bf16⟩
  | .hbm, ⟨22, _⟩ => ⟨S8x1024, .f32⟩
  | .hbm, ⟨23, _⟩ => ⟨S2048x1024, .f32⟩
  | .hbm, ⟨24, _⟩ => ⟨S2048x1024, .bf16⟩
  | .hbm, ⟨25, _⟩ => ⟨S8192x512, .f32⟩
  | .hbm, ⟨26, _⟩ => ⟨S8192x1024, .f32⟩
  | .hbm, ⟨27, _⟩ => ⟨S8192x512, .f32⟩
  | .hbm, ⟨28, _⟩ => ⟨S1x1024, .f32⟩
  | .hbm, ⟨29, _⟩ => ⟨S1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S2048x1024, .bf16⟩
  | .local _ .vmem, ⟨25, _⟩ => ⟨S8x1024, .f32⟩
  | .local _ .vmem, ⟨26, _⟩ => ⟨S1024x512, .bf16⟩
  | .local _ .vmem, ⟨27, _⟩ => ⟨S1024x512, .bf16⟩
  | .local _ .vmem, ⟨28, _⟩ => ⟨S1024x1024, .bf16⟩
  | .local _ .vmem, ⟨29, _⟩ => ⟨S1024x1024, .bf16⟩
  | .local _ .vmem, ⟨30, _⟩ => ⟨S1024x512, .bf16⟩
  | .local _ .vmem, ⟨31, _⟩ => ⟨S1024x512, .bf16⟩
  | .local _ .vmem, ⟨32, _⟩ => ⟨S8x1024, .f32⟩
  | .local _ .vmem, ⟨33, _⟩ => ⟨S2048x1024, .f32⟩
  | .local _ .vmem, ⟨34, _⟩ => ⟨S2048x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33
abbrev cc1_sem12_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_51 : BitVec 32 := 0#32
  let v83 : BitVec 1 := Scalar.cmpi .ne v82 c0_i32_51
  v83

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2048x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== Reference2Ideal.lean ====
abbrev S8192x512 : Shape := ⟨2, ![8192, 512]⟩
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .f32⟩
  | .hbm, ⟨3, _⟩ => ⟨S2048x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1024x2048, .f32⟩
  | .hbm, ⟨57, _⟩ => ⟨S2048x1024, .f32⟩
  | .hbm, ⟨58, _⟩ => ⟨S8192x2048, .f32⟩
  | .hbm, ⟨59, _⟩ => ⟨S8192x512, .f32⟩
  | .hbm, ⟨60, _⟩ => ⟨S8192x1024, .f32⟩
  | .hbm, ⟨61, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel3.lean ====
abbrev S2x1024x1670 : Shape := ⟨3, ![2, 1024, 1670]⟩
abbrev S1x1024x1670 : Shape := ⟨3, ![1, 1024, 1670]⟩
abbrev S2x512x1024 : Shape := ⟨3, ![2, 512, 1024]⟩
abbrev S1x512x1024 : Shape := ⟨3, ![1, 512, 1024]⟩
abbrev S1x256x1670 : Shape := ⟨3, ![1, 256, 1670]⟩
abbrev S256x1670 : Shape := ⟨2, ![256, 1670]⟩
abbrev S1x256x1024 : Shape := ⟨3, ![1, 256, 1024]⟩
abbrev S256x1024 : Shape := ⟨2, ![256, 1024]⟩

abbrev nBuf : Space → Nat
  | .hbm => 22
  | .vmem => 44
  | .smem => 0
  | _ => 0

abbrev bufTy : (tb : Table) → Fin (tcTables nBuf tb) → BufTy
  | .hbm, ⟨0, _⟩ => ⟨S2x1024x1670, .f32⟩
  | .hbm, ⟨1, _⟩ => ⟨S1x1024x1670, .f32⟩
  | .hbm, ⟨2, _⟩ => ⟨S1x1024x1670, .f32⟩
  | .hbm, ⟨3, _⟩ => ⟨S1x1024x1670, .f32⟩
  | .hbm, ⟨4, _⟩ => ⟨S1x1024x1670, .f32⟩
  | .hbm, ⟨5, _⟩ => ⟨S2x1024x1670, .f32⟩
  | .hbm, ⟨6, _⟩ => ⟨S2x1024x1670, .f32⟩
  | .hbm, ⟨7, _⟩ => ⟨S2x512x1024, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S2x512x1024, .f32⟩
  | .hbm, ⟨13, _⟩ => ⟨S2x512x1024, .f32⟩
  | .hbm, ⟨14, _⟩ => ⟨S2x1024x1670, .f32⟩
  | .hbm, ⟨15, _⟩ => ⟨S2x1024x1670, .f32⟩
  | .hbm, ⟨16, _⟩ => ⟨S2x1024x1670, .f32⟩
  | .hbm, ⟨17, _⟩ => ⟨S2x1024x1670, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .local _ .vmem, ⟨0, _⟩ => ⟨S1x256x1670, .f32⟩
  | .local _ .vmem, ⟨1, _⟩ => ⟨S1x256x1670, .f32⟩
  | .local _ .vmem, ⟨2, _⟩ => ⟨S1x256x1670, .f32⟩
  | .local _ .vmem, ⟨3, _⟩ => ⟨S1x256x1670, .f32⟩
  | .local _ .vmem, ⟨4, _⟩ => ⟨S1x256x1670, .f32⟩
  | .local _ .vmem, ⟨5, _⟩ => ⟨S1x256x1670, .f32⟩
  | .local _ .vmem, ⟨6, _⟩ => ⟨S1x256x1670, .f32⟩
  | .local _ .vmem, ⟨7, _⟩ => ⟨S1x256x1670, .f32⟩
  | .local _ .vmem, ⟨8, _⟩ => ⟨S1x256x1670, .f32⟩
  | .local _ .vmem, ⟨9, _⟩ => ⟨S1x256x1670, .f32⟩
  | .local _ .vmem, ⟨10, _⟩ => ⟨S1x256x1670, .f32⟩
  | .local _ .vmem, ⟨11, _⟩ => ⟨S1x256x1670, .f32⟩
  | .local _ .vmem, ⟨12, _⟩ => ⟨S1x256x1670, .f32⟩
  | .local _ .vmem, ⟨13, _⟩ => ⟨S1x256x1670, .f32⟩
  | .local _ .vmem, ⟨14, _⟩ => ⟨S1x256x1670, .f32⟩
  | .local _ .vmem, ⟨15, _⟩ => ⟨S1x256x1670, .f32⟩
  | .local _ .vmem, ⟨16, _⟩ => ⟨S1x256x1670, .f32⟩
  | .local _ .vmem, ⟨17, _⟩ => ⟨S1x256x1670, .f32⟩
  | .local _ .vmem, ⟨18, _⟩ => ⟨S1x256x1670, .f32⟩
  | .local _ .vmem, ⟨19, _⟩ => ⟨S1x256x1670, .f32⟩
  | .local _ .vmem, ⟨20, _⟩ => ⟨S1x256x1670, .f32⟩
  | .local _ .vmem, ⟨21, _⟩ => ⟨S1x256x1670, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S1x256x1024, .f32⟩
  | .local _ .vmem, ⟨43, _⟩ => ⟨S1x256x1024, .f32⟩
  | _, _ => ⟨S2x1024x1670, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v1_0 : Ref sig .tc := ⟨.hbm, 18, rfl⟩
abbrev main_v1_1 : Ref sig .tc := ⟨.hbm, 19, rfl⟩
abbrev main_v1_2 : Ref sig .tc := ⟨.hbm, 20, rfl⟩
abbrev main_v1_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg6_1 : Ref sig .tc := ⟨.vmem, 35, rfl⟩
abbrev cc1_stg7_0 : Ref sig .tc := ⟨.vmem, 36, rfl⟩
abbrev cc1_stg7_1 : Ref sig .tc := ⟨.vmem, 37, rfl⟩
abbrev cc1_stg8_0 : Ref sig .tc := ⟨.vmem, 38, rfl⟩
abbrev cc1_stg8_1 : Ref sig .tc := ⟨.vmem, 39, rfl⟩
abbrev cc1_stg9_0 : Ref sig .tc := ⟨.vmem, 40, rfl⟩
abbrev cc1_stg9_1 : Ref sig .tc := ⟨.vmem, 41, rfl⟩
abbrev cc1_stg10_0 : Ref sig .tc := ⟨.vmem, 42, rfl⟩
abbrev cc1_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1670 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1670 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1670 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1670 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1670 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1670 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1670 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1670 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1670 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1670 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1670 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  let c0_i32_2 : BitVec 32 := 0#32
  ![c0_i32.toNat, v3.toNat, c0_i32_1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  let c0_i32_2 : BitVec 32 := 0#32
  ![c0_i32.toNat, v3.toNat, c0_i32_1.toNat]

def cc1_transform_3 (i : grid1.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== Reference3Ideal.lean ====
abbrev S2x1024x1670 : Shape := ⟨3, ![2, 1024, 1670]⟩
abbrev S1x1024x1670 : Shape := ⟨3, ![1, 1024, 1670]⟩
abbrev S2x512x1024 : Shape := ⟨3, ![2, 512, 1024]⟩
abbrev S1x512x1024 : Shape := ⟨3, ![1, 512, 1024]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S2x1024x1670, .f32⟩
  | .hbm, ⟨1, _⟩ => ⟨S1x1024x1670, .f32⟩
  | .hbm, ⟨2, _⟩ => ⟨S1x1024x1670, .f32⟩
  | .hbm, ⟨3, _⟩ => ⟨S1x1024x1670, .f32⟩
  | .hbm, ⟨4, _⟩ => ⟨S1x1024x1670, .f32⟩
  | .hbm, ⟨5, _⟩ => ⟨S2x1024x1670, .f32⟩
  | .hbm, ⟨6, _⟩ => ⟨S2x1024x1670, .f32⟩
  | .hbm, ⟨7, _⟩ => ⟨S2x512x1024, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S2x512x1024, .f32⟩
  | .hbm, ⟨13, _⟩ => ⟨S2x512x1024, .f32⟩
  | .hbm, ⟨14, _⟩ => ⟨S1x1024x1670, .f32⟩
  | .hbm, ⟨15, _⟩ => ⟨S1x1024x1670, .f32⟩
  | .hbm, ⟨16, _⟩ => ⟨S2x1024x1670, .f32⟩
  | .hbm, ⟨17, _⟩ => ⟨S1x512x1024, .f32⟩
  | .hbm, ⟨18, _⟩ => ⟨S1x512x1024, .f32⟩
  | .hbm, ⟨19, _⟩ => ⟨S2x512x1024, .f32⟩
  | .hbm, ⟨20, _⟩ => ⟨S_, .f32⟩
  | .hbm, ⟨21, _⟩ => ⟨S2x1024x1670, .f32⟩
  | .hbm, ⟨22, _⟩ => ⟨S2x1024x1670, .f32⟩
  | .hbm, ⟨23, _⟩ => ⟨S_, .f32⟩
  | .hbm, ⟨24, _⟩ => ⟨S2x1024x1670, .f32⟩
  | .hbm, ⟨25, _⟩ => ⟨S2x1024x1670, .f32⟩
  | .hbm, ⟨26, _⟩ => ⟨S2x1024x1670, .f32⟩
  | .hbm, ⟨27, _⟩ => ⟨S_, .f32⟩
  | .hbm, ⟨28, _⟩ => ⟨S2x1024x1670, .f32⟩
  | .hbm, ⟨29, _⟩ => ⟨S2x1024x1670, .f32⟩
  | .hbm, ⟨30, _⟩ => ⟨S2x1024x1670, .f32⟩
  | .hbm, ⟨31, _⟩ => ⟨S_, .f32⟩
  | .hbm, ⟨32, _⟩ => ⟨S2x1024x1670, .f32⟩
  | .hbm, ⟨33, _⟩ => ⟨S2x1024x1670, .f32⟩
  | .hbm, ⟨34, _⟩ => ⟨S2x1024x1670, .f32⟩
  | .hbm, ⟨35, _⟩ => ⟨S_, .f32⟩
  | .hbm, ⟨36, _⟩ => ⟨S2x1024x1670, .f32⟩
  | .hbm, ⟨37, _⟩ => ⟨S2x1024x1670, .f32⟩
  | .hbm, ⟨38, _⟩ => ⟨S_, .f32⟩
  | .hbm, ⟨39, _⟩ => ⟨S2x1024x1670, .f32⟩
  | .hbm, ⟨40, _⟩ => ⟨S2x1024x1670, .f32⟩
  | .hbm, ⟨41, _⟩ => ⟨S2x1024x1670, .f32⟩
  | .hbm, ⟨42, _⟩ => ⟨S_, .f32⟩
  | .hbm, ⟨43, _⟩ => ⟨S2x1024x1670, .f32⟩
  | .hbm, ⟨44, _⟩ => ⟨S2x1024x1670, .f32⟩
  | .hbm, ⟨45, _⟩ => ⟨S2x1024x1670, .f32⟩
  | .hbm, ⟨46, _⟩ => ⟨S_, .f32⟩
  | .hbm, ⟨47, _⟩ => ⟨S2x1024x1670, .f32⟩
  | .hbm, ⟨48, _⟩ => ⟨S2x1024x1670, .f32⟩
  | .hbm, ⟨49, _⟩ => ⟨S2x1024x1670, .f32⟩
  | .hbm, ⟨50, _⟩ => ⟨S_, .f32⟩
  | .hbm, ⟨51, _⟩ => ⟨S2x1024x1670, .f32⟩
  | .hbm, ⟨52, _⟩ => ⟨S2x1024x1670, .f32⟩
  | .hbm, ⟨53, _⟩ => ⟨S_, .f32⟩
  | .hbm, ⟨54, _⟩ => ⟨S2x512x1024, .f32⟩
  | .hbm, ⟨55, _⟩ => ⟨S2x512x1024, .f32⟩
  | .hbm, ⟨56, _⟩ => ⟨S_, .f32⟩
  | .hbm, ⟨57, _⟩ => ⟨S2x512x1024, .f32⟩
  | .hbm, ⟨58, _⟩ => ⟨S2x512x1024, .f32⟩
  | .hbm, ⟨59, _⟩ => ⟨S2x512x1024, .f32⟩
  | .hbm, ⟨60, _⟩ => ⟨S_, .f32⟩
  | .hbm, ⟨61, _⟩ => ⟨S2x512x1024, .f32⟩
  | .hbm, ⟨62, _⟩ => ⟨S2x512x1024, .f32⟩
  | .hbm, ⟨63, _⟩ => ⟨S2x512x1024, .f32⟩
  | .hbm, ⟨64, _⟩ => ⟨S_, .f32⟩
  | .hbm, ⟨65, _⟩ => ⟨S2x512x1024, .f32⟩
  | .hbm, ⟨66, _⟩ => ⟨S2x512x1024, .f32⟩
  | .hbm, ⟨67, _⟩ => ⟨S2x512x1024, .f32⟩
  | .hbm, ⟨68, _⟩ => ⟨S_, .f32⟩
  | .hbm, ⟨69, _⟩ => ⟨S2x512x1024, .f32⟩
  | .hbm, ⟨70, _⟩ => ⟨S2x512x1024, .f32⟩
  | .hbm, ⟨71, _⟩ => ⟨S_, .f32⟩
  | .hbm, ⟨72, _⟩ => ⟨S2x512x1024, .f32⟩
  | .hbm, ⟨73, _⟩ => ⟨S2x512x1024, .f32⟩
  | .hbm, ⟨74, _⟩ => ⟨S2x512x1024, .f32⟩
  | .hbm, ⟨75, _⟩ => ⟨S_, .f32⟩
  | .hbm, ⟨76, _⟩ => ⟨S2x512x1024, .f32⟩
  | .hbm, ⟨77, _⟩ => ⟨S2x512x1024, .f32⟩
  | .hbm, ⟨78, _⟩ => ⟨S2x512x1024, .f32⟩
  | .hbm, ⟨79, _⟩ => ⟨S_, .f32⟩
  | .hbm, ⟨80, _⟩ => ⟨S2x512x1024, .f32⟩
  | .hbm, ⟨81, _⟩ => ⟨S2x512x1024, .f32⟩
  | .hbm, ⟨82, _⟩ => ⟨S2x512x1024, .f32⟩
  | .hbm, ⟨83, _⟩ => ⟨S_, .f32⟩
  | .hbm, ⟨84, _⟩ => ⟨S2x512x1024, .f32⟩
  | .hbm, ⟨85, _⟩ => ⟨S2x512x1024, .f32⟩
  | _, _ => ⟨S2x1024x1670, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_cst_13 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_16 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]
-- ==== Kernel4.lean ====
abbrev S2x1024 : Shape := ⟨2, ![2, 1024]⟩
abbrev S2x128 : Shape := ⟨2, ![2, 128]⟩
abbrev S2x1536 : Shape := ⟨2, ![2, 1536]⟩

abbrev nBuf : Space → Nat
  | .hbm => 42
  | .vmem => 42
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x128, .f32⟩
  | .hbm, ⟨3, _⟩ => ⟨S2x1536, .f32⟩
  | .hbm, ⟨4, _⟩ => ⟨S2x1024, .f32⟩
  | .hbm, ⟨5, _⟩ => ⟨S2x128, .f32⟩
  | .hbm, ⟨6, _⟩ => ⟨S2x1024, .f32⟩
  | .hbm, ⟨7, _⟩ => ⟨S2x1024, .f32⟩
  | .hbm, ⟨8, _⟩ => ⟨S2x128, .f32⟩
  | .hbm, ⟨9, _⟩ => ⟨S2x1536, .f32⟩
  | .hbm, ⟨10, _⟩ => ⟨S2x1024, .f32⟩
  | .hbm, ⟨11, _⟩ => ⟨S2x128, .f32⟩
  | .hbm, ⟨12, _⟩ => ⟨S2x1024, .f32⟩
  | .hbm, ⟨13, _⟩ => ⟨S2x1024, .f32⟩
  | .hbm, ⟨14, _⟩ => ⟨S2x128, .f32⟩
  | .hbm, ⟨15, _⟩ => ⟨S2x1536, .f32⟩
  | .hbm, ⟨16, _⟩ => ⟨S2x1024, .f32⟩
  | .hbm, ⟨17, _⟩ => ⟨S2x128, .f32⟩
  | .hbm, ⟨18, _⟩ => ⟨S2x1024, .f32⟩
  | .hbm, ⟨19, _⟩ => ⟨S2x1024, .f32⟩
  | .hbm, ⟨20, _⟩ => ⟨S2x128, .f32⟩
  | .hbm, ⟨21, _⟩ => ⟨S2x1536, .f32⟩
  | .hbm, ⟨22, _⟩ => ⟨S2x1024, .f32⟩
  | .hbm, ⟨23, _⟩ => ⟨S2x128, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S2x128, .f32⟩
  | .hbm, ⟨31, _⟩ => ⟨S2x128, .f32⟩
  | .hbm, ⟨32, _⟩ => ⟨S2x128, .f32⟩
  | .hbm, ⟨33, _⟩ => ⟨S2x1536, .f32⟩
  | .hbm, ⟨34, _⟩ => ⟨S2x1536, .f32⟩
  | .hbm, ⟨35, _⟩ => ⟨S2x1536, .f32⟩
  | .hbm, ⟨36, _⟩ => ⟨S2x1024, .f32⟩
  | .hbm, ⟨37, _⟩ => ⟨S2x1024, .f32⟩
  | .hbm, ⟨38, _⟩ => ⟨S2x1024, .f32⟩
  | .hbm, ⟨39, _⟩ => ⟨S2x128, .f32⟩
  | .hbm, ⟨40, _⟩ => ⟨S2x128, .f32⟩
  | .hbm, ⟨41, _⟩ => ⟨S2x128, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S2x128, .f32⟩
  | .local _ .vmem, ⟨21, _⟩ => ⟨S2x1536, .f32⟩
  | .local _ .vmem, ⟨22, _⟩ => ⟨S2x1536, .f32⟩
  | .local _ .vmem, ⟨23, _⟩ => ⟨S2x1536, .f32⟩
  | .local _ .vmem, ⟨24, _⟩ => ⟨S2x1536, .f32⟩
  | .local _ .vmem, ⟨25, _⟩ => ⟨S2x1536, .f32⟩
  | .local _ .vmem, ⟨26, _⟩ => ⟨S2x1536, .f32⟩
  | .local _ .vmem, ⟨27, _⟩ => ⟨S2x1536, .f32⟩
  | .local _ .vmem, ⟨28, _⟩ => ⟨S2x1024, .f32⟩
  | .local _ .vmem, ⟨29, _⟩ => ⟨S2x1024, .f32⟩
  | .local _ .vmem, ⟨30, _⟩ => ⟨S2x1024, .f32⟩
  | .local _ .vmem, ⟨31, _⟩ => ⟨S2x1024, .f32⟩
  | .local _ .vmem, ⟨32, _⟩ => ⟨S2x1024, .f32⟩
  | .local _ .vmem, ⟨33, _⟩ => ⟨S2x1024, .f32⟩
  | .local _ .vmem, ⟨34, _⟩ => ⟨S2x1024, .f32⟩
  | .local _ .vmem, ⟨35, _⟩ => ⟨S2x128, .f32⟩
  | .local _ .vmem, ⟨36, _⟩ => ⟨S2x128, .f32⟩
  | .local _ .vmem, ⟨37, _⟩ => ⟨S2x128, .f32⟩
  | .local _ .vmem, ⟨38, _⟩ => ⟨S2x128, .f32⟩
  | .local _ .vmem, ⟨39, _⟩ => ⟨S2x128, .f32⟩
  | .local _ .vmem, ⟨40, _⟩ => ⟨S2x128, .f32⟩
  | .local _ .vmem, ⟨41, _⟩ => ⟨S2x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v1_0 : Ref sig .tc := ⟨.hbm, 27, rfl⟩
abbrev main_v1_1 : Ref sig .tc := ⟨.hbm, 28, rfl⟩
abbrev main_v1_2 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v3_0 : Ref sig .tc := ⟨.hbm, 33, rfl⟩
abbrev main_v3_1 : Ref sig .tc := ⟨.hbm, 34, rfl⟩
abbrev main_v3_2 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v5_0 : Ref sig .tc := ⟨.hbm, 39, rfl⟩
abbrev main_v5_1 : Ref sig .tc := ⟨.hbm, 40, rfl⟩
abbrev main_v5_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S2x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x1536 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2x1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S2x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S2x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S2x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S2x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S2x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S2x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S2x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S2x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S2x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S2x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S2x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]
-- ==== Kernel4Ideal.lean ====
abbrev S2x1024 : Shape := ⟨2, ![2, 1024]⟩
abbrev S2x128 : Shape := ⟨2, ![2, 128]⟩
abbrev S2x1536 : Shape := ⟨2, ![2, 1536]⟩

abbrev nBuf : Space → Nat
  | .hbm => 42
  | .vmem => 42
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x128, .f32⟩
  | .hbm, ⟨3, _⟩ => ⟨S2x1536, .f32⟩
  | .hbm, ⟨4, _⟩ => ⟨S2x1024, .f32⟩
  | .hbm, ⟨5, _⟩ => ⟨S2x128, .f32⟩
  | .hbm, ⟨6, _⟩ => ⟨S2x1024, .f32⟩
  | .hbm, ⟨7, _⟩ => ⟨S2x1024, .f32⟩
  | .hbm, ⟨8, _⟩ => ⟨S2x128, .f32⟩
  | .hbm, ⟨9, _⟩ => ⟨S2x1536, .f32⟩
  | .hbm, ⟨10, _⟩ => ⟨S2x1024, .f32⟩
  | .hbm, ⟨11, _⟩ => ⟨S2x128, .f32⟩
  | .hbm, ⟨12, _⟩ => ⟨S2x1024, .f32⟩
  | .hbm, ⟨13, _⟩ => ⟨S2x1024, .f32⟩
  | .hbm, ⟨14, _⟩ => ⟨S2x128, .f32⟩
  | .hbm, ⟨15, _⟩ => ⟨S2x1536, .f32⟩
  | .hbm, ⟨16, _⟩ => ⟨S2x1024, .f32⟩
  | .hbm, ⟨17, _⟩ => ⟨S2x128, .f32⟩
  | .hbm, ⟨18, _⟩ => ⟨S2x1024, .f32⟩
  | .hbm, ⟨19, _⟩ => ⟨S2x1024, .f32⟩
  | .hbm, ⟨20, _⟩ => ⟨S2x128, .f32⟩
  | .hbm, ⟨21, _⟩ => ⟨S2x1536, .f32⟩
  | .hbm, ⟨22, _⟩ => ⟨S2x1024, .f32⟩
  | .hbm, ⟨23, _⟩ => ⟨S2x128, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S2x128, .f32⟩
  | .hbm, ⟨31, _⟩ => ⟨S2x128, .f32⟩
  | .hbm, ⟨32, _⟩ => ⟨S2x128, .f32⟩
  | .hbm, ⟨33, _⟩ => ⟨S2x1536, .f32⟩
  | .hbm, ⟨34, _⟩ => ⟨S2x1536, .f32⟩
  | .hbm, ⟨35, _⟩ => ⟨S2x1536, .f32⟩
  | .hbm, ⟨36, _⟩ => ⟨S2x1024, .f32⟩
  | .hbm, ⟨37, _⟩ => ⟨S2x1024, .f32⟩
  | .hbm, ⟨38, _⟩ => ⟨S2x1024, .f32⟩
  | .hbm, ⟨39, _⟩ => ⟨S2x128, .f32⟩
  | .hbm, ⟨40, _⟩ => ⟨S2x128, .f32⟩
  | .hbm, ⟨41, _⟩ => ⟨S2x128, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S2x128, .f32⟩
  | .local _ .vmem, ⟨21, _⟩ => ⟨S2x1536, .f32⟩
  | .local _ .vmem, ⟨22, _⟩ => ⟨S2x1536, .f32⟩
  | .local _ .vmem, ⟨23, _⟩ => ⟨S2x1536, .f32⟩
  | .local _ .vmem, ⟨24, _⟩ => ⟨S2x1536, .f32⟩
  | .local _ .vmem, ⟨25, _⟩ => ⟨S2x1536, .f32⟩
  | .local _ .vmem, ⟨26, _⟩ => ⟨S2x1536, .f32⟩
  | .local _ .vmem, ⟨27, _⟩ => ⟨S2x1536, .f32⟩
  | .local _ .vmem, ⟨28, _⟩ => ⟨S2x1024, .f32⟩
  | .local _ .vmem, ⟨29, _⟩ => ⟨S2x1024, .f32⟩
  | .local _ .vmem, ⟨30, _⟩ => ⟨S2x1024, .f32⟩
  | .local _ .vmem, ⟨31, _⟩ => ⟨S2x1024, .f32⟩
  | .local _ .vmem, ⟨32, _⟩ => ⟨S2x1024, .f32⟩
  | .local _ .vmem, ⟨33, _⟩ => ⟨S2x1024, .f32⟩
  | .local _ .vmem, ⟨34, _⟩ => ⟨S2x1024, .f32⟩
  | .local _ .vmem, ⟨35, _⟩ => ⟨S2x128, .f32⟩
  | .local _ .vmem, ⟨36, _⟩ => ⟨S2x128, .f32⟩
  | .local _ .vmem, ⟨37, _⟩ => ⟨S2x128, .f32⟩
  | .local _ .vmem, ⟨38, _⟩ => ⟨S2x128, .f32⟩
  | .local _ .vmem, ⟨39, _⟩ => ⟨S2x128, .f32⟩
  | .local _ .vmem, ⟨40, _⟩ => ⟨S2x128, .f32⟩
  | .local _ .vmem, ⟨41, _⟩ => ⟨S2x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v1_0 : Ref sig .tc := ⟨.hbm, 27, rfl⟩
abbrev main_v1_1 : Ref sig .tc := ⟨.hbm, 28, rfl⟩
abbrev main_v1_2 : Ref sig .tc := ⟨.hbm, 29, rfl⟩
abbrev main_v2_0 : Ref sig .tc := ⟨.hbm, 30, rfl⟩
abbrev main_v2_1 : Ref sig .tc := ⟨.hbm, 31, rfl⟩
abbrev main_v2_2 : Ref sig .tc := ⟨.hbm, 32, rfl⟩
abbrev main_v3_0 : Ref sig .tc := ⟨.hbm, 33, rfl⟩
abbrev main_v3_1 : Ref sig .tc := ⟨.hbm, 34, rfl⟩
abbrev main_v3_2 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v5_0 : Ref sig .tc := ⟨.hbm, 39, rfl⟩
abbrev main_v5_1 : Ref sig .tc := ⟨.hbm, 40, rfl⟩
abbrev main_v5_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S2x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S2x1536 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S2x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S2x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S2x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S2x1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S2x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S2x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S2x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S2x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S2x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S2x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S2x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S2x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S2x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S2x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S2x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]
-- ==== Reference4Ideal.lean ====
abbrev S2x1024 : Shape := ⟨2, ![2, 1024]⟩
abbrev S2x128 : Shape := ⟨2, ![2, 128]⟩
abbrev S2x1536 : Shape := ⟨2, ![2, 1536]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S2x1024, .f32⟩
  | 1 => ⟨S2x1024, .f32⟩
  | 2 => ⟨S2x128, .f32⟩
  | 3 => ⟨S2x1536, .f32⟩
  | 4 => ⟨S2x1024, .f32⟩
  | 5 => ⟨S2x128, .f32⟩
  | 6 => ⟨S2x1024, .f32⟩
  | 7 => ⟨S2x1024, .f32⟩
  | 8 => ⟨S2x128, .f32⟩
  | 9 => ⟨S2x1536, .f32⟩
  | 10 => ⟨S2x1024, .f32⟩
  | 11 => ⟨S2x128, .f32⟩
  | 12 => ⟨S2x1024, .f32⟩
  | 13 => ⟨S2x1024, .f32⟩
  | 14 => ⟨S2x128, .f32⟩
  | 15 => ⟨S2x1536, .f32⟩
  | 16 => ⟨S2x1024, .f32⟩
  | 17 => ⟨S2x128, .f32⟩
  | 18 => ⟨S2x1024, .f32⟩
  | 19 => ⟨S2x1024, .f32⟩
  | 20 => ⟨S2x128, .f32⟩
  | 21 => ⟨S2x1536, .f32⟩
  | 22 => ⟨S2x1024, .f32⟩
  | 23 => ⟨S2x128, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S_, .f32⟩
  | 91 => ⟨S2x128, .f32⟩
  | 92 => ⟨S2x128, .f32⟩
  | 93 => ⟨S_, .f32⟩
  | 94 => ⟨S2x128, .f32⟩
  | 95 => ⟨S2x128, .f32⟩
  | 96 => ⟨S2x128, .f32⟩
  | 97 => ⟨S_, .f32⟩
  | 98 => ⟨S2x128, .f32⟩
  | 99 => ⟨S2x128, .f32⟩
  | 100 => ⟨S2x128, .f32⟩
  | 101 => ⟨S_, .f32⟩
  | 102 => ⟨S2x128, .f32⟩
  | 103 => ⟨S2x128, .f32⟩
  | 104 => ⟨S2x128, .f32⟩
  | 105 => ⟨S_, .f32⟩
  | 106 => ⟨S2x128, .f32⟩
  | 107 => ⟨S2x128, .f32⟩
  | 108 => ⟨S_, .f32⟩
  | 109 => ⟨S2x128, .f32⟩
  | 110 => ⟨S2x128, .f32⟩
  | 111 => ⟨S2x128, .f32⟩
  | 112 => ⟨S_, .f32⟩
  | 113 => ⟨S2x128, .f32⟩
  | 114 => ⟨S2x128, .f32⟩
  | 115 => ⟨S2x128, .f32⟩
  | 116 => ⟨S_, .f32⟩
  | 117 => ⟨S2x128, .f32⟩
  | 118 => ⟨S2x128, .f32⟩
  | 119 => ⟨S2x128, .f32⟩
  | 120 => ⟨S_, .f32⟩
  | 121 => ⟨S2x128, .f32⟩
  | 122 => ⟨S2x128, .f32⟩
  | 123 => ⟨S_, .f32⟩
  | 124 => ⟨S2x1536, .f32⟩
  | 125 => ⟨S2x1536, .f32⟩
  | 126 => ⟨S_, .f32⟩
  | 127 => ⟨S2x1536, .f32⟩
  | _ => ⟨S2x1024, .f32⟩

abbrev hbmTy0_1 (i : Nat) : BufTy := match i % 128 with
  | 0 => ⟨S2x1536, .f32⟩
  | 1 => ⟨S2x1536, .f32⟩
  | 2 => ⟨S_, .f32⟩
  | 3 => ⟨S2x1536, .f32⟩
  | 4 => ⟨S2x1536, .f32⟩
  | 5 => ⟨S2x1536, .f32⟩
  | 6 => ⟨S_, .f32⟩
  | 7 => ⟨S2x1536, .f32⟩
  | 8 => ⟨S2x1536, .f32⟩
  | 9 => ⟨S2x1536, .f32⟩
  | 10 => ⟨S_, .f32⟩
  | 11 => ⟨S2x1536, .f32⟩
  | 12 => ⟨S2x1536, .f32⟩
  | 13 => ⟨S_, .f32⟩
  | 14 => ⟨S2x1536, .f32⟩
  | 15 => ⟨S2x1536, .f32⟩
  | 16 => ⟨S2x1536, .f32⟩
  | 17 => ⟨S_, .f32⟩
  | 18 => ⟨S2x1536, .f32⟩
  | 19 => ⟨S2x1536, .f32⟩
  | 20 => ⟨S2x1536, .f32⟩
  | 21 => ⟨S_, .f32⟩
  | 22 => ⟨S2x1536, .f32⟩
  | 23 => ⟨S2x1536, .f32⟩
  | 24 => ⟨S2x1536, .f32⟩
  | 25 => ⟨S_, .f32⟩
  | 26 => ⟨S2x1536, .f32⟩
  | 27 => ⟨S2x1536, .f32⟩
  | 28 => ⟨S_, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S_, .f32⟩
  | 62 => ⟨S2x128, .f32⟩
  | 63 => ⟨S2x128, .f32⟩
  | 64 => ⟨S_, .f32⟩
  | 65 => ⟨S2x128, .f32⟩
  | 66 => ⟨S2x128, .f32⟩
  | 67 => ⟨S2x128, .f32⟩
  | 68 => ⟨S_, .f32⟩
  | 69 => ⟨S2x128, .f32⟩
  | 70 => ⟨S2x128, .f32⟩
  | 71 => ⟨S2x128, .f32⟩
  | 72 => ⟨S_, .f32⟩
  | 73 => ⟨S2x128, .f32⟩
  | 74 => ⟨S2x128, .f32⟩
  | 75 => ⟨S2x128, .f32⟩
  | 76 => ⟨S_, .f32⟩
  | 77 => ⟨S2x128, .f32⟩
  | 78 => ⟨S2x128, .f32⟩
  | 79 => ⟨S_, .f32⟩
  | 80 => ⟨S2x128, .f32⟩
  | 81 => ⟨S2x128, .f32⟩
  | 82 => ⟨S2x128, .f32⟩
  | 83 => ⟨S_, .f32⟩
  | 84 => ⟨S2x128, .f32⟩
  | 85 => ⟨S2x128, .f32⟩
  | 86 => ⟨S2x128, .f32⟩
  | 87 => ⟨S_, .f32⟩
  | 88 => ⟨S2x128, .f32⟩
  | 89 => ⟨S2x128, .f32⟩
  | 90 => ⟨S2x128, .f32⟩
  | 91 => ⟨S_, .f32⟩
  | 92 => ⟨S2x128, .f32⟩
  | 93 => ⟨S2x128, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel5.lean ====
abbrev S2x4x384 : Shape := ⟨3, ![2, 4, 384]⟩
abbrev S2x4 : Shape := ⟨2, ![2, 4]⟩
abbrev S2x16 : Shape := ⟨2, ![2, 16]⟩
abbrev S8x384 : Shape := ⟨2, ![8, 384]⟩

abbrev nBuf : Space → Nat
  | .hbm => 63
  | .vmem => 49
  | .smem => 0
  | _ => 0

abbrev bufTy : (tb : Table) → Fin (tcTables nBuf tb) → BufTy
  | .hbm, ⟨0, _⟩ => ⟨S2x4x384, .f32⟩
  | .hbm, ⟨1, _⟩ => ⟨S2x4, .f32⟩
  | .hbm, ⟨2, _⟩ => ⟨S2x4, .f32⟩
  | .hbm, ⟨3, _⟩ => ⟨S2x4x384, .f32⟩
  | .hbm, ⟨4, _⟩ => ⟨S2x16, .f32⟩
  | .hbm, ⟨5, _⟩ => ⟨S2x16, .f32⟩
  | .hbm, ⟨6, _⟩ => ⟨S2x16, .f32⟩
  | .hbm, ⟨7, _⟩ => ⟨S2x4x384, .f32⟩
  | .hbm, ⟨8, _⟩ => ⟨S2x4, .f32⟩
  | .hbm, ⟨9, _⟩ => ⟨S2x4, .f32⟩
  | .hbm, ⟨10, _⟩ => ⟨S2x4x384, .f32⟩
  | .hbm, ⟨11, _⟩ => ⟨S2x16, .f32⟩
  | .hbm, ⟨12, _⟩ => ⟨S2x16, .f32⟩
  | .hbm, ⟨13, _⟩ => ⟨S2x16, .f32⟩
  | .hbm, ⟨14, _⟩ => ⟨S2x4x384, .f32⟩
  | .hbm, ⟨15, _⟩ => ⟨S2x4, .f32⟩
  | .hbm, ⟨16, _⟩ => ⟨S2x4, .f32⟩
  | .hbm, ⟨17, _⟩ => ⟨S2x4x384, .f32⟩
  | .hbm, ⟨18, _⟩ => ⟨S2x16, .f32⟩
  | .hbm, ⟨19, _⟩ => ⟨S2x16, .f32⟩
  | .hbm, ⟨20, _⟩ => ⟨S2x16, .f32⟩
  | .hbm, ⟨21, _⟩ => ⟨S2x4x384, .f32⟩
  | .hbm, ⟨22, _⟩ => ⟨S2x4, .f32⟩
  | .hbm, ⟨23, _⟩ => ⟨S2x4, .f32⟩
  | .hbm, ⟨24, _⟩ => ⟨S2x4x384, .f32⟩
  | .hbm, ⟨25, _⟩ => ⟨S2x16, .f32⟩
  | .hbm, ⟨26, _⟩ => ⟨S2x16, .f32⟩
  | .hbm, ⟨27, _⟩ => ⟨S2x16, .f32⟩
  | .hbm, ⟨28, _⟩ => ⟨S8x384, .f32⟩
  | .hbm, ⟨29, _⟩ => ⟨S8x384, .f32⟩
  | .hbm, ⟨30, _⟩ => ⟨S8x384, .f32⟩
  | .hbm, ⟨31, _⟩ => ⟨S8x384, .f32⟩
  | .hbm, ⟨32, _⟩ => ⟨S8x384, .f32⟩
  | .hbm, ⟨33, _⟩ => ⟨S8x384, .f32⟩
  | .hbm, ⟨34, _⟩ => ⟨S8x384, .f32⟩
  | .hbm, ⟨35, _⟩ => ⟨S2x4x384, .f32⟩
  | .hbm, ⟨36, _⟩ => ⟨S2x4x384, .f32⟩
  | .hbm, ⟨37, _⟩ => ⟨S2x4x384, .f32⟩
  | .hbm, ⟨38, _⟩ => ⟨S2x4, .f32⟩
  | .hbm, ⟨39, _⟩ => ⟨S2x4, .f32⟩
  | .hbm, ⟨40, _⟩ => ⟨S2x4, .f32⟩
  | .hbm, ⟨41, _⟩ => ⟨S2x4, .f32⟩
  | .hbm, ⟨42, _⟩ => ⟨S2x4, .f32⟩
  | .hbm, ⟨43, _⟩ => ⟨S2x4, .f32⟩
  | .hbm, ⟨44, _⟩ => ⟨S8x384, .f32⟩
  | .hbm, ⟨45, _⟩ => ⟨S8x384, .f32⟩
  | .hbm, ⟨46, _⟩ => ⟨S8x384, .f32⟩
  | .hbm, ⟨47, _⟩ => ⟨S8x384, .f32⟩
  | .hbm, ⟨48, _⟩ => ⟨S8x384, .f32⟩
  | .hbm, ⟨49, _⟩ => ⟨S8x384, .f32⟩
  | .hbm, ⟨50, _⟩ => ⟨S8x384, .f32⟩
  | .hbm, ⟨51, _⟩ => ⟨S2x4x384, .f32⟩
  | .hbm, ⟨52, _⟩ => ⟨S2x4x384, .f32⟩
  | .hbm, ⟨53, _⟩ => ⟨S2x4x384, .f32⟩
  | .hbm, ⟨54, _⟩ => ⟨S2x16, .f32⟩
  | .hbm, ⟨55, _⟩ => ⟨S2x16, .f32⟩
  | .hbm, ⟨56, _⟩ => ⟨S2x16, .f32⟩
  | .hbm, ⟨57, _⟩ => ⟨S2x16, .f32⟩
  | .hbm, ⟨58, _⟩ => ⟨S2x16, .f32⟩
  | .hbm, ⟨59, _⟩ => ⟨S2x16, .f32⟩
  | .hbm, ⟨60, _⟩ => ⟨S2x16, .f32⟩
  | .hbm, ⟨61, _⟩ => ⟨S2x16, .f32⟩
  | .hbm, ⟨62, _⟩ => ⟨S2x16, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S2x4, .f32⟩
  | .local _ .vmem, ⟨8, _⟩ => ⟨S2x4, .f32⟩
  | .local _ .vmem, ⟨9, _⟩ => ⟨S2x4, .f32⟩
  | .local _ .vmem, ⟨10, _⟩ => ⟨S2x4, .f32⟩
  | .local _ .vmem, ⟨11, _⟩ => ⟨S2x4, .f32⟩
  | .local _ .vmem, ⟨12, _⟩ => ⟨S2x4, .f32⟩
  | .local _ .vmem, ⟨13, _⟩ => ⟨S2x4, .f32⟩
  | .local _ .vmem, ⟨14, _⟩ => ⟨S2x4, .f32⟩
  | .local _ .vmem, ⟨15, _⟩ => ⟨S2x4, .f32⟩
  | .local _ .vmem, ⟨16, _⟩ => ⟨S2x4, .f32⟩
  | .local _ .vmem, ⟨17, _⟩ => ⟨S2x4, .f32⟩
  | .local _ .vmem, ⟨18, _⟩ => ⟨S2x4, .f32⟩
  | .local _ .vmem, ⟨19, _⟩ => ⟨S2x4, .f32⟩
  | .local _ .vmem, ⟨20, _⟩ => ⟨S2x4, .f32⟩
  | .local _ .vmem, ⟨21, _⟩ => ⟨S8x384, .f32⟩
  | .local _ .vmem, ⟨22, _⟩ => ⟨S8x384, .f32⟩
  | .local _ .vmem, ⟨23, _⟩ => ⟨S8x384, .f32⟩
  | .local _ .vmem, ⟨24, _⟩ => ⟨S8x384, .f32⟩
  | .local _ .vmem, ⟨25, _⟩ => ⟨S8x384, .f32⟩
  | .local _ .vmem, ⟨26, _⟩ => ⟨S8x384, .f32⟩
  | .local _ .vmem, ⟨27, _⟩ => ⟨S8x384, .f32⟩
  | .local _ .vmem, ⟨28, _⟩ => ⟨S2x16, .f32⟩
  | .local _ .vmem, ⟨29, _⟩ => ⟨S2x16, .f32⟩
  | .local _ .vmem, ⟨30, _⟩ => ⟨S2x16, .f32⟩
  | .local _ .vmem, ⟨31, _⟩ => ⟨S2x16, .f32⟩
  | .local _ .vmem, ⟨32, _⟩ => ⟨S2x16, .f32⟩
  | .local _ .vmem, ⟨33, _⟩ => ⟨S2x16, .f32⟩
  | .local _ .vmem, ⟨34, _⟩ => ⟨S2x16, .f32⟩
  | .local _ .vmem, ⟨35, _⟩ => ⟨S2x16, .f32⟩
  | .local _ .vmem, ⟨36, _⟩ => ⟨S2x16, .f32⟩
  | .local _ .vmem, ⟨37, _⟩ => ⟨S2x16, .f32⟩
  | .local _ .vmem, ⟨38, _⟩ => ⟨S2x16, .f32⟩
  | .local _ .vmem, ⟨39, _⟩ => ⟨S2x16, .f32⟩
  | .local _ .vmem, ⟨40, _⟩ => ⟨S2x16, .f32⟩
  | .local _ .vmem, ⟨41, _⟩ => ⟨S2x16, .f32⟩
  | .local _ .vmem, ⟨42, _⟩ => ⟨S2x16, .f32⟩
  | .local _ .vmem, ⟨43, _⟩ => ⟨S2x16, .f32⟩
  | .local _ .vmem, ⟨44, _⟩ => ⟨S2x16, .f32⟩
  | .local _ .vmem, ⟨45, _⟩ => ⟨S2x16, .f32⟩
  | .local _ .vmem, ⟨46, _⟩ => ⟨S2x16, .f32⟩
  | .local _ .vmem, ⟨47, _⟩ => ⟨S2x16, .f32⟩
  | .local _ .vmem, ⟨48, _⟩ => ⟨S2x16, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4_0 : Ref sig .tc := ⟨.hbm, 32, rfl⟩
abbrev main_v4_1 : Ref sig .tc := ⟨.hbm, 33, rfl⟩
abbrev main_v4_2 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8_0 : Ref sig .tc := ⟨.hbm, 38, rfl⟩
abbrev main_v8_1 : Ref sig .tc := ⟨.hbm, 39, rfl⟩
abbrev main_v8_2 : Ref sig .tc := ⟨.hbm, 40, rfl⟩
abbrev main_v9_0 : Ref sig .tc := ⟨.hbm, 41, rfl⟩
abbrev main_v9_1 : Ref sig .tc := ⟨.hbm, 42, rfl⟩
abbrev main_v9_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14_0 : Ref sig .tc := ⟨.hbm, 48, rfl⟩
abbrev main_v14_1 : Ref sig .tc := ⟨.hbm, 49, rfl⟩
abbrev main_v14_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18_0 : Ref sig .tc := ⟨.hbm, 54, rfl⟩
abbrev main_v18_1 : Ref sig .tc := ⟨.hbm, 55, rfl⟩
abbrev main_v18_2 : Ref sig .tc := ⟨.hbm, 56, rfl⟩
abbrev main_v19_0 : Ref sig .tc := ⟨.hbm, 57, rfl⟩
abbrev main_v19_1 : Ref sig .tc := ⟨.hbm, 58, rfl⟩
abbrev main_v19_2 : Ref sig .tc := ⟨.hbm, 59, rfl⟩
abbrev main_v20_0 : Ref sig .tc := ⟨.hbm, 60, rfl⟩
abbrev main_v20_1 : Ref sig .tc := ⟨.hbm, 61, rfl⟩
abbrev main_v20_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2x4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S2x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S2x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S2x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S2x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S2x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S8x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S8x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S8x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S8x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S8x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S8x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S8x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S2x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S2x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S2x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S2x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S2x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S2x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S2x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S2x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S2x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S2x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2x16 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S2x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S2x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S2x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S2x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S2x16 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference5Ideal.lean ====
abbrev S2x4x384 : Shape := ⟨3, ![2, 4, 384]⟩
abbrev S2x4 : Shape := ⟨2, ![2, 4]⟩
abbrev S2x16 : Shape := ⟨2, ![2, 16]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2x4x384, .f32⟩
  | 1 => ⟨S2x4, .f32⟩
  | 2 => ⟨S2x4, .f32⟩
  | 3 => ⟨S2x4x384, .f32⟩
  | 4 => ⟨S2x16, .f32⟩
  | 5 => ⟨S2x16, .f32⟩
  | 6 => ⟨S2x16, .f32⟩
  | 7 => ⟨S2x4x384, .f32⟩
  | 8 => ⟨S2x4, .f32⟩
  | 9 => ⟨S2x4, .f32⟩
  | 10 => ⟨S2x4x384, .f32⟩
  | 11 => ⟨S2x16, .f32⟩
  | 12 => ⟨S2x16, .f32⟩
  | 13 => ⟨S2x16, .f32⟩
  | 14 => ⟨S2x4x384, .f32⟩
  | 15 => ⟨S2x4, .f32⟩
  | 16 => ⟨S2x4, .f32⟩
  | 17 => ⟨S2x4x384, .f32⟩
  | 18 => ⟨S2x16, .f32⟩
  | 19 => ⟨S2x16, .f32⟩
  | 20 => ⟨S2x16, .f32⟩
  | 21 => ⟨S2x4x384, .f32⟩
  | 22 => ⟨S2x4, .f32⟩
  | 23 => ⟨S2x4, .f32⟩
  | 24 => ⟨S2x4x384, .f32⟩
  | 25 => ⟨S2x16, .f32⟩
  | 26 => ⟨S2x16, .f32⟩
  | 27 => ⟨S2x16, .f32⟩
  | 28 => ⟨S_, .f32⟩
  | 29 => ⟨S2x4x384, .f32⟩
  | 30 => ⟨S2x4x384, .f32⟩
  | 31 => ⟨S_, .f32⟩
  | 32 => ⟨S2x4x384, .f32⟩
  | 33 => ⟨S2x4x384, .f32⟩
  | 34 => ⟨S2x4x384, .f32⟩
  | 35 => ⟨S_, .f32⟩
  | 36 => ⟨S2x4x384, .f32⟩
  | 37 => ⟨S2x4x384, .f32⟩
  | 38 => ⟨S2x4x384, .f32⟩
  | 39 => ⟨S_, .f32⟩
  | 40 => ⟨S2x4x384, .f32⟩
  | 41 => ⟨S2x4x384, .f32⟩
  | 42 => ⟨S2x4x384, .f32⟩
  | 43 => ⟨S_, .f32⟩
  | 44 => ⟨S2x4x384, .f32⟩
  | 45 => ⟨S2x4x384, .f32⟩
  | 46 => ⟨S_, .f32⟩
  | 47 => ⟨S2x4x384, .f32⟩
  | 48 => ⟨S2x4x384, .f32⟩
  | 49 => ⟨S2x4x384, .f32⟩
  | 50 => ⟨S_, .f32⟩
  | 51 => ⟨S2x4x384, .f32⟩
  | 52 => ⟨S2x4x384, .f32⟩
  | 53 => ⟨S2x4x384, .f32⟩
  | 54 => ⟨S_, .f32⟩
  | 55 => ⟨S2x4x384, .f32⟩
  | 56 => ⟨S2x4x384, .f32⟩
  | 57 => ⟨S2x4x384, .f32⟩
  | 58 => ⟨S_, .f32⟩
  | 59 => ⟨S2x4x384, .f32⟩
  | 60 => ⟨S2x4x384, .f32⟩
  | 61 => ⟨S_, .f32⟩
  | 62 => ⟨S2x4, .f32⟩
  | 63 => ⟨S2x4, .f32⟩
  | 64 => ⟨S_, .f32⟩
  | 65 => ⟨S2x4, .f32⟩
  | 66 => ⟨S2x4, .f32⟩
  | 67 => ⟨S2x4, .f32⟩
  | 68 => ⟨S_, .f32⟩
  | 69 => ⟨S2x4, .f32⟩
  | 70 => ⟨S2x4, .f32⟩
  | 71 => ⟨S2x4, .f32⟩
  | 72 => ⟨S_, .f32⟩
  | 73 => ⟨S2x4, .f32⟩
  | 74 => ⟨S2x4, .f32⟩
  | 75 => ⟨S2x4, .f32⟩
  | 76 => ⟨S_, .f32⟩
  | 77 => ⟨S2x4, .f32⟩
  | 78 => ⟨S2x4, .f32⟩
  | 79 => ⟨S_, .f32⟩
  | 80 => ⟨S2x4, .f32⟩
  | 81 => ⟨S2x4, .f32⟩
  | 82 => ⟨S2x4, .f32⟩
  | 83 => ⟨S_, .f32⟩
  | 84 => ⟨S2x4, .f32⟩
  | 85 => ⟨S2x4, .f32⟩
  | 86 => ⟨S2x4, .f32⟩
  | 87 => ⟨S_, .f32⟩
  | 88 => ⟨S2x4, .f32⟩
  | 89 => ⟨S2x4, .f32⟩
  | 90 => ⟨S2x4, .f32⟩
  | 91 => ⟨S_, .f32⟩
  | 92 => ⟨S2x4, .f32⟩
  | 93 => ⟨S2x4, .f32⟩
  | 94 => ⟨S_, .f32⟩
  | 95 => ⟨S2x4, .f32⟩
  | 96 => ⟨S2x4, .f32⟩
  | 97 => ⟨S_, .f32⟩
  | 98 => ⟨S2x4, .f32⟩
  | 99 => ⟨S2x4, .f32⟩
  | 100 => ⟨S2x4, .f32⟩
  | 101 => ⟨S_, .f32⟩
  | 102 => ⟨S2x4, .f32⟩
  | 103 => ⟨S2x4, .f32⟩
  | 104 => ⟨S2x4, .f32⟩
  | 105 => ⟨S_, .f32⟩
  | 106 => ⟨S2x4, .f32⟩
  | 107 => ⟨S2x4, .f32⟩
  | 108 => ⟨S2x4, .f32⟩
  | 109 => ⟨S_, .f32⟩
  | 110 => ⟨S2x4, .f32⟩
  | 111 => ⟨S2x4, .f32⟩
  | 112 => ⟨S_, .f32⟩
  | 113 => ⟨S2x4, .f32⟩
  | 114 => ⟨S2x4, .f32⟩
  | 115 => ⟨S2x4, .f32⟩
  | 116 => ⟨S_, .f32⟩
  | 117 => ⟨S2x4, .f32⟩
  | 118 => ⟨S2x4, .f32⟩
  | 119 => ⟨S2x4, .f32⟩
  | 120 => ⟨S_, .f32⟩
  | 121 => ⟨S2x4, .f32⟩
  | 122 => ⟨S2x4, .f32⟩
  | 123 => ⟨S2x4, .f32⟩
  | 124 => ⟨S_, .f32⟩
  | 125 => ⟨S2x4, .f32⟩
  | 126 => ⟨S2x4, .f32⟩
  | 127 => ⟨S_, .f32⟩
  | _ => ⟨S2x4x384, .f32⟩

abbrev hbmTy0_1 (i : Nat) : BufTy := match i % 128 with
  | 0 => ⟨S2x4x384, .f32⟩
  | 1 => ⟨S2x4x384, .f32⟩
  | 2 => ⟨S_, .f32⟩
  | 3 => ⟨S2x4x384, .f32⟩
  | 4 => ⟨S2x4x384, .f32⟩
  | 5 => ⟨S2x4x384, .f32⟩
  | 6 => ⟨S_, .f32⟩
  | 7 => ⟨S2x4x384, .f32⟩
  | 8 => ⟨S2x4x384, .f32⟩
  | 9 => ⟨S2x4x384, .f32⟩
  | 10 => ⟨S_, .f32⟩
  | 11 => ⟨S2x4x384, .f32⟩
  | 12 => ⟨S2x4x384, .f32⟩
  | 13 => ⟨S2x4x384, .f32⟩
  | 14 => ⟨S_, .f32⟩
  | 15 => ⟨S2x4x384, .f32⟩
  | 16 => ⟨S2x4x384, .f32⟩
  | 17 => ⟨S_, .f32⟩
  | 18 => ⟨S2x4x384, .f32⟩
  | 19 => ⟨S2x4x384, .f32⟩
  | 20 => ⟨S2x4x384, .f32⟩
  | 21 => ⟨S_, .f32⟩
  | 22 => ⟨S2x4x384, .f32⟩
  | 23 => ⟨S2x4x384, .f32⟩
  | 24 => ⟨S2x4x384, .f32⟩
  | 25 => ⟨S_, .f32⟩
  | 26 => ⟨S2x4x384, .f32⟩
  | 27 => ⟨S2x4x384, .f32⟩
  | 28 => ⟨S2x4x384, .f32⟩
  | 29 => ⟨S_, .f32⟩
  | 30 => ⟨S2x4x384, .f32⟩
  | 31 => ⟨S2x4x384, .f32⟩
  | 32 => ⟨S_, .f32⟩
  | 33 => ⟨S2x16, .f32⟩
  | 34 => ⟨S2x16, .f32⟩
  | 35 => ⟨S_, .f32⟩
  | 36 => ⟨S2x16, .f32⟩
  | 37 => ⟨S2x16, .f32⟩
  | 38 => ⟨S2x16, .f32⟩
  | 39 => ⟨S_, .f32⟩
  | 40 => ⟨S2x16, .f32⟩
  | 41 => ⟨S2x16, .f32⟩
  | 42 => ⟨S2x16, .f32⟩
  | 43 => ⟨S_, .f32⟩
  | 44 => ⟨S2x16, .f32⟩
  | 45 => ⟨S2x16, .f32⟩
  | 46 => ⟨S2x16, .f32⟩
  | 47 => ⟨S_, .f32⟩
  | 48 => ⟨S2x16, .f32⟩
  | 49 => ⟨S2x16, .f32⟩
  | 50 => ⟨S_, .f32⟩
  | 51 => ⟨S2x16, .f32⟩
  | 52 => ⟨S2x16, .f32⟩
  | 53 => ⟨S2x16, .f32⟩
  | 54 => ⟨S_, .f32⟩
  | 55 => ⟨S2x16, .f32⟩
  | 56 => ⟨S2x16, .f32⟩
  | 57 => ⟨S2x16, .f32⟩
  | 58 => ⟨S_, .f32⟩
  | 59 => ⟨S2x16, .f32⟩
  | 60 => ⟨S2x16, .f32⟩
  | 61 => ⟨S2x16, .f32⟩
  | 62 => ⟨S_, .f32⟩
  | 63 => ⟨S2x16, .f32⟩
  | 64 => ⟨S2x16, .f32⟩
  | 65 => ⟨S_, .f32⟩
  | 66 => ⟨S2x16, .f32⟩
  | 67 => ⟨S2x16, .f32⟩
  | 68 => ⟨S_, .f32⟩
  | 69 => ⟨S2x16, .f32⟩
  | 70 => ⟨S2x16, .f32⟩
  | 71 => ⟨S2x16, .f32⟩
  | 72 => ⟨S_, .f32⟩
  | 73 => ⟨S2x16, .f32⟩
  | 74 => ⟨S2x16, .f32⟩
  | 75 => ⟨S2x16, .f32⟩
  | 76 => ⟨S_, .f32⟩
  | 77 => ⟨S2x16, .f32⟩
  | 78 => ⟨S2x16, .f32⟩
  | 79 => ⟨S2x16, .f32⟩
  | 80 => ⟨S_, .f32⟩
  | 81 => ⟨S2x16, .f32⟩
  | 82 => ⟨S2x16, .f32⟩
  | 83 => ⟨S_, .f32⟩
  | 84 => ⟨S2x16, .f32⟩
  | 85 => ⟨S2x16, .f32⟩
  | 86 => ⟨S2x16, .f32⟩
  | 87 => ⟨S_, .f32⟩
  | 88 => ⟨S2x16, .f32⟩
  | 89 => ⟨S2x16, .f32⟩
  | 90 => ⟨S2x16, .f32⟩
  | 91 => ⟨S_, .f32⟩
  | 92 => ⟨S2x16, .f32⟩
  | 93 => ⟨S2x16, .f32⟩
  | 94 => ⟨S2x16, .f32⟩
  | 95 => ⟨S_, .f32⟩
  | 96 => ⟨S2x16, .f32⟩
  | 97 => ⟨S2x16, .f32⟩
  | 98 => ⟨S_, .f32⟩
  | 99 => ⟨S2x16, .f32⟩
  | 100 => ⟨S2x16, .f32⟩
  | 101 => ⟨S_, .f32⟩
  | 102 => ⟨S2x16, .f32⟩
  | 103 => ⟨S2x16, .f32⟩
  | 104 => ⟨S2x16, .f32⟩
  | 105 => ⟨S_, .f32⟩
  | 106 => ⟨S2x16, .f32⟩
  | 107 => ⟨S2x16, .f32⟩
  | 108 => ⟨S2x16, .f32⟩
  | 109 => ⟨S_, .f32⟩
  | 110 => ⟨S2x16, .f32⟩
  | 111 => ⟨S2x16, .f32⟩
  | 112 => ⟨S2x16, .f32⟩
  | 113 => ⟨S_, .f32⟩
  | 114 => ⟨S2x16, .f32⟩
  | 115 => ⟨S2x16, .f32⟩
  | 116 => ⟨S_, .f32⟩
  | 117 => ⟨S2x16, .f32⟩
  | 118 => ⟨S2x16, .f32⟩
  | 119 => ⟨S2x16, .f32⟩
  | 120 => ⟨S_, .f32⟩
  | 121 => ⟨S2x16, .f32⟩
  | 122 => ⟨S2x16, .f32⟩
  | 123 => ⟨S2x16, .f32⟩
  | 124 => ⟨S_, .f32⟩
  | 125 => ⟨S2x16, .f32⟩
  | 126 => ⟨S2x16, .f32⟩
  | 127 => ⟨S2x16, .f32⟩
  | _ => ⟨S2x4x384, .f32⟩

abbrev hbmTy0_2 (i : Nat) : BufTy := match i % 128 with
  | 0 => ⟨S_, .f32⟩
  | 1 => ⟨S2x16, .f32⟩
  | 2 => ⟨S2x16, .f32⟩
  | _ => ⟨S2x4x384, .f32⟩

abbrev hbmTy (i : Nat) : BufTy := match i / 128 with
  | 0 => hbmTy0_0 i
  | 1 => hbmTy0_1 i
  | 2 => hbmTy0_2 i
  | _ => ⟨S2x4x384, .f32⟩

abbrev bufTy : (tb : Table) → Fin (tcTables nBuf tb) → BufTy
  | .hbm, ⟨i, _⟩ => hbmTy i
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel6.lean ====
abbrev S8192x512 : Shape := ⟨2, ![8192, 512]⟩
abbrev S8192x1024 : Shape := ⟨2, ![8192, 1024]⟩
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S8x128 : Shape := ⟨2, ![8, 128]⟩
abbrev S1024x512 : Shape := ⟨2, ![1024, 512]⟩
abbrev S1024x1024 : Shape := ⟨2, ![1024, 1024]⟩
abbrev S512x1024 : Shape := ⟨2, ![512, 1024]⟩
abbrev S1024x1 : Shape := ⟨2, ![1024, 1]⟩
abbrev S1x1 : Shape := ⟨2, ![1, 1]⟩

abbrev nBuf : Space → Nat
  | .hbm => 22
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .f32⟩
  | .hbm, ⟨3, _⟩ => ⟨S2048x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S2048x1024, .bf16⟩
  | .hbm, ⟨11, _⟩ => ⟨S1x1024, .f32⟩
  | .hbm, ⟨12, _⟩ => ⟨S_, .f32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S8192x1024, .f32⟩
  | .hbm, ⟨18, _⟩ => ⟨S8192x1024, .f32⟩
  | .hbm, ⟨19, _⟩ => ⟨S8x128, .f32⟩
  | .hbm, ⟨20, _⟩ => ⟨S1x1, .f32⟩
  | .hbm, ⟨21, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S8192x512 : Shape := ⟨2, ![8192, 512]⟩
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .f32⟩
  | .hbm, ⟨3, _⟩ => ⟨S2048x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel7.lean ====
abbrev S4x1024x1670 : Shape := ⟨3, ![4, 1024, 1670]⟩
abbrev S1024x2048 : Shape := ⟨2, ![1024, 2048]⟩
abbrev S1024x2560 : Shape := ⟨2, ![1024, 2560]⟩
abbrev S1024x256 : Shape := ⟨2, ![1024, 256]⟩
abbrev S1024x6912 : Shape := ⟨2, ![1024, 6912]⟩
abbrev S4x128x1670 : Shape := ⟨3, ![4, 128, 1670]⟩
abbrev S128x6912 : Shape := ⟨2, ![128, 6912]⟩
abbrev S1x128x1670 : Shape := ⟨3, ![1, 128, 1670]⟩
abbrev S128x1670 : Shape := ⟨2, ![128, 1670]⟩
abbrev S128x6680 : Shape := ⟨2, ![128, 6680]⟩
abbrev S128x2048 : Shape := ⟨2, ![128, 2048]⟩
abbrev S128x2560 : Shape := ⟨2, ![128, 2560]⟩
abbrev S128x8 : Shape := ⟨2, ![128, 8]⟩
abbrev S128x120 : Shape := ⟨2, ![128, 120]⟩
abbrev S128x16 : Shape := ⟨2, ![128, 16]⟩
abbrev S128x112 : Shape := ⟨2, ![128, 112]⟩
abbrev S128x256 : Shape := ⟨2, ![128, 256]⟩

abbrev nBuf : Space → Nat
  | .hbm => 10
  | .vmem => 16
  | .smem => 0
  | _ => 0

abbrev bufTy : (tb : Table) → Fin (tcTables nBuf tb) → BufTy
  | .hbm, ⟨0, _⟩ => ⟨S4x1024x1670, .f32⟩
  | .hbm, ⟨1, _⟩ => ⟨S1024x2048, .f32⟩
  | .hbm, ⟨2, _⟩ => ⟨S1024x2560, .f32⟩
  | .hbm, ⟨3, _⟩ => ⟨S1024x2048, .f32⟩
  | .hbm, ⟨4, _⟩ => ⟨S1024x256, .f32⟩
  | .hbm, ⟨5, _⟩ => ⟨S4x1024x1670, .bf16⟩
  | .hbm, ⟨6, _⟩ => ⟨S1024x6912, .bf16⟩
  | .hbm, ⟨7, _⟩ => ⟨S1024x6912, .f32⟩
  | .hbm, ⟨8, _⟩ => ⟨S4x1024x1670, .f32⟩
  | .hbm, ⟨9, _⟩ => ⟨S4x1024x1670, .bf16⟩
  | .local _ .vmem, ⟨0, _⟩ => ⟨S4x128x1670, .bf16⟩
  | .local _ .vmem, ⟨1, _⟩ => ⟨S4x128x1670, .bf16⟩
  | .local _ .vmem, ⟨2, _⟩ => ⟨S128x6912, .bf16⟩
  | .local _ .vmem, ⟨3, _⟩ => ⟨S128x6912, .bf16⟩
  | .local _ .vmem, ⟨4, _⟩ => ⟨S128x2048, .f32⟩
  | .local _ .vmem, ⟨5, _⟩ => ⟨S128x2048, .f32⟩
  | .local _ .vmem, ⟨6, _⟩ => ⟨S128x2560, .f32⟩
  | .local _ .vmem, ⟨7, _⟩ => ⟨S128x2560, .f32⟩
  | .local _ .vmem, ⟨8, _⟩ => ⟨S128x2048, .f32⟩
  | .local _ .vmem, ⟨9, _⟩ => ⟨S128x2048, .f32⟩
  | .local _ .vmem, ⟨10, _⟩ => ⟨S128x256, .f32⟩
  | .local _ .vmem, ⟨11, _⟩ => ⟨S128x256, .f32⟩
  | .local _ .vmem, ⟨12, _⟩ => ⟨S4x128x1670, .f32⟩
  | .local _ .vmem, ⟨13, _⟩ => ⟨S4x128x1670, .f32⟩
  | .local _ .vmem, ⟨14, _⟩ => ⟨S4x128x1670, .bf16⟩
  | .local _ .vmem, ⟨15, _⟩ => ⟨S4x128x1670, .bf16⟩
  | _, _ => ⟨S4x1024x1670, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1670 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x1670 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128x1670 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference7Ideal.lean ====
abbrev S4x1024x1670 : Shape := ⟨3, ![4, 1024, 1670]⟩
abbrev S1024x2048 : Shape := ⟨2, ![1024, 2048]⟩
abbrev S1024x2560 : Shape := ⟨2, ![1024, 2560]⟩
abbrev S1024x256 : Shape := ⟨2, ![1024, 256]⟩
abbrev S1x1024x1670 : Shape := ⟨3, ![1, 1024, 1670]⟩
abbrev S1024x1670 : Shape := ⟨2, ![1024, 1670]⟩
abbrev S1024x6680 : Shape := ⟨2, ![1024, 6680]⟩
abbrev S1024x8 : Shape := ⟨2, ![1024, 8]⟩
abbrev S1024x16 : Shape := ⟨2, ![1024, 16]⟩
abbrev S_ : Shape := ⟨0, ![]⟩
abbrev S1024x120 : Shape := ⟨2, ![1024, 120]⟩
abbrev S1024x112 : Shape := ⟨2, ![1024, 112]⟩
abbrev S1024x6912 : Shape := ⟨2, ![1024, 6912]⟩

abbrev nBuf : Space → Nat
  | .hbm => 48
  | .vmem => 0
  | .smem => 0
  | _ => 0

abbrev bufTy : (tb : Table) → Fin (tcTables nBuf tb) → BufTy
  | .hbm, ⟨0, _⟩ => ⟨S4x1024x1670, .f32⟩
  | .hbm, ⟨1, _⟩ => ⟨S1024x2048, .f32⟩
  | .hbm, ⟨2, _⟩ => ⟨S1024x2560, .f32⟩
  | .hbm, ⟨3, _⟩ => ⟨S1024x2048, .f32⟩
  | .hbm, ⟨4, _⟩ => ⟨S1024x256, .f32⟩
  | .hbm, ⟨5, _⟩ => ⟨S1x1024x1670, .f32⟩
  | .hbm, ⟨6, _⟩ => ⟨S1024x1670, .f32⟩
  | .hbm, ⟨7, _⟩ => ⟨S1x1024x1670, .f32⟩
  | .hbm, ⟨8, _⟩ => ⟨S1024x1670, .f32⟩
  | .hbm, ⟨9, _⟩ => ⟨S1x1024x1670, .f32⟩
  | .hbm, ⟨10, _⟩ => ⟨S1024x1670, .f32⟩
  | .hbm, ⟨11, _⟩ => ⟨S1x1024x1670, .f32⟩
  | .hbm, ⟨12, _⟩ => ⟨S1024x1670, .f32⟩
  | .hbm, ⟨13, _⟩ => ⟨S1024x6680, .f32⟩
  | .hbm, ⟨14, _⟩ => ⟨S1024x2048, .f32⟩
  | .hbm, ⟨15, _⟩ => ⟨S1024x2560, .f32⟩
  | .hbm, ⟨16, _⟩ => ⟨S1024x2048, .f32⟩
  | .hbm, ⟨17, _⟩ => ⟨S1024x8, .f32⟩
  | .hbm, ⟨18, _⟩ => ⟨S1024x16, .f32⟩
  | .hbm, ⟨19, _⟩ => ⟨S_, .f32⟩
  | .hbm, ⟨20, _⟩ => ⟨S1024x120, .f32⟩
  | .hbm, ⟨21, _⟩ => ⟨S1024x8, .f32⟩
  | .hbm, ⟨22, _⟩ => ⟨S1024x16, .f32⟩
  | .hbm, ⟨23, _⟩ => ⟨S_, .f32⟩
  | .hbm, ⟨24, _⟩ => ⟨S1024x6680, .f32⟩
  | .hbm, ⟨25, _⟩ => ⟨S_, .f32⟩
  | .hbm, ⟨26, _⟩ => ⟨S1024x6680, .f32⟩
  | .hbm, ⟨27, _⟩ => ⟨S1024x6680, .f32⟩
  | .hbm, ⟨28, _⟩ => ⟨S_, .f32⟩
  | .hbm, ⟨29, _⟩ => ⟨S1024x6680, .f32⟩
  | .hbm, ⟨30, _⟩ => ⟨S1024x6680, .f32⟩
  | .hbm, ⟨31, _⟩ => ⟨S_, .f32⟩
  | .hbm, ⟨32, _⟩ => ⟨S1024x6680, .f32⟩
  | .hbm, ⟨33, _⟩ => ⟨S1024x6680, .f32⟩
  | .hbm, ⟨34, _⟩ => ⟨S_, .f32⟩
  | .hbm, ⟨35, _⟩ => ⟨S1024x6680, .f32⟩
  | .hbm, ⟨36, _⟩ => ⟨S1024x6680, .f32⟩
  | .hbm, ⟨37, _⟩ => ⟨S1024x112, .f32⟩
  | .hbm, ⟨38, _⟩ => ⟨S1024x6912, .f32⟩
  | .hbm, ⟨39, _⟩ => ⟨S1024x1670, .f32⟩
  | .hbm, ⟨40, _⟩ => ⟨S1024x1670, .f32⟩
  | .hbm, ⟨41, _⟩ => ⟨S1024x1670, .f32⟩
  | .hbm, ⟨42, _⟩ => ⟨S1024x1670, .f32⟩
  | .hbm, ⟨43, _⟩ => ⟨S1x1024x1670, .f32⟩
  | .hbm, ⟨44, _⟩ => ⟨S1x1024x1670, .f32⟩
  | .hbm, ⟨45, _⟩ => ⟨S1x1024x1670, .f32⟩
  | .hbm, ⟨46, _⟩ => ⟨S1x1024x1670, .f32⟩
  | .hbm, ⟨47, _⟩ => ⟨S4x1024x1670, .f32⟩
  | _, _ => ⟨S4x1024x1670, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.In.Launch.lean ====
/-
  The run of the whole program: every buffer of every core ends at the contents the program's segments leave there, and every
  semaphore counter ends at zero.
-/
module

public import proofs.«01_k».proof.Proof.Gen.KernelIdeal.Frame

@[expose] public section

set_option maxRecDepth 16384

noncomputable section

namespace Cert.Proof.In

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.Proof.In

end
-- ==== Proof.Math.lean ====
/-
  Facts about extended reals and about tables read at natural numbers that the value proofs of both programs share:
  partial sums over blocks of a long axis, a table read at two natural numbers, and the one identity of the gradient of a
  root-mean-square norm.
-/
module

public import Idealize.ShloMosaic.Lib.Pointwise

@[expose] public section

noncomputable section

namespace Cert.Proof

open Idealize.ShloMosaic

/-! ## A table read at two natural numbers -/

/-- The entry of the table `A` in row `i` and column `j`, zero outside the table. -/
def rd {n m : ℕ} (A : (⟨2, ![n, m]⟩ : Shape).Idx → EReal) (i j : ℕ) : EReal :=
  if h : i < n ∧ j < m then A (ix2 ⟨i, h.1⟩ ⟨j, h.2⟩) else 0

/-- An entry of a table is `rd` at its coordinates. -/
theorem eq_rd {n m : ℕ} (A : (⟨2, ![n, m]⟩ : Shape).Idx → EReal) (y : (⟨2, ![n, m]⟩ : Shape).Idx) (i j : ℕ)
    (hi : (y 0).val = i) (hj : (y 1).val = j) : A y = rd A i j := by
  subst hi; subst hj
  unfold rd
  rw [dif_pos ⟨(y 0).isLt, (y 1).isLt⟩]
  exact congrArg A (eq_ix2 y)

/-- `rd` at the coordinates of two bounded numbers is the entry there. -/
theorem rd_ix2 {n m : ℕ} (A : (⟨2, ![n, m]⟩ : Shape).Idx → EReal) (i : Fin n) (j : Fin m) : rd A i.val j.val = A (ix2 i j) :=
  (eq_rd A (ix2 i j) _ _ rfl rfl).symm

/-- Two tables that agree entry by entry agree under `rd`. -/
theorem rd_congr {n m : ℕ} {A B : (⟨2, ![n, m]⟩ : Shape).Idx → EReal} (h : ∀ i, A i = B i) (i j : ℕ) : rd A i j = rd B i j := by
  rw [funext h]

/-! ## Sums over blocks -/

/-- A sum over `J` blocks of `B` entries each is the sum over all `J * B` entries. -/
theorem sum_blocks {N : ℕ} (J B : ℕ) (hN : J * B = N) (f : ℕ → EReal) :
    ∑ s ∈ Finset.range J, ∑ k : Fin B, f (B * s + k.val) = ∑ k : Fin N, f k.val := by
  subst hN
  rw [Fin.sum_univ_eq_sum_range]
  induction J with
  | zero => simp
  | succ J ih =>
    rw [Finset.sum_range_succ, ih, Nat.succ_mul, Finset.sum_range_add, Fin.sum_univ_eq_sum_range (fun k => f (B * J + k)) B, Nat.mul_comm]

/-- A value that starts a run at every multiple of `J` as `0 + g` and otherwise adds `g` to what stood before is, at every
    point, the sum of `g` over the points of its run so far. -/
theorem run_sum {N : ℕ} (J : ℕ) (hJ : 0 < J) (o : (n : ℕ) → n < N → EReal) (g : ℕ → EReal)
    (hA : ∀ t h, t % J = 0 → o t h = g t)
    (hB : ∀ t (h : t < N), ¬t % J = 0 → o t h = o (t - 1) (Nat.lt_of_le_of_lt (Nat.sub_le _ _) h) + g t) :
    ∀ t h, o t h = ∑ s ∈ Finset.range (t % J + 1), g (t / J * J + s) := by
  intro t
  induction t with
  | zero => intro h; rw [hA 0 h (Nat.zero_mod _)]; simp
  | succ n ih =>
    intro h
    by_cases h0 : (n + 1) % J = 0
    · rw [hA _ h h0, h0, Finset.sum_range_one]
      congr 1
      have := Nat.div_add_mod (n + 1) J
      rw [Nat.mul_comm] at this; omega
    · rw [hB _ h h0, show o (n + 1 - 1) (Nat.lt_of_le_of_lt (Nat.sub_le _ _) h) = o n (Nat.lt_of_succ_lt h) from rfl, ih]
      have hd : (n + 1) / J = n / J := by
        rw [Nat.succ_div, if_neg (fun hd => h0 (Nat.mod_eq_zero_of_dvd hd)), Nat.add_zero]
      have hm : (n + 1) % J = n % J + 1 := by
        have e1 := Nat.div_add_mod (n + 1) J
        have e2 := Nat.div_add_mod n J
        rw [hd] at e1; omega
      rw [hd, hm, Finset.sum_range_succ _ (n % J + 1)]
      congr 2
      have e1 := Nat.div_add_mod n J
      rw [Nat.mul_comm] at e1; omega

/-! ## Extended reals -/

/-- A nonnegative finite factor goes into a sum. -/
theorem mul_sum_nonneg {ι : Type*} (c : EReal) (h0 : 0 ≤ c) (hT : c ≠ ⊤) (s : Finset ι) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 hT, ih]

/-- A square is nonnegative. -/
theorem mul_self_nonneg' (x : EReal) : 0 ≤ x * x := by
  induction x with
  | bot => simp
  | top => simp
  | coe r => exact_mod_cast mul_self_nonneg r

/-- Twice a value, as a product. -/
theorem add_self_eq (x : EReal) : x + x = x * ((2 : ℝ) : EReal) := by
  induction x with
  | bot => rw [EReal.bot_mul_coe_of_pos (by norm_num)]; rfl
  | top => rw [EReal.top_mul_coe_of_pos (by norm_num)]; rfl
  | coe r => rw [← EReal.coe_add, ← EReal.coe_mul, mul_two]

/-! ## The literals of the norm -/

/-- The word of `1e-6`. -/
abbrev eps : EReal := Ideal.ofBits .f32 0x358637BD#32

theorem lit_inv1024 : Ideal.ofBits .f32 0x3A800000#32 = ((1 / 1024 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
/-- The small constant under the root is a positive real. -/
theorem eps_pos : ∃ e : ℝ, 0 < e ∧ eps = (e : EReal) := by
  refine ⟨_, ?_, by simp [eps, Ideal.ofBits, Ideal.ieee, -EReal.coe_mul]; rfl⟩
  positivity

/-! ## The root-mean-square norm of a row and its gradient -/

/-- The mean square of a row plus the small constant. -/
def ms (x : Fin 1024 → EReal) : EReal := (∑ k, x k * x k) * ((1 / 1024 : ℝ) : EReal) + eps
/-- The factor of a row: one over the root of `ms`. -/
def rs (x : Fin 1024 → EReal) : EReal := Ideal.rsqrt (ms x)
/-- The gradient of a row scaled by its own factor, for the cotangent `d`: the closed form. -/
def normGrad (x d : Fin 1024 → EReal) (j : Fin 1024) : EReal :=
  rs x * (d j - x j * rs x * ((∑ k, d k * (x k * rs x)) * ((1 / 1024 : ℝ) : EReal)))
/-- The part of that gradient that comes through the factor, as the chain rule writes it. -/
def viaFactor (x d : Fin 1024 → EReal) : EReal :=
  Ideal.div ((∑ k, x k * d k) * (((-(1 / 2) : ℝ) : EReal) * Ideal.div (rs x) (ms x))) ((1024 : ℝ) : EReal)

theorem ms_cases (x : Fin 1024 → EReal) : ms x = ⊤ ∨ ∃ a : ℝ, 0 < a ∧ ms x = (a : EReal) := by
  obtain ⟨e, he, hE⟩ := eps_pos
  have h0 : 0 ≤ ∑ k, x k * x k := Finset.sum_nonneg fun k _ => mul_self_nonneg' (x k)
  unfold ms
  rw [hE]
  induction h : (∑ k, x k * x k) with
  | bot => rw [h] at h0; exact absurd h0 (by simp)
  | top => left; rw [EReal.top_mul_coe_of_pos (by norm_num)]; rfl
  | coe r =>
    rw [h] at h0
    have hr : 0 ≤ r := by exact_mod_cast h0
    right; exact ⟨r * (1 / 1024) + e, by positivity, by rw [EReal.coe_add, EReal.coe_mul]⟩

/-- Dividing by 1024 is multiplying by its reciprocal. -/
theorem div_1024 (x : EReal) : Ideal.div x ((1024 : ℝ) : EReal) = x * ((1 / 1024 : ℝ) : EReal) := Ideal.div_coe (by norm_num) x

/-- THE GRADIENT OF THE NORM. The closed form `r·(d − (x·r)·mean(d·x·r))` is what the chain rule gives:
    the term through the row itself and twice the term through the factor. -/
theorem normGrad_eq (x d : Fin 1024 → EReal) (j : Fin 1024) :
    normGrad x d j = d j * rs x + x j * viaFactor x d + viaFactor x d * x j := by
  unfold normGrad viaFactor
  rw [div_1024]
  rcases ms_cases x with h | ⟨a, ha, h⟩
  · have hr : rs x = 0 := by unfold rs; rw [h]; rfl
    rw [hr, h]
    have hd : Ideal.div 0 ⊤ = 0 := by unfold Ideal.div; rw [if_neg (by simp)]; simp
    rw [hd]; simp
  · have hr : rs x = (((Real.sqrt a)⁻¹ : ℝ) : EReal) := by
      unfold rs; rw [h, Ideal.rsqrt_coe, if_neg (not_lt.mpr ha.le), if_neg ha.ne']
    rw [hr, h]
    set r : ℝ := (Real.sqrt a)⁻¹ with hrd
    have hr0 : 0 < r := inv_pos.mpr (Real.sqrt_pos.mpr ha)
    have hra : 1 / a = r * r := by
      rw [hrd, ← mul_inv, Real.mul_self_sqrt ha.le, one_div]
    have hn : (0 : EReal) ≤ (r : EReal) := by exact_mod_cast hr0.le
    rw [Ideal.div_coe ha.ne', hra, EReal.mul_sub_of_nonneg_of_ne_top hn (EReal.coe_ne_top r),
      show (∑ k, d k * (x k * (r : EReal))) = (r : EReal) * ∑ k, x k * d k by
        rw [mul_sum_nonneg _ hn (EReal.coe_ne_top r)]
        exact Finset.sum_congr rfl fun k _ => by rw [← mul_assoc, mul_comm (d k), mul_comm]]
    generalize (∑ k, x k * d k) = S
    rw [add_assoc, mul_comm _ (x j), add_self_eq, sub_eq_add_neg, mul_comm (r : EReal) (d j)]
    congr 1
    rw [show ((-(1 / 2) : ℝ) : EReal) * ((r : EReal) * ((r * r : ℝ) : EReal)) = ((-(1 / 2) * (r * (r * r)) : ℝ) : EReal) by
      rw [← EReal.coe_mul, ← EReal.coe_mul]]
    rw [show (r : EReal) * (x j * r * (r * S * ((1 / 1024 : ℝ) : EReal))) = x j * S * (((r * (r * r) * (1 / 1024) : ℝ)) : EReal) by
      push_cast; ac_rfl]
    rw [show x j * (S * ((-(1 / 2) * (r * (r * r)) : ℝ) : EReal) * ((1 / 1024 : ℝ) : EReal)) * ((2 : ℝ) : EReal)
        = x j * S * ((-(r * (r * r) * (1 / 1024)) : ℝ) : EReal) by
      have key : ((-(r * (r * r) * (1 / 1024)) : ℝ) : EReal)
          = ((-(1 / 2) * (r * (r * r)) : ℝ) : EReal) * ((1 / 1024 : ℝ) : EReal) * ((2 : ℝ) : EReal) := by
        rw [← EReal.coe_mul, ← EReal.coe_mul]; congr 1; ring
      rw [key]
      generalize ((-(1 / 2) * (r * (r * r)) : ℝ) : EReal) = u
      simp only [mul_assoc]]
    rw [EReal.coe_neg, mul_neg]

end Cert.Proof

end
-- ==== Proof.In.Spec.lean ====
/-
  The in-projection with its root-mean-square norm, and its gradients, as functions of the argument arrays alone: what both the
  kernel and the reference are shown to compute.
-/
module

public import proofs.«01_k».proof.Proof.Math

@[expose] public section

noncomputable section

namespace Cert.Proof

open Idealize.ShloMosaic

/-- The entry of the vector `P` at `k`, zero outside it. -/
def vd {n : ℕ} (P : (⟨1, ![n]⟩ : Shape).Idx → EReal) (k : ℕ) : EReal := if h : k < n then P (ix1 ⟨k, h⟩) else 0

/-- `vd` at a bounded number is the entry there. -/
theorem vd_ix1 {n : ℕ} (P : (⟨1, ![n]⟩ : Shape).Idx → EReal) (k : Fin n) : vd P k.val = P (ix1 k) := by
  unfold vd
  rw [dif_pos k.isLt]

/-- A table whose row 0 is the vector `P` reads as `P` there. -/
theorem rd_row {n m : ℕ} (A : (⟨2, ![n + 1, m]⟩ : Shape).Idx → EReal) (P : (⟨1, ![m]⟩ : Shape).Idx → EReal)
    (h : ∀ k : Fin m, A (ix2 0 k) = P (ix1 k)) (k : ℕ) : rd A 0 k = vd P k := by
  unfold rd vd
  by_cases hk : k < m
  · rw [dif_pos ⟨Nat.succ_pos n, hk⟩, dif_pos hk]; exact h ⟨k, hk⟩
  · rw [dif_neg fun q => hk q.2, dif_neg hk]

namespace In

section Spec
variable (X : (⟨2, ![8192, 1024]⟩ : Shape).Idx → EReal) (P : ℕ → EReal) (W : (⟨2, ![1024, 6912]⟩ : Shape).Idx → EReal)
  (A : (⟨2, ![8192, 2048]⟩ : Shape).Idx → EReal) (B : (⟨2, ![8192, 2560]⟩ : Shape).Idx → EReal) (C : (⟨2, ![8192, 2048]⟩ : Shape).Idx → EReal)
  (D E : (⟨2, ![8192, 128]⟩ : Shape).Idx → EReal)

/-- The rows scaled by the root-mean-square norm and its weights. -/
def normed (i k : ℕ) : EReal := rd X i k * rs (fun q : Fin 1024 => rd X i q.val) * P k

/-- The normalised rows times the weights' columns from `off` on. -/
def proj (off : ℕ) {n : ℕ} : (⟨2, ![8192, n]⟩ : Shape).Idx → EReal :=
  fun i => ∑ k : Fin 1024, normed X P (i 0).val k.val * rd W k.val (off + (i 1).val)

/-- The gradient of a band of the weights. -/
def dwBand {n : ℕ} (G : (⟨2, ![8192, n]⟩ : Shape).Idx → EReal) : (⟨2, ![1024, n]⟩ : Shape).Idx → EReal :=
  fun i => ∑ k : Fin 8192, normed X P k.val (i 0).val * rd G k.val (i 1).val

/-- Two tables of 128 columns side by side. -/
def beside (k l : ℕ) : EReal := if l < 128 then rd D k l else rd E k (l - 128)

/-- The gradient of the last band of the weights, whose cotangent comes in two halves. -/
def dwLast : (⟨2, ![1024, 256]⟩ : Shape).Idx → EReal :=
  fun i => ∑ k : Fin 8192, normed X P k.val (i 0).val * beside D E k.val (i 1).val

/-- The gradient of the normalised rows: the five cotangents times the weights' bands, transposed. -/
def dh (i j : ℕ) : EReal :=
  ∑ k : Fin 2048, rd A i k.val * rd W j k.val + ∑ k : Fin 2560, rd B i k.val * rd W j (2048 + k.val)
    + ∑ k : Fin 2048, rd C i k.val * rd W j (4608 + k.val) + ∑ k : Fin 128, rd D i k.val * rd W j (6656 + k.val)
    + ∑ k : Fin 128, rd E i k.val * rd W j (6784 + k.val)

/-- The gradient of the input, together with the cotangent `S` that flows past the norm. -/
def dx (S : (⟨2, ![8192, 1024]⟩ : Shape).Idx → EReal) : (⟨2, ![8192, 1024]⟩ : Shape).Idx → EReal := fun i =>
  normGrad (fun k => rd X (i 0).val k.val) (fun k => dh W A B C D E (i 0).val k.val * P k.val) (i 1) + S i

/-- The gradient of the norm's weights. -/
def dp : (⟨1, ![1024]⟩ : Shape).Idx → EReal := fun i =>
  ∑ k : Fin 8192, dh W A B C D E k.val (i 0).val * (rd X k.val (i 0).val * rs (fun q : Fin 1024 => rd X k.val q.val))

end Spec

end In

end Cert.Proof

end
-- ==== Proof.In.Host.lean ====
/-
  What the host operations before the first call leave in the buffers that the calls read.
-/
module

public import proofs.«01_k».proof.Proof.Math
public import proofs.«01_k».proof.Proof.Gen.KernelIdeal.Frame
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.Proof.In

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The first stretch leaves argument 2 in its lower-precision copy: over the reals the same numbers. -/
theorem entry_v4 : (V1 m ρ c main_v4 : S1024x6912.Idx → EReal) = (m ((c : Thread nD τ).loc main_arg2) : S1024x6912.Idx → EReal) := by
  show (StableHlo.after hostOps0 (W0 m ρ c) (Proc.devRef .tc main_v4) : S1024x6912.Idx → EReal) = _
  after_reads_simp
  rfl

/-- The first stretch leaves argument 3 in its lower-precision copy: over the reals the same numbers. -/
theorem entry_v5 : (V1 m ρ c main_v5 : S8192x2048.Idx → EReal) = (m ((c : Thread nD τ).loc main_arg3) : S8192x2048.Idx → EReal) := by
  show (StableHlo.after hostOps0 (W0 m ρ c) (Proc.devRef .tc main_v5) : S8192x2048.Idx → EReal) = _
  after_reads_simp
  rfl

/-- The first stretch leaves argument 4 in its lower-precision copy: over the reals the same numbers. -/
theorem entry_v6 : (V1 m ρ c main_v6 : S8192x2560.Idx → EReal) = (m ((c : Thread nD τ).loc main_arg4) : S8192x2560.Idx → EReal) := by
  show (StableHlo.after hostOps0 (W0 m ρ c) (Proc.devRef .tc main_v6) : S8192x2560.Idx → EReal) = _
  after_reads_simp
  rfl

/-- The first stretch leaves argument 5 in its lower-precision copy: over the reals the same numbers. -/
theorem entry_v7 : (V1 m ρ c main_v7 : S8192x2048.Idx → EReal) = (m ((c : Thread nD τ).loc main_arg5) : S8192x2048.Idx → EReal) := by
  show (StableHlo.after hostOps0 (W0 m ρ c) (Proc.devRef .tc main_v7) : S8192x2048.Idx → EReal) = _
  after_reads_simp
  rfl

/-- The first stretch leaves argument 6 in its lower-precision copy: over the reals the same numbers. -/
theorem entry_v8 : (V1 m ρ c main_v8 : S8192x128.Idx → EReal) = (m ((c : Thread nD τ).loc main_arg6) : S8192x128.Idx → EReal) := by
  show (StableHlo.after hostOps0 (W0 m ρ c) (Proc.devRef .tc main_v8) : S8192x128.Idx → EReal) = _
  after_reads_simp
  rfl

/-- The first stretch leaves argument 7 in its lower-precision copy: over the reals the same numbers. -/
theorem entry_v9 : (V1 m ρ c main_v9 : S8192x128.Idx → EReal) = (m ((c : Thread nD τ).loc main_arg7) : S8192x128.Idx → EReal) := by
  show (StableHlo.after hostOps0 (W0 m ρ c) (Proc.devRef .tc main_v9) : S8192x128.Idx → EReal) = _
  after_reads_simp
  rfl

/-- Row 0 of the eight-row copy of the norm's weights is the weights themselves. -/
theorem entry_row (k : Fin 1024) : (V1 m ρ c main_v3 : S8x1024.Idx → EReal) (ix2 0 k)
    = (m ((c : Thread nD τ).loc main_arg1) : S1024.Idx → EReal) (ix1 k) := by
  show (StableHlo.after hostOps0 (W0 m ρ c) (Proc.devRef .tc main_v3) : S8x1024.Idx → EReal) _ = _
  after_reads_simp
  have st : ∀ (j : S1x1024.Idx) (a : Fin 2) (x : IVec S1 32), (∀ y, x y = 0#32) →
      scatter_S8x1024_S1_S1x1024_01_n_0_0.start j x a = 0 := by
    intro j a x hx
    unfold ScatterDims.start
    split
    · rw [hx]; rfl
    · rfl
  have wi : ∀ (j : S1x1024.Idx) (a : Fin 2), scatter_S8x1024_S1_S1x1024_01_n_0_0.window j a = (j a).val := by
    intro j a
    fin_cases a <;> rfl
  have hit : ∀ (j : S1x1024.Idx) (x : IVec S1 32) (_ : ∀ y, x y = 0#32) (i : S8x1024.Idx),
      scatter_S8x1024_S1_S1x1024_01_n_0_0.resultIdx? j x = some i ↔ ∀ a : Fin 2, ((j a).val : Int) = ((i a).val : Int) := by
    intro j x hx i
    rw [Routing.resultIdx?_eq_some]
    exact forall_congr' fun a => by rw [st j a x hx, wi j a, zero_add]
  refine (Routing.scatter_set_hit _ _ _ _ (ix2 0 k) ((m ((c : Thread nD τ).loc main_arg1) : S1024.Idx → EReal) (ix1 k)) (fun j hj => ?_)
    (ix2 0 k) ((hit _ _ (fun _ => rfl) _).2 fun a => by fin_cases a <;> rfl))
  have h := (hit _ _ (fun _ => rfl) _).1 hj
  have hj' : j = ix2 0 k := by
    funext a
    fin_cases a
    · exact Subsingleton.elim (α := Fin 1) _ _
    · exact Fin.ext (Int.ofNat_inj.1 (h 1))
  rw [hj']
  pointwise

end Cert.Proof.In

end
-- ==== Proof.In.Forward.lean ====
/-
  The in-projection: each row is normalised, scaled by the norm's weight and multiplied with the five bands of the padded
  weights, sixteen blocks of 512 rows. The result arrays are the five products and the transposed normalised rows.
-/
module

public import proofs.«01_k».proof.Proof.Math
public import proofs.«01_k».proof.Proof.Gen.KernelIdeal.Frame.Region0
public import Idealize.ShloMosaic.Lib.Pipeline.Value

@[expose] public section

set_option maxRecDepth 16384

noncomputable section

namespace Cert.Proof.In.Forward

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A normalised row, scaled by the norm's weight. -/
theorem norm_apply (x : Vec Ideal S512x1024 .f32) (p : Vec Ideal S1x1024 .f32) (r : Fin 512) (k : Fin 1024) :
    k0_pay4 (F := Ideal) x p (ix2 r k) = x (ix2 r k) * rs (fun k => x (ix2 r k)) * p (ix2 0 k) := by
  unfold rs ms eps
  rw [← lit_inv1024]
  pointwise [k0_pay4, k0_pay3]

theorem normT_apply (x : Vec Ideal S512x1024 .f32) (p : Vec Ideal S1x1024 .f32) (k : Fin 1024) (r : Fin 512) :
    k0_pay5 (F := Ideal) x p (ix2 k r) = x (ix2 r k) * rs (fun k => x (ix2 r k)) * p (ix2 0 k) := by
  unfold rs ms eps
  rw [← lit_inv1024]
  pointwise [k0_pay5, k0_pay3]

theorem pay6_apply (x : Vec Ideal S512x1024 .f32) (p : Vec Ideal S1x1024 .f32) (w : Vec Ideal S1024x2048 .bf16) (r : Fin 512) (l : Fin 2048) :
    k0_pay6 (F := Ideal) x p w (ix2 r l) = ∑ k : Fin 1024, k0_pay4 x p (ix2 r k) * w (ix2 k l) := by
  pointwise [k0_pay6]
theorem pay7_apply (x : Vec Ideal S512x1024 .f32) (p : Vec Ideal S1x1024 .f32) (w : Vec Ideal S1024x2560 .bf16) (r : Fin 512) (l : Fin 2560) :
    k0_pay7 (F := Ideal) x p w (ix2 r l) = ∑ k : Fin 1024, k0_pay4 x p (ix2 r k) * w (ix2 k l) := by
  pointwise [k0_pay7]
theorem pay8_apply (x : Vec Ideal S512x1024 .f32) (p : Vec Ideal S1x1024 .f32) (w : Vec Ideal S1024x2048 .bf16) (r : Fin 512) (l : Fin 2048) :
    k0_pay8 (F := Ideal) x p w (ix2 r l) = ∑ k : Fin 1024, k0_pay4 x p (ix2 r k) * w (ix2 k l) := by
  pointwise [k0_pay8]
theorem pay1_apply (h : FVec Ideal S512x1024 .bf16) (w : Vec Ideal S1024x128 .bf16) (r : Fin 512) (l : Fin 128) :
    k0_pay1 (F := Ideal) h w (ix2 r l) = ∑ k : Fin 1024, h (ix2 r k) * w (ix2 k l) := by
  pointwise [k0_pay1]
theorem pay2_apply (h : FVec Ideal S512x1024 .bf16) (w : Vec Ideal S1024x128 .bf16) (r : Fin 512) (l : Fin 128) :
    k0_pay2 (F := Ideal) h w (ix2 r l) = ∑ k : Fin 1024, h (ix2 r k) * w (ix2 k l) := by
  pointwise [k0_pay2]

variable (V : (c : Dev nD) → (b : Ref sig .tc) → Buf (Elt Ideal) ((c : Thread nD τ).loc b)) (c : Dev nD)

abbrev xs : S8192x1024.Idx → EReal := V c main_arg0
abbrev ps : S8x1024.Idx → EReal := V c main_v3
abbrev ws : S1024x6912.Idx → EReal := V c main_v4

abbrev xblk (t : Fin cfg0.N) : Vec Ideal S512x1024 .f32 := iblk0 V c 0 t
abbrev pblk (t : Fin cfg0.N) : Vec Ideal S8x1024 .f32 := iblk0 V c 1 t
abbrev wblk (t : Fin cfg0.N) : Vec Ideal S1024x6912 .bf16 := iblk0 V c 2 t

/-- The normalised and scaled row `i` at column `k`. -/
def hn (i k : ℕ) : EReal := rd (xs V c) i k * rs (fun q : Fin 1024 => rd (xs V c) i q.val) * rd (ps V c) 0 k

/-- The product of the normalised rows with the weights' columns from `off` on. -/
def band (off : ℕ) {n : ℕ} : (⟨2, ![8192, n]⟩ : Shape).Idx → EReal :=
  fun i => ∑ k : Fin 1024, hn V c (i 0).val k.val * rd (ws V c) k.val (off + (i 1).val)

/-- The normalised rows, transposed. -/
def hT : S1024x8192.Idx → EReal := fun i => hn V c (i 1).val (i 0).val

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem xblk_eq (t : Fin cfg0.N) (r : Fin 512) (k : Fin 1024) : xblk V c t (ix2 r k) = rd (xs V c) (512 * t.val + r.val) k.val := by
  obtain ⟨a0, a1, -⟩ := idx_facts t
  exact eq_rd (xs V c) (((cfg0.win 0).blk t).view.emb (ix2 r k)) _ _
    (show win0_0.index t (0 : Fin 2) * 512 + 1 * r.val = _ by omega) (show win0_0.index t (1 : Fin 2) * 1024 + 1 * k.val = _ by omega)

/-- The block's normalised row is the whole table's. -/
theorem hn_blk (t : Fin cfg0.N) (r : Fin 512) (k : Fin 1024) :
    xblk V c t (ix2 r k) * rs (fun k => xblk V c t (ix2 r k)) * View.ld (pblk V c t) r0_1 (ix2 0 k) = hn V c (512 * t.val + r.val) k.val := by
  obtain ⟨-, -, b0, b1, -⟩ := idx_facts t
  unfold hn
  simp only [xblk_eq]
  refine congrArg₂ (· * ·) rfl ?_
  exact eq_rd (ps V c) (((cfg0.win 1).blk t).view.emb (r0_1.emb (ix2 0 k))) _ _
    (show win0_1.index t (0 : Fin 2) * 8 + 1 * (0 + 1 * 0) = _ by omega) (show win0_1.index t (1 : Fin 2) * 1024 + 1 * (0 + 1 * k.val) = _ by omega)

theorem w_blk (t : Fin cfg0.N) (y : S1024x6912.Idx) (k l : ℕ) (h0 : (y 0).val = k) (h1 : (y 1).val = l) : wblk V c t y = rd (ws V c) k l := by
  obtain ⟨-, -, -, -, d0, d1⟩ := idx_facts t
  exact eq_rd (ws V c) (((cfg0.win 2).blk t).view.emb y) _ _
    (show win0_2.index t (0 : Fin 2) * 1024 + 1 * (y 0).val = _ by omega) (show win0_2.index t (1 : Fin 2) * 6912 + 1 * (y 1).val = _ by omega)

/-- A block's product with the weights' columns from `off` on, in the whole tables' entries. -/
theorem sum_blk (t : Fin cfg0.N) (off : ℕ) (r : Fin 512) (l : ℕ) (R : Fin 1024 → S1024x6912.Idx) (h0 : ∀ k, (R k 0).val = k.val) (h1 : ∀ k, (R k 1).val = off + l) :
    ∑ k : Fin 1024, k0_pay4 (View.ld (xblk V c t) r0_0) (View.ld (pblk V c t) r0_1) (ix2 r k) * wblk V c t (R k)
      = ∑ k : Fin 1024, hn V c (512 * t.val + r.val) k.val * rd (ws V c) k.val (off + l) := by
  refine Finset.sum_congr rfl fun k _ => congrArg₂ (· * ·) ?_ (w_blk V c t (R k) _ _ (h0 k) (h1 k))
  rw [norm_apply, View.ld_unit_zero (S := S512x1024) hz]
  exact hn_blk V c t r k

/-! ### The first band -/

theorem idx3 : ∀ t : Fin cfg0.N, win0_3.index t (0 : Fin 2) = t.val ∧ win0_3.index t (1 : Fin 2) = 0 :=
  (by decide +kernel : ∀ t : Fin grid0.N, _)

theorem flushed3 (t : Fin cfg0.N) :
    (dat0 V c).flushed 3 t = ((cfg0.win 3).blk t).view.read (Elt Ideal) (band V c 0 (n := 2048)) := by
  show (cfg0.win 3).cut (grid0.coords t) ((dat0 V c).after 3 t) = _
  rw [after0_3]
  obtain ⟨o0, o1⟩ := idx3 t
  funext y
  have e0 : (((cfg0.win 3).blk t).view.emb y 0).val = 512 * t.val + (y 0).val := by
    show win0_3.index t (0 : Fin 2) * 512 + 1 * (y 0).val = _; omega
  have e1 : (((cfg0.win 3).blk t).view.emb y 1).val = (y 1).val := by
    show win0_3.index t (1 : Fin 2) * 2048 + 1 * (y 1).val = _; omega
  show out0_3 (xblk V c t) (pblk V c t) (wblk V c t) ((cfg0.win 3).xinj (grid0.coords t) y) = band V c 0 (((cfg0.win 3).blk t).view.emb y)
  let r : Fin 512 := ⟨(y 0).val, (y 0).isLt⟩
  let l : Fin 2048 := ⟨(y 1).val, (y 1).isLt⟩
  unfold out0_3 band
  rw [show (cfg0.win 3).xinj (grid0.coords t) y = ix2 r l from eq_ix2 (n0 := 512) (n1 := 2048) _, View.canon_unit_zero hz, pay6_apply, e0, e1]
  exact sum_blk V c t 0 r l.val (fun k => r0_3.emb (ix2 k l)) (fun k => show 0 + 1 * k.val = _ by omega) (fun k => show 0 + 1 * l.val = _ by omega)

/-- THE RESULT ARRAY of the first band. -/
theorem final3 : (dat0 V c).arrAt 3 cfg0.N = band V c 0 (n := 2048) :=
  (dat0 V c).arrAt_eq_of_cover 3 _ (fun t _ => flushed3 V c t) fun i => by
    have hi0 : (i 0).val < 8192 := (i 0).isLt
    have hi1 : (i 1).val < 2048 := (i 1).isLt
    let t : Fin cfg0.N := ⟨(i 0).val / 512, lt_of_lt_of_eq (by omega : _ < 16) N_0.symm⟩
    obtain ⟨o0, o1⟩ := idx3 t
    refine ⟨t, flush0_3 t, ?_⟩
    show i ∈ ((View.whole main_v10_0).slice (win0_3.rect t)).set
    rw [View.set_slice_whole, Rect.mem_set_unit]
    have ht : t.val = (i 0).val / 512 := rfl
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 2048 ≤ (i 1).val ∧ (i 1).val < win0_3.index t (1 : Fin 2) * 2048 + 2048; omega

/-! ### The second band -/

theorem idx4 : ∀ t : Fin cfg0.N, win0_4.index t (0 : Fin 2) = t.val ∧ win0_4.index t (1 : Fin 2) = 0 :=
  (by decide +kernel : ∀ t : Fin grid0.N, _)

theorem flushed4 (t : Fin cfg0.N) :
    (dat0 V c).flushed 4 t = ((cfg0.win 4).blk t).view.read (Elt Ideal) (band V c 2048 (n := 2560)) := by
  show (cfg0.win 4).cut (grid0.coords t) ((dat0 V c).after 4 t) = _
  rw [after0_4]
  obtain ⟨o0, o1⟩ := idx4 t
  funext y
  have e0 : (((cfg0.win 4).blk t).view.emb y 0).val = 512 * t.val + (y 0).val := by
    show win0_4.index t (0 : Fin 2) * 512 + 1 * (y 0).val = _; omega
  have e1 : (((cfg0.win 4).blk t).view.emb y 1).val = (y 1).val := by
    show win0_4.index t (1 : Fin 2) * 2560 + 1 * (y 1).val = _; omega
  show out0_4 (xblk V c t) (pblk V c t) (wblk V c t) ((cfg0.win 4).xinj (grid0.coords t) y) = band V c 2048 (((cfg0.win 4).blk t).view.emb y)
  let r : Fin 512 := ⟨(y 0).val, (y 0).isLt⟩
  let l : Fin 2560 := ⟨(y 1).val, (y 1).isLt⟩
  unfold out0_4 band
  rw [show (cfg0.win 4).xinj (grid0.coords t) y = ix2 r l from eq_ix2 (n0 := 512) (n1 := 2560) _, View.canon_unit_zero hz, pay7_apply, e0, e1]
  exact sum_blk V c t 2048 r l.val (fun k => r0_5.emb (ix2 k l)) (fun k => show 0 + 1 * k.val = _ by omega) (fun k => show 2048 + 1 * l.val = _ by omega)

/-- THE RESULT ARRAY of the second band. -/
theorem final4 : (dat0 V c).arrAt 4 cfg0.N = band V c 2048 (n := 2560) :=
  (dat0 V c).arrAt_eq_of_cover 4 _ (fun t _ => flushed4 V c t) fun i => by
    have hi0 : (i 0).val < 8192 := (i 0).isLt
    have hi1 : (i 1).val < 2560 := (i 1).isLt
    let t : Fin cfg0.N := ⟨(i 0).val / 512, lt_of_lt_of_eq (by omega : _ < 16) N_0.symm⟩
    obtain ⟨o0, o1⟩ := idx4 t
    refine ⟨t, flush0_4 t, ?_⟩
    show i ∈ ((View.whole main_v10_1).slice (win0_4.rect t)).set
    rw [View.set_slice_whole, Rect.mem_set_unit]
    have ht : t.val = (i 0).val / 512 := rfl
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 2560 ≤ (i 1).val ∧ (i 1).val < win0_4.index t (1 : Fin 2) * 2560 + 2560; omega

/-! ### The third band -/

theorem idx5 : ∀ t : Fin cfg0.N, win0_5.index t (0 : Fin 2) = t.val ∧ win0_5.index t (1 : Fin 2) = 0 :=
  (by decide +kernel : ∀ t : Fin grid0.N, _)

theorem flushed5 (t : Fin cfg0.N) :
    (dat0 V c).flushed 5 t = ((cfg0.win 5).blk t).view.read (Elt Ideal) (band V c 4608 (n := 2048)) := by
  show (cfg0.win 5).cut (grid0.coords t) ((dat0 V c).after 5 t) = _
  rw [after0_5]
  obtain ⟨o0, o1⟩ := idx5 t
  funext y
  have e0 : (((cfg0.win 5).blk t).view.emb y 0).val = 512 * t.val + (y 0).val := by
    show win0_5.index t (0 : Fin 2) * 512 + 1 * (y 0).val = _; omega
  have e1 : (((cfg0.win 5).blk t).view.emb y 1).val = (y 1).val := by
    show win0_5.index t (1 : Fin 2) * 2048 + 1 * (y 1).val = _; omega
  show out0_5 (xblk V c t) (pblk V c t) (wblk V c t) ((cfg0.win 5).xinj (grid0.coords t) y) = band V c 4608 (((cfg0.win 5).blk t).view.emb y)
  let r : Fin 512 := ⟨(y 0).val, (y 0).isLt⟩
  let l : Fin 2048 := ⟨(y 1).val, (y 1).isLt⟩
  unfold out0_5 band
  rw [show (cfg0.win 5).xinj (grid0.coords t) y = ix2 r l from eq_ix2 (n0 := 512) (n1 := 2048) _, View.canon_unit_zero hz, pay8_apply, e0, e1]
  exact sum_blk V c t 4608 r l.val (fun k => r0_7.emb (ix2 k l)) (fun k => show 0 + 1 * k.val = _ by omega) (fun k => show 4608 + 1 * l.val = _ by omega)

/-- THE RESULT ARRAY of the third band. -/
theorem final5 : (dat0 V c).arrAt 5 cfg0.N = band V c 4608 (n := 2048) :=
  (dat0 V c).arrAt_eq_of_cover 5 _ (fun t _ => flushed5 V c t) fun i => by
    have hi0 : (i 0).val < 8192 := (i 0).isLt
    have hi1 : (i 1).val < 2048 := (i 1).isLt
    let t : Fin cfg0.N := ⟨(i 0).val / 512, lt_of_lt_of_eq (by omega : _ < 16) N_0.symm⟩
    obtain ⟨o0, o1⟩ := idx5 t
    refine ⟨t, flush0_5 t, ?_⟩
    show i ∈ ((View.whole main_v10_2).slice (win0_5.rect t)).set
    rw [View.set_slice_whole, Rect.mem_set_unit]
    have ht : t.val = (i 0).val / 512 := rfl
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 2048 ≤ (i 1).val ∧ (i 1).val < win0_5.index t (1 : Fin 2) * 2048 + 2048; omega

/-! ### The fourth band -/

theorem idx6 : ∀ t : Fin cfg0.N, win0_6.index t (0 : Fin 2) = t.val ∧ win0_6.index t (1 : Fin 2) = 0 :=
  (by decide +kernel : ∀ t : Fin grid0.N, _)

theorem flushed6 (t : Fin cfg0.N) :
    (dat0 V c).flushed 6 t = ((cfg0.win 6).blk t).view.read (Elt Ideal) (band V c 6656 (n := 128)) := by
  show (cfg0.win 6).cut (grid0.coords t) ((dat0 V c).after 6 t) = _
  rw [after0_6]
  obtain ⟨o0, o1⟩ := idx6 t
  funext y
  have e0 : (((cfg0.win 6).blk t).view.emb y 0).val = 512 * t.val + (y 0).val := by
    show win0_6.index t (0 : Fin 2) * 512 + 1 * (y 0).val = _; omega
  have e1 : (((cfg0.win 6).blk t).view.emb y 1).val = (y 1).val := by
    show win0_6.index t (1 : Fin 2) * 128 + 1 * (y 1).val = _; omega
  show out0_6 (xblk V c t) (pblk V c t) (wblk V c t) ((cfg0.win 6).xinj (grid0.coords t) y) = band V c 6656 (((cfg0.win 6).blk t).view.emb y)
  let r : Fin 512 := ⟨(y 0).val, (y 0).isLt⟩
  let l : Fin 128 := ⟨(y 1).val, (y 1).isLt⟩
  unfold out0_6 k0_pay9 band
  rw [show (cfg0.win 6).xinj (grid0.coords t) y = ix2 r l from eq_ix2 (n0 := 512) (n1 := 128) _, View.canon_unit_zero hz, pay1_apply, e0, e1]
  exact sum_blk V c t 6656 r l.val (fun k => r0_8.emb (ix2 k l)) (fun k => show 0 + 1 * k.val = _ by omega) (fun k => show 6656 + 1 * l.val = _ by omega)

/-- THE RESULT ARRAY of the fourth band. -/
theorem final6 : (dat0 V c).arrAt 6 cfg0.N = band V c 6656 (n := 128) :=
  (dat0 V c).arrAt_eq_of_cover 6 _ (fun t _ => flushed6 V c t) fun i => by
    have hi0 : (i 0).val < 8192 := (i 0).isLt
    have hi1 : (i 1).val < 128 := (i 1).isLt
    let t : Fin cfg0.N := ⟨(i 0).val / 512, lt_of_lt_of_eq (by omega : _ < 16) N_0.symm⟩
    obtain ⟨o0, o1⟩ := idx6 t
    refine ⟨t, flush0_6 t, ?_⟩
    show i ∈ ((View.whole main_v10_3).slice (win0_6.rect t)).set
    rw [View.set_slice_whole, Rect.mem_set_unit]
    have ht : t.val = (i 0).val / 512 := rfl
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 128 ≤ (i 1).val ∧ (i 1).val < win0_6.index t (1 : Fin 2) * 128 + 128; omega

/-! ### The fifth band -/

theorem idx7 : ∀ t : Fin cfg0.N, win0_7.index t (0 : Fin 2) = t.val ∧ win0_7.index t (1 : Fin 2) = 0 :=
  (by decide +kernel : ∀ t : Fin grid0.N, _)

theorem flushed7 (t : Fin cfg0.N) :
    (dat0 V c).flushed 7 t = ((cfg0.win 7).blk t).view.read (Elt Ideal) (band V c 6784 (n := 128)) := by
  show (cfg0.win 7).cut (grid0.coords t) ((dat0 V c).after 7 t) = _
  rw [after0_7]
  obtain ⟨o0, o1⟩ := idx7 t
  funext y
  have e0 : (((cfg0.win 7).blk t).view.emb y 0).val = 512 * t.val + (y 0).val := by
    show win0_7.index t (0 : Fin 2) * 512 + 1 * (y 0).val = _; omega
  have e1 : (((cfg0.win 7).blk t).view.emb y 1).val = (y 1).val := by
    show win0_7.index t (1 : Fin 2) * 128 + 1 * (y 1).val = _; omega
  show out0_7 (xblk V c t) (pblk V c t) (wblk V c t) ((cfg0.win 7).xinj (grid0.coords t) y) = band V c 6784 (((cfg0.win 7).blk t).view.emb y)
  let r : Fin 512 := ⟨(y 0).val, (y 0).isLt⟩
  let l : Fin 128 := ⟨(y 1).val, (y 1).isLt⟩
  unfold out0_7 k0_pay9 band
  rw [show (cfg0.win 7).xinj (grid0.coords t) y = ix2 r l from eq_ix2 (n0 := 512) (n1 := 128) _, View.canon_unit_zero hz, pay2_apply, e0, e1]
  exact sum_blk V c t 6784 r l.val (fun k => r0_10.emb (ix2 k l)) (fun k => show 0 + 1 * k.val = _ by omega) (fun k => show 6784 + 1 * l.val = _ by omega)

/-- THE RESULT ARRAY of the fifth band. -/
theorem final7 : (dat0 V c).arrAt 7 cfg0.N = band V c 6784 (n := 128) :=
  (dat0 V c).arrAt_eq_of_cover 7 _ (fun t _ => flushed7 V c t) fun i => by
    have hi0 : (i 0).val < 8192 := (i 0).isLt
    have hi1 : (i 1).val < 128 := (i 1).isLt
    let t : Fin cfg0.N := ⟨(i 0).val / 512, lt_of_lt_of_eq (by omega : _ < 16) N_0.symm⟩
    obtain ⟨o0, o1⟩ := idx7 t
    refine ⟨t, flush0_7 t, ?_⟩
    show i ∈ ((View.whole main_v10_4).slice (win0_7.rect t)).set
    rw [View.set_slice_whole, Rect.mem_set_unit]
    have ht : t.val = (i 0).val / 512 := rfl
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 128 ≤ (i 1).val ∧ (i 1).val < win0_7.index t (1 : Fin 2) * 128 + 128; omega

/-! ### The transposed rows -/

theorem idx8 : ∀ t : Fin cfg0.N, win0_8.index t (0 : Fin 2) = 0 ∧ win0_8.index t (1 : Fin 2) = t.val :=
  (by decide +kernel : ∀ t : Fin grid0.N, _)

theorem flushed8 (t : Fin cfg0.N) :
    (dat0 V c).flushed 8 t = ((cfg0.win 8).blk t).view.read (Elt Ideal) (hT V c) := by
  show (cfg0.win 8).cut (grid0.coords t) ((dat0 V c).after 8 t) = _
  rw [after0_8]
  obtain ⟨o0, o1⟩ := idx8 t
  funext y
  have e0 : (((cfg0.win 8).blk t).view.emb y 0).val = (y 0).val := by
    show win0_8.index t (0 : Fin 2) * 1024 + 1 * (y 0).val = _; omega
  have e1 : (((cfg0.win 8).blk t).view.emb y 1).val = 512 * t.val + (y 1).val := by
    show win0_8.index t (1 : Fin 2) * 512 + 1 * (y 1).val = _; omega
  show out0_8 (xblk V c t) (pblk V c t) (wblk V c t) ((cfg0.win 8).xinj (grid0.coords t) y) = hT V c (((cfg0.win 8).blk t).view.emb y)
  let k : Fin 1024 := ⟨(y 0).val, (y 0).isLt⟩
  let r : Fin 512 := ⟨(y 1).val, (y 1).isLt⟩
  unfold out0_8 hT
  rw [show (cfg0.win 8).xinj (grid0.coords t) y = ix2 k r from eq_ix2 (n0 := 1024) (n1 := 512) _, View.canon_unit_zero hz, normT_apply, e0, e1,
    View.ld_unit_zero (S := S512x1024) hz]
  exact hn_blk V c t r k

/-- THE RESULT ARRAY of the transposed normalised rows. -/
theorem final8 : (dat0 V c).arrAt 8 cfg0.N = hT V c :=
  (dat0 V c).arrAt_eq_of_cover 8 _ (fun t _ => flushed8 V c t) fun i => by
    have hi0 : (i 0).val < 1024 := (i 0).isLt
    have hi1 : (i 1).val < 8192 := (i 1).isLt
    let t : Fin cfg0.N := ⟨(i 1).val / 512, lt_of_lt_of_eq (by omega : _ < 16) N_0.symm⟩
    obtain ⟨o0, o1⟩ := idx8 t
    refine ⟨t, flush0_8 t, ?_⟩
    show i ∈ ((View.whole main_v10_5).slice (win0_8.rect t)).set
    rw [View.set_slice_whole, Rect.mem_set_unit]
    have ht : t.val = (i 1).val / 512 := rfl
    intro a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 512 ≤ (i 1).val ∧ (i 1).val < win0_8.index t (1 : Fin 2) * 512 + 512; omega

end Cert.Proof.In.Forward

end
-- ==== Proof.In.Dw0.lean ====
/-
  The gradient of the first band of the in-projection's weights: the call that multiplies the transposed normalised rows by the
  band's cotangent, over four blocks of 2048 rows. Its result array is the full product over all 8192 rows.
-/
module

public import proofs.«01_k».proof.Proof.Math
public import proofs.«01_k».proof.Proof.Gen.KernelIdeal.Frame.Region1
public import Idealize.ShloMosaic.Lib.Pipeline.Value

@[expose] public section

set_option maxRecDepth 16384

noncomputable section

namespace Cert.Proof.In.Dw0

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One step of the accumulation at an index. -/
theorem step_apply (acc : Vec Ideal S1024x2048 .f32) (x0 : Vec Ideal S1024x2048 .bf16) (x1 : Vec Ideal S2048x2048 .bf16) (r : Fin 1024) (l : Fin 2048) :
    k1_pay2 (F := Ideal) acc x0 x1 (ix2 r l) = acc (ix2 r l) + ∑ k : Fin 2048, x0 (ix2 r k) * x1 (ix2 k l) := by
  pointwise [k1_pay2]

/-- The accumulation starts at zero. -/
theorem start_apply (y : S1024x2048.Idx) : k1_pay1 (F := Ideal) y = 0 := by
  pointwise [k1_pay1]

section Cases
variable (c : Dev nD) (i : grid1.Coords) (arg2 : Memref sig .tc .vmem S1024x2048 .bf16) (harg2 : arg2.IsWhole)
  (arg3 : Memref sig .tc .vmem S2048x2048 .bf16) (harg3 : arg3.IsWhole) (arg4 : Memref sig .tc .vmem S1024x2048 .f32) (harg4 : arg4.IsWhole)
  (x0 : Vec Ideal S1024x2048 .bf16) (x1 : Vec Ideal S2048x2048 .bf16)

/-- At the first block the output block is one step over zero. -/
theorem first_eq (hc : cond1_0 i) :
    out1_A_2 c i arg2 harg2 arg3 harg3 arg4 harg4 hc x0 x1 = k1_pay2 (k1_pay1 (F := Ideal)) x0 x1 := by
  unfold out1_A_2
  rw [View.read_writes_eq_canon _ _ _ (cover1_A_2 c i arg2 harg2 arg3 harg3 arg4 harg4 hc x0 x1)]
  unfold kernelRun1_A
  dsimp only
  try sl_unfold_words
  rw [View.canon_cons_unit_zero (S := S1024x2048) hz, View.readCov_unit_zero (S := S1024x2048) _ hz]
  simp only [View.readAt_eq_ld, harg2.read_unread, harg3.read_unread, harg4.read_unread, View.ld_unit_zero (S := S1024x2048) hz,
    View.ld_unit_zero (S := S2048x2048) hz, shapeCast_self]

/-- At a later block the output block is one step over what it held. -/
theorem later_eq (hc : ¬cond1_0 i) (acc : Vec Ideal S1024x2048 .f32) :
    out1_B_2 c i arg2 harg2 arg3 harg3 arg4 harg4 hc x0 x1 acc = k1_pay2 acc x0 x1 := by
  unfold out1_B_2
  rw [View.read_writes_eq_canon _ _ _ (cover1_B_2 c i arg2 harg2 arg3 harg3 arg4 harg4 hc x0 x1 acc)]
  unfold kernelRun1_B
  dsimp only
  try sl_unfold_words
  rw [View.canon_unit_zero hz]
  simp only [View.readAt_eq_ld, harg2.read_unread, harg3.read_unread, harg4.read_unread, View.ld_unit_zero (S := S1024x2048) hz,
    View.ld_unit_zero (S := S2048x2048) hz, shapeCast_self]

end Cases

variable (V : (c : Dev nD) → (b : Ref sig .tc) → Buf (Elt Ideal) ((c : Thread nD τ).loc b)) (c : Dev nD)

/-- The transposed normalised rows the call reads. -/
abbrev lhs : S1024x8192.Idx → EReal := V c main_v10_5
/-- The cotangent it reads. -/
abbrev rhs : S8192x2048.Idx → EReal := V c main_v5

/-- The block of the transposed rows at point `t`. -/
abbrev lblk (t : Fin cfg1.N) : Vec Ideal S1024x2048 .bf16 := iblk1 V c 0 t
/-- The block of the cotangent at point `t`. -/
abbrev rblk (t : Fin cfg1.N) : Vec Ideal S2048x2048 .bf16 := iblk1 V c 1 t

/-- The part of the product that point `t` adds at row `r` and column `l` of its output block. -/
def part (t r l : ℕ) : EReal :=
  ∑ k : Fin 2048, rd (lhs V c) r (2048 * (t % 4) + k.val) * rd (rhs V c) (2048 * (t % 4) + k.val) (2048 * (t / 4) + l)

theorem idx_facts : ∀ t : Fin cfg1.N, win1_0.index t (0 : Fin 2) = 0 ∧ win1_0.index t (1 : Fin 2) = t.val % 4
    ∧ win1_1.index t (0 : Fin 2) = t.val % 4 ∧ win1_1.index t (1 : Fin 2) = t.val / 4
    ∧ win1_2.index t (0 : Fin 2) = 0 ∧ win1_2.index t (1 : Fin 2) = t.val / 4 :=
  (by decide +kernel : ∀ t : Fin grid1.N, _)

/-- The blocks at point `t` multiply to `part`. -/
theorem blocks_part (t : Fin cfg1.N) (r : Fin 1024) (l : Fin 2048) :
    ∑ k : Fin 2048, lblk V c t (ix2 r k) * rblk V c t (ix2 k l) = part V c t.val r.val l.val := by
  obtain ⟨a0, a1, b0, b1, -, -⟩ := idx_facts t
  refine Finset.sum_congr rfl fun k _ => congrArg₂ (· * ·) ?_ ?_
  · exact eq_rd (lhs V c) (((cfg1.win 0).blk t).view.emb (ix2 r k)) _ _
      (show win1_0.index t (0 : Fin 2) * 1024 + 1 * r.val = _ by omega) (show win1_0.index t (1 : Fin 2) * 2048 + 1 * k.val = _ by omega)
  · exact eq_rd (rhs V c) (((cfg1.win 1).blk t).view.emb (ix2 k l)) _ _
      (show win1_1.index t (0 : Fin 2) * 2048 + 1 * k.val = _ by omega) (show win1_1.index t (1 : Fin 2) * 2048 + 1 * l.val = _ by omega)

/-- The output block after point `t` holds the sum of the parts of its run so far. -/
theorem outs_eq (t : ℕ) (h : t < cfg1.N) (r : Fin 1024) (l : Fin 2048) :
    outsAt1 V c t h (ix2 r l) = ∑ s ∈ Finset.range (t % 4 + 1), part V c (t / 4 * 4 + s) r.val l.val := by
  refine run_sum 4 (by decide) (fun n hn => outsAt1 V c n hn (ix2 r l)) (fun n => part V c n r.val l.val) (fun n hn h0 => ?_) (fun n hn h0 => ?_) t h
  · show outsAt1 V c n hn (ix2 r l) = _
    rw [outsAt1_A V c ⟨n, hn⟩ h0, first_eq, step_apply, start_apply, zero_add]
    exact blocks_part V c ⟨n, hn⟩ r l
  · show outsAt1 V c n hn (ix2 r l) = _
    rw [outsAt1_B V c ⟨n, hn⟩ h0, later_eq, step_apply]
    exact congrArg _ (blocks_part V c ⟨n, hn⟩ r l)

/-- The product over all rows. -/
def prod : S1024x2048.Idx → EReal := fun i => ∑ k : Fin 8192, lhs V c (ix2 (i 0) k) * rhs V c (ix2 k (i 1))

/-- What the last block of a run writes back is its block of the product. -/
theorem flushed_eq (t : Fin cfg1.N) (hf : (cfg1.win 2).flush t = true) :
    (dat1 V c).flushed 2 t = ((cfg1.win 2).blk t).view.read (Elt Ideal) (prod V c) := by
  show (cfg1.win 2).cut (grid1.coords t) ((dat1 V c).after 2 t) = _
  rw [after1_2]
  have hm : t.val % 4 = 3 := (flush1_2 t).mp hf
  obtain ⟨-, -, -, -, o0, o1⟩ := idx_facts t
  funext y
  have hN : t.val < 4 := lt_of_lt_of_eq t.isLt (show cfg1.N = 4 from N_1)
  have e0 : (((cfg1.win 2).blk t).view.emb y 0).val = (y 0).val := by
    show win1_2.index t (0 : Fin 2) * 1024 + 1 * (y 0).val = _; omega
  have e1 : (((cfg1.win 2).blk t).view.emb y 1).val = 2048 * (t.val / 4) + (y 1).val := by
    show win1_2.index t (1 : Fin 2) * 2048 + 1 * (y 1).val = _; omega
  show outsAt1 V c t.val t.isLt ((cfg1.win 2).xinj (grid1.coords t) y) = prod V c (((cfg1.win 2).blk t).view.emb y)
  let r : Fin 1024 := ⟨(y 0).val, (y 0).isLt⟩
  let l : Fin 2048 := ⟨(y 1).val, (y 1).isLt⟩
  rw [show (cfg1.win 2).xinj (grid1.coords t) y = ix2 r l from eq_ix2 (n0 := 1024) (n1 := 2048) _, outs_eq, hm]
  unfold prod
  rw [show (∑ k : Fin 8192, lhs V c (ix2 ((((cfg1.win 2).blk t).view.emb y) 0) k) * rhs V c (ix2 k ((((cfg1.win 2).blk t).view.emb y) 1)))
      = ∑ k : Fin 8192, rd (lhs V c) (y 0).val k.val * rd (rhs V c) k.val (2048 * (t.val / 4) + (y 1).val) from
    Finset.sum_congr rfl fun k _ => congrArg₂ (· * ·) (eq_rd _ _ _ _ e0 rfl) (eq_rd _ _ _ _ rfl e1),
    ← sum_blocks 4 2048 rfl fun k => rd (lhs V c) (y 0).val k * rd (rhs V c) k (2048 * (t.val / 4) + (y 1).val)]
  refine Finset.sum_congr rfl fun s hs => ?_
  have hs4 : s < 4 := Finset.mem_range.mp hs
  unfold part
  rw [show (t.val / 4 * 4 + s) % 4 = s by omega, show (t.val / 4 * 4 + s) / 4 = t.val / 4 by omega]

theorem mem_blk (t : Fin cfg1.N) (i : S1024x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v11).slice (win1_2.rect t)).set ↔ _
  rw [View.set_slice_whole, Rect.mem_set_unit]
  exact Iff.rfl

theorem onto : ∀ q : Fin 1, ∃ t : Fin cfg1.N, (cfg1.win 2).flush t = true ∧ t.val / 4 = q.val :=
  (by decide +kernel : ∀ q : Fin 1, ∃ t : Fin grid1.N, win1_2.flush t = true ∧ t.val / 4 = q.val)

/-- THE RESULT ARRAY of the call is the product over all rows. -/
theorem final : (dat1 V c).arrAt 2 cfg1.N = prod V c :=
  (dat1 V c).arrAt_eq_of_cover 2 _ (fun t hf => flushed_eq V c t hf) fun i => by
    have hi0 : (i 0).val < 1024 := (i 0).isLt
    have hi1 : (i 1).val < 2048 := (i 1).isLt
    obtain ⟨t, hft, ht⟩ := onto ⟨(i 1).val / 2048, by omega⟩
    have ht' : t.val / 4 = (i 1).val / 2048 := ht
    obtain ⟨-, -, -, -, o0, o1⟩ := idx_facts t
    refine ⟨t, hft, (mem_blk t i).mpr fun a => ?_⟩
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 2048 ≤ (i 1).val ∧ (i 1).val < win1_2.index t (1 : Fin 2) * 2048 + 2048; omega

end Cert.Proof.In.Dw0

end
-- ==== Proof.In.Dw1.lean ====
/-
  The gradient of the second band of the in-projection's weights: the call that multiplies the transposed normalised rows by the
  band's cotangent, over four blocks of 2048 rows. Its result array is the full product over all 8192 rows.
-/
module

public import proofs.«01_k».proof.Proof.Math
public import proofs.«01_k».proof.Proof.Gen.KernelIdeal.Frame.Region2
public import Idealize.ShloMosaic.Lib.Pipeline.Value

@[expose] public section

set_option maxRecDepth 16384

noncomputable section

namespace Cert.Proof.In.Dw1

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One step of the accumulation at an index. -/
theorem step_apply (acc : Vec Ideal S1024x1280 .f32) (x0 : Vec Ideal S1024x2048 .bf16) (x1 : Vec Ideal S2048x1280 .bf16) (r : Fin 1024) (l : Fin 1280) :
    k2_pay2 (F := Ideal) acc x0 x1 (ix2 r l) = acc (ix2 r l) + ∑ k : Fin 2048, x0 (ix2 r k) * x1 (ix2 k l) := by
  pointwise [k2_pay2]

/-- The accumulation starts at zero. -/
theorem start_apply (y : S1024x1280.Idx) : k2_pay1 (F := Ideal) y = 0 := by
  pointwise [k2_pay1]

section Cases
variable (c : Dev nD) (i : grid2.Coords) (arg2 : Memref sig .tc .vmem S1024x2048 .bf16) (harg2 : arg2.IsWhole)
  (arg3 : Memref sig .tc .vmem S2048x1280 .bf16) (harg3 : arg3.IsWhole) (arg4 : Memref sig .tc .vmem S1024x1280 .f32) (harg4 : arg4.IsWhole)
  (x0 : Vec Ideal S1024x2048 .bf16) (x1 : Vec Ideal S2048x1280 .bf16)

/-- At the first block the output block is one step over zero. -/
theorem first_eq (hc : cond2_0 i) :
    out2_A_2 c i arg2 harg2 arg3 harg3 arg4 harg4 hc x0 x1 = k2_pay2 (k2_pay1 (F := Ideal)) x0 x1 := by
  unfold out2_A_2
  rw [View.read_writes_eq_canon _ _ _ (cover2_A_2 c i arg2 harg2 arg3 harg3 arg4 harg4 hc x0 x1)]
  unfold kernelRun2_A
  dsimp only
  try sl_unfold_words
  rw [View.canon_cons_unit_zero (S := S1024x1280) hz, View.readCov_unit_zero (S := S1024x1280) _ hz]
  simp only [View.readAt_eq_ld, harg2.read_unread, harg3.read_unread, harg4.read_unread, View.ld_unit_zero (S := S1024x2048) hz, View.ld_unit_zero (S := S1024x1280) hz,
    View.ld_unit_zero (S := S2048x1280) hz, shapeCast_self]

/-- At a later block the output block is one step over what it held. -/
theorem later_eq (hc : ¬cond2_0 i) (acc : Vec Ideal S1024x1280 .f32) :
    out2_B_2 c i arg2 harg2 arg3 harg3 arg4 harg4 hc x0 x1 acc = k2_pay2 acc x0 x1 := by
  unfold out2_B_2
  rw [View.read_writes_eq_canon _ _ _ (cover2_B_2 c i arg2 harg2 arg3 harg3 arg4 harg4 hc x0 x1 acc)]
  unfold kernelRun2_B
  dsimp only
  try sl_unfold_words
  rw [View.canon_unit_zero hz]
  simp only [View.readAt_eq_ld, harg2.read_unread, harg3.read_unread, harg4.read_unread, View.ld_unit_zero (S := S1024x2048) hz, View.ld_unit_zero (S := S1024x1280) hz,
    View.ld_unit_zero (S := S2048x1280) hz, shapeCast_self]

end Cases

variable (V : (c : Dev nD) → (b : Ref sig .tc) → Buf (Elt Ideal) ((c : Thread nD τ).loc b)) (c : Dev nD)

/-- The transposed normalised rows the call reads. -/
abbrev lhs : S1024x8192.Idx → EReal := V c main_v10_5
/-- The cotangent it reads. -/
abbrev rhs : S8192x2560.Idx → EReal := V c main_v6

/-- The block of the transposed rows at point `t`. -/
abbrev lblk (t : Fin cfg2.N) : Vec Ideal S1024x2048 .bf16 := iblk2 V c 0 t
/-- The block of the cotangent at point `t`. -/
abbrev rblk (t : Fin cfg2.N) : Vec Ideal S2048x1280 .bf16 := iblk2 V c 1 t

/-- The part of the product that point `t` adds at row `r` and column `l` of its output block. -/
def part (t r l : ℕ) : EReal :=
  ∑ k : Fin 2048, rd (lhs V c) r (2048 * (t % 4) + k.val) * rd (rhs V c) (2048 * (t % 4) + k.val) (1280 * (t / 4) + l)

theorem idx_facts : ∀ t : Fin cfg2.N, win2_0.index t (0 : Fin 2) = 0 ∧ win2_0.index t (1 : Fin 2) = t.val % 4
    ∧ win2_1.index t (0 : Fin 2) = t.val % 4 ∧ win2_1.index t (1 : Fin 2) = t.val / 4
    ∧ win2_2.index t (0 : Fin 2) = 0 ∧ win2_2.index t (1 : Fin 2) = t.val / 4 :=
  (by decide +kernel : ∀ t : Fin grid2.N, _)

/-- The blocks at point `t` multiply to `part`. -/
theorem blocks_part (t : Fin cfg2.N) (r : Fin 1024) (l : Fin 1280) :
    ∑ k : Fin 2048, lblk V c t (ix2 r k) * rblk V c t (ix2 k l) = part V c t.val r.val l.val := by
  obtain ⟨a0, a1, b0, b1, -, -⟩ := idx_facts t
  refine Finset.sum_congr rfl fun k _ => congrArg₂ (· * ·) ?_ ?_
  · exact eq_rd (lhs V c) (((cfg2.win 0).blk t).view.emb (ix2 r k)) _ _
      (show win2_0.index t (0 : Fin 2) * 1024 + 1 * r.val = _ by omega) (show win2_0.index t (1 : Fin 2) * 2048 + 1 * k.val = _ by omega)
  · exact eq_rd (rhs V c) (((cfg2.win 1).blk t).view.emb (ix2 k l)) _ _
      (show win2_1.index t (0 : Fin 2) * 2048 + 1 * k.val = _ by omega) (show win2_1.index t (1 : Fin 2) * 1280 + 1 * l.val = _ by omega)

/-- The output block after point `t` holds the sum of the parts of its run so far. -/
theorem outs_eq (t : ℕ) (h : t < cfg2.N) (r : Fin 1024) (l : Fin 1280) :
    outsAt2 V c t h (ix2 r l) = ∑ s ∈ Finset.range (t % 4 + 1), part V c (t / 4 * 4 + s) r.val l.val := by
  refine run_sum 4 (by decide) (fun n hn => outsAt2 V c n hn (ix2 r l)) (fun n => part V c n r.val l.val) (fun n hn h0 => ?_) (fun n hn h0 => ?_) t h
  · show outsAt2 V c n hn (ix2 r l) = _
    rw [outsAt2_A V c ⟨n, hn⟩ h0, first_eq, step_apply, start_apply, zero_add]
    exact blocks_part V c ⟨n, hn⟩ r l
  · show outsAt2 V c n hn (ix2 r l) = _
    rw [outsAt2_B V c ⟨n, hn⟩ h0, later_eq, step_apply]
    exact congrArg _ (blocks_part V c ⟨n, hn⟩ r l)

/-- The product over all rows. -/
def prod : S1024x2560.Idx → EReal := fun i => ∑ k : Fin 8192, lhs V c (ix2 (i 0) k) * rhs V c (ix2 k (i 1))

/-- What the last block of a run writes back is its block of the product. -/
theorem flushed_eq (t : Fin cfg2.N) (hf : (cfg2.win 2).flush t = true) :
    (dat2 V c).flushed 2 t = ((cfg2.win 2).blk t).view.read (Elt Ideal) (prod V c) := by
  show (cfg2.win 2).cut (grid2.coords t) ((dat2 V c).after 2 t) = _
  rw [after2_2]
  have hm : t.val % 4 = 3 := (flush2_2 t).mp hf
  obtain ⟨-, -, -, -, o0, o1⟩ := idx_facts t
  funext y
  have hN : t.val < 8 := lt_of_lt_of_eq t.isLt (show cfg2.N = 8 from N_2)
  have e0 : (((cfg2.win 2).blk t).view.emb y 0).val = (y 0).val := by
    show win2_2.index t (0 : Fin 2) * 1024 + 1 * (y 0).val = _; omega
  have e1 : (((cfg2.win 2).blk t).view.emb y 1).val = 1280 * (t.val / 4) + (y 1).val := by
    show win2_2.index t (1 : Fin 2) * 1280 + 1 * (y 1).val = _; omega
  show outsAt2 V c t.val t.isLt ((cfg2.win 2).xinj (grid2.coords t) y) = prod V c (((cfg2.win 2).blk t).view.emb y)
  let r : Fin 1024 := ⟨(y 0).val, (y 0).isLt⟩
  let l : Fin 1280 := ⟨(y 1).val, (y 1).isLt⟩
  rw [show (cfg2.win 2).xinj (grid2.coords t) y = ix2 r l from eq_ix2 (n0 := 1024) (n1 := 1280) _, outs_eq, hm]
  unfold prod
  rw [show (∑ k : Fin 8192, lhs V c (ix2 ((((cfg2.win 2).blk t).view.emb y) 0) k) * rhs V c (ix2 k ((((cfg2.win 2).blk t).view.emb y) 1)))
      = ∑ k : Fin 8192, rd (lhs V c) (y 0).val k.val * rd (rhs V c) k.val (1280 * (t.val / 4) + (y 1).val) from
    Finset.sum_congr rfl fun k _ => congrArg₂ (· * ·) (eq_rd _ _ _ _ e0 rfl) (eq_rd _ _ _ _ rfl e1),
    ← sum_blocks 4 2048 rfl fun k => rd (lhs V c) (y 0).val k * rd (rhs V c) k (1280 * (t.val / 4) + (y 1).val)]
  refine Finset.sum_congr rfl fun s hs => ?_
  have hs4 : s < 4 := Finset.mem_range.mp hs
  unfold part
  rw [show (t.val / 4 * 4 + s) % 4 = s by omega, show (t.val / 4 * 4 + s) / 4 = t.val / 4 by omega]

theorem mem_blk (t : Fin cfg2.N) (i : S1024x2560.Idx) :
    i ∈ ((cfg2.win 2).blk t).view.set ↔ ∀ a : Fin 2, win2_2.index t a * S1024x1280.size a ≤ (i a).val ∧ (i a).val < win2_2.index t a * S1024x1280.size a + S1024x1280.size a := by
  show i ∈ ((View.whole main_v12).slice (win2_2.rect t)).set ↔ _
  rw [View.set_slice_whole, Rect.mem_set_unit]
  exact Iff.rfl

theorem onto : ∀ q : Fin 2, ∃ t : Fin cfg2.N, (cfg2.win 2).flush t = true ∧ t.val / 4 = q.val :=
  (by decide +kernel : ∀ q : Fin 2, ∃ t : Fin grid2.N, win2_2.flush t = true ∧ t.val / 4 = q.val)

/-- THE RESULT ARRAY of the call is the product over all rows. -/
theorem final : (dat2 V c).arrAt 2 cfg2.N = prod V c :=
  (dat2 V c).arrAt_eq_of_cover 2 _ (fun t hf => flushed_eq V c t hf) fun i => by
    have hi0 : (i 0).val < 1024 := (i 0).isLt
    have hi1 : (i 1).val < 2560 := (i 1).isLt
    obtain ⟨t, hft, ht⟩ := onto ⟨(i 1).val / 1280, by omega⟩
    have ht' : t.val / 4 = (i 1).val / 1280 := ht
    obtain ⟨-, -, -, -, o0, o1⟩ := idx_facts t
    refine ⟨t, hft, (mem_blk t i).mpr fun a => ?_⟩
    match a with
    | ⟨0, _⟩ => show win2_2.index t (0 : Fin 2) * 1024 ≤ (i 0).val ∧ (i 0).val < win2_2.index t (0 : Fin 2) * 1024 + 1024; omega
    | ⟨1, _⟩ => show win2_2.index t (1 : Fin 2) * 1280 ≤ (i 1).val ∧ (i 1).val < win2_2.index t (1 : Fin 2) * 1280 + 1280; omega

end Cert.Proof.In.Dw1

end
-- ==== Proof.In.Dw2.lean ====
/-
  The gradient of the third band of the in-projection's weights: the call that multiplies the transposed normalised rows by the
  band's cotangent, over four blocks of 2048 rows. Its result array is the full product over all 8192 rows.
-/
module

public import proofs.«01_k».proof.Proof.Math
public import proofs.«01_k».proof.Proof.Gen.KernelIdeal.Frame.Region3
public import Idealize.ShloMosaic.Lib.Pipeline.Value

@[expose] public section

set_option maxRecDepth 16384

noncomputable section

namespace Cert.Proof.In.Dw2

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One step of the accumulation at an index. -/
theorem step_apply (acc : Vec Ideal S1024x2048 .f32) (x0 : Vec Ideal S1024x2048 .bf16) (x1 : Vec Ideal S2048x2048 .bf16) (r : Fin 1024) (l : Fin 2048) :
    k3_pay2 (F := Ideal) acc x0 x1 (ix2 r l) = acc (ix2 r l) + ∑ k : Fin 2048, x0 (ix2 r k) * x1 (ix2 k l) := by
  pointwise [k3_pay2]

/-- The accumulation starts at zero. -/
theorem start_apply (y : S1024x2048.Idx) : k3_pay1 (F := Ideal) y = 0 := by
  pointwise [k3_pay1]

section Cases
variable (c : Dev nD) (i : grid3.Coords) (arg2 : Memref sig .tc .vmem S1024x2048 .bf16) (harg2 : arg2.IsWhole)
  (arg3 : Memref sig .tc .vmem S2048x2048 .bf16) (harg3 : arg3.IsWhole) (arg4 : Memref sig .tc .vmem S1024x2048 .f32) (harg4 : arg4.IsWhole)
  (x0 : Vec Ideal S1024x2048 .bf16) (x1 : Vec Ideal S2048x2048 .bf16)

/-- At the first block the output block is one step over zero. -/
theorem first_eq (hc : cond3_0 i) :
    out3_A_2 c i arg2 harg2 arg3 harg3 arg4 harg4 hc x0 x1 = k3_pay2 (k3_pay1 (F := Ideal)) x0 x1 := by
  unfold out3_A_2
  rw [View.read_writes_eq_canon _ _ _ (cover3_A_2 c i arg2 harg2 arg3 harg3 arg4 harg4 hc x0 x1)]
  unfold kernelRun3_A
  dsimp only
  try sl_unfold_words
  rw [View.canon_cons_unit_zero (S := S1024x2048) hz, View.readCov_unit_zero (S := S1024x2048) _ hz]
  simp only [View.readAt_eq_ld, harg2.read_unread, harg3.read_unread, harg4.read_unread, View.ld_unit_zero (S := S1024x2048) hz,
    View.ld_unit_zero (S := S2048x2048) hz, shapeCast_self]

/-- At a later block the output block is one step over what it held. -/
theorem later_eq (hc : ¬cond3_0 i) (acc : Vec Ideal S1024x2048 .f32) :
    out3_B_2 c i arg2 harg2 arg3 harg3 arg4 harg4 hc x0 x1 acc = k3_pay2 acc x0 x1 := by
  unfold out3_B_2
  rw [View.read_writes_eq_canon _ _ _ (cover3_B_2 c i arg2 harg2 arg3 harg3 arg4 harg4 hc x0 x1 acc)]
  unfold kernelRun3_B
  dsimp only
  try sl_unfold_words
  rw [View.canon_unit_zero hz]
  simp only [View.readAt_eq_ld, harg2.read_unread, harg3.read_unread, harg4.read_unread, View.ld_unit_zero (S := S1024x2048) hz,
    View.ld_unit_zero (S := S2048x2048) hz, shapeCast_self]

end Cases

variable (V : (c : Dev nD) → (b : Ref sig .tc) → Buf (Elt Ideal) ((c : Thread nD τ).loc b)) (c : Dev nD)

/-- The transposed normalised rows the call reads. -/
abbrev lhs : S1024x8192.Idx → EReal := V c main_v10_5
/-- The cotangent it reads. -/
abbrev rhs : S8192x2048.Idx → EReal := V c main_v7

/-- The block of the transposed rows at point `t`. -/
abbrev lblk (t : Fin cfg3.N) : Vec Ideal S1024x2048 .bf16 := iblk3 V c 0 t
/-- The block of the cotangent at point `t`. -/
abbrev rblk (t : Fin cfg3.N) : Vec Ideal S2048x2048 .bf16 := iblk3 V c 1 t

/-- The part of the product that point `t` adds at row `r` and column `l` of its output block. -/
def part (t r l : ℕ) : EReal :=
  ∑ k : Fin 2048, rd (lhs V c) r (2048 * (t % 4) + k.val) * rd (rhs V c) (2048 * (t % 4) + k.val) (2048 * (t / 4) + l)

theorem idx_facts : ∀ t : Fin cfg3.N, win3_0.index t (0 : Fin 2) = 0 ∧ win3_0.index t (1 : Fin 2) = t.val % 4
    ∧ win3_1.index t (0 : Fin 2) = t.val % 4 ∧ win3_1.index t (1 : Fin 2) = t.val / 4
    ∧ win3_2.index t (0 : Fin 2) = 0 ∧ win3_2.index t (1 : Fin 2) = t.val / 4 :=
  (by decide +kernel : ∀ t : Fin grid3.N, _)

/-- The blocks at point `t` multiply to `part`. -/
theorem blocks_part (t : Fin cfg3.N) (r : Fin 1024) (l : Fin 2048) :
    ∑ k : Fin 2048, lblk V c t (ix2 r k) * rblk V c t (ix2 k l) = part V c t.val r.val l.val := by
  obtain ⟨a0, a1, b0, b1, -, -⟩ := idx_facts t
  refine Finset.sum_congr rfl fun k _ => congrArg₂ (· * ·) ?_ ?_
  · exact eq_rd (lhs V c) (((cfg3.win 0).blk t).view.emb (ix2 r k)) _ _
      (show win3_0.index t (0 : Fin 2) * 1024 + 1 * r.val = _ by omega) (show win3_0.index t (1 : Fin 2) * 2048 + 1 * k.val = _ by omega)
  · exact eq_rd (rhs V c) (((cfg3.win 1).blk t).view.emb (ix2 k l)) _ _
      (show win3_1.index t (0 : Fin 2) * 2048 + 1 * k.val = _ by omega) (show win3_1.index t (1 : Fin 2) * 2048 + 1 * l.val = _ by omega)

/-- The output block after point `t` holds the sum of the parts of its run so far. -/
theorem outs_eq (t : ℕ) (h : t < cfg3.N) (r : Fin 1024) (l : Fin 2048) :
    outsAt3 V c t h (ix2 r l) = ∑ s ∈ Finset.range (t % 4 + 1), part V c (t / 4 * 4 + s) r.val l.val := by
  refine run_sum 4 (by decide) (fun n hn => outsAt3 V c n hn (ix2 r l)) (fun n => part V c n r.val l.val) (fun n hn h0 => ?_) (fun n hn h0 => ?_) t h
  · show outsAt3 V c n hn (ix2 r l) = _
    rw [outsAt3_A V c ⟨n, hn⟩ h0, first_eq, step_apply, start_apply, zero_add]
    exact blocks_part V c ⟨n, hn⟩ r l
  · show outsAt3 V c n hn (ix2 r l) = _
    rw [outsAt3_B V c ⟨n, hn⟩ h0, later_eq, step_apply]
    exact congrArg _ (blocks_part V c ⟨n, hn⟩ r l)

/-- The product over all rows. -/
def prod : S1024x2048.Idx → EReal := fun i => ∑ k : Fin 8192, lhs V c (ix2 (i 0) k) * rhs V c (ix2 k (i 1))

/-- What the last block of a run writes back is its block of the product. -/
theorem flushed_eq (t : Fin cfg3.N) (hf : (cfg3.win 2).flush t = true) :
    (dat3 V c).flushed 2 t = ((cfg3.win 2).blk t).view.read (Elt Ideal) (prod V c) := by
  show (cfg3.win 2).cut (grid3.coords t) ((dat3 V c).after 2 t) = _
  rw [after3_2]
  have hm : t.val % 4 = 3 := (flush3_2 t).mp hf
  obtain ⟨-, -, -, -, o0, o1⟩ := idx_facts t
  funext y
  have hN : t.val < 4 := lt_of_lt_of_eq t.isLt (show cfg3.N = 4 from N_3)
  have e0 : (((cfg3.win 2).blk t).view.emb y 0).val = (y 0).val := by
    show win3_2.index t (0 : Fin 2) * 1024 + 1 * (y 0).val = _; omega
  have e1 : (((cfg3.win 2).blk t).view.emb y 1).val = 2048 * (t.val / 4) + (y 1).val := by
    show win3_2.index t (1 : Fin 2) * 2048 + 1 * (y 1).val = _; omega
  show outsAt3 V c t.val t.isLt ((cfg3.win 2).xinj (grid3.coords t) y) = prod V c (((cfg3.win 2).blk t).view.emb y)
  let r : Fin 1024 := ⟨(y 0).val, (y 0).isLt⟩
  let l : Fin 2048 := ⟨(y 1).val, (y 1).isLt⟩
  rw [show (cfg3.win 2).xinj (grid3.coords t) y = ix2 r l from eq_ix2 (n0 := 1024) (n1 := 2048) _, outs_eq, hm]
  unfold prod
  rw [show (∑ k : Fin 8192, lhs V c (ix2 ((((cfg3.win 2).blk t).view.emb y) 0) k) * rhs V c (ix2 k ((((cfg3.win 2).blk t).view.emb y) 1)))
      = ∑ k : Fin 8192, rd (lhs V c) (y 0).val k.val * rd (rhs V c) k.val (2048 * (t.val / 4) + (y 1).val) from
    Finset.sum_congr rfl fun k _ => congrArg₂ (· * ·) (eq_rd _ _ _ _ e0 rfl) (eq_rd _ _ _ _ rfl e1),
    ← sum_blocks 4 2048 rfl fun k => rd (lhs V c) (y 0).val k * rd (rhs V c) k (2048 * (t.val / 4) + (y 1).val)]
  refine Finset.sum_congr rfl fun s hs => ?_
  have hs4 : s < 4 := Finset.mem_range.mp hs
  unfold part
  rw [show (t.val / 4 * 4 + s) % 4 = s by omega, show (t.val / 4 * 4 + s) / 4 = t.val / 4 by omega]

theorem mem_blk (t : Fin cfg3.N) (i : S1024x2048.Idx) :
    i ∈ ((cfg3.win 2).blk t).view.set ↔ ∀ a : Fin 2, win3_2.index t a * S1024x2048.size a ≤ (i a).val ∧ (i a).val < win3_2.index t a * S1024x2048.size a + S1024x2048.size a := by
  show i ∈ ((View.whole main_v13).slice (win3_2.rect t)).set ↔ _
  rw [View.set_slice_whole, Rect.mem_set_unit]
  exact Iff.rfl

theorem onto : ∀ q : Fin 1, ∃ t : Fin cfg3.N, (cfg3.win 2).flush t = true ∧ t.val / 4 = q.val :=
  (by decide +kernel : ∀ q : Fin 1, ∃ t : Fin grid3.N, win3_2.flush t = true ∧ t.val / 4 = q.val)

/-- THE RESULT ARRAY of the call is the product over all rows. -/
theorem final : (dat3 V c).arrAt 2 cfg3.N = prod V c :=
  (dat3 V c).arrAt_eq_of_cover 2 _ (fun t hf => flushed_eq V c t hf) fun i => by
    have hi0 : (i 0).val < 1024 := (i 0).isLt
    have hi1 : (i 1).val < 2048 := (i 1).isLt
    obtain ⟨t, hft, ht⟩ := onto ⟨(i 1).val / 2048, by omega⟩
    have ht' : t.val / 4 = (i 1).val / 2048 := ht
    obtain ⟨-, -, -, -, o0, o1⟩ := idx_facts t
    refine ⟨t, hft, (mem_blk t i).mpr fun a => ?_⟩
    match a with
    | ⟨0, _⟩ => show win3_2.index t (0 : Fin 2) * 1024 ≤ (i 0).val ∧ (i 0).val < win3_2.index t (0 : Fin 2) * 1024 + 1024; omega
    | ⟨1, _⟩ => show win3_2.index t (1 : Fin 2) * 2048 ≤ (i 1).val ∧ (i 1).val < win3_2.index t (1 : Fin 2) * 2048 + 2048; omega

end Cert.Proof.In.Dw2

end
-- ==== Proof.In.Dw3.lean ====
/-
  The gradient of the last two bands of the in-projection's weights, 128 columns each: one call that multiplies the transposed
  normalised rows by both cotangents over four blocks of 2048 rows and keeps the two products side by side.
-/
module

public import proofs.«01_k».proof.Proof.Math
public import proofs.«01_k».proof.Proof.Gen.KernelIdeal.Frame.Region4
public import Idealize.ShloMosaic.Lib.Pipeline.Value
public import Idealize.ShloMosaic.Lib.Pipeline.ReadBack

@[expose] public section

set_option maxRecDepth 16384

noncomputable section

namespace Cert.Proof.In.Dw3

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem left_apply (x0 : Vec Ideal S1024x2048 .bf16) (acc : Vec Ideal S1024x128 .f32) (x1 : Vec Ideal S2048x128 .bf16) (r : Fin 1024) (l : Fin 128) :
    k4_pay3 (F := Ideal) x0 acc x1 (ix2 r l) = acc (ix2 r l) + ∑ k : Fin 2048, x0 (ix2 r k) * x1 (ix2 k l) := by
  pointwise [k4_pay3, k4_pay2]

theorem right_apply (x0 : Vec Ideal S1024x2048 .bf16) (acc : Vec Ideal S1024x128 .f32) (x1 : Vec Ideal S2048x128 .bf16) (r : Fin 1024) (l : Fin 128) :
    k4_pay4 (F := Ideal) x0 acc x1 (ix2 r l) = acc (ix2 r l) + ∑ k : Fin 2048, x0 (ix2 r k) * x1 (ix2 k l) := by
  pointwise [k4_pay4, k4_pay2]

theorem start_apply (y : S1024x256.Idx) : k4_pay1 (F := Ideal) y = 0 := by
  pointwise [k4_pay1]

/-- The left and the right half of the output block. -/
abbrev rl : Rect S1024x256 := Rect.unit (s := S1024x256) ![0, 0] S1024x128.size inb_S1024x256_S1024x128_0_0
abbrev rr : Rect S1024x256 := Rect.unit (s := S1024x256) ![0, 128] S1024x128.size inb_S1024x256_S1024x128_0_128

theorem rl_emb (r : Fin 1024) (l : Fin 256) (h : l.val < 128) : rl.emb (ix2 r ⟨l.val, h⟩) = ix2 r l :=
  funext fun a => Fin.ext <| match a with
    | ⟨0, _⟩ => show 0 + 1 * r.val = r.val by omega
    | ⟨1, _⟩ => show 0 + 1 * l.val = l.val by omega
theorem rr_emb (r : Fin 1024) (l : Fin 256) (h : 128 ≤ l.val) : rr.emb (ix2 r ⟨l.val - 128, by omega⟩) = ix2 r l :=
  funext fun a => Fin.ext <| match a with
    | ⟨0, _⟩ => show 0 + 1 * r.val = r.val by omega
    | ⟨1, _⟩ => show 128 + 1 * (l.val - 128) = l.val by omega
theorem not_rr (r : Fin 1024) (l : Fin 256) (h : l.val < 128) : ix2 r l ∉ rr.set := fun hm => by
  have h1 : 128 ≤ l.val := ((Rect.mem_set_unit.mp hm) (1 : Fin 2)).1
  omega

/-- Two stores side by side, read at an index. -/
theorem canon_halves (P Q : S1024x128.Idx → EReal) (L : List (View.Piece (Elt Ideal) S1024x256 .f32)) (r : Fin 1024) (l : Fin 256) :
    View.canon (Val := Elt Ideal) (e := .f32) (⟨rr, P⟩ :: ⟨rl, Q⟩ :: L) (ix2 r l)
      = if h : l.val < 128 then Q (ix2 r ⟨l.val, h⟩) else P (ix2 r ⟨l.val - 128, by omega⟩) := by
  by_cases h : l.val < 128
  · rw [dif_pos h]
    refine (View.canon_cons_of_not_mem (Val := Elt Ideal) (e := .f32) ⟨rr, P⟩ (⟨rl, Q⟩ :: L) (not_rr r l h)).trans ?_
    rw [← rl_emb r l h]
    exact View.canon_cons_emb rl Q L _
  · rw [dif_neg h]
    conv_lhs => rw [← rr_emb r l (by omega)]
    exact View.canon_cons_emb (Val := Elt Ideal) (e := .f32) rr P (⟨rl, Q⟩ :: L) (ix2 r ⟨l.val - 128, by omega⟩)

/-- The cotangent's column for the output column `l`: the first cotangent on the left, the second on the right. -/
def pick {n : ℕ} (x1 x2 : (⟨2, ![n, 128]⟩ : Shape).Idx → EReal) (k l : ℕ) : EReal := if l < 128 then rd x1 k l else rd x2 k (l - 128)

theorem pick_left {n : ℕ} (x1 x2 : (⟨2, ![n, 128]⟩ : Shape).Idx → EReal) (k : Fin n) (l : ℕ) (h : l < 128) :
    x1 (ix2 k ⟨l, h⟩) = pick x1 x2 k.val l := by rw [pick, if_pos h]; exact (rd_ix2 x1 k ⟨l, h⟩).symm
theorem pick_right {n : ℕ} (x1 x2 : (⟨2, ![n, 128]⟩ : Shape).Idx → EReal) (k : Fin n) (l : ℕ) (h : ¬l < 128) (h' : l - 128 < 128) :
    x2 (ix2 k ⟨l - 128, h'⟩) = pick x1 x2 k.val l := by rw [pick, if_neg h]; exact (rd_ix2 x2 k ⟨l - 128, h'⟩).symm

section Cases
variable (c : Dev nD) (i : grid4.Coords) (arg1 : Memref sig .tc .vmem S1024x2048 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S1024x256 .f32) (harg4 : arg4.IsWhole)
  (x0 : Vec Ideal S1024x2048 .bf16) (x1 : Vec Ideal S2048x128 .bf16) (x2 : Vec Ideal S2048x128 .bf16)

/-- At the first block the output block is the two blocks' products. -/
theorem first_eq (hc : cond4_0 i) (r : Fin 1024) (l : Fin 256) :
    out4_A_3 c i arg1 harg1 arg2 harg2 arg3 harg3 arg4 harg4 hc x0 x1 x2 (ix2 r l) = ∑ k : Fin 2048, x0 (ix2 r k) * pick x1 x2 k.val l.val := by
  unfold out4_A_3
  rw [View.read_writes_eq_canon _ _ _ (cover4_A_3 c i arg1 harg1 arg2 harg2 arg3 harg3 arg4 harg4 hc x0 x1 x2)]
  unfold kernelRun4_A
  dsimp only
  sl_unfold_words
  refine (canon_halves _ _ _ r l).trans ?_
  simp only [View.readAt_eq_ld, harg1.read_unread, harg2.read_unread, harg3.read_unread, View.ld_unit_zero (S := S1024x2048) hz,
    View.ld_unit_zero (S := S2048x128) hz]
  by_cases h : l.val < 128
  · rw [dif_pos h, left_apply, View.readCov_eq_canon']
    simp only [View.canon_unit_zero (S := S1024x256) hz, start_apply, zero_add]
    exact Finset.sum_congr rfl fun k _ => congrArg _ (pick_left x1 x2 k l.val h)
  · rw [dif_neg h, right_apply, View.readCov_skip _ _ _ _ _ (by decide +kernel), View.readCov_eq_canon']
    simp only [View.canon_unit_zero (S := S1024x256) hz, start_apply, zero_add]
    exact Finset.sum_congr rfl fun k _ => congrArg _ (pick_right x1 x2 k l.val h _)

/-- At a later block they are added to what it held. -/
theorem later_eq (hc : ¬cond4_0 i) (acc : Vec Ideal S1024x256 .f32) (r : Fin 1024) (l : Fin 256) :
    out4_B_3 c i arg1 harg1 arg2 harg2 arg3 harg3 arg4 harg4 hc x0 x1 x2 acc (ix2 r l)
      = acc (ix2 r l) + ∑ k : Fin 2048, x0 (ix2 r k) * pick x1 x2 k.val l.val := by
  unfold out4_B_3
  rw [View.read_writes_eq_canon _ _ _ (cover4_B_3 c i arg1 harg1 arg2 harg2 arg3 harg3 arg4 harg4 hc x0 x1 x2 acc)]
  unfold kernelRun4_B
  dsimp only
  try sl_unfold_words
  refine (canon_halves _ _ _ r l).trans ?_
  simp only [View.readAt_eq_ld, harg1.read_unread, harg2.read_unread, harg3.read_unread, harg4.read_unread, View.ld_unit_zero (S := S1024x2048) hz,
    View.ld_unit_zero (S := S2048x128) hz]
  by_cases h : l.val < 128
  · rw [dif_pos h, left_apply]
    refine congrArg₂ (· + ·) (congrArg acc (rl_emb r l h)) ?_
    exact Finset.sum_congr rfl fun k _ => congrArg _ (pick_left x1 x2 k l.val h)
  · rw [dif_neg h, right_apply]
    refine congrArg₂ (· + ·) (congrArg acc (rr_emb r l (by omega))) ?_
    exact Finset.sum_congr rfl fun k _ => congrArg _ (pick_right x1 x2 k l.val h _)

end Cases

variable (V : (c : Dev nD) → (b : Ref sig .tc) → Buf (Elt Ideal) ((c : Thread nD τ).loc b)) (c : Dev nD)

abbrev lhs : S1024x8192.Idx → EReal := V c main_v10_5
abbrev rhs0 : S8192x128.Idx → EReal := V c main_v8
abbrev rhs1 : S8192x128.Idx → EReal := V c main_v9

abbrev lblk (t : Fin cfg4.N) : Vec Ideal S1024x2048 .bf16 := iblk4 V c 0 t
abbrev blk0 (t : Fin cfg4.N) : Vec Ideal S2048x128 .bf16 := iblk4 V c 1 t
abbrev blk1 (t : Fin cfg4.N) : Vec Ideal S2048x128 .bf16 := iblk4 V c 2 t

/-- The part of the products that point `t` adds at row `r` and column `l`. -/
def part (t r l : ℕ) : EReal :=
  ∑ k : Fin 2048, rd (lhs V c) r (2048 * (t % 4) + k.val) * pick (rhs0 V c) (rhs1 V c) (2048 * (t % 4) + k.val) l

theorem idx_facts : ∀ t : Fin cfg4.N, win4_0.index t (0 : Fin 2) = 0 ∧ win4_0.index t (1 : Fin 2) = t.val % 4
    ∧ win4_1.index t (0 : Fin 2) = t.val % 4 ∧ win4_1.index t (1 : Fin 2) = 0
    ∧ win4_2.index t (0 : Fin 2) = t.val % 4 ∧ win4_2.index t (1 : Fin 2) = 0
    ∧ win4_3.index t (0 : Fin 2) = 0 ∧ win4_3.index t (1 : Fin 2) = 0 :=
  (by decide +kernel : ∀ t : Fin grid4.N, _)

theorem blocks_part (t : Fin cfg4.N) (r : Fin 1024) (l : Fin 256) :
    ∑ k : Fin 2048, lblk V c t (ix2 r k) * pick (blk0 V c t) (blk1 V c t) k.val l.val = part V c t.val r.val l.val := by
  obtain ⟨a0, a1, b0, b1, d0, d1, -, -⟩ := idx_facts t
  refine Finset.sum_congr rfl fun k _ => congrArg₂ (· * ·) ?_ ?_
  · exact eq_rd (lhs V c) (((cfg4.win 0).blk t).view.emb (ix2 r k)) _ _
      (show win4_0.index t (0 : Fin 2) * 1024 + 1 * r.val = _ by omega) (show win4_0.index t (1 : Fin 2) * 2048 + 1 * k.val = _ by omega)
  · unfold pick
    by_cases h : l.val < 128
    · rw [if_pos h, if_pos h]
      refine (rd_ix2 (blk0 V c t) k ⟨l.val, h⟩).trans ?_
      exact eq_rd (rhs0 V c) (((cfg4.win 1).blk t).view.emb (ix2 k ⟨l.val, h⟩)) _ _
        (show win4_1.index t (0 : Fin 2) * 2048 + 1 * k.val = _ by omega) (show win4_1.index t (1 : Fin 2) * 128 + 1 * l.val = _ by omega)
    · rw [if_neg h, if_neg h]
      have h' : l.val - 128 < 128 := by omega
      refine (rd_ix2 (blk1 V c t) k ⟨l.val - 128, h'⟩).trans ?_
      exact eq_rd (rhs1 V c) (((cfg4.win 2).blk t).view.emb (ix2 k ⟨l.val - 128, h'⟩)) _ _
        (show win4_2.index t (0 : Fin 2) * 2048 + 1 * k.val = _ by omega) (show win4_2.index t (1 : Fin 2) * 128 + 1 * (l.val - 128) = _ by omega)

theorem outs_eq (t : ℕ) (h : t < cfg4.N) (r : Fin 1024) (l : Fin 256) :
    outsAt4 V c t h (ix2 r l) = ∑ s ∈ Finset.range (t % 4 + 1), part V c (t / 4 * 4 + s) r.val l.val := by
  refine run_sum 4 (by decide) (fun n hn => outsAt4 V c n hn (ix2 r l)) (fun n => part V c n r.val l.val) (fun n hn h0 => ?_) (fun n hn h0 => ?_) t h
  · show outsAt4 V c n hn (ix2 r l) = _
    rw [outsAt4_A V c ⟨n, hn⟩ h0, first_eq]
    exact blocks_part V c ⟨n, hn⟩ r l
  · show outsAt4 V c n hn (ix2 r l) = _
    rw [outsAt4_B V c ⟨n, hn⟩ h0, later_eq]
    exact congrArg _ (blocks_part V c ⟨n, hn⟩ r l)

/-- The two products over all rows, side by side. -/
def prod : S1024x256.Idx → EReal := fun i => ∑ k : Fin 8192, lhs V c (ix2 (i 0) k) * pick (rhs0 V c) (rhs1 V c) k.val (i 1).val

theorem flushed_eq (t : Fin cfg4.N) (hf : (cfg4.win 3).flush t = true) :
    (dat4 V c).flushed 3 t = ((cfg4.win 3).blk t).view.read (Elt Ideal) (prod V c) := by
  show (cfg4.win 3).cut (grid4.coords t) ((dat4 V c).after 3 t) = _
  rw [after4_3]
  have hm : t.val % 4 = 3 := (flush4_3 t).mp hf
  obtain ⟨-, -, -, -, -, -, o0, o1⟩ := idx_facts t
  funext y
  have e0 : (((cfg4.win 3).blk t).view.emb y 0).val = (y 0).val := by
    show win4_3.index t (0 : Fin 2) * 1024 + 1 * (y 0).val = _; omega
  have e1 : (((cfg4.win 3).blk t).view.emb y 1).val = (y 1).val := by
    show win4_3.index t (1 : Fin 2) * 256 + 1 * (y 1).val = _; omega
  show outsAt4 V c t.val t.isLt ((cfg4.win 3).xinj (grid4.coords t) y) = prod V c (((cfg4.win 3).blk t).view.emb y)
  let r : Fin 1024 := ⟨(y 0).val, (y 0).isLt⟩
  let l : Fin 256 := ⟨(y 1).val, (y 1).isLt⟩
  rw [show (cfg4.win 3).xinj (grid4.coords t) y = ix2 r l from eq_ix2 (n0 := 1024) (n1 := 256) _, outs_eq, hm]
  unfold prod
  rw [e1, show (∑ k : Fin 8192, lhs V c (ix2 ((((cfg4.win 3).blk t).view.emb y) 0) k) * pick (rhs0 V c) (rhs1 V c) k.val (y 1).val)
      = ∑ k : Fin 8192, rd (lhs V c) (y 0).val k.val * pick (rhs0 V c) (rhs1 V c) k.val (y 1).val from
    Finset.sum_congr rfl fun k _ => congrArg₂ (· * ·) (eq_rd _ _ _ _ e0 rfl) rfl,
    ← sum_blocks 4 2048 rfl fun k => rd (lhs V c) (y 0).val k * pick (rhs0 V c) (rhs1 V c) k (y 1).val]
  refine Finset.sum_congr rfl fun s hs => ?_
  have hs4 : s < 4 := Finset.mem_range.mp hs
  unfold part
  rw [show (t.val / 4 * 4 + s) % 4 = s by omega]

theorem mem_blk (t : Fin cfg4.N) (i : S1024x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v14).slice (win4_3.rect t)).set ↔ _
  rw [View.set_slice_whole, Rect.mem_set_unit]
  exact Iff.rfl

/-- THE RESULT ARRAY of the call is the two products over all rows. -/
theorem final : (dat4 V c).arrAt 3 cfg4.N = prod V c :=
  (dat4 V c).arrAt_eq_of_cover 3 _ (fun t hf => flushed_eq V c t hf) fun i => by
    have hi0 : (i 0).val < 1024 := (i 0).isLt
    have hi1 : (i 1).val < 256 := (i 1).isLt
    let t : Fin cfg4.N := ⟨3, lt_of_lt_of_eq (by decide : 3 < 4) N_4.symm⟩
    obtain ⟨-, -, -, -, -, -, o0, o1⟩ := idx_facts t
    refine ⟨t, (flush4_3 t).mpr rfl, (mem_blk t i).mpr fun a => ?_⟩
    match a with
    | ⟨0, _⟩ => show win4_3.index t (0 : Fin 2) * 1024 ≤ (i 0).val ∧ (i 0).val < win4_3.index t (0 : Fin 2) * 1024 + 1024; omega
    | ⟨1, _⟩ => show win4_3.index t (1 : Fin 2) * 256 ≤ (i 1).val ∧ (i 1).val < win4_3.index t (1 : Fin 2) * 256 + 256; omega

end Cert.Proof.In.Dw3

end
-- ==== Proof.In.Dx.lean ====
/-
  The gradient of the in-projection's input and of its norm's weight, sixteen blocks of 512 rows: the bands' cotangents are
  multiplied with the transposed weights and added, the sum goes back through the norm, and the cotangent that passes by the
  norm is added. The result arrays are the input's gradient and, in row 0 of the second array, the gradient of the norm's weight.
-/
module

public import proofs.«01_k».proof.Proof.Math
public import proofs.«01_k».proof.Proof.Gen.KernelIdeal.Frame.Region5
public import Idealize.ShloMosaic.Lib.Pipeline.Value

@[expose] public section

set_option maxRecDepth 16384

noncomputable section

namespace Cert.Proof.In.Dx

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One entry of the input's gradient: back through the norm, plus the cotangent that passes by. -/
theorem dx_apply (a : FVec Ideal S512x1024 .f32) (g : FVec Ideal S512x128 .bf16) (w : Vec Ideal S1024x128 .bf16) (p : Vec Ideal S1x1024 .f32)
    (x d : Vec Ideal S512x1024 .f32) (r : Fin 512) (j : Fin 1024) :
    k5_pay8 (F := Ideal) a g w p x d (ix2 r j)
      = normGrad (fun k => x (ix2 r k)) (fun k => k5_pay5 (F := Ideal) a g w (ix2 r k) * p (ix2 0 k)) j + d (ix2 r j) := by
  unfold normGrad rs ms eps
  rw [← lit_inv1024]
  pointwise [k5_pay8, k5_pay7, k5_pay6]

/-- One entry of a block's part of the gradient of the norm's weight. -/
theorem dp_apply (a : FVec Ideal S512x1024 .f32) (g : FVec Ideal S512x128 .bf16) (w : Vec Ideal S1024x128 .bf16)
    (x : Vec Ideal S512x1024 .f32) (j : Fin 1024) :
    k5_pay11 (F := Ideal) a g w x (ix2 0 j)
      = ∑ r : Fin 512, k5_pay5 (F := Ideal) a g w (ix2 r j) * (x (ix2 r j) * rs (fun k => x (ix2 r k))) := by
  unfold rs ms eps
  rw [← lit_inv1024]
  pointwise [k5_pay11, k5_pay7, k5_pay6]

/-- The accumulation adds the part to row 0 and nothing to the other rows. -/
theorem acc_apply (acc : Vec Ideal S8x1024 .f32) (s : FVec Ideal S1x1024 .f32) (q : Fin 8) (j : Fin 1024) :
    k5_pay1 (F := Ideal) (k5_pay9 acc) k5_pay10 (Scalar.ofBits .f32 0x00000000#32) s (ix2 q j) = acc (ix2 q j) + if q.val = 0 then s (ix2 0 j) else 0 := by
  pointwise [k5_pay1, k5_pay9, k5_pay10]
  refine congrArg _ ?_
  fin_cases q <;> rfl

/-- One entry of the gradient of the normalised rows: the five bands' products, added. -/
theorem dh_apply (g0 : Vec Ideal S512x2048 .bf16) (w0 : Vec Ideal S1024x2048 .bf16) (g1 : Vec Ideal S512x2560 .bf16) (w1 : Vec Ideal S1024x2560 .bf16)
    (g2 : Vec Ideal S512x2048 .bf16) (w2 : Vec Ideal S1024x2048 .bf16) (g3 : Vec Ideal S512x128 .bf16) (w3 : Vec Ideal S1024x128 .bf16)
    (g4 : Vec Ideal S512x128 .bf16) (w4 : Vec Ideal S1024x128 .bf16) (r : Fin 512) (j : Fin 1024) :
    k5_pay5 (F := Ideal) (k5_pay3 g0 w0 g1 w1 g2 w2 g3 w3) (k5_pay4 g4) w4 (ix2 r j)
      = ∑ k : Fin 2048, g0 (ix2 r k) * w0 (ix2 j k) + ∑ k : Fin 2560, g1 (ix2 r k) * w1 (ix2 j k) + ∑ k : Fin 2048, g2 (ix2 r k) * w2 (ix2 j k)
        + ∑ k : Fin 128, g3 (ix2 r k) * w3 (ix2 j k) + ∑ k : Fin 128, g4 (ix2 r k) * w4 (ix2 j k) := by
  pointwise [k5_pay5, k5_pay4, k5_pay3]

theorem start_apply (y : S8x1024.Idx) : k5_pay2 (F := Ideal) y = 0 := by
  pointwise [k5_pay2]

/-- The weights' bands and the row of the norm's weight. -/
abbrev b0 : Rect S1024x6912 := Rect.unit (s := S1024x6912) ![0, 0] S1024x2048.size inb_S1024x6912_S1024x2048_0_0
abbrev b1 : Rect S1024x6912 := Rect.unit (s := S1024x6912) ![0, 2048] S1024x2560.size inb_S1024x6912_S1024x2560_0_2048
abbrev b2 : Rect S1024x6912 := Rect.unit (s := S1024x6912) ![0, 4608] S1024x2048.size inb_S1024x6912_S1024x2048_0_4608
abbrev b3 : Rect S1024x6912 := Rect.unit (s := S1024x6912) ![0, 6656] S1024x128.size inb_S1024x6912_S1024x128_0_6656
abbrev b4 : Rect S1024x6912 := Rect.unit (s := S1024x6912) ![0, 6784] S1024x128.size inb_S1024x6912_S1024x128_0_6784
abbrev b5 : Rect S8x1024 := Rect.unit (s := S8x1024) ![0, 0] S1x1024.size inb_S8x1024_S1x1024_0_0

section Cases
variable (c : Dev nD) (i : grid5.Coords)
  (arg1 : Memref sig .tc .vmem S512x2048 .bf16) (harg1 : arg1.IsWhole) (arg2 : Memref sig .tc .vmem S512x2560 .bf16) (harg2 : arg2.IsWhole) (arg3 : Memref sig .tc .vmem S512x2048 .bf16) (harg3 : arg3.IsWhole)
  (arg4 : Memref sig .tc .vmem S512x128 .bf16) (harg4 : arg4.IsWhole) (arg5 : Memref sig .tc .vmem S512x128 .bf16) (harg5 : arg5.IsWhole) (arg6 : Memref sig .tc .vmem S1024x6912 .bf16) (harg6 : arg6.IsWhole)
  (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole)
  (arg10 : Memref sig .tc .vmem S512x1024 .f32) (harg10 : arg10.IsWhole) (arg11 : Memref sig .tc .vmem S8x1024 .f32) (harg11 : arg11.IsWhole)
  (x0 : Vec Ideal S512x2048 .bf16) (x1 : Vec Ideal S512x2560 .bf16) (x2 : Vec Ideal S512x2048 .bf16) (x3 : Vec Ideal S512x128 .bf16)
  (x4 : Vec Ideal S512x128 .bf16) (x5 : Vec Ideal S1024x6912 .bf16) (x6 : Vec Ideal S512x1024 .f32) (x7 : Vec Ideal S8x1024 .f32)
  (x8 : Vec Ideal S512x1024 .f32)

/-- The first four bands' products. -/
abbrev four : FVec Ideal S512x1024 .f32 := k5_pay3 x0 (View.ld x5 b0) x1 (View.ld x5 b1) x2 (View.ld x5 b2) x3 (View.ld x5 b3)

theorem first9 (hc : cond5_0 i) :
    out5_A_9 c i arg1 harg1 arg2 harg2 arg3 harg3 arg4 harg4 arg5 harg5 arg6 harg6 arg7 harg7 arg8 harg8 arg9 harg9 arg10 harg10 arg11 harg11 hc x0 x1 x2 x3 x4 x5 x6 x7 x8
      = k5_pay8 (four x0 x1 x2 x3 x5) (k5_pay4 x4) (View.ld x5 b4) (View.ld x7 b5) x6 x8 := by
  unfold out5_A_9
  rw [View.read_writes_eq_canon _ _ _ (cover5_A_9 c i arg1 harg1 arg2 harg2 arg3 harg3 arg4 harg4 arg5 harg5 arg6 harg6 arg7 harg7 arg8 harg8 arg9 harg9 arg10 harg10 arg11 harg11 hc x0 x1 x2 x3 x4 x5 x6 x7 x8)]
  unfold kernelRun5_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x2048) hz, View.ld_unit_zero (S := S512x2560) hz, View.ld_unit_zero (S := S512x128) hz, View.ld_unit_zero (S := S512x1024) hz, View.ld_unit_zero (S := S8x1024) hz]

theorem first10 (hc : cond5_0 i) :
    out5_A_10 c i arg1 harg1 arg2 harg2 arg3 harg3 arg4 harg4 arg5 harg5 arg6 harg6 arg7 harg7 arg8 harg8 arg9 harg9 arg10 harg10 arg11 harg11 hc x0 x1 x2 x3 x4 x5 x6 x7 x8
      = k5_pay1 (k5_pay9 (k5_pay2 (F := Ideal))) k5_pay10 (Scalar.ofBits .f32 0x00000000#32) (k5_pay11 (four x0 x1 x2 x3 x5) (k5_pay4 x4) (View.ld x5 b4) x6) := by
  unfold out5_A_10
  rw [View.read_writes_eq_canon _ _ _ (cover5_A_10 c i arg1 harg1 arg2 harg2 arg3 harg3 arg4 harg4 arg5 harg5 arg6 harg6 arg7 harg7 arg8 harg8 arg9 harg9 arg10 harg10 arg11 harg11 hc x0 x1 x2 x3 x4 x5 x6 x7 x8)]
  unfold kernelRun5_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x2048) hz, View.ld_unit_zero (S := S512x2560) hz, View.ld_unit_zero (S := S512x128) hz, View.ld_unit_zero (S := S512x1024) hz, View.ld_unit_zero (S := S8x1024) hz]

theorem later9 (hc : ¬cond5_0 i) (acc : Vec Ideal S8x1024 .f32) :
    out5_B_9 c i arg1 harg1 arg2 harg2 arg3 harg3 arg4 harg4 arg5 harg5 arg6 harg6 arg7 harg7 arg8 harg8 arg9 harg9 arg10 harg10 arg11 harg11 hc x0 x1 x2 x3 x4 x5 x6 x7 x8 acc
      = k5_pay8 (four x0 x1 x2 x3 x5) (k5_pay4 x4) (View.ld x5 b4) (View.ld x7 b5) x6 x8 := by
  unfold out5_B_9
  rw [View.read_writes_eq_canon _ _ _ (cover5_B_9 c i arg1 harg1 arg2 harg2 arg3 harg3 arg4 harg4 arg5 harg5 arg6 harg6 arg7 harg7 arg8 harg8 arg9 harg9 arg10 harg10 arg11 harg11 hc x0 x1 x2 x3 x4 x5 x6 x7 x8 acc)]
  unfold kernelRun5_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x2048) hz, View.ld_unit_zero (S := S512x2560) hz, View.ld_unit_zero (S := S512x128) hz, View.ld_unit_zero (S := S512x1024) hz, View.ld_unit_zero (S := S8x1024) hz]

theorem later10 (hc : ¬cond5_0 i) (acc : Vec Ideal S8x1024 .f32) :
    out5_B_10 c i arg1 harg1 arg2 harg2 arg3 harg3 arg4 harg4 arg5 harg5 arg6 harg6 arg7 harg7 arg8 harg8 arg9 harg9 arg10 harg10 arg11 harg11 hc x0 x1 x2 x3 x4 x5 x6 x7 x8 acc
      = k5_pay1 (k5_pay9 acc) k5_pay10 (Scalar.ofBits .f32 0x00000000#32) (k5_pay11 (four x0 x1 x2 x3 x5) (k5_pay4 x4) (View.ld x5 b4) x6) := by
  unfold out5_B_10
  rw [View.read_writes_eq_canon _ _ _ (cover5_B_10 c i arg1 harg1 arg2 harg2 arg3 harg3 arg4 harg4 arg5 harg5 arg6 harg6 arg7 harg7 arg8 harg8 arg9 harg9 arg10 harg10 arg11 harg11 hc x0 x1 x2 x3 x4 x5 x6 x7 x8 acc)]
  unfold kernelRun5_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg11.read_unread, View.ld_unit_zero (S := S512x2048) hz, View.ld_unit_zero (S := S512x2560) hz, View.ld_unit_zero (S := S512x128) hz, View.ld_unit_zero (S := S512x1024) hz, View.ld_unit_zero (S := S8x1024) hz]

end Cases

variable (V : (c : Dev nD) → (b : Ref sig .tc) → Buf (Elt Ideal) ((c : Thread nD τ).loc b)) (c : Dev nD)

/-! The five cotangents, the weights, the rows, the norm's weight and the passing cotangent, and their blocks at point `t`. -/
abbrev g0s : S8192x2048.Idx → EReal := V c main_v5
abbrev g1s : S8192x2560.Idx → EReal := V c main_v6
abbrev g2s : S8192x2048.Idx → EReal := V c main_v7
abbrev g3s : S8192x128.Idx → EReal := V c main_v8
abbrev g4s : S8192x128.Idx → EReal := V c main_v9
abbrev ws : S1024x6912.Idx → EReal := V c main_v4
abbrev xs : S8192x1024.Idx → EReal := V c main_arg0
abbrev ps : S8x1024.Idx → EReal := V c main_v3
abbrev ds : S8192x1024.Idx → EReal := V c main_arg8
abbrev g0b (t : Fin cfg5.N) : Vec Ideal S512x2048 .bf16 := iblk5 V c 0 t
abbrev g1b (t : Fin cfg5.N) : Vec Ideal S512x2560 .bf16 := iblk5 V c 1 t
abbrev g2b (t : Fin cfg5.N) : Vec Ideal S512x2048 .bf16 := iblk5 V c 2 t
abbrev g3b (t : Fin cfg5.N) : Vec Ideal S512x128 .bf16 := iblk5 V c 3 t
abbrev g4b (t : Fin cfg5.N) : Vec Ideal S512x128 .bf16 := iblk5 V c 4 t
abbrev wb (t : Fin cfg5.N) : Vec Ideal S1024x6912 .bf16 := iblk5 V c 5 t
abbrev xb (t : Fin cfg5.N) : Vec Ideal S512x1024 .f32 := iblk5 V c 6 t
abbrev pb (t : Fin cfg5.N) : Vec Ideal S8x1024 .f32 := iblk5 V c 7 t
abbrev db (t : Fin cfg5.N) : Vec Ideal S512x1024 .f32 := iblk5 V c 8 t

/-- The gradient of the normalised and scaled row `i` at column `j`. -/
def dh (i j : ℕ) : EReal :=
  ∑ k : Fin 2048, rd (g0s V c) i k.val * rd (ws V c) j k.val + ∑ k : Fin 2560, rd (g1s V c) i k.val * rd (ws V c) j (2048 + k.val)
    + ∑ k : Fin 2048, rd (g2s V c) i k.val * rd (ws V c) j (4608 + k.val) + ∑ k : Fin 128, rd (g3s V c) i k.val * rd (ws V c) j (6656 + k.val)
    + ∑ k : Fin 128, rd (g4s V c) i k.val * rd (ws V c) j (6784 + k.val)

/-- The gradient of the input. -/
def dxs : S8192x1024.Idx → EReal := fun i =>
  normGrad (fun k => rd (xs V c) (i 0).val k.val) (fun k => dh V c (i 0).val k.val * rd (ps V c) 0 k.val) (i 1) + ds V c i

/-- One row's part of the gradient of the norm's weight. -/
def dpTerm (i j : ℕ) : EReal := dh V c i j * (rd (xs V c) i j * rs (fun k : Fin 1024 => rd (xs V c) i k.val))

/-- The gradient of the norm's weight, in row 0 of a table of zeros. -/
def dps : S8x1024.Idx → EReal := fun i => if (i 0).val = 0 then ∑ k : Fin 8192, dpTerm V c k.val (i 1).val else 0

theorem idx_facts : ∀ t : Fin cfg5.N, (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0)
    ∧ (win5_7.index t (0 : Fin 2) = 0 ∧ win5_7.index t (1 : Fin 2) = 0)
    ∧ (win5_8.index t (0 : Fin 2) = t.val ∧ win5_8.index t (1 : Fin 2) = 0)
    ∧ (win5_9.index t (0 : Fin 2) = t.val ∧ win5_9.index t (1 : Fin 2) = 0)
    ∧ (win5_10.index t (0 : Fin 2) = 0 ∧ win5_10.index t (1 : Fin 2) = 0) :=
  (by decide +kernel : ∀ t : Fin grid5.N, _)

theorem g0b_eq (t : Fin cfg5.N) (y : S512x2048.Idx) (q k : ℕ) (h0 : (y 0).val = q) (h1 : (y 1).val = k) : g0b V c t y = rd (g0s V c) (512 * t.val + q) k := by
  obtain ⟨⟨a0, a1⟩, -, -, -, -, -, -, -, -, -, -⟩ := idx_facts t
  exact eq_rd (g0s V c) (((cfg5.win 0).blk t).view.emb y) _ _
    (show win5_0.index t (0 : Fin 2) * 512 + 1 * (y 0).val = _ by omega) (show win5_0.index t (1 : Fin 2) * 2048 + 1 * (y 1).val = _ by omega)
theorem g1b_eq (t : Fin cfg5.N) (y : S512x2560.Idx) (q k : ℕ) (h0 : (y 0).val = q) (h1 : (y 1).val = k) : g1b V c t y = rd (g1s V c) (512 * t.val + q) k := by
  obtain ⟨-, ⟨a0, a1⟩, -, -, -, -, -, -, -, -, -⟩ := idx_facts t
  exact eq_rd (g1s V c) (((cfg5.win 1).blk t).view.emb y) _ _
    (show win5_1.index t (0 : Fin 2) * 512 + 1 * (y 0).val = _ by omega) (show win5_1.index t (1 : Fin 2) * 2560 + 1 * (y 1).val = _ by omega)
theorem g2b_eq (t : Fin cfg5.N) (y : S512x2048.Idx) (q k : ℕ) (h0 : (y 0).val = q) (h1 : (y 1).val = k) : g2b V c t y = rd (g2s V c) (512 * t.val + q) k := by
  obtain ⟨-, -, ⟨a0, a1⟩, -, -, -, -, -, -, -, -⟩ := idx_facts t
  exact eq_rd (g2s V c) (((cfg5.win 2).blk t).view.emb y) _ _
    (show win5_2.index t (0 : Fin 2) * 512 + 1 * (y 0).val = _ by omega) (show win5_2.index t (1 : Fin 2) * 2048 + 1 * (y 1).val = _ by omega)
theorem g3b_eq (t : Fin cfg5.N) (y : S512x128.Idx) (q k : ℕ) (h0 : (y 0).val = q) (h1 : (y 1).val = k) : g3b V c t y = rd (g3s V c) (512 * t.val + q) k := by
  obtain ⟨-, -, -, ⟨a0, a1⟩, -, -, -, -, -, -, -⟩ := idx_facts t
  exact eq_rd (g3s V c) (((cfg5.win 3).blk t).view.emb y) _ _
    (show win5_3.index t (0 : Fin 2) * 512 + 1 * (y 0).val = _ by omega) (show win5_3.index t (1 : Fin 2) * 128 + 1 * (y 1).val = _ by omega)
theorem g4b_eq (t : Fin cfg5.N) (y : S512x128.Idx) (q k : ℕ) (h0 : (y 0).val = q) (h1 : (y 1).val = k) : g4b V c t y = rd (g4s V c) (512 * t.val + q) k := by
  obtain ⟨-, -, -, -, ⟨a0, a1⟩, -, -, -, -, -, -⟩ := idx_facts t
  exact eq_rd (g4s V c) (((cfg5.win 4).blk t).view.emb y) _ _
    (show win5_4.index t (0 : Fin 2) * 512 + 1 * (y 0).val = _ by omega) (show win5_4.index t (1 : Fin 2) * 128 + 1 * (y 1).val = _ by omega)
theorem wb_eq (t : Fin cfg5.N) (y : S1024x6912.Idx) (q k : ℕ) (h0 : (y 0).val = q) (h1 : (y 1).val = k) : wb V c t y = rd (ws V c) (q) k := by
  obtain ⟨-, -, -, -, -, ⟨a0, a1⟩, -, -, -, -, -⟩ := idx_facts t
  exact eq_rd (ws V c) (((cfg5.win 5).blk t).view.emb y) _ _
    (show win5_5.index t (0 : Fin 2) * 1024 + 1 * (y 0).val = _ by omega) (show win5_5.index t (1 : Fin 2) * 6912 + 1 * (y 1).val = _ by omega)
theorem xb_eq (t : Fin cfg5.N) (y : S512x1024.Idx) (q k : ℕ) (h0 : (y 0).val = q) (h1 : (y 1).val = k) : xb V c t y = rd (xs V c) (512 * t.val + q) k := by
  obtain ⟨-, -, -, -, -, -, ⟨a0, a1⟩, -, -, -, -⟩ := idx_facts t
  exact eq_rd (xs V c) (((cfg5.win 6).blk t).view.emb y) _ _
    (show win5_6.index t (0 : Fin 2) * 512 + 1 * (y 0).val = _ by omega) (show win5_6.index t (1 : Fin 2) * 1024 + 1 * (y 1).val = _ by omega)
theorem pb_eq (t : Fin cfg5.N) (y : S8x1024.Idx) (q k : ℕ) (h0 : (y 0).val = q) (h1 : (y 1).val = k) : pb V c t y = rd (ps V c) (q) k := by
  obtain ⟨-, -, -, -, -, -, -, ⟨a0, a1⟩, -, -, -⟩ := idx_facts t
  exact eq_rd (ps V c) (((cfg5.win 7).blk t).view.emb y) _ _
    (show win5_7.index t (0 : Fin 2) * 8 + 1 * (y 0).val = _ by omega) (show win5_7.index t (1 : Fin 2) * 1024 + 1 * (y 1).val = _ by omega)
theorem db_eq (t : Fin cfg5.N) (y : S512x1024.Idx) (q k : ℕ) (h0 : (y 0).val = q) (h1 : (y 1).val = k) : db V c t y = rd (ds V c) (512 * t.val + q) k := by
  obtain ⟨-, -, -, -, -, -, -, -, ⟨a0, a1⟩, -, -⟩ := idx_facts t
  exact eq_rd (ds V c) (((cfg5.win 8).blk t).view.emb y) _ _
    (show win5_8.index t (0 : Fin 2) * 512 + 1 * (y 0).val = _ by omega) (show win5_8.index t (1 : Fin 2) * 1024 + 1 * (y 1).val = _ by omega)

/-- The block's gradient of the normalised rows, in the whole tables' entries. -/
theorem dh_blk (t : Fin cfg5.N) (r : Fin 512) (j : Fin 1024) :
    k5_pay5 (F := Ideal) (four (g0b V c t) (g1b V c t) (g2b V c t) (g3b V c t) (wb V c t)) (k5_pay4 (g4b V c t)) (View.ld (wb V c t) b4) (ix2 r j)
      = dh V c (512 * t.val + r.val) j.val := by
  rw [dh_apply]
  unfold dh
  refine congrArg₂ (· + ·) (congrArg₂ (· + ·) (congrArg₂ (· + ·) (congrArg₂ (· + ·) ?_ ?_) ?_) ?_) ?_
  · exact Finset.sum_congr rfl fun k _ => congrArg₂ (· * ·) (g0b_eq V c t _ _ _ rfl rfl) (wb_eq V c t (b0.emb (ix2 j k)) _ _ (show 0 + 1 * j.val = _ by omega) (show 0 + 1 * k.val = _ by omega))
  · exact Finset.sum_congr rfl fun k _ => congrArg₂ (· * ·) (g1b_eq V c t _ _ _ rfl rfl) (wb_eq V c t (b1.emb (ix2 j k)) _ _ (show 0 + 1 * j.val = _ by omega) (show 2048 + 1 * k.val = _ by omega))
  · exact Finset.sum_congr rfl fun k _ => congrArg₂ (· * ·) (g2b_eq V c t _ _ _ rfl rfl) (wb_eq V c t (b2.emb (ix2 j k)) _ _ (show 0 + 1 * j.val = _ by omega) (show 4608 + 1 * k.val = _ by omega))
  · exact Finset.sum_congr rfl fun k _ => congrArg₂ (· * ·) (g3b_eq V c t _ _ _ rfl rfl) (wb_eq V c t (b3.emb (ix2 j k)) _ _ (show 0 + 1 * j.val = _ by omega) (show 6656 + 1 * k.val = _ by omega))
  · exact Finset.sum_congr rfl fun k _ => congrArg₂ (· * ·) (g4b_eq V c t _ _ _ rfl rfl) (wb_eq V c t (b4.emb (ix2 j k)) _ _ (show 0 + 1 * j.val = _ by omega) (show 6784 + 1 * k.val = _ by omega))

/-- The first output's block at any point: the block of the input's gradient. -/
theorem out9_eq (t : Fin cfg5.N) : (outsAt5 V c t.val t.isLt).1
    = k5_pay8 (four (g0b V c t) (g1b V c t) (g2b V c t) (g3b V c t) (wb V c t)) (k5_pay4 (g4b V c t)) (View.ld (wb V c t) b4) (View.ld (pb V c t) b5) (xb V c t) (db V c t) := by
  by_cases h0 : t.val % 16 = 0
  · rw [outsAt5_A V c t h0]
    dsimp only
    rw [first9]
  · rw [outsAt5_B V c t h0]
    dsimp only
    rw [later9]

theorem out9_apply (t : Fin cfg5.N) (r : Fin 512) (j : Fin 1024) : (outsAt5 V c t.val t.isLt).1 (ix2 r j)
    = normGrad (fun k => rd (xs V c) (512 * t.val + r.val) k.val) (fun k => dh V c (512 * t.val + r.val) k.val * rd (ps V c) 0 k.val) j
      + rd (ds V c) (512 * t.val + r.val) j.val := by
  rw [out9_eq, dx_apply]
  refine congrArg₂ (· + ·) (congrArg₂ (fun a b => normGrad a b j) (funext fun k => xb_eq V c t _ _ _ rfl rfl) (funext fun k => ?_)) (db_eq V c t _ _ _ rfl rfl)
  exact congrArg₂ (· * ·) (dh_blk V c t r k) (pb_eq V c t (b5.emb (ix2 0 k)) 0 k.val (show 0 + 1 * 0 = _ by omega) (show 0 + 1 * k.val = _ by omega))

/-- What point `t` adds to the gradient of the norm's weight. -/
def part (t q j : ℕ) : EReal := if q = 0 then ∑ r : Fin 512, dpTerm V c (512 * t + r.val) j else 0

theorem part_eq (t : Fin cfg5.N) (q : Fin 8) (j : Fin 1024) :
    (if q.val = 0 then k5_pay11 (F := Ideal) (four (g0b V c t) (g1b V c t) (g2b V c t) (g3b V c t) (wb V c t)) (k5_pay4 (g4b V c t)) (View.ld (wb V c t) b4) (xb V c t) (ix2 0 j) else 0)
      = part V c t.val q.val j.val := by
  unfold part dpTerm
  refine congrArg (fun s => if q.val = 0 then s else 0) ?_
  rw [dp_apply]
  refine Finset.sum_congr rfl fun r _ => congrArg₂ (· * ·) (dh_blk V c t r j) (congrArg₂ (· * ·) (xb_eq V c t _ _ _ rfl rfl) ?_)
  exact congrArg rs (funext fun k => xb_eq V c t _ _ _ rfl rfl)

theorem out10_eq (t : ℕ) (h : t < cfg5.N) (q : Fin 8) (j : Fin 1024) :
    (outsAt5 V c t h).2 (ix2 q j) = ∑ s ∈ Finset.range (t % 16 + 1), part V c (t / 16 * 16 + s) q.val j.val := by
  refine run_sum 16 (by decide) (fun n hn => (outsAt5 V c n hn).2 (ix2 q j)) (fun n => part V c n q.val j.val) (fun n hn h0 => ?_) (fun n hn h0 => ?_) t h
  · show (outsAt5 V c n hn).2 (ix2 q j) = _
    rw [outsAt5_A V c ⟨n, hn⟩ h0]
    dsimp only
    rw [first10, acc_apply, start_apply, zero_add]
    exact part_eq V c ⟨n, hn⟩ q j
  · show (outsAt5 V c n hn).2 (ix2 q j) = _
    rw [outsAt5_B V c ⟨n, hn⟩ h0]
    dsimp only
    rw [later10, acc_apply]
    exact congrArg _ (part_eq V c ⟨n, hn⟩ q j)

theorem flushed9 (t : Fin cfg5.N) :
    (dat5 V c).flushed 9 t = ((cfg5.win 9).blk t).view.read (Elt Ideal) (dxs V c) := by
  show (cfg5.win 9).cut (grid5.coords t) ((dat5 V c).after 9 t) = _
  rw [after5_9]
  obtain ⟨-, -, -, -, -, -, -, -, -, ⟨o0, o1⟩, -⟩ := idx_facts t
  funext y
  have e0 : (((cfg5.win 9).blk t).view.emb y 0).val = 512 * t.val + (y 0).val := by
    show win5_9.index t (0 : Fin 2) * 512 + 1 * (y 0).val = _; omega
  have e1 : (((cfg5.win 9).blk t).view.emb y 1).val = (y 1).val := by
    show win5_9.index t (1 : Fin 2) * 1024 + 1 * (y 1).val = _; omega
  show (outsAt5 V c t.val t.isLt).1 ((cfg5.win 9).xinj (grid5.coords t) y) = dxs V c (((cfg5.win 9).blk t).view.emb y)
  let r : Fin 512 := ⟨(y 0).val, (y 0).isLt⟩
  let l : Fin 1024 := ⟨(y 1).val, (y 1).isLt⟩
  unfold dxs
  rw [show (cfg5.win 9).xinj (grid5.coords t) y = ix2 r l from eq_ix2 (n0 := 512) (n1 := 1024) _, out9_apply, e0,
    show ((cfg5.win 9).blk t).view.emb y 1 = l from Fin.ext e1]
  exact congrArg _ (eq_rd (ds V c) (((cfg5.win 9).blk t).view.emb y) _ _ e0 e1).symm

/-- THE RESULT ARRAY of the input's gradient. -/
theorem final9 : (dat5 V c).arrAt 9 cfg5.N = dxs V c :=
  (dat5 V c).arrAt_eq_of_cover 9 _ (fun t _ => flushed9 V c t) fun i => by
    have hi0 : (i 0).val < 8192 := (i 0).isLt
    have hi1 : (i 1).val < 1024 := (i 1).isLt
    let t : Fin cfg5.N := ⟨(i 0).val / 512, lt_of_lt_of_eq (by omega : _ < 16) N_5.symm⟩
    obtain ⟨-, -, -, -, -, -, -, -, -, ⟨o0, o1⟩, -⟩ := idx_facts t
    refine ⟨t, flush5_9 t, ?_⟩
    show i ∈ ((View.whole main_v15_0).slice (win5_9.rect t)).set
    rw [View.set_slice_whole, Rect.mem_set_unit]
    have ht : t.val = (i 0).val / 512 := rfl
    intro a
    match a with
    | ⟨0, _⟩ => show win5_9.index t (0 : Fin 2) * 512 ≤ (i 0).val ∧ (i 0).val < win5_9.index t (0 : Fin 2) * 512 + 512; omega
    | ⟨1, _⟩ => show win5_9.index t (1 : Fin 2) * 1024 ≤ (i 1).val ∧ (i 1).val < win5_9.index t (1 : Fin 2) * 1024 + 1024; omega

theorem flushed10 (t : Fin cfg5.N) (hf : (cfg5.win 10).flush t = true) :
    (dat5 V c).flushed 10 t = ((cfg5.win 10).blk t).view.read (Elt Ideal) (dps V c) := by
  show (cfg5.win 10).cut (grid5.coords t) ((dat5 V c).after 10 t) = _
  rw [after5_10]
  have hm : t.val % 16 = 15 := (flush5_10 t).mp hf
  obtain ⟨-, -, -, -, -, -, -, -, -, -, ⟨o0, o1⟩⟩ := idx_facts t
  funext y
  have e0 : (((cfg5.win 10).blk t).view.emb y 0).val = (y 0).val := by
    show win5_10.index t (0 : Fin 2) * 8 + 1 * (y 0).val = _; omega
  have e1 : (((cfg5.win 10).blk t).view.emb y 1).val = (y 1).val := by
    show win5_10.index t (1 : Fin 2) * 1024 + 1 * (y 1).val = _; omega
  show (outsAt5 V c t.val t.isLt).2 ((cfg5.win 10).xinj (grid5.coords t) y) = dps V c (((cfg5.win 10).blk t).view.emb y)
  let r : Fin 8 := ⟨(y 0).val, (y 0).isLt⟩
  let l : Fin 1024 := ⟨(y 1).val, (y 1).isLt⟩
  have hN : t.val < 16 := lt_of_lt_of_eq t.isLt (show cfg5.N = 16 from N_5)
  unfold dps
  rw [show (cfg5.win 10).xinj (grid5.coords t) y = ix2 r l from eq_ix2 (n0 := 8) (n1 := 1024) _, out10_eq, hm, e0, e1, show t.val / 16 * 16 = 0 by omega]
  unfold part
  by_cases hr : (y 0).val = 0
  · simp only [show r.val = 0 from hr, hr, if_true, zero_add]
    exact sum_blocks 16 512 rfl fun k => dpTerm V c k (y 1).val
  · simp only [show r.val ≠ 0 from hr, hr, if_false, Finset.sum_const_zero]

/-- THE RESULT ARRAY of the gradient of the norm's weight. -/
theorem final10 : (dat5 V c).arrAt 10 cfg5.N = dps V c :=
  (dat5 V c).arrAt_eq_of_cover 10 _ (fun t hf => flushed10 V c t hf) fun i => by
    have hi0 : (i 0).val < 8 := (i 0).isLt
    have hi1 : (i 1).val < 1024 := (i 1).isLt
    let t : Fin cfg5.N := ⟨15, lt_of_lt_of_eq (by decide : 15 < 16) N_5.symm⟩
    obtain ⟨-, -, -, -, -, -, -, -, -, -, ⟨o0, o1⟩⟩ := idx_facts t
    refine ⟨t, (flush5_10 t).mpr rfl, ?_⟩
    show i ∈ ((View.whole main_v15_1).slice (win5_10.rect t)).set
    rw [View.set_slice_whole, Rect.mem_set_unit]
    intro a
    match a with
    | ⟨0, _⟩ => show win5_10.index t (0 : Fin 2) * 8 ≤ (i 0).val ∧ (i 0).val < win5_10.index t (0 : Fin 2) * 8 + 8; omega
    | ⟨1, _⟩ => show win5_10.index t (1 : Fin 2) * 1024 ≤ (i 1).val ∧ (i 1).val < win5_10.index t (1 : Fin 2) * 1024 + 1024; omega

end Cert.Proof.In.Dx

end
-- ==== Proof.In.Results.lean ====
/-
  Each result array of the kernel at the program's end, as a function of the argument arrays.
-/
module

public import proofs.«01_k».proof.Proof.Math
public import proofs.«01_k».proof.Proof.In.Spec
public import proofs.«01_k».proof.Proof.In.Host
public import proofs.«01_k».proof.Proof.In.Forward
public import proofs.«01_k».proof.Proof.In.Dw0
public import proofs.«01_k».proof.Proof.In.Dw1
public import proofs.«01_k».proof.Proof.In.Dw2
public import proofs.«01_k».proof.Proof.In.Dw3
public import proofs.«01_k».proof.Proof.In.Dx
public import proofs.«01_k».proof.Proof.Gen.KernelIdeal.Frame

@[expose] public section

set_option maxRecDepth 16384

noncomputable section

namespace Cert.Proof.In

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Argument 0 as launched. -/
abbrev a0 : S8192x1024.Idx → EReal := m ((c : Thread nD τ).loc main_arg0)
/-- Argument 1 as launched. -/
abbrev a1 : S1024.Idx → EReal := m ((c : Thread nD τ).loc main_arg1)
/-- Argument 2 as launched. -/
abbrev a2 : S1024x6912.Idx → EReal := m ((c : Thread nD τ).loc main_arg2)
/-- Argument 3 as launched. -/
abbrev a3 : S8192x2048.Idx → EReal := m ((c : Thread nD τ).loc main_arg3)
/-- Argument 4 as launched. -/
abbrev a4 : S8192x2560.Idx → EReal := m ((c : Thread nD τ).loc main_arg4)
/-- Argument 5 as launched. -/
abbrev a5 : S8192x2048.Idx → EReal := m ((c : Thread nD τ).loc main_arg5)
/-- Argument 6 as launched. -/
abbrev a6 : S8192x128.Idx → EReal := m ((c : Thread nD τ).loc main_arg6)
/-- Argument 7 as launched. -/
abbrev a7 : S8192x128.Idx → EReal := m ((c : Thread nD τ).loc main_arg7)
/-- Argument 8 as launched. -/
abbrev a8 : S8192x1024.Idx → EReal := m ((c : Thread nD τ).loc main_arg8)

/-- Row 0 of the copied norm weights, read at any number. -/
theorem entry_vd (k : ℕ) : rd (V1 m ρ c main_v3 : S8x1024.Idx → EReal) 0 k = vd (a1 m c) k :=
  rd_row (n := 7) _ (a1 m c) (entry_row m ρ c) k

/-! ## What each segment leaves alone -/

theorem keep_main_arg0_6_1 : W6 m ρ c (Proc.devRef .tc main_arg0) = W1 m ρ c (Proc.devRef .tc main_arg0) := ((W6_of m ρ c main_arg0 (by decide +kernel)).trans ((W5_of m ρ c main_arg0 (by decide +kernel)).trans ((W4_of m ρ c main_arg0 (by decide +kernel)).trans ((W3_of m ρ c main_arg0 (by decide +kernel)).trans (W2_of m ρ c main_arg0 (by decide +kernel))))))
theorem keep_main_arg8_6_1 : W6 m ρ c (Proc.devRef .tc main_arg8) = W1 m ρ c (Proc.devRef .tc main_arg8) := ((W6_of m ρ c main_arg8 (by decide +kernel)).trans ((W5_of m ρ c main_arg8 (by decide +kernel)).trans ((W4_of m ρ c main_arg8 (by decide +kernel)).trans ((W3_of m ρ c main_arg8 (by decide +kernel)).trans (W2_of m ρ c main_arg8 (by decide +kernel))))))
theorem keep_main_v10_0_8_2 : W8 m ρ c (Proc.devRef .tc main_v10_0) = W2 m ρ c (Proc.devRef .tc main_v10_0) := ((W8_of m ρ c main_v10_0 (by decide)).trans ((W7_of m ρ c main_v10_0 (by decide +kernel)).trans ((W6_of m ρ c main_v10_0 (by decide +kernel)).trans ((W5_of m ρ c main_v10_0 (by decide +kernel)).trans ((W4_of m ρ c main_v10_0 (by decide +kernel)).trans (W3_of m ρ c main_v10_0 (by decide +kernel)))))))
theorem keep_main_v10_1_8_2 : W8 m ρ c (Proc.devRef .tc main_v10_1) = W2 m ρ c (Proc.devRef .tc main_v10_1) := ((W8_of m ρ c main_v10_1 (by decide)).trans ((W7_of m ρ c main_v10_1 (by decide +kernel)).trans ((W6_of m ρ c main_v10_1 (by decide +kernel)).trans ((W5_of m ρ c main_v10_1 (by decide +kernel)).trans ((W4_of m ρ c main_v10_1 (by decide +kernel)).trans (W3_of m ρ c main_v10_1 (by decide +kernel)))))))
theorem keep_main_v10_2_8_2 : W8 m ρ c (Proc.devRef .tc main_v10_2) = W2 m ρ c (Proc.devRef .tc main_v10_2) := ((W8_of m ρ c main_v10_2 (by decide)).trans ((W7_of m ρ c main_v10_2 (by decide +kernel)).trans ((W6_of m ρ c main_v10_2 (by decide +kernel)).trans ((W5_of m ρ c main_v10_2 (by decide +kernel)).trans ((W4_of m ρ c main_v10_2 (by decide +kernel)).trans (W3_of m ρ c main_v10_2 (by decide +kernel)))))))
theorem keep_main_v10_3_8_2 : W8 m ρ c (Proc.devRef .tc main_v10_3) = W2 m ρ c (Proc.devRef .tc main_v10_3) := ((W8_of m ρ c main_v10_3 (by decide)).trans ((W7_of m ρ c main_v10_3 (by decide +kernel)).trans ((W6_of m ρ c main_v10_3 (by decide +kernel)).trans ((W5_of m ρ c main_v10_3 (by decide +kernel)).trans ((W4_of m ρ c main_v10_3 (by decide +kernel)).trans (W3_of m ρ c main_v10_3 (by decide +kernel)))))))
theorem keep_main_v10_4_8_2 : W8 m ρ c (Proc.devRef .tc main_v10_4) = W2 m ρ c (Proc.devRef .tc main_v10_4) := ((W8_of m ρ c main_v10_4 (by decide)).trans ((W7_of m ρ c main_v10_4 (by decide +kernel)).trans ((W6_of m ρ c main_v10_4 (by decide +kernel)).trans ((W5_of m ρ c main_v10_4 (by decide +kernel)).trans ((W4_of m ρ c main_v10_4 (by decide +kernel)).trans (W3_of m ρ c main_v10_4 (by decide +kernel)))))))
theorem keep_main_v10_5_3_2 : W3 m ρ c (Proc.devRef .tc main_v10_5) = W2 m ρ c (Proc.devRef .tc main_v10_5) := (W3_of m ρ c main_v10_5 (by decide +kernel))
theorem keep_main_v10_5_4_2 : W4 m ρ c (Proc.devRef .tc main_v10_5) = W2 m ρ c (Proc.devRef .tc main_v10_5) := ((W4_of m ρ c main_v10_5 (by decide +kernel)).trans (W3_of m ρ c main_v10_5 (by decide +kernel)))
theorem keep_main_v10_5_5_2 : W5 m ρ c (Proc.devRef .tc main_v10_5) = W2 m ρ c (Proc.devRef .tc main_v10_5) := ((W5_of m ρ c main_v10_5 (by decide +kernel)).trans ((W4_of m ρ c main_v10_5 (by decide +kernel)).trans (W3_of m ρ c main_v10_5 (by decide +kernel))))
theorem keep_main_v11_8_3 : W8 m ρ c (Proc.devRef .tc main_v11) = W3 m ρ c (Proc.devRef .tc main_v11) := ((W8_of m ρ c main_v11 (by decide)).trans ((W7_of m ρ c main_v11 (by decide +kernel)).trans ((W6_of m ρ c main_v11 (by decide +kernel)).trans ((W5_of m ρ c main_v11 (by decide +kernel)).trans (W4_of m ρ c main_v11 (by decide +kernel))))))
theorem keep_main_v12_8_4 : W8 m ρ c (Proc.devRef .tc main_v12) = W4 m ρ c (Proc.devRef .tc main_v12) := ((W8_of m ρ c main_v12 (by decide)).trans ((W7_of m ρ c main_v12 (by decide +kernel)).trans ((W6_of m ρ c main_v12 (by decide +kernel)).trans (W5_of m ρ c main_v12 (by decide +kernel)))))
theorem keep_main_v13_8_5 : W8 m ρ c (Proc.devRef .tc main_v13) = W5 m ρ c (Proc.devRef .tc main_v13) := ((W8_of m ρ c main_v13 (by decide)).trans ((W7_of m ρ c main_v13 (by decide +kernel)).trans (W6_of m ρ c main_v13 (by decide +kernel))))
theorem keep_main_v14_8_6 : W8 m ρ c (Proc.devRef .tc main_v14) = W6 m ρ c (Proc.devRef .tc main_v14) := ((W8_of m ρ c main_v14 (by decide)).trans (W7_of m ρ c main_v14 (by decide +kernel)))
theorem keep_main_v15_0_8_7 : W8 m ρ c (Proc.devRef .tc main_v15_0) = W7 m ρ c (Proc.devRef .tc main_v15_0) := (W8_of m ρ c main_v15_0 (by decide))
theorem keep_main_v3_6_1 : W6 m ρ c (Proc.devRef .tc main_v3) = W1 m ρ c (Proc.devRef .tc main_v3) := ((W6_of m ρ c main_v3 (by decide +kernel)).trans ((W5_of m ρ c main_v3 (by decide +kernel)).trans ((W4_of m ρ c main_v3 (by decide +kernel)).trans ((W3_of m ρ c main_v3 (by decide +kernel)).trans (W2_of m ρ c main_v3 (by decide +kernel))))))
theorem keep_main_v4_6_1 : W6 m ρ c (Proc.devRef .tc main_v4) = W1 m ρ c (Proc.devRef .tc main_v4) := ((W6_of m ρ c main_v4 (by decide +kernel)).trans ((W5_of m ρ c main_v4 (by decide +kernel)).trans ((W4_of m ρ c main_v4 (by decide +kernel)).trans ((W3_of m ρ c main_v4 (by decide +kernel)).trans (W2_of m ρ c main_v4 (by decide +kernel))))))
theorem keep_main_v5_2_1 : W2 m ρ c (Proc.devRef .tc main_v5) = W1 m ρ c (Proc.devRef .tc main_v5) := (W2_of m ρ c main_v5 (by decide +kernel))
theorem keep_main_v5_6_1 : W6 m ρ c (Proc.devRef .tc main_v5) = W1 m ρ c (Proc.devRef .tc main_v5) := ((W6_of m ρ c main_v5 (by decide +kernel)).trans ((W5_of m ρ c main_v5 (by decide +kernel)).trans ((W4_of m ρ c main_v5 (by decide +kernel)).trans ((W3_of m ρ c main_v5 (by decide +kernel)).trans (W2_of m ρ c main_v5 (by decide +kernel))))))
theorem keep_main_v6_3_1 : W3 m ρ c (Proc.devRef .tc main_v6) = W1 m ρ c (Proc.devRef .tc main_v6) := ((W3_of m ρ c main_v6 (by decide +kernel)).trans (W2_of m ρ c main_v6 (by decide +kernel)))
theorem keep_main_v6_6_1 : W6 m ρ c (Proc.devRef .tc main_v6) = W1 m ρ c (Proc.devRef .tc main_v6) := ((W6_of m ρ c main_v6 (by decide +kernel)).trans ((W5_of m ρ c main_v6 (by decide +kernel)).trans ((W4_of m ρ c main_v6 (by decide +kernel)).trans ((W3_of m ρ c main_v6 (by decide +kernel)).trans (W2_of m ρ c main_v6 (by decide +kernel))))))
theorem keep_main_v7_4_1 : W4 m ρ c (Proc.devRef .tc main_v7) = W1 m ρ c (Proc.devRef .tc main_v7) := ((W4_of m ρ c main_v7 (by decide +kernel)).trans ((W3_of m ρ c main_v7 (by decide +kernel)).trans (W2_of m ρ c main_v7 (by decide +kernel))))
theorem keep_main_v7_6_1 : W6 m ρ c (Proc.devRef .tc main_v7) = W1 m ρ c (Proc.devRef .tc main_v7) := ((W6_of m ρ c main_v7 (by decide +kernel)).trans ((W5_of m ρ c main_v7 (by decide +kernel)).trans ((W4_of m ρ c main_v7 (by decide +kernel)).trans ((W3_of m ρ c main_v7 (by decide +kernel)).trans (W2_of m ρ c main_v7 (by decide +kernel))))))
theorem keep_main_v8_5_1 : W5 m ρ c (Proc.devRef .tc main_v8) = W1 m ρ c (Proc.devRef .tc main_v8) := ((W5_of m ρ c main_v8 (by decide +kernel)).trans ((W4_of m ρ c main_v8 (by decide +kernel)).trans ((W3_of m ρ c main_v8 (by decide +kernel)).trans (W2_of m ρ c main_v8 (by decide +kernel)))))
theorem keep_main_v8_6_1 : W6 m ρ c (Proc.devRef .tc main_v8) = W1 m ρ c (Proc.devRef .tc main_v8) := ((W6_of m ρ c main_v8 (by decide +kernel)).trans ((W5_of m ρ c main_v8 (by decide +kernel)).trans ((W4_of m ρ c main_v8 (by decide +kernel)).trans ((W3_of m ρ c main_v8 (by decide +kernel)).trans (W2_of m ρ c main_v8 (by decide +kernel))))))
theorem keep_main_v9_5_1 : W5 m ρ c (Proc.devRef .tc main_v9) = W1 m ρ c (Proc.devRef .tc main_v9) := ((W5_of m ρ c main_v9 (by decide +kernel)).trans ((W4_of m ρ c main_v9 (by decide +kernel)).trans ((W3_of m ρ c main_v9 (by decide +kernel)).trans (W2_of m ρ c main_v9 (by decide +kernel)))))
theorem keep_main_v9_6_1 : W6 m ρ c (Proc.devRef .tc main_v9) = W1 m ρ c (Proc.devRef .tc main_v9) := ((W6_of m ρ c main_v9 (by decide +kernel)).trans ((W5_of m ρ c main_v9 (by decide +kernel)).trans ((W4_of m ρ c main_v9 (by decide +kernel)).trans ((W3_of m ρ c main_v9 (by decide +kernel)).trans (W2_of m ρ c main_v9 (by decide +kernel))))))
theorem entry_main_arg0 : (V1 m ρ c main_arg0 : S8192x1024.Idx → EReal) = m ((c : Thread nD τ).loc main_arg0) := (W1_of m ρ c main_arg0 (by decide)).trans rfl
theorem entry_main_arg8 : (V1 m ρ c main_arg8 : S8192x1024.Idx → EReal) = m ((c : Thread nD τ).loc main_arg8) := (W1_of m ρ c main_arg8 (by decide)).trans rfl

/-! ## The forward call -/

/-- The normalised rows as the forward call computes them. -/
theorem hn_eq (i k : ℕ) : Forward.hn (V1 m ρ) c i k = normed (a0 m c) (vd (a1 m c)) i k := by
  unfold Forward.hn normed Forward.xs Forward.ps
  rw [entry_vd, entry_main_arg0]

theorem band_eq (off n : ℕ) : Forward.band (V1 m ρ) c off (n := n) = proj (a0 m c) (vd (a1 m c)) (a2 m c) off (n := n) := by
  funext i
  unfold Forward.band proj Forward.ws
  refine Finset.sum_congr rfl fun k _ => ?_
  rw [hn_eq, entry_v4]

theorem hT_eq (i : Fin 1024) (k : Fin 8192) : Forward.hT (V1 m ρ) c (ix2 i k) = normed (a0 m c) (vd (a1 m c)) k.val i.val :=
  hn_eq m ρ c _ _

/-- The transposed normalised rows after the forward call. -/
theorem left_eq : (V2 m ρ c main_v10_5 : S1024x8192.Idx → EReal) = Forward.hT (V1 m ρ) c :=
  (W2_arr m ρ c 8).trans (Forward.final8 (V1 m ρ) c)

/-- Band 0 of the projection. -/
theorem res_band0 : (W8 m ρ c (Proc.devRef .tc main_v10_0) : S8192x2048.Idx → EReal) = proj (a0 m c) (vd (a1 m c)) (a2 m c) 0 :=
  (keep_main_v10_0_8_2 m ρ c).trans ((W2_arr m ρ c 3).trans ((Forward.final3 (V1 m ρ) c).trans (band_eq m ρ c 0 2048)))

/-- Band 1 of the projection. -/
theorem res_band1 : (W8 m ρ c (Proc.devRef .tc main_v10_1) : S8192x2560.Idx → EReal) = proj (a0 m c) (vd (a1 m c)) (a2 m c) 2048 :=
  (keep_main_v10_1_8_2 m ρ c).trans ((W2_arr m ρ c 4).trans ((Forward.final4 (V1 m ρ) c).trans (band_eq m ρ c 2048 2560)))

/-- Band 2 of the projection. -/
theorem res_band2 : (W8 m ρ c (Proc.devRef .tc main_v10_2) : S8192x2048.Idx → EReal) = proj (a0 m c) (vd (a1 m c)) (a2 m c) 4608 :=
  (keep_main_v10_2_8_2 m ρ c).trans ((W2_arr m ρ c 5).trans ((Forward.final5 (V1 m ρ) c).trans (band_eq m ρ c 4608 2048)))

/-- Band 3 of the projection. -/
theorem res_band3 : (W8 m ρ c (Proc.devRef .tc main_v10_3) : S8192x128.Idx → EReal) = proj (a0 m c) (vd (a1 m c)) (a2 m c) 6656 :=
  (keep_main_v10_3_8_2 m ρ c).trans ((W2_arr m ρ c 6).trans ((Forward.final6 (V1 m ρ) c).trans (band_eq m ρ c 6656 128)))

/-- Band 4 of the projection. -/
theorem res_band4 : (W8 m ρ c (Proc.devRef .tc main_v10_4) : S8192x128.Idx → EReal) = proj (a0 m c) (vd (a1 m c)) (a2 m c) 6784 :=
  (keep_main_v10_4_8_2 m ρ c).trans ((W2_arr m ρ c 7).trans ((Forward.final7 (V1 m ρ) c).trans (band_eq m ρ c 6784 128)))

/-! ## The gradients of the weights -/

theorem left0 : Dw0.lhs (V2 m ρ) c = Forward.hT (V1 m ρ) c := left_eq m ρ c
theorem right0 : Dw0.rhs (V2 m ρ) c = a3 m c := (keep_main_v5_2_1 m ρ c).trans (entry_v5 m ρ c)
/-- The gradient of band 0 of the weights. -/
theorem res_dw0 : (W8 m ρ c (Proc.devRef .tc main_v11) : S1024x2048.Idx → EReal) = dwBand (a0 m c) (vd (a1 m c)) (a3 m c) := by
  refine (keep_main_v11_8_3 m ρ c).trans ((W3_arr m ρ c 2).trans ((Dw0.final (V2 m ρ) c).trans ?_))
  funext i
  unfold Dw0.prod dwBand
  rw [left0, right0]
  refine Finset.sum_congr rfl fun k _ => congrArg₂ (· * ·) (hT_eq m ρ c (i 0) k) ?_
  exact eq_rd (a3 m c) _ _ _ rfl rfl

theorem left1 : Dw1.lhs (V3 m ρ) c = Forward.hT (V1 m ρ) c := (keep_main_v10_5_3_2 m ρ c).trans (left_eq m ρ c)
theorem right1 : Dw1.rhs (V3 m ρ) c = a4 m c := (keep_main_v6_3_1 m ρ c).trans (entry_v6 m ρ c)
/-- The gradient of band 1 of the weights. -/
theorem res_dw1 : (W8 m ρ c (Proc.devRef .tc main_v12) : S1024x2560.Idx → EReal) = dwBand (a0 m c) (vd (a1 m c)) (a4 m c) := by
  refine (keep_main_v12_8_4 m ρ c).trans ((W4_arr m ρ c 2).trans ((Dw1.final (V3 m ρ) c).trans ?_))
  funext i
  unfold Dw1.prod dwBand
  rw [left1, right1]
  refine Finset.sum_congr rfl fun k _ => congrArg₂ (· * ·) (hT_eq m ρ c (i 0) k) ?_
  exact eq_rd (a4 m c) _ _ _ rfl rfl

theorem left2 : Dw2.lhs (V4 m ρ) c = Forward.hT (V1 m ρ) c := (keep_main_v10_5_4_2 m ρ c).trans (left_eq m ρ c)
theorem right2 : Dw2.rhs (V4 m ρ) c = a5 m c := (keep_main_v7_4_1 m ρ c).trans (entry_v7 m ρ c)
/-- The gradient of band 2 of the weights. -/
theorem res_dw2 : (W8 m ρ c (Proc.devRef .tc main_v13) : S1024x2048.Idx → EReal) = dwBand (a0 m c) (vd (a1 m c)) (a5 m c) := by
  refine (keep_main_v13_8_5 m ρ c).trans ((W5_arr m ρ c 2).trans ((Dw2.final (V4 m ρ) c).trans ?_))
  funext i
  unfold Dw2.prod dwBand
  rw [left2, right2]
  refine Finset.sum_congr rfl fun k _ => congrArg₂ (· * ·) (hT_eq m ρ c (i 0) k) ?_
  exact eq_rd (a5 m c) _ _ _ rfl rfl

theorem left3 : Dw3.lhs (V5 m ρ) c = Forward.hT (V1 m ρ) c := (keep_main_v10_5_5_2 m ρ c).trans (left_eq m ρ c)
theorem right3 : Dw3.rhs0 (V5 m ρ) c = a6 m c := (keep_main_v8_5_1 m ρ c).trans (entry_v8 m ρ c)
theorem right4 : Dw3.rhs1 (V5 m ρ) c = a7 m c := (keep_main_v9_5_1 m ρ c).trans (entry_v9 m ρ c)
/-- The gradient of the last band of the weights. -/
theorem res_dw3 : (W8 m ρ c (Proc.devRef .tc main_v14) : S1024x256.Idx → EReal) = dwLast (a0 m c) (vd (a1 m c)) (a6 m c) (a7 m c) := by
  refine (keep_main_v14_8_6 m ρ c).trans ((W6_arr m ρ c 3).trans ((Dw3.final (V5 m ρ) c).trans ?_))
  funext i
  unfold Dw3.prod dwLast
  rw [left3, right3, right4]
  exact Finset.sum_congr rfl fun k _ => congrArg₂ (· * ·) (hT_eq m ρ c (i 0) k) rfl

/-! ## The gradients of the input and of the norm's weights -/

theorem at_g0s : Dx.g0s (V6 m ρ) c = a3 m c := (keep_main_v5_6_1 m ρ c).trans (entry_v5 m ρ c)
theorem at_g1s : Dx.g1s (V6 m ρ) c = a4 m c := (keep_main_v6_6_1 m ρ c).trans (entry_v6 m ρ c)
theorem at_g2s : Dx.g2s (V6 m ρ) c = a5 m c := (keep_main_v7_6_1 m ρ c).trans (entry_v7 m ρ c)
theorem at_g3s : Dx.g3s (V6 m ρ) c = a6 m c := (keep_main_v8_6_1 m ρ c).trans (entry_v8 m ρ c)
theorem at_g4s : Dx.g4s (V6 m ρ) c = a7 m c := (keep_main_v9_6_1 m ρ c).trans (entry_v9 m ρ c)
theorem at_ws : Dx.ws (V6 m ρ) c = a2 m c := (keep_main_v4_6_1 m ρ c).trans (entry_v4 m ρ c)
theorem at_xs : Dx.xs (V6 m ρ) c = a0 m c := (keep_main_arg0_6_1 m ρ c).trans (entry_main_arg0 m ρ c)
theorem at_ds : Dx.ds (V6 m ρ) c = a8 m c := (keep_main_arg8_6_1 m ρ c).trans (entry_main_arg8 m ρ c)
theorem at_ps (k : ℕ) : rd (Dx.ps (V6 m ρ) c) 0 k = vd (a1 m c) k :=
  (congrArg (fun A : S8x1024.Idx → EReal => rd A 0 k) (keep_main_v3_6_1 m ρ c)).trans (entry_vd m ρ c k)

theorem dh_eq (i j : ℕ) : Dx.dh (V6 m ρ) c i j = dh (a2 m c) (a3 m c) (a4 m c) (a5 m c) (a6 m c) (a7 m c) i j := by
  unfold Dx.dh dh
  rw [at_g0s, at_g1s, at_g2s, at_g3s, at_g4s, at_ws]

/-- The gradient of the input. -/
theorem res_dx : (W8 m ρ c (Proc.devRef .tc main_v15_0) : S8192x1024.Idx → EReal)
    = dx (a0 m c) (vd (a1 m c)) (a2 m c) (a3 m c) (a4 m c) (a5 m c) (a6 m c) (a7 m c) (a8 m c) := by
  refine (keep_main_v15_0_8_7 m ρ c).trans ((W7_arr m ρ c 9).trans ((Dx.final9 (V6 m ρ) c).trans ?_))
  funext i
  unfold Dx.dxs dx
  rw [at_xs, at_ds]
  refine congrArg₂ (· + ·) (congrArg (fun d => normGrad _ d (i 1)) (funext fun k => ?_)) rfl
  rw [dh_eq, at_ps]

/-- The gradient of the norm's weights. -/
theorem res_dp : (W8 m ρ c (Proc.devRef .tc main_v17) : S1024.Idx → EReal)
    = dp (a0 m c) (a2 m c) (a3 m c) (a4 m c) (a5 m c) (a6 m c) (a7 m c) := by
  have h : (W7 m ρ c (Proc.devRef .tc main_v15_1) : S8x1024.Idx → EReal) = Dx.dps (V6 m ρ) c :=
    (W7_arr m ρ c 10).trans (Dx.final10 (V6 m ρ) c)
  funext i
  obtain ⟨j, rfl⟩ : ∃ j : Fin 1024, i = ix1 j := ⟨i 0, eq_ix1 i⟩
  show (StableHlo.after hostOps6 (W7 m ρ c) (Proc.devRef .tc main_v17) : S1024.Idx → EReal) (ix1 j) = _
  have e : (StableHlo.after hostOps6 (W7 m ρ c) (Proc.devRef .tc main_v17) : S1024.Idx → EReal) (ix1 j)
      = (W7 m ρ c (Proc.devRef .tc main_v15_1) : S8x1024.Idx → EReal) (ix2 0 j) := by
    generalize W7 m ρ c = w
    after_reads_at
  have key : Dx.dps (V6 m ρ) c (ix2 0 j) = dp (a0 m c) (a2 m c) (a3 m c) (a4 m c) (a5 m c) (a6 m c) (a7 m c) (ix1 j) := by
    unfold Dx.dps dp
    refine (if_pos rfl).trans (Finset.sum_congr rfl fun k _ => ?_)
    unfold Dx.dpTerm
    rw [dh_eq, at_xs]
    rfl
  rw [e, h]
  exact key

end Cert.Proof.In

end
-- ==== Proof.In.Ref.lean ====
/-
  The results of the in-projection's reference, as functions of the argument arrays.
-/
module

public import proofs.«01_k».proof.Proof.In.Spec
public import proofs.«01_k».proof.Proof.Gen.ReferenceIdeal.Read

@[expose] public section

set_option maxRecDepth 16384

noncomputable section

namespace Cert.Proof.In.Ref

open Cert.ReferenceIdeal Cert.ReferenceIdeal.Gen Cert.ReferenceIdeal.Read Idealize.ShloMosaic Idealize.ShloMosaic.TcCoe Idealize.SL.Sem

variable (x0 : S8192x1024.Idx → EReal) (x1 : S1024.Idx → EReal) (x2 : S1024x6912.Idx → EReal) (x3 : S8192x2048.Idx → EReal)
  (x4 : S8192x2560.Idx → EReal) (x5 : S8192x2048.Idx → EReal) (x6 x7 : S8192x128.Idx → EReal) (x8 : S8192x1024.Idx → EReal)

/-- The mean square of a row, with the small constant added. -/
theorem v6_at (i : Fin 8192) : val_main_v6 (F := Ideal) x0 (ix2 i 0) = ms (fun q : Fin 1024 => rd x0 i.val q.val) := by
  pointwise [val_main_v6, val_main_v5, val_main_v4, val_main_v3, val_main_v2, val_main_v1, val_main_v0, val_main_cst, val_main_cst_0, val_main_cst_1]
  unfold ms
  rw [lit_1024, div_1024]
  simp only [rd_ix2]

/-- The factor of a row. -/
theorem v7_at (i : Fin 8192) : val_main_v7 (F := Ideal) x0 (ix2 i 0) = rs (fun q : Fin 1024 => rd x0 i.val q.val) := by
  rw [val_main_v7_apply, rs, ← v6_at]
  rfl

/-- The scaled rows. -/
theorem v12_at (i : Fin 8192) (k : Fin 1024) :
    val_main_v12 (F := Ideal) x0 (ix2 i k) = rd x0 i.val k.val * rs (fun q : Fin 1024 => rd x0 i.val q.val) := by
  rw [← v7_at, rd_ix2]
  pointwise [val_main_v12, val_main_v11]

/-- The normalised rows. -/
theorem v15_at (i : Fin 8192) (k : Fin 1024) : val_main_v15 (F := Ideal) x0 x1 (ix2 i k) = normed x0 (vd x1) i.val k.val := by
  unfold normed
  rw [← v12_at, vd_ix1]
  pointwise [val_main_v15, val_main_v14, val_main_v13]

/-- The five cotangents side by side. -/
def wide (i l : ℕ) : EReal :=
  if l < 2048 then rd x3 i l else if l < 4608 then rd x4 i (l - 2048) else if l < 6656 then rd x5 i (l - 4608) else beside x6 x7 i (l - 6656)

theorem v30_at (i : Fin 8192) (l : Fin 6912) : val_main_v30 (F := Ideal) x3 x4 x5 x6 x7 (ix2 i l) = wide x3 x4 x5 x6 x7 i.val l.val := by
  pointwise [val_main_v30, val_main_v29, val_main_v28, val_main_v27, val_main_v26, val_main_v25, val_main_v24, val_main_v23, val_main_v22, val_main_cst_3, val_main_cst_4, val_main_cst_5, val_main_cst_6, val_main_cst_7]
  unfold wide beside
  have hl := l.isLt
  split_ifs <;> first
    | (exfalso; omega)
    | (simp only [add_zero, zero_add]; exact (rd_ix2 _ _ _).symm.trans (congrArg (rd _ _) (by first | (dsimp only; done) | (dsimp only; omega))))

/-- A sum over all 6912 columns is the sum over the five bands. -/
theorem sum_bands (f : ℕ → EReal) : ∑ l : Fin 6912, f l.val
    = ∑ k : Fin 2048, f k.val + ∑ k : Fin 2560, f (2048 + k.val) + ∑ k : Fin 2048, f (4608 + k.val) + ∑ k : Fin 128, f (6656 + k.val)
      + ∑ k : Fin 128, f (6784 + k.val) := by
  simp only [Fin.sum_univ_eq_sum_range (fun k => f k), Fin.sum_univ_eq_sum_range (fun k => f (2048 + k)), Fin.sum_univ_eq_sum_range (fun k => f (4608 + k)),
    Fin.sum_univ_eq_sum_range (fun k => f (6656 + k)), Fin.sum_univ_eq_sum_range (fun k => f (6784 + k))]
  rw [← Finset.sum_range_add f 2048 2560, ← Finset.sum_range_add f 4608 2048, ← Finset.sum_range_add f 6656 128, ← Finset.sum_range_add f 6784 128]

/-- The gradient of the normalised rows. -/
theorem v33_at (i : Fin 8192) (j : Fin 1024) :
    val_main_v33 (F := Ideal) x2 x3 x4 x5 x6 x7 (ix2 i j) = dh x2 x3 x4 x5 x6 x7 i.val j.val := by
  rw [val_main_v33_apply]
  have e : ∀ k : Fin 6912, val_main_v30 (F := Ideal) x3 x4 x5 x6 x7 (lidx_main_v33 (ix2 i j) k) * x2 (ridx_main_v33 (ix2 i j) k)
      = (fun l => wide x3 x4 x5 x6 x7 i.val l * rd x2 j.val l) k.val := fun k =>
    congrArg₂ (· * ·) ((congrArg _ (eq_ix2 _)).trans (v30_at x3 x4 x5 x6 x7 i k)) (eq_rd x2 _ _ _ rfl rfl)
  refine (Finset.sum_congr rfl fun k _ => e k).trans ((sum_bands (fun l => wide x3 x4 x5 x6 x7 i.val l * rd x2 j.val l)).trans ?_)
  unfold dh
  refine congrArg₂ (· + ·) (congrArg₂ (· + ·) (congrArg₂ (· + ·) (congrArg₂ (· + ·) ?_ ?_) ?_) ?_) ?_ <;>
    refine Finset.sum_congr rfl fun k _ => congrArg (· * _) ?_ <;> (have hk := k.isLt; unfold wide beside)
  · rw [if_pos hk]
  · rw [if_neg (by omega), if_pos (by omega), Nat.add_sub_cancel_left]
  · rw [if_neg (by omega), if_neg (by omega), if_pos (by omega), Nat.add_sub_cancel_left]
  · rw [if_neg (by omega), if_neg (by omega), if_neg (by omega), if_pos (by omega), Nat.add_sub_cancel_left]
  · rw [if_neg (by omega), if_neg (by omega), if_neg (by omega), if_neg (by omega), show 6784 + k.val - 6656 - 128 = k.val by omega]

/-- The gradient of the weights, in the order of their columns. -/
theorem v32_at (i : Fin 1024) (l : Fin 6912) : val_main_v32 (F := Ideal) x0 x1 x3 x4 x5 x6 x7 (ix2 i l)
    = ∑ k : Fin 8192, normed x0 (vd x1) k.val i.val * wide x3 x4 x5 x6 x7 k.val l.val := by
  have e : val_main_v32 (F := Ideal) x0 x1 x3 x4 x5 x6 x7 (ix2 i l) = val_main_v31 (F := Ideal) x0 x1 x3 x4 x5 x6 x7 (ix2 l i) := by
    pointwise [val_main_v32]
  rw [e, val_main_v31_apply]
  refine Finset.sum_congr rfl fun k _ => ?_
  rw [mul_comm]
  exact congrArg₂ (· * ·) ((congrArg _ (eq_ix2 _)).trans (v15_at x0 x1 k i)) ((congrArg _ (eq_ix2 _)).trans (v30_at x3 x4 x5 x6 x7 k l))

/-! ## The results -/

/-- Band 0 of the projection. -/
theorem res_band0 : val_main_v17 (F := Ideal) x0 x1 x2 = proj x0 (vd x1) x2 0 := by
  funext i
  rw [val_main_v17_apply, val_main_v16_apply]
  unfold proj
  refine Finset.sum_congr rfl fun k _ => congrArg₂ (· * ·) ((congrArg _ (eq_ix2 _)).trans (v15_at x0 x1 (i 0) k)) (eq_rd x2 _ _ _ rfl (Nat.zero_add _).symm)

/-- Band 1 of the projection. -/
theorem res_band1 : val_main_v18 (F := Ideal) x0 x1 x2 = proj x0 (vd x1) x2 2048 := by
  funext i
  rw [val_main_v18_apply, val_main_v16_apply]
  unfold proj
  refine Finset.sum_congr rfl fun k _ => congrArg₂ (· * ·) ((congrArg _ (eq_ix2 _)).trans (v15_at x0 x1 (i 0) k)) (eq_rd x2 _ _ _ rfl rfl)

/-- Band 2 of the projection. -/
theorem res_band2 : val_main_v19 (F := Ideal) x0 x1 x2 = proj x0 (vd x1) x2 4608 := by
  funext i
  rw [val_main_v19_apply, val_main_v16_apply]
  unfold proj
  refine Finset.sum_congr rfl fun k _ => congrArg₂ (· * ·) ((congrArg _ (eq_ix2 _)).trans (v15_at x0 x1 (i 0) k)) (eq_rd x2 _ _ _ rfl rfl)

/-- Band 3 of the projection. -/
theorem res_band3 : val_main_v20 (F := Ideal) x0 x1 x2 = proj x0 (vd x1) x2 6656 := by
  funext i
  rw [val_main_v20_apply, val_main_v16_apply]
  unfold proj
  refine Finset.sum_congr rfl fun k _ => congrArg₂ (· * ·) ((congrArg _ (eq_ix2 _)).trans (v15_at x0 x1 (i 0) k)) (eq_rd x2 _ _ _ rfl rfl)

/-- Band 4 of the projection. -/
theorem res_band4 : val_main_v21 (F := Ideal) x0 x1 x2 = proj x0 (vd x1) x2 6784 := by
  funext i
  rw [val_main_v21_apply, val_main_v16_apply]
  unfold proj
  refine Finset.sum_congr rfl fun k _ => congrArg₂ (· * ·) ((congrArg _ (eq_ix2 _)).trans (v15_at x0 x1 (i 0) k)) (eq_rd x2 _ _ _ rfl rfl)

/-- The gradient of band 0 of the weights. -/
theorem res_dw0 : val_main_v55 (F := Ideal) x0 x1 x3 x4 x5 x6 x7 = dwBand x0 (vd x1) x3 := by
  funext i
  obtain ⟨r, l, rfl⟩ : ∃ (r : Fin 1024) (l : Fin 2048), i = ix2 r l := ⟨i 0, i 1, eq_ix2 i⟩
  have hi : l.val < 2048 := l.isLt
  have e : val_main_v55 (F := Ideal) x0 x1 x3 x4 x5 x6 x7 (ix2 r l)
      = val_main_v32 (F := Ideal) x0 x1 x3 x4 x5 x6 x7 (ix2 r ⟨l.val, by omega⟩) := by
    pointwise [val_main_v55]
  rw [e, v32_at]
  unfold dwBand
  refine Finset.sum_congr rfl fun k _ => ?_
  have w : wide x3 x4 x5 x6 x7 k.val (l.val) = rd x3 k.val l.val := by
    unfold wide
    rw [if_pos hi]
  exact congrArg (fun q => normed x0 (vd x1) k.val r.val * q) w

/-- The gradient of band 1 of the weights. -/
theorem res_dw1 : val_main_v56 (F := Ideal) x0 x1 x3 x4 x5 x6 x7 = dwBand x0 (vd x1) x4 := by
  funext i
  obtain ⟨r, l, rfl⟩ : ∃ (r : Fin 1024) (l : Fin 2560), i = ix2 r l := ⟨i 0, i 1, eq_ix2 i⟩
  have hi : l.val < 2560 := l.isLt
  have e : val_main_v56 (F := Ideal) x0 x1 x3 x4 x5 x6 x7 (ix2 r l)
      = val_main_v32 (F := Ideal) x0 x1 x3 x4 x5 x6 x7 (ix2 r ⟨2048 + l.val, by omega⟩) := by
    pointwise [val_main_v56]
  rw [e, v32_at]
  unfold dwBand
  refine Finset.sum_congr rfl fun k _ => ?_
  have w : wide x3 x4 x5 x6 x7 k.val (2048 + l.val) = rd x4 k.val l.val := by
    unfold wide
    rw [if_neg (by omega), if_pos (by omega), Nat.add_sub_cancel_left]
  exact congrArg (fun q => normed x0 (vd x1) k.val r.val * q) w

/-- The gradient of band 2 of the weights. -/
theorem res_dw2 : val_main_v57 (F := Ideal) x0 x1 x3 x4 x5 x6 x7 = dwBand x0 (vd x1) x5 := by
  funext i
  obtain ⟨r, l, rfl⟩ : ∃ (r : Fin 1024) (l : Fin 2048), i = ix2 r l := ⟨i 0, i 1, eq_ix2 i⟩
  have hi : l.val < 2048 := l.isLt
  have e : val_main_v57 (F := Ideal) x0 x1 x3 x4 x5 x6 x7 (ix2 r l)
      = val_main_v32 (F := Ideal) x0 x1 x3 x4 x5 x6 x7 (ix2 r ⟨4608 + l.val, by omega⟩) := by
    pointwise [val_main_v57]
  rw [e, v32_at]
  unfold dwBand
  refine Finset.sum_congr rfl fun k _ => ?_
  have w : wide x3 x4 x5 x6 x7 k.val (4608 + l.val) = rd x5 k.val l.val := by
    unfold wide
    rw [if_neg (by omega), if_neg (by omega), if_pos (by omega), Nat.add_sub_cancel_left]
  exact congrArg (fun q => normed x0 (vd x1) k.val r.val * q) w

/-- The gradient of the last band of the weights. -/
theorem res_dw3 : val_main_v58 (F := Ideal) x0 x1 x3 x4 x5 x6 x7 = dwLast x0 (vd x1) x6 x7 := by
  funext i
  obtain ⟨r, l, rfl⟩ : ∃ (r : Fin 1024) (l : Fin 256), i = ix2 r l := ⟨i 0, i 1, eq_ix2 i⟩
  have hi : l.val < 256 := l.isLt
  have e : val_main_v58 (F := Ideal) x0 x1 x3 x4 x5 x6 x7 (ix2 r l)
      = val_main_v32 (F := Ideal) x0 x1 x3 x4 x5 x6 x7 (ix2 r ⟨6656 + l.val, by omega⟩) := by
    pointwise [val_main_v58]
  rw [e, v32_at]
  unfold dwLast
  refine Finset.sum_congr rfl fun k _ => ?_
  have w : wide x3 x4 x5 x6 x7 k.val (6656 + l.val) = beside x6 x7 k.val l.val := by
    unfold wide
    rw [if_neg (by omega), if_neg (by omega), if_neg (by omega), Nat.add_sub_cancel_left]
  exact congrArg (fun q => normed x0 (vd x1) k.val r.val * q) w

/-- The gradient of the norm's weights. -/
theorem res_dp : val_main_v39 (F := Ideal) x0 x2 x3 x4 x5 x6 x7 = dp x0 x2 x3 x4 x5 x6 x7 := by
  funext i
  obtain ⟨j, rfl⟩ : ∃ j : Fin 1024, i = ix1 j := ⟨i 0, eq_ix1 i⟩
  have e : val_main_v39 (F := Ideal) x0 x2 x3 x4 x5 x6 x7 (ix1 j)
      = ∑ k : Fin 8192, val_main_v12 (F := Ideal) x0 (ix2 k j) * val_main_v33 (F := Ideal) x2 x3 x4 x5 x6 x7 (ix2 k j) := by
    pointwise [val_main_v39, val_main_v36, val_main_v35, val_main_v34, val_main_cst_8, val_main_cst_9]
    rw [Fin.sum_univ_one]
  rw [e]
  unfold dp
  refine Finset.sum_congr rfl fun k _ => ?_
  rw [v12_at, v33_at, mul_comm]
  rfl

/-- The gradient of the scaled rows. -/
theorem v38_at (i : Fin 8192) (j : Fin 1024) : val_main_v38 (F := Ideal) x1 x2 x3 x4 x5 x6 x7 (ix2 i j)
    = dh x2 x3 x4 x5 x6 x7 i.val j.val * vd x1 j.val := by
  rw [← v33_at, vd_ix1]
  pointwise [val_main_v38, val_main_v37, val_main_v13]

/-- The part of the input's gradient that comes through the row's factor. -/
theorem v50_at (i : Fin 8192) (j : Fin 1024) : val_main_v50 (F := Ideal) x0 x1 x2 x3 x4 x5 x6 x7 (ix2 i j)
    = viaFactor (fun k : Fin 1024 => rd x0 i.val k.val) (fun k : Fin 1024 => dh x2 x3 x4 x5 x6 x7 i.val k.val * vd x1 k.val) := by
  have e : val_main_v50 (F := Ideal) x0 x1 x2 x3 x4 x5 x6 x7 (ix2 i j)
      = Ideal.div ((∑ k : Fin 1024, x0 (ix2 i k) * val_main_v38 (F := Ideal) x1 x2 x3 x4 x5 x6 x7 (ix2 i k))
          * (Ideal.ofBits .f32 0xBF000000#32 * Ideal.div (val_main_v7 (F := Ideal) x0 (ix2 i 0)) (val_main_v6 (F := Ideal) x0 (ix2 i 0))))
        (Ideal.ofBits .f32 0x44800000#32) := by
    pointwise [val_main_v50, val_main_v49, val_main_v48, val_main_v47, val_main_v46, val_main_v42, val_main_v41, val_main_v40, val_main_v10,
      val_main_v9, val_main_v8, val_main_cst_2, val_main_cst_10, val_main_cst_11, val_main_cst_12]
    rw [Fin.sum_univ_one]
  rw [e, v7_at, v6_at, lit_neg_half, lit_1024]
  unfold viaFactor
  simp only [v38_at, rd_ix2]

/-- The gradient of the input. -/
theorem res_dx : val_main_v54 (F := Ideal) x0 x1 x2 x3 x4 x5 x6 x7 x8 = dx x0 (vd x1) x2 x3 x4 x5 x6 x7 x8 := by
  funext y
  obtain ⟨i, j, rfl⟩ : ∃ (i : Fin 8192) (j : Fin 1024), y = ix2 i j := ⟨y 0, y 1, eq_ix2 y⟩
  have e : val_main_v54 (F := Ideal) x0 x1 x2 x3 x4 x5 x6 x7 x8 (ix2 i j)
      = x8 (ix2 i j) + val_main_v38 (F := Ideal) x1 x2 x3 x4 x5 x6 x7 (ix2 i j) * val_main_v7 (F := Ideal) x0 (ix2 i 0)
          + x0 (ix2 i j) * val_main_v50 (F := Ideal) x0 x1 x2 x3 x4 x5 x6 x7 (ix2 i j)
        + val_main_v50 (F := Ideal) x0 x1 x2 x3 x4 x5 x6 x7 (ix2 i j) * x0 (ix2 i j) := by
    pointwise [val_main_v54, val_main_v53, val_main_v52, val_main_v51, val_main_v45, val_main_v44, val_main_v43]
  rw [e, v38_at, v7_at, v50_at]
  unfold dx
  show _ = normGrad (fun k => rd x0 i.val k.val) (fun k => dh x2 x3 x4 x5 x6 x7 i.val k.val * vd x1 k.val) j + x8 (ix2 i j)
  rw [normGrad_eq, add_comm _ (x8 _), ← add_assoc, ← add_assoc]
  rw [← rd_ix2 x0 i j]

end Cert.Proof.In.Ref

end
-- ==== Proof.In.Claim.lean ====
/-
  The value claim of the in-projection: over the reals the kernel's results are the reference's.
-/
module

public import proofs.«01_k».proof.Defs
public import proofs.«01_k».proof.Proof.In.Launch
public import proofs.«01_k».proof.Proof.In.Results
public import proofs.«01_k».proof.Proof.In.Ref

@[expose] public section

set_option maxRecDepth 16384

noncomputable section

namespace Cert.Proof.In

open Cert.KernelIdeal Cert.KernelIdeal.Gen Idealize.ShloMosaic Idealize.ShloMosaic.TcCoe Idealize.SL.Sem
open Idealize.ShloMosaic.Pipeline (Dat)

/-! ## The reference's results are the kernel's -/

section Agree
variable (m : (ℓ : Loc nD τ sig) → Buf (Elt Ideal) ℓ) (ρ : Dev nD → PrngReg) (c : Dev nD)
  (y0 : S8192x1024.Idx → EReal)
  (y1 : S1024.Idx → EReal)
  (y2 : S1024x6912.Idx → EReal)
  (y3 : S8192x2048.Idx → EReal)
  (y4 : S8192x2560.Idx → EReal)
  (y5 : S8192x2048.Idx → EReal)
  (y6 : S8192x128.Idx → EReal)
  (y7 : S8192x128.Idx → EReal)
  (y8 : S8192x1024.Idx → EReal)

theorem agree_band0 (h0 : y0 = a0 m c) (h1 : y1 = a1 m c) (h2 : y2 = a2 m c) :
    (Cert.ReferenceIdeal.Read.val_main_v17 (F := Ideal) y0 y1 y2 : S8192x2048.Idx → EReal) = W8 m ρ c (Proc.devRef .tc main_v10_0) := by
  subst h0 h1 h2
  exact (Ref.res_band0 _ _ _).trans (res_band0 m ρ c).symm

theorem agree_band1 (h0 : y0 = a0 m c) (h1 : y1 = a1 m c) (h2 : y2 = a2 m c) :
    (Cert.ReferenceIdeal.Read.val_main_v18 (F := Ideal) y0 y1 y2 : S8192x2560.Idx → EReal) = W8 m ρ c (Proc.devRef .tc main_v10_1) := by
  subst h0 h1 h2
  exact (Ref.res_band1 _ _ _).trans (res_band1 m ρ c).symm

theorem agree_band2 (h0 : y0 = a0 m c) (h1 : y1 = a1 m c) (h2 : y2 = a2 m c) :
    (Cert.ReferenceIdeal.Read.val_main_v19 (F := Ideal) y0 y1 y2 : S8192x2048.Idx → EReal) = W8 m ρ c (Proc.devRef .tc main_v10_2) := by
  subst h0 h1 h2
  exact (Ref.res_band2 _ _ _).trans (res_band2 m ρ c).symm

theorem agree_band3 (h0 : y0 = a0 m c) (h1 : y1 = a1 m c) (h2 : y2 = a2 m c) :
    (Cert.ReferenceIdeal.Read.val_main_v20 (F := Ideal) y0 y1 y2 : S8192x128.Idx → EReal) = W8 m ρ c (Proc.devRef .tc main_v10_3) := by
  subst h0 h1 h2
  exact (Ref.res_band3 _ _ _).trans (res_band3 m ρ c).symm

theorem agree_band4 (h0 : y0 = a0 m c) (h1 : y1 = a1 m c) (h2 : y2 = a2 m c) :
    (Cert.ReferenceIdeal.Read.val_main_v21 (F := Ideal) y0 y1 y2 : S8192x128.Idx → EReal) = W8 m ρ c (Proc.devRef .tc main_v10_4) := by
  subst h0 h1 h2
  exact (Ref.res_band4 _ _ _).trans (res_band4 m ρ c).symm

theorem agree_dx (h0 : y0 = a0 m c) (h1 : y1 = a1 m c) (h2 : y2 = a2 m c) (h3 : y3 = a3 m c) (h4 : y4 = a4 m c) (h5 : y5 = a5 m c) (h6 : y6 = a6 m c) (h7 : y7 = a7 m c) (h8 : y8 = a8 m c) :
    (Cert.ReferenceIdeal.Read.val_main_v54 (F := Ideal) y0 y1 y2 y3 y4 y5 y6 y7 y8 : S8192x1024.Idx → EReal) = W8 m ρ c (Proc.devRef .tc main_v15_0) := by
  subst h0 h1 h2 h3 h4 h5 h6 h7 h8
  exact (Ref.res_dx _ _ _ _ _ _ _ _ _).trans (res_dx m ρ c).symm

theorem agree_dp (h0 : y0 = a0 m c) (h2 : y2 = a2 m c) (h3 : y3 = a3 m c) (h4 : y4 = a4 m c) (h5 : y5 = a5 m c) (h6 : y6 = a6 m c) (h7 : y7 = a7 m c) :
    (Cert.ReferenceIdeal.Read.val_main_v39 (F := Ideal) y0 y2 y3 y4 y5 y6 y7 : S1024.Idx → EReal) = W8 m ρ c (Proc.devRef .tc main_v17) := by
  subst h0 h2 h3 h4 h5 h6 h7
  exact (Ref.res_dp _ _ _ _ _ _ _).trans (res_dp m ρ c).symm

theorem agree_dw0 (h0 : y0 = a0 m c) (h1 : y1 = a1 m c) (h3 : y3 = a3 m c) (h4 : y4 = a4 m c) (h5 : y5 = a5 m c) (h6 : y6 = a6 m c) (h7 : y7 = a7 m c) :
    (Cert.ReferenceIdeal.Read.val_main_v55 (F := Ideal) y0 y1 y3 y4 y5 y6 y7 : S1024x2048.Idx → EReal) = W8 m ρ c (Proc.devRef .tc main_v11) := by
  subst h0 h1 h3 h4 h5 h6 h7
  exact (Ref.res_dw0 _ _ _ _ _ _ _).trans (res_dw0 m ρ c).symm

theorem agree_dw1 (h0 : y0 = a0 m c) (h1 : y1 = a1 m c) (h3 : y3 = a3 m c) (h4 : y4 = a4 m c) (h5 : y5 = a5 m c) (h6 : y6 = a6 m c) (h7 : y7 = a7 m c) :
    (Cert.ReferenceIdeal.Read.val_main_v56 (F := Ideal) y0 y1 y3 y4 y5 y6 y7 : S1024x2560.Idx → EReal) = W8 m ρ c (Proc.devRef .tc main_v12) := by
  subst h0 h1 h3 h4 h5 h6 h7
  exact (Ref.res_dw1 _ _ _ _ _ _ _).trans (res_dw1 m ρ c).symm

theorem agree_dw2 (h0 : y0 = a0 m c) (h1 : y1 = a1 m c) (h3 : y3 = a3 m c) (h4 : y4 = a4 m c) (h5 : y5 = a5 m c) (h6 : y6 = a6 m c) (h7 : y7 = a7 m c) :
    (Cert.ReferenceIdeal.Read.val_main_v57 (F := Ideal) y0 y1 y3 y4 y5 y6 y7 : S1024x2048.Idx → EReal) = W8 m ρ c (Proc.devRef .tc main_v13) := by
  subst h0 h1 h3 h4 h5 h6 h7
  exact (Ref.res_dw2 _ _ _ _ _ _ _).trans (res_dw2 m ρ c).symm

theorem agree_dw3 (h0 : y0 = a0 m c) (h1 : y1 = a1 m c) (h3 : y3 = a3 m c) (h4 : y4 = a4 m c) (h5 : y5 = a5 m c) (h6 : y6 = a6 m c) (h7 : y7 = a7 m c) :
    (Cert.ReferenceIdeal.Read.val_main_v58 (F := Ideal) y0 y1 y3 y4 y5 y6 y7 : S1024x256.Idx → EReal) = W8 m ρ c (Proc.devRef .tc main_v14) := by
  subst h0 h1 h3 h4 h5 h6 h7
  exact (Ref.res_dw3 _ _ _ _ _ _ _).trans (res_dw3 m ρ c).symm

end Agree

/-- Over the reals the kernel and the reference leave the same results, and neither changes an argument. -/
theorem algebraic : Cert.algebraic_KernelIdeal_ReferenceIdeal := by
  intro m g m' g' _ hargs
  refine ⟨fun c => W8 m g c (Proc.devRef .tc main_v10_0), fun c => W8 m g c (Proc.devRef .tc main_v10_1), fun c => W8 m g c (Proc.devRef .tc main_v10_2), fun c => W8 m g c (Proc.devRef .tc main_v10_3), fun c => W8 m g c (Proc.devRef .tc main_v10_4), fun c => W8 m g c (Proc.devRef .tc main_v15_0), fun c => W8 m g c (Proc.devRef .tc main_v17), fun c => W8 m g c (Proc.devRef .tc main_v11), fun c => W8 m g c (Proc.devRef .tc main_v12), fun c => W8 m g c (Proc.devRef .tc main_v13), fun c => W8 m g c (Proc.devRef .tc main_v14), ?_, ?_⟩
  · refine (θ_run defs _ _).mono (fun r h c => ⟨h.1 c _ (mem_uc main_v10_0 (by decide)), h.1 c _ (mem_uc main_v10_1 (by decide)), h.1 c _ (mem_uc main_v10_2 (by decide)), h.1 c _ (mem_uc main_v10_3 (by decide)), h.1 c _ (mem_uc main_v10_4 (by decide)), h.1 c _ (mem_uc main_v15_0 (by decide)), h.1 c _ (mem_uc main_v17 (by decide)), h.1 c _ (mem_uc main_v11 (by decide)), h.1 c _ (mem_uc main_v12 (by decide)), h.1 c _ (mem_uc main_v13 (by decide)), h.1 c _ (mem_uc main_v14 (by decide)),
      (h.1 c _ (mem_uc main_arg0 (by decide))).trans (W8_main_arg0 m g c),
      (h.1 c _ (mem_uc main_arg1 (by decide))).trans (W8_main_arg1 m g c),
      (h.1 c _ (mem_uc main_arg2 (by decide))).trans (W8_main_arg2 m g c),
      (h.1 c _ (mem_uc main_arg3 (by decide))).trans (W8_main_arg3 m g c),
      (h.1 c _ (mem_uc main_arg4 (by decide))).trans (W8_main_arg4 m g c),
      (h.1 c _ (mem_uc main_arg5 (by decide))).trans (W8_main_arg5 m g c),
      (h.1 c _ (mem_uc main_arg6 (by decide))).trans (W8_main_arg6 m g c),
      (h.1 c _ (mem_uc main_arg7 (by decide))).trans (W8_main_arg7 m g c),
      (h.1 c _ (mem_uc main_arg8 (by decide))).trans (W8_main_arg8 m g c)⟩) (run_all m g)
  · refine (θ_run Cert.ReferenceIdeal.defs _ _).mono (fun r h c => ?_) (Cert.ReferenceIdeal.Value.run (F := Ideal) m' g')
    obtain ⟨r0, r1, r2, r3, r4, r5, r6, r7, r8, r9, r10, rest⟩ := h c
    obtain ⟨e0, e1, e2, e3, e4, e5, e6, e7, e8⟩ := hargs c
    exact ⟨
      r0.trans ((Cert.ReferenceIdeal.Read.val_main_v17_eq _ _ _).trans (agree_band0 m g c _ _ _ e0 e1 e2)),
      r1.trans ((Cert.ReferenceIdeal.Read.val_main_v18_eq _ _ _).trans (agree_band1 m g c _ _ _ e0 e1 e2)),
      r2.trans ((Cert.ReferenceIdeal.Read.val_main_v19_eq _ _ _).trans (agree_band2 m g c _ _ _ e0 e1 e2)),
      r3.trans ((Cert.ReferenceIdeal.Read.val_main_v20_eq _ _ _).trans (agree_band3 m g c _ _ _ e0 e1 e2)),
      r4.trans ((Cert.ReferenceIdeal.Read.val_main_v21_eq _ _ _).trans (agree_band4 m g c _ _ _ e0 e1 e2)),
      r5.trans ((Cert.ReferenceIdeal.Read.val_main_v54_eq m' c).trans (agree_dx m g c _ _ _ _ _ _ _ _ _ e0 e1 e2 e3 e4 e5 e6 e7 e8)),
      r6.trans ((Cert.ReferenceIdeal.Read.val_main_v39_eq _ _ _ _ _ _ _).trans (agree_dp m g c _ _ _ _ _ _ _ e0 e2 e3 e4 e5 e6 e7)),
      r7.trans ((Cert.ReferenceIdeal.Read.val_main_v55_eq _ _ _ _ _ _ _).trans (agree_dw0 m g c _ _ _ _ _ _ _ e0 e1 e3 e4 e5 e6 e7)),
      r8.trans ((Cert.ReferenceIdeal.Read.val_main_v56_eq _ _ _ _ _ _ _).trans (agree_dw1 m g c _ _ _ _ _ _ _ e0 e1 e3 e4 e5 e6 e7)),
      r9.trans ((Cert.ReferenceIdeal.Read.val_main_v57_eq _ _ _ _ _ _ _).trans (agree_dw2 m g c _ _ _ _ _ _ _ e0 e1 e3 e4 e5 e6 e7)),
      r10.trans ((Cert.ReferenceIdeal.Read.val_main_v58_eq _ _ _ _ _ _ _).trans (agree_dw3 m g c _ _ _ _ _ _ _ e0 e1 e3 e4 e5 e6 e7)),
      rest⟩

end Cert.Proof.In

end
-- ==== Proof.Out.Launch.lean ====
/-
  The run of the whole program: every buffer of every core ends at the contents the program's segments leave there, and every
  semaphore counter ends at zero.
-/
module

public import proofs.«01_k».proof.Proof.Gen.Kernel2Ideal.Frame

@[expose] public section

set_option maxRecDepth 16384

noncomputable section

namespace Cert.Proof.Out

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Proof.Out

end
-- ==== Proof.Out.Spec.lean ====
/-
  The out-projection with its root-mean-square norm, and its gradients, as functions of the argument arrays alone: what both the
  kernel and the reference are shown to compute.
-/
module

public import proofs.«01_k».proof.Proof.Math
public import proofs.«01_k».proof.Proof.In.Spec

@[expose] public section

noncomputable section

namespace Cert.Proof.Out

open Idealize.ShloMosaic

/-- Three tables of 512, 1024 and 512 columns side by side. -/
def cat {n : ℕ} (A : (⟨2, ![n, 512]⟩ : Shape).Idx → EReal) (B : (⟨2, ![n, 1024]⟩ : Shape).Idx → EReal) (C : (⟨2, ![n, 512]⟩ : Shape).Idx → EReal)
    (k l : ℕ) : EReal := if l < 512 then rd A k l else if l < 1536 then rd B k (l - 512) else rd C k (l - 1536)

section Spec
variable (A : (⟨2, ![8192, 512]⟩ : Shape).Idx → EReal) (B : (⟨2, ![8192, 1024]⟩ : Shape).Idx → EReal) (C : (⟨2, ![8192, 512]⟩ : Shape).Idx → EReal)
  (W : (⟨2, ![2048, 1024]⟩ : Shape).Idx → EReal) (Y : ℕ → ℕ → EReal) (P : ℕ → EReal) (X D : (⟨2, ![8192, 1024]⟩ : Shape).Idx → EReal)

/-- The product of the three mixers' outputs with the weights' three bands of rows. -/
def prod (i j : ℕ) : EReal :=
  ∑ k : Fin 512, rd A i k.val * rd W k.val j + ∑ k : Fin 1024, rd B i k.val * rd W (512 + k.val) j + ∑ k : Fin 512, rd C i k.val * rd W (1536 + k.val) j

/-- The factor of row `i` of the table `Y`. -/
def factor (i : ℕ) : EReal := rs (fun q : Fin 1024 => Y i q.val)

/-- The rows `Y` through the norm, added to the residual stream. -/
def next : (⟨2, ![8192, 1024]⟩ : Shape).Idx → EReal :=
  fun i => X i + Y (i 0).val (i 1).val * factor Y (i 0).val * P (i 1).val

/-- The gradient of the rows `Y` before the norm. -/
def dy (i : ℕ) (j : Fin 1024) : EReal := normGrad (fun k => Y i k.val) (fun k => rd D i k.val * P k.val) j

/-- The gradient of a band of the mixers' outputs, whose weights' rows start at `off`. -/
def dmix (off : ℕ) {n : ℕ} : (⟨2, ![8192, n]⟩ : Shape).Idx → EReal :=
  fun i => ∑ k : Fin 1024, dy Y P D (i 0).val k * rd W (off + (i 1).val) k.val

/-- The gradient of the weights. -/
def dw : (⟨2, ![2048, 1024]⟩ : Shape).Idx → EReal := fun i => ∑ k : Fin 8192, cat A B C k.val (i 0).val * dy Y P D k.val (i 1)

/-- One row's part of the gradient of the norm's weights. -/
def dqTerm (k j : ℕ) : EReal := rd D k j * (Y k j * factor Y k)

/-- The gradient of the norm's weights. -/
def dq : (⟨1, ![1024]⟩ : Shape).Idx → EReal := fun i => ∑ k : Fin 8192, dqTerm Y D k.val (i 0).val

end Spec

end Cert.Proof.Out

end
-- ==== Proof.Out.Host.lean ====
/-
  What the host operations before the first call leave in the buffers that the calls read.
-/
module

public import proofs.«01_k».proof.Proof.Math
public import proofs.«01_k».proof.Proof.Gen.Kernel2Ideal.Frame
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.Proof.Out

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The first stretch leaves argument 0 in its lower-precision copy: over the reals the same numbers. -/
theorem entry_v0 : (V1 m ρ c main_v0 : S8192x512.Idx → EReal) = (m ((c : Thread nD τ).loc main_arg0) : S8192x512.Idx → EReal) := by
  show (StableHlo.after hostOps0 (W0 m ρ c) (Proc.devRef .tc main_v0) : S8192x512.Idx → EReal) = _
  after_reads_simp
  rfl

/-- The first stretch leaves argument 1 in its lower-precision copy: over the reals the same numbers. -/
theorem entry_v1 : (V1 m ρ c main_v1 : S8192x1024.Idx → EReal) = (m ((c : Thread nD τ).loc main_arg1) : S8192x1024.Idx → EReal) := by
  show (StableHlo.after hostOps0 (W0 m ρ c) (Proc.devRef .tc main_v1) : S8192x1024.Idx → EReal) = _
  after_reads_simp
  rfl

/-- The first stretch leaves argument 2 in its lower-precision copy: over the reals the same numbers. -/
theorem entry_v2 : (V1 m ρ c main_v2 : S8192x512.Idx → EReal) = (m ((c : Thread nD τ).loc main_arg2) : S8192x512.Idx → EReal) := by
  show (StableHlo.after hostOps0 (W0 m ρ c) (Proc.devRef .tc main_v2) : S8192x512.Idx → EReal) = _
  after_reads_simp
  rfl

/-- The first stretch leaves argument 3 in its lower-precision copy: over the reals the same numbers. -/
theorem entry_v3 : (V1 m ρ c main_v3 : S2048x1024.Idx → EReal) = (m ((c : Thread nD τ).loc main_arg3) : S2048x1024.Idx → EReal) := by
  show (StableHlo.after hostOps0 (W0 m ρ c) (Proc.devRef .tc main_v3) : S2048x1024.Idx → EReal) = _
  after_reads_simp
  rfl

/-- Row 0 of the eight-row copy of the norm's weights is the weights themselves. -/
theorem entry_row (k : Fin 1024) : (V1 m ρ c main_v7 : S8x1024.Idx → EReal) (ix2 0 k)
    = (m ((c : Thread nD τ).loc main_arg5) : S1024.Idx → EReal) (ix1 k) := by
  show (StableHlo.after hostOps0 (W0 m ρ c) (Proc.devRef .tc main_v7) : S8x1024.Idx → EReal) _ = _
  after_reads_simp
  have st : ∀ (j : S1x1024.Idx) (a : Fin 2) (x : IVec S1 32), (∀ y, x y = 0#32) →
      scatter_S8x1024_S1_S1x1024_01_n_0_0.start j x a = 0 := by
    intro j a x hx
    unfold ScatterDims.start
    split
    · rw [hx]; rfl
    · rfl
  have wi : ∀ (j : S1x1024.Idx) (a : Fin 2), scatter_S8x1024_S1_S1x1024_01_n_0_0.window j a = (j a).val := by
    intro j a
    fin_cases a <;> rfl
  have hit : ∀ (j : S1x1024.Idx) (x : IVec S1 32) (_ : ∀ y, x y = 0#32) (i : S8x1024.Idx),
      scatter_S8x1024_S1_S1x1024_01_n_0_0.resultIdx? j x = some i ↔ ∀ a : Fin 2, ((j a).val : Int) = ((i a).val : Int) := by
    intro j x hx i
    rw [Routing.resultIdx?_eq_some]
    exact forall_congr' fun a => by rw [st j a x hx, wi j a, zero_add]
  refine (Routing.scatter_set_hit _ _ _ _ (ix2 0 k) ((m ((c : Thread nD τ).loc main_arg5) : S1024.Idx → EReal) (ix1 k)) (fun j hj => ?_)
    (ix2 0 k) ((hit _ _ (fun _ => rfl) _).2 fun a => by fin_cases a <;> rfl))
  have h := (hit _ _ (fun _ => rfl) _).1 hj
  have hj' : j = ix2 0 k := by
    funext a
    fin_cases a
    · exact Subsingleton.elim (α := Fin 1) _ _
    · exact Fin.ext (Int.ofNat_inj.1 (h 1))
  rw [hj']
  pointwise

end Cert.Proof.Out

end
-- ==== Proof.Out.Forward.lean ====
/-
  The out-projection: eight blocks of 1024 rows of the three mixers' outputs are multiplied with the weights' three bands of
  rows and added; the sum goes through the norm and is added to the residual stream. The result arrays are the sum and the next rows.
-/
module

public import proofs.«01_k».proof.Proof.Out.Spec
public import proofs.«01_k».proof.Proof.Gen.Kernel2Ideal.Frame.Region0
public import Idealize.ShloMosaic.Lib.Pipeline.Value

@[expose] public section

set_option maxRecDepth 16384

noncomputable section

namespace Cert.Proof.Out.Forward

open Cert.Kernel2Ideal Cert.Kernel2Ideal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One entry of a block's product. -/
theorem prod_apply (a : Vec Ideal S1024x512 .bf16) (u : Vec Ideal S512x1024 .bf16) (b : Vec Ideal S1024x1024 .bf16) (v : Vec Ideal S1024x1024 .bf16)
    (e : Vec Ideal S1024x512 .bf16) (w : Vec Ideal S512x1024 .bf16) (r : Fin 1024) (j : Fin 1024) :
    k0_pay1 (F := Ideal) a u b v e w (ix2 r j)
      = ∑ k : Fin 512, a (ix2 r k) * u (ix2 k j) + ∑ k : Fin 1024, b (ix2 r k) * v (ix2 k j) + ∑ k : Fin 512, e (ix2 r k) * w (ix2 k j) := by
  pointwise [k0_pay1]

/-- One entry of a block's next rows. -/
theorem next_apply (a : Vec Ideal S1024x512 .bf16) (u : Vec Ideal S512x1024 .bf16) (b : Vec Ideal S1024x1024 .bf16) (v : Vec Ideal S1024x1024 .bf16)
    (e : Vec Ideal S1024x512 .bf16) (w : Vec Ideal S512x1024 .bf16) (p : Vec Ideal S1x1024 .f32) (x : Vec Ideal S1024x1024 .f32) (r : Fin 1024) (j : Fin 1024) :
    k0_pay2 (F := Ideal) a u b v e w p x (ix2 r j)
      = x (ix2 r j) + k0_pay1 a u b v e w (ix2 r j) * rs (fun k => k0_pay1 a u b v e w (ix2 r k)) * p (ix2 0 j) := by
  unfold rs ms eps
  rw [← lit_inv1024]
  pointwise [k0_pay2]

variable (V : (c : Dev nD) → (b : Ref sig .tc) → Buf (Elt Ideal) ((c : Thread nD τ).loc b)) (c : Dev nD)

/-! The three mixers' outputs, the weights, the residual stream and the norm's weights, and their blocks at point `t`. -/
abbrev oas : S8192x512.Idx → EReal := V c main_v0
abbrev obs : S8192x1024.Idx → EReal := V c main_v1
abbrev ocs : S8192x512.Idx → EReal := V c main_v2
abbrev ows : S2048x1024.Idx → EReal := V c main_v3
abbrev oxs : S8192x1024.Idx → EReal := V c main_arg4
abbrev ops : S8x1024.Idx → EReal := V c main_v7
abbrev ab (t : Fin cfg0.N) : Vec Ideal S1024x512 .bf16 := iblk0 V c 0 t
abbrev bb (t : Fin cfg0.N) : Vec Ideal S1024x1024 .bf16 := iblk0 V c 1 t
abbrev cb (t : Fin cfg0.N) : Vec Ideal S1024x512 .bf16 := iblk0 V c 2 t
abbrev wb (t : Fin cfg0.N) : Vec Ideal S2048x1024 .bf16 := iblk0 V c 3 t
abbrev xb (t : Fin cfg0.N) : Vec Ideal S1024x1024 .f32 := iblk0 V c 4 t
abbrev pb (t : Fin cfg0.N) : Vec Ideal S8x1024 .f32 := iblk0 V c 5 t

/-- The product's entries from the whole tables. -/
abbrev ys (i j : ℕ) : EReal := prod (oas V c) (obs V c) (ocs V c) (ows V c) i j

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem ab_eq (t : Fin cfg0.N) (y : S1024x512.Idx) (q k : ℕ) (h0 : (y 0).val = q) (h1 : (y 1).val = k) : ab V c t y = rd (oas V c) (1024 * t.val + q) k := by
  obtain ⟨⟨a0, a1⟩, -, -, -, -, -, -, -⟩ := idx_facts t
  exact eq_rd (oas V c) (((cfg0.win 0).blk t).view.emb y) _ _
    (show win0_0.index t (0 : Fin 2) * 1024 + 1 * (y 0).val = _ by omega) (show win0_0.index t (1 : Fin 2) * 512 + 1 * (y 1).val = _ by omega)
theorem bb_eq (t : Fin cfg0.N) (y : S1024x1024.Idx) (q k : ℕ) (h0 : (y 0).val = q) (h1 : (y 1).val = k) : bb V c t y = rd (obs V c) (1024 * t.val + q) k := by
  obtain ⟨-, ⟨a0, a1⟩, -, -, -, -, -, -⟩ := idx_facts t
  exact eq_rd (obs V c) (((cfg0.win 1).blk t).view.emb y) _ _
    (show win0_1.index t (0 : Fin 2) * 1024 + 1 * (y 0).val = _ by omega) (show win0_1.index t (1 : Fin 2) * 1024 + 1 * (y 1).val = _ by omega)
theorem cb_eq (t : Fin cfg0.N) (y : S1024x512.Idx) (q k : ℕ) (h0 : (y 0).val = q) (h1 : (y 1).val = k) : cb V c t y = rd (ocs V c) (1024 * t.val + q) k := by
  obtain ⟨-, -, ⟨a0, a1⟩, -, -, -, -, -⟩ := idx_facts t
  exact eq_rd (ocs V c) (((cfg0.win 2).blk t).view.emb y) _ _
    (show win0_2.index t (0 : Fin 2) * 1024 + 1 * (y 0).val = _ by omega) (show win0_2.index t (1 : Fin 2) * 512 + 1 * (y 1).val = _ by omega)
theorem wb_eq (t : Fin cfg0.N) (y : S2048x1024.Idx) (q k : ℕ) (h0 : (y 0).val = q) (h1 : (y 1).val = k) : wb V c t y = rd (ows V c) (q) k := by
  obtain ⟨-, -, -, ⟨a0, a1⟩, -, -, -, -⟩ := idx_facts t
  exact eq_rd (ows V c) (((cfg0.win 3).blk t).view.emb y) _ _
    (show win0_3.index t (0 : Fin 2) * 2048 + 1 * (y 0).val = _ by omega) (show win0_3.index t (1 : Fin 2) * 1024 + 1 * (y 1).val = _ by omega)
theorem xb_eq (t : Fin cfg0.N) (y : S1024x1024.Idx) (q k : ℕ) (h0 : (y 0).val = q) (h1 : (y 1).val = k) : xb V c t y = rd (oxs V c) (1024 * t.val + q) k := by
  obtain ⟨-, -, -, -, ⟨a0, a1⟩, -, -, -⟩ := idx_facts t
  exact eq_rd (oxs V c) (((cfg0.win 4).blk t).view.emb y) _ _
    (show win0_4.index t (0 : Fin 2) * 1024 + 1 * (y 0).val = _ by omega) (show win0_4.index t (1 : Fin 2) * 1024 + 1 * (y 1).val = _ by omega)
theorem pb_eq (t : Fin cfg0.N) (y : S8x1024.Idx) (q k : ℕ) (h0 : (y 0).val = q) (h1 : (y 1).val = k) : pb V c t y = rd (ops V c) (q) k := by
  obtain ⟨-, -, -, -, -, ⟨a0, a1⟩, -, -⟩ := idx_facts t
  exact eq_rd (ops V c) (((cfg0.win 5).blk t).view.emb y) _ _
    (show win0_5.index t (0 : Fin 2) * 8 + 1 * (y 0).val = _ by omega) (show win0_5.index t (1 : Fin 2) * 1024 + 1 * (y 1).val = _ by omega)

/-- The block's product is the whole tables'. -/
theorem prod_blk (t : Fin cfg0.N) (r : Fin 1024) (j : Fin 1024) :
    k0_pay1 (F := Ideal) (View.ld (ab V c t) r0_0) (View.ld (wb V c t) r0_1) (View.ld (bb V c t) r0_2) (View.ld (wb V c t) r0_3) (View.ld (cb V c t) r0_0)
        (View.ld (wb V c t) r0_4) (ix2 r j) = ys V c (1024 * t.val + r.val) j.val := by
  rw [prod_apply, View.ld_unit_zero (S := S1024x512) hz, View.ld_unit_zero (S := S1024x512) hz, View.ld_unit_zero (S := S1024x1024) hz]
  unfold ys prod
  refine congrArg₂ (· + ·) (congrArg₂ (· + ·) ?_ ?_) ?_
  · exact Finset.sum_congr rfl fun k _ => congrArg₂ (· * ·) (ab_eq V c t _ _ _ rfl rfl) (wb_eq V c t (r0_1.emb (ix2 k j)) _ _ (show 0 + 1 * k.val = _ by omega) (show 0 + 1 * j.val = _ by omega))
  · exact Finset.sum_congr rfl fun k _ => congrArg₂ (· * ·) (bb_eq V c t _ _ _ rfl rfl) (wb_eq V c t (r0_3.emb (ix2 k j)) _ _ (show 512 + 1 * k.val = _ by omega) (show 0 + 1 * j.val = _ by omega))
  · exact Finset.sum_congr rfl fun k _ => congrArg₂ (· * ·) (cb_eq V c t _ _ _ rfl rfl) (wb_eq V c t (r0_4.emb (ix2 k j)) _ _ (show 1536 + 1 * k.val = _ by omega) (show 0 + 1 * j.val = _ by omega))

/-- The product as a table. -/
def out : S8192x1024.Idx → EReal := fun i => ys V c (i 0).val (i 1).val

/-- The next rows as a table. -/
abbrev nxt : S8192x1024.Idx → EReal := next (ys V c) (rd (ops V c) 0) (oxs V c)

theorem flushed6 (t : Fin cfg0.N) :
    (dat0 V c).flushed 6 t = ((cfg0.win 6).blk t).view.read (Elt Ideal) (out V c) := by
  show (cfg0.win 6).cut (grid0.coords t) ((dat0 V c).after 6 t) = _
  rw [after0_6]
  obtain ⟨-, -, -, -, -, -, ⟨o0, o1⟩, -⟩ := idx_facts t
  funext y
  have e0 : (((cfg0.win 6).blk t).view.emb y 0).val = 1024 * t.val + (y 0).val := by
    show win0_6.index t (0 : Fin 2) * 1024 + 1 * (y 0).val = _; omega
  have e1 : (((cfg0.win 6).blk t).view.emb y 1).val = (y 1).val := by
    show win0_6.index t (1 : Fin 2) * 1024 + 1 * (y 1).val = _; omega
  show out0_6 (ab V c t) (bb V c t) (cb V c t) (wb V c t) (xb V c t) (pb V c t) ((cfg0.win 6).xinj (grid0.coords t) y) = out V c (((cfg0.win 6).blk t).view.emb y)
  let r : Fin 1024 := ⟨(y 0).val, (y 0).isLt⟩
  let l : Fin 1024 := ⟨(y 1).val, (y 1).isLt⟩
  have ex : (cfg0.win 6).xinj (grid0.coords t) y = ix2 r l := eq_ix2 (n0 := 1024) (n1 := 1024) _
  unfold out0_6 out
  rw [ex, View.canon_unit_zero hz, e0, e1]
  exact prod_blk V c t r l

/-- THE RESULT ARRAY of window 6. -/
theorem final6 : (dat0 V c).arrAt 6 cfg0.N = out V c :=
  (dat0 V c).arrAt_eq_of_cover 6 _ (fun t _ => flushed6 V c t) fun i => by
    have hi0 : (i 0).val < 8192 := (i 0).isLt
    have hi1 : (i 1).val < 1024 := (i 1).isLt
    let t : Fin cfg0.N := ⟨(i 0).val / 1024, lt_of_lt_of_eq (by omega : _ < 8) N_0.symm⟩
    obtain ⟨-, -, -, -, -, -, ⟨o0, o1⟩, -⟩ := idx_facts t
    refine ⟨t, flush0_6 t, ?_⟩
    show i ∈ ((View.whole main_v8_0).slice (win0_6.rect t)).set
    rw [View.set_slice_whole, Rect.mem_set_unit]
    have ht : t.val = (i 0).val / 1024 := rfl
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 1024 ≤ (i 1).val ∧ (i 1).val < win0_6.index t (1 : Fin 2) * 1024 + 1024; omega

theorem flushed7 (t : Fin cfg0.N) :
    (dat0 V c).flushed 7 t = ((cfg0.win 7).blk t).view.read (Elt Ideal) (nxt V c) := by
  show (cfg0.win 7).cut (grid0.coords t) ((dat0 V c).after 7 t) = _
  rw [after0_7]
  obtain ⟨-, -, -, -, -, -, -, ⟨o0, o1⟩⟩ := idx_facts t
  funext y
  have e0 : (((cfg0.win 7).blk t).view.emb y 0).val = 1024 * t.val + (y 0).val := by
    show win0_7.index t (0 : Fin 2) * 1024 + 1 * (y 0).val = _; omega
  have e1 : (((cfg0.win 7).blk t).view.emb y 1).val = (y 1).val := by
    show win0_7.index t (1 : Fin 2) * 1024 + 1 * (y 1).val = _; omega
  show out0_7 (ab V c t) (bb V c t) (cb V c t) (wb V c t) (xb V c t) (pb V c t) ((cfg0.win 7).xinj (grid0.coords t) y) = nxt V c (((cfg0.win 7).blk t).view.emb y)
  let r : Fin 1024 := ⟨(y 0).val, (y 0).isLt⟩
  let l : Fin 1024 := ⟨(y 1).val, (y 1).isLt⟩
  have ex : (cfg0.win 7).xinj (grid0.coords t) y = ix2 r l := eq_ix2 (n0 := 1024) (n1 := 1024) _
  unfold out0_7 nxt next
  rw [ex, View.canon_unit_zero hz, next_apply, e0, e1, prod_blk]
  refine congrArg₂ (· + ·) ?_ (congrArg₂ (· * ·) (congrArg₂ (· * ·) rfl ?_) ?_)
  · rw [View.ld_unit_zero (S := S1024x1024) hz]
    exact (xb_eq V c t _ _ _ rfl rfl).trans (eq_rd (oxs V c) (((cfg0.win 7).blk t).view.emb y) _ _ e0 e1).symm
  · exact congrArg rs (funext fun k => prod_blk V c t r k)
  · exact pb_eq V c t (r0_5.emb (ix2 0 l)) 0 l.val (show 0 + 1 * 0 = _ by omega) (show 0 + 1 * l.val = _ by omega)

/-- THE RESULT ARRAY of window 7. -/
theorem final7 : (dat0 V c).arrAt 7 cfg0.N = nxt V c :=
  (dat0 V c).arrAt_eq_of_cover 7 _ (fun t _ => flushed7 V c t) fun i => by
    have hi0 : (i 0).val < 8192 := (i 0).isLt
    have hi1 : (i 1).val < 1024 := (i 1).isLt
    let t : Fin cfg0.N := ⟨(i 0).val / 1024, lt_of_lt_of_eq (by omega : _ < 8) N_0.symm⟩
    obtain ⟨-, -, -, -, -, -, -, ⟨o0, o1⟩⟩ := idx_facts t
    refine ⟨t, flush0_7 t, ?_⟩
    show i ∈ ((View.whole main_v8_1).slice (win0_7.rect t)).set
    rw [View.set_slice_whole, Rect.mem_set_unit]
    have ht : t.val = (i 0).val / 1024 := rfl
    intro a
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 1024 ≤ (i 1).val ∧ (i 1).val < win0_7.index t (1 : Fin 2) * 1024 + 1024; omega

end Cert.Proof.Out.Forward

end
-- ==== Proof.Out.BackCases.lean ====
/-
  The gradients of the out-projection, eight blocks of 1024 rows: the cotangent goes back through the norm, is multiplied with
  the transposed weights, and the mixers' outputs, transposed, are multiplied with it. The result arrays are the gradients of
  the three mixers' outputs, of the norm's weights (in row 0 of a table of zeros) and of the weights.
-/
module

public import proofs.«01_k».proof.Proof.Out.Spec
public import proofs.«01_k».proof.Proof.Gen.Kernel2Ideal.Frame.Region1
public import Idealize.ShloMosaic.Lib.Pipeline.Value
public import Idealize.ShloMosaic.Lib.Pipeline.ReadBack

@[expose] public section

set_option maxRecDepth 16384

noncomputable section

namespace Cert.Proof.Out.Back

open Cert.Kernel2Ideal Cert.Kernel2Ideal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One entry of the cotangent behind the norm. -/
theorem back_apply (p : Vec Ideal S1x1024 .f32) (x d : Vec Ideal S1024x1024 .f32) (r : Fin 1024) (j : Fin 1024) :
    k1_pay9 (F := Ideal) p x d (ix2 r j) = normGrad (fun k => x (ix2 r k)) (fun k => d (ix2 r k) * p (ix2 0 k)) j := by
  unfold normGrad rs ms eps
  rw [← lit_inv1024]
  pointwise [k1_pay9, k1_pay8, k1_pay7, k1_pay6]

/-- The accumulation of the gradient of the norm's weights adds the rows' parts to row 0 and nothing to the other rows. -/
theorem dq_apply (acc : Vec Ideal S8x1024 .f32) (x d : Vec Ideal S1024x1024 .f32) (q : Fin 8) (j : Fin 1024) :
    k1_pay13 (F := Ideal) (k1_pay10 acc) k1_pay11 (Scalar.ofBits .f32 0x00000000#32) (k1_pay12 x d) (ix2 q j)
      = acc (ix2 q j) + if q.val = 0 then ∑ r : Fin 1024, d (ix2 r j) * (x (ix2 r j) * rs (fun k => x (ix2 r k))) else 0 := by
  unfold rs ms eps
  rw [← lit_inv1024]
  pointwise [k1_pay13, k1_pay10, k1_pay11, k1_pay12, k1_pay8, k1_pay7, k1_pay6]
  refine congrArg _ ?_
  fin_cases q <;> rfl

theorem mixA_apply (g : FVec Ideal S1024x1024 .f32) (w : Vec Ideal S512x1024 .bf16) (r : Fin 1024) (l : Fin 512) :
    k1_pay15 (F := Ideal) g w (ix2 r l) = ∑ k : Fin 1024, g (ix2 r k) * w (ix2 l k) := by
  pointwise [k1_pay15, k1_pay14]
theorem mixB_apply (g : FVec Ideal S1024x1024 .f32) (w : Vec Ideal S1024x1024 .bf16) (r : Fin 1024) (l : Fin 1024) :
    k1_pay16 (F := Ideal) g w (ix2 r l) = ∑ k : Fin 1024, g (ix2 r k) * w (ix2 l k) := by
  pointwise [k1_pay16, k1_pay14]
theorem mixC_apply (g : FVec Ideal S1024x1024 .f32) (w : Vec Ideal S512x1024 .bf16) (r : Fin 1024) (l : Fin 512) :
    k1_pay17 (F := Ideal) g w (ix2 r l) = ∑ k : Fin 1024, g (ix2 r k) * w (ix2 l k) := by
  pointwise [k1_pay17, k1_pay14]

theorem dwA_apply (g : FVec Ideal S1024x1024 .f32) (acc : Vec Ideal S512x1024 .f32) (a : Vec Ideal S1024x512 .bf16) (r : Fin 512) (j : Fin 1024) :
    k1_pay18 (F := Ideal) g acc a (ix2 r j) = acc (ix2 r j) + ∑ k : Fin 1024, a (ix2 k r) * g (ix2 k j) := by
  pointwise [k1_pay18, k1_pay14]
theorem dwB_apply (g : FVec Ideal S1024x1024 .f32) (acc : Vec Ideal S1024x1024 .f32) (a : Vec Ideal S1024x1024 .bf16) (r : Fin 1024) (j : Fin 1024) :
    k1_pay1 (F := Ideal) (k1_pay14 g) (k1_pay19 acc) a (ix2 r j) = acc (ix2 r j) + ∑ k : Fin 1024, a (ix2 k r) * g (ix2 k j) := by
  pointwise [k1_pay1, k1_pay14, k1_pay19]
theorem dwC_apply (g : FVec Ideal S1024x1024 .f32) (acc : Vec Ideal S512x1024 .f32) (a : Vec Ideal S1024x512 .bf16) (r : Fin 512) (j : Fin 1024) :
    k1_pay2 (F := Ideal) (k1_pay14 g) acc a (ix2 r j) = acc (ix2 r j) + ∑ k : Fin 1024, a (ix2 k r) * g (ix2 k j) := by
  pointwise [k1_pay2, k1_pay14]

theorem start4_apply (y : S8x1024.Idx) : k1_pay4 (F := Ideal) y = 0 := by
  pointwise [k1_pay4]
theorem start5_apply (y : S2048x1024.Idx) : k1_pay5 (F := Ideal) y = 0 := by
  pointwise [k1_pay5]

/-- The weights' three bands of rows and the row of the norm's weights. -/
abbrev ra : Rect S2048x1024 := Rect.unit (s := S2048x1024) ![0, 0] S512x1024.size inb_S2048x1024_S512x1024_0_0
abbrev rb : Rect S2048x1024 := Rect.unit (s := S2048x1024) ![512, 0] S1024x1024.size inb_S2048x1024_S1024x1024_512_0
abbrev rc : Rect S2048x1024 := Rect.unit (s := S2048x1024) ![1536, 0] S512x1024.size inb_S2048x1024_S512x1024_1536_0
abbrev rp : Rect S8x1024 := Rect.unit (s := S8x1024) ![0, 0] S1x1024.size inb_S8x1024_S1x1024_0_0

theorem ra_emb (r : Fin 2048) (j : Fin 1024) (h : r.val < 512) : ra.emb (ix2 ⟨r.val, h⟩ j) = ix2 r j :=
  funext fun a => Fin.ext <| match a with
    | ⟨0, _⟩ => show 0 + 1 * r.val = r.val by omega
    | ⟨1, _⟩ => show 0 + 1 * j.val = j.val by omega
theorem rb_emb (r : Fin 2048) (j : Fin 1024) (h : 512 ≤ r.val) (h' : r.val - 512 < 1024) : rb.emb (ix2 ⟨r.val - 512, h'⟩ j) = ix2 r j :=
  funext fun a => Fin.ext <| match a with
    | ⟨0, _⟩ => show 512 + 1 * (r.val - 512) = r.val by omega
    | ⟨1, _⟩ => show 0 + 1 * j.val = j.val by omega
theorem rc_emb (r : Fin 2048) (j : Fin 1024) (h : 1536 ≤ r.val) (h' : r.val - 1536 < 512) : rc.emb (ix2 ⟨r.val - 1536, h'⟩ j) = ix2 r j :=
  funext fun a => Fin.ext <| match a with
    | ⟨0, _⟩ => show 1536 + 1 * (r.val - 1536) = r.val by omega
    | ⟨1, _⟩ => show 0 + 1 * j.val = j.val by omega
theorem not_rc (r : Fin 2048) (j : Fin 1024) (h : r.val < 1536) : ix2 r j ∉ rc.set := fun hm => by
  have h1 : 1536 ≤ r.val := ((Rect.mem_set_unit.mp hm) (0 : Fin 2)).1
  omega
theorem not_rb (r : Fin 2048) (j : Fin 1024) (h : r.val < 512) : ix2 r j ∉ rb.set := fun hm => by
  have h1 : 512 ≤ r.val := ((Rect.mem_set_unit.mp hm) (0 : Fin 2)).1
  omega

/-- Three stores one below the other, read at an index. -/
theorem canon_bands (R Q : S512x1024.Idx → EReal) (O : S1024x1024.Idx → EReal) (L : List (View.Piece (Elt Ideal) S2048x1024 .f32)) (r : Fin 2048) (j : Fin 1024) :
    View.canon (Val := Elt Ideal) (e := .f32) (⟨rc, R⟩ :: ⟨rb, O⟩ :: ⟨ra, Q⟩ :: L) (ix2 r j)
      = if h : r.val < 512 then Q (ix2 ⟨r.val, h⟩ j) else if h' : r.val < 1536 then O (ix2 ⟨r.val - 512, by omega⟩ j)
        else R (ix2 ⟨r.val - 1536, by omega⟩ j) := by
  by_cases h : r.val < 512
  · rw [dif_pos h]
    refine (View.canon_cons_of_not_mem (Val := Elt Ideal) (e := .f32) ⟨rc, R⟩ (⟨rb, O⟩ :: ⟨ra, Q⟩ :: L) (not_rc r j (by omega))).trans ?_
    refine (View.canon_cons_of_not_mem (Val := Elt Ideal) (e := .f32) ⟨rb, O⟩ (⟨ra, Q⟩ :: L) (not_rb r j h)).trans ?_
    rw [← ra_emb r j h]
    exact View.canon_cons_emb (Val := Elt Ideal) (e := .f32) ra Q L _
  · rw [dif_neg h]
    by_cases h' : r.val < 1536
    · rw [dif_pos h']
      refine (View.canon_cons_of_not_mem (Val := Elt Ideal) (e := .f32) ⟨rc, R⟩ (⟨rb, O⟩ :: ⟨ra, Q⟩ :: L) (not_rc r j h')).trans ?_
      conv_lhs => rw [← rb_emb r j (by omega) (by omega)]
      exact View.canon_cons_emb (Val := Elt Ideal) (e := .f32) rb O (⟨ra, Q⟩ :: L) _
    · rw [dif_neg h']
      have hr := r.isLt
      conv_lhs => rw [← rc_emb r j (by omega) (by omega)]
      exact View.canon_cons_emb (Val := Elt Ideal) (e := .f32) rc R (⟨rb, O⟩ :: ⟨ra, Q⟩ :: L) _

theorem cat_a {n : ℕ} (A : (⟨2, ![n, 512]⟩ : Shape).Idx → EReal) (B : (⟨2, ![n, 1024]⟩ : Shape).Idx → EReal) (C : (⟨2, ![n, 512]⟩ : Shape).Idx → EReal)
    (k : Fin n) (r : ℕ) (h : r < 512) : A (ix2 k ⟨r, h⟩) = cat A B C k.val r := by
  unfold cat; rw [if_pos h]; exact (rd_ix2 A k ⟨r, h⟩).symm
theorem cat_b {n : ℕ} (A : (⟨2, ![n, 512]⟩ : Shape).Idx → EReal) (B : (⟨2, ![n, 1024]⟩ : Shape).Idx → EReal) (C : (⟨2, ![n, 512]⟩ : Shape).Idx → EReal)
    (k : Fin n) (r : ℕ) (h : ¬r < 512) (h1 : r < 1536) (h' : r - 512 < 1024) : B (ix2 k ⟨r - 512, h'⟩) = cat A B C k.val r := by
  unfold cat; rw [if_neg h, if_pos h1]; exact (rd_ix2 B k ⟨r - 512, h'⟩).symm
theorem cat_c {n : ℕ} (A : (⟨2, ![n, 512]⟩ : Shape).Idx → EReal) (B : (⟨2, ![n, 1024]⟩ : Shape).Idx → EReal) (C : (⟨2, ![n, 512]⟩ : Shape).Idx → EReal)
    (k : Fin n) (r : ℕ) (h : ¬r < 512) (h1 : ¬r < 1536) (h' : r - 1536 < 512) : C (ix2 k ⟨r - 1536, h'⟩) = cat A B C k.val r := by
  unfold cat; rw [if_neg h, if_neg h1]; exact (rd_ix2 C k ⟨r - 1536, h'⟩).symm

section Cases
variable (c : Dev nD) (i : grid1.Coords)
  (arg1 : Memref sig .tc .vmem S1024x1024 .f32) (harg1 : arg1.IsWhole) (arg2 : Memref sig .tc .vmem S1024x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S2048x1024 .bf16) (harg6 : arg6.IsWhole) (arg7 : Memref sig .tc .vmem S8x1024 .f32) (harg7 : arg7.IsWhole) (arg8 : Memref sig .tc .vmem S1024x512 .bf16) (harg8 : arg8.IsWhole) (arg9 : Memref sig .tc .vmem S1024x1024 .bf16) (harg9 : arg9.IsWhole) (arg10 : Memref sig .tc .vmem S1024x512 .bf16) (harg10 : arg10.IsWhole) (arg11 : Memref sig .tc .vmem S8x1024 .f32) (harg11 : arg11.IsWhole) (arg12 : Memref sig .tc .vmem S2048x1024 .f32) (harg12 : arg12.IsWhole) (arg13 : Memref sig .tc .vmem S2048x1024 .bf16) (harg13 : arg13.IsWhole)
  (x0 : Vec Ideal S1024x1024 .f32) (x1 : Vec Ideal S1024x1024 .f32) (x2 : Vec Ideal S1024x512 .bf16) (x3 : Vec Ideal S1024x1024 .bf16) (x4 : Vec Ideal S1024x512 .bf16) (x5 : Vec Ideal S2048x1024 .bf16) (x6 : Vec Ideal S8x1024 .f32)

/-- The block's cotangent behind the norm. -/
abbrev dout : FVec Ideal S1024x1024 .f32 := k1_pay9 (View.ld x6 rp) x1 x0

theorem caseA7 (hc0 : cond1_0 i) (hc1 : ¬cond1_1 i) :
    out1_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k1_pay15 (dout x0 x1 x6) (View.ld x5 ra) := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseA8 (hc0 : cond1_0 i) (hc1 : ¬cond1_1 i) :
    out1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k1_pay16 (dout x0 x1 x6) (View.ld x5 rb) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseA9 (hc0 : cond1_0 i) (hc1 : ¬cond1_1 i) :
    out1_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k1_pay17 (dout x0 x1 x6) (View.ld x5 rc) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseA10 (hc0 : cond1_0 i) (hc1 : ¬cond1_1 i) :
    out1_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6
      = k1_pay13 (k1_pay10 (k1_pay4 (F := Ideal))) k1_pay11 (Scalar.ofBits .f32 0x00000000#32) (k1_pay12 x1 x0) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  rw [View.canon_cons_unit_zero (S := S8x1024) hz, View.readCov_unit_zero (S := S8x1024) _ hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseA11 (hc0 : cond1_0 i) (hc1 : ¬cond1_1 i) (r : Fin 2048) (j : Fin 1024) :
    out1_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 r j)
      = ∑ k : Fin 1024, cat x2 x3 x4 k.val r.val * dout x0 x1 x6 (ix2 k j) := by
  unfold out1_A_11
  rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun1_A
  dsimp only
  sl_unfold_words
  refine (canon_bands _ _ _ _ r j).trans ?_
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]
  by_cases h : r.val < 512
  · rw [dif_pos h, dwA_apply, View.readCov_eq_canon']
    simp only [View.canon_unit_zero (S := S2048x1024) hz, start5_apply, zero_add]
    exact Finset.sum_congr rfl fun k _ => congrArg (· * _) (cat_a x2 x3 x4 k r.val h)
  · rw [dif_neg h]
    by_cases h' : r.val < 1536
    · rw [dif_pos h', dwB_apply, View.readCov_skip _ _ _ _ _ (by decide +kernel), View.readCov_eq_canon']
      simp only [View.canon_unit_zero (S := S2048x1024) hz, start5_apply, zero_add]
      exact Finset.sum_congr rfl fun k _ => congrArg (· * _) (cat_b x2 x3 x4 k r.val h h' _)
    · rw [dif_neg h', dwC_apply, View.readCov_skip _ _ _ _ _ (by decide +kernel), View.readCov_skip _ _ _ _ _ (by decide +kernel), View.readCov_eq_canon']
      simp only [View.canon_unit_zero (S := S2048x1024) hz, start5_apply, zero_add]
      exact Finset.sum_congr rfl fun k _ => congrArg (· * _) (cat_c x2 x3 x4 k r.val h h' _)

theorem caseB7 (hc0 : ¬cond1_0 i) (hc1 : ¬cond1_1 i) (u : Vec Ideal S8x1024 .f32) (v : Vec Ideal S2048x1024 .f32) :
    out1_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay15 (dout x0 x1 x6) (View.ld x5 ra) := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseB8 (hc0 : ¬cond1_0 i) (hc1 : ¬cond1_1 i) (u : Vec Ideal S8x1024 .f32) (v : Vec Ideal S2048x1024 .f32) :
    out1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay16 (dout x0 x1 x6) (View.ld x5 rb) := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseB9 (hc0 : ¬cond1_0 i) (hc1 : ¬cond1_1 i) (u : Vec Ideal S8x1024 .f32) (v : Vec Ideal S2048x1024 .f32) :
    out1_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay17 (dout x0 x1 x6) (View.ld x5 rc) := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseB10 (hc0 : ¬cond1_0 i) (hc1 : ¬cond1_1 i) (u : Vec Ideal S8x1024 .f32) (v : Vec Ideal S2048x1024 .f32) :
    out1_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay13 (k1_pay10 u) k1_pay11 (Scalar.ofBits .f32 0x00000000#32) (k1_pay12 x1 x0) := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseB11 (hc0 : ¬cond1_0 i) (hc1 : ¬cond1_1 i) (u : Vec Ideal S8x1024 .f32) (v : Vec Ideal S2048x1024 .f32) (r : Fin 2048) (j : Fin 1024) :
    out1_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v (ix2 r j)
      = v (ix2 r j) + ∑ k : Fin 1024, cat x2 x3 x4 k.val r.val * dout x0 x1 x6 (ix2 k j) := by
  unfold out1_B_11
  rw [View.read_writes_eq_canon _ _ _ (cover1_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_B
  dsimp only
  sl_unfold_words
  refine (canon_bands _ _ _ _ r j).trans ?_
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]
  by_cases h : r.val < 512
  · rw [dif_pos h, dwA_apply]
    refine congrArg₂ (· + ·) (congrArg v (ra_emb r j h)) ?_
    exact Finset.sum_congr rfl fun k _ => congrArg (· * _) (cat_a x2 x3 x4 k r.val h)
  · rw [dif_neg h]
    by_cases h' : r.val < 1536
    · rw [dif_pos h', dwB_apply]
      refine congrArg₂ (· + ·) (congrArg v (rb_emb r j (by omega) _)) ?_
      exact Finset.sum_congr rfl fun k _ => congrArg (· * _) (cat_b x2 x3 x4 k r.val h h' _)
    · rw [dif_neg h', dwC_apply]
      refine congrArg₂ (· + ·) (congrArg v (rc_emb r j (by omega) _)) ?_
      exact Finset.sum_congr rfl fun k _ => congrArg (· * _) (cat_c x2 x3 x4 k r.val h h' _)

theorem caseC7 (hc0 : ¬cond1_0 i) (hc1 : cond1_1 i) (u : Vec Ideal S8x1024 .f32) (v : Vec Ideal S2048x1024 .f32) :
    out1_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay15 (dout x0 x1 x6) (View.ld x5 ra) := by
  unfold out1_C_7
  rw [View.read_writes_eq_canon _ _ _ (cover1_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseC8 (hc0 : ¬cond1_0 i) (hc1 : cond1_1 i) (u : Vec Ideal S8x1024 .f32) (v : Vec Ideal S2048x1024 .f32) :
    out1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay16 (dout x0 x1 x6) (View.ld x5 rb) := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseC9 (hc0 : ¬cond1_0 i) (hc1 : cond1_1 i) (u : Vec Ideal S8x1024 .f32) (v : Vec Ideal S2048x1024 .f32) :
    out1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay17 (dout x0 x1 x6) (View.ld x5 rc) := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseC10 (hc0 : ¬cond1_0 i) (hc1 : cond1_1 i) (u : Vec Ideal S8x1024 .f32) (v : Vec Ideal S2048x1024 .f32) :
    out1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v
      = k1_pay13 (k1_pay10 u) k1_pay11 (Scalar.ofBits .f32 0x00000000#32) (k1_pay12 x1 x0) := by
  unfold out1_C_10
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_C
  dsimp only
  sl_unfold_words
  rw [View.canon_unit_zero hz]
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]

theorem caseC11 (hc0 : ¬cond1_0 i) (hc1 : cond1_1 i) (u : Vec Ideal S8x1024 .f32) (v : Vec Ideal S2048x1024 .f32) (r : Fin 2048) (j : Fin 1024) :
    out1_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v (ix2 r j)
      = v (ix2 r j) + ∑ k : Fin 1024, cat x2 x3 x4 k.val r.val * dout x0 x1 x6 (ix2 k j) := by
  unfold out1_C_11
  rw [View.read_writes_eq_canon _ _ _ (cover1_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 u v)]
  unfold kernelRun1_C
  dsimp only
  sl_unfold_words
  refine (canon_bands _ _ _ _ r j).trans ?_
  simp only [View.readAt_eq_ld, harg1.read_unread, harg2.read_unread, harg3.read_unread, harg4.read_unread, harg5.read_unread, harg6.read_unread, harg7.read_unread, harg11.read_unread, harg12.read_unread, View.ld_unit_zero (S := S1024x1024) hz, View.ld_unit_zero (S := S1024x512) hz, View.ld_unit_zero (S := S8x1024) hz]
  by_cases h : r.val < 512
  · rw [dif_pos h, dwA_apply]
    refine congrArg₂ (· + ·) (congrArg v (ra_emb r j h)) ?_
    exact Finset.sum_congr rfl fun k _ => congrArg (· * _) (cat_a x2 x3 x4 k r.val h)
  · rw [dif_neg h]
    by_cases h' : r.val < 1536
    · rw [dif_pos h', dwB_apply]
      refine congrArg₂ (· + ·) (congrArg v (rb_emb r j (by omega) _)) ?_
      exact Finset.sum_congr rfl fun k _ => congrArg (· * _) (cat_b x2 x3 x4 k r.val h h' _)
    · rw [dif_neg h', dwC_apply]
      refine congrArg₂ (· + ·) (congrArg v (rc_emb r j (by omega) _)) ?_
      exact Finset.sum_congr rfl fun k _ => congrArg (· * _) (cat_c x2 x3 x4 k r.val h h' _)

end Cases

end Cert.Proof.Out.Back

end
-- ==== Proof.Out.Back.lean ====
/-
  The result arrays of the out-projection's backward call: each point's blocks from the whole tables, the accumulated ones as
  sums over the points, and the arrays after the last point.
-/
module

public import proofs.«01_k».proof.Proof.Out.BackCases

@[expose] public section

set_option maxRecDepth 16384

noncomputable section

namespace Cert.Proof.Out.Back

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! The cotangent, the product's rows, the three mixers' outputs, the weights and the norm's weights, and their blocks at point `t`. -/
abbrev ods : S8192x1024.Idx → EReal := V c main_arg6
abbrev oys : S8192x1024.Idx → EReal := V c main_v8_0
abbrev oas : S8192x512.Idx → EReal := V c main_v0
abbrev obs : S8192x1024.Idx → EReal := V c main_v1
abbrev ocs : S8192x512.Idx → EReal := V c main_v2
abbrev ows : S2048x1024.Idx → EReal := V c main_v3
abbrev ops : S8x1024.Idx → EReal := V c main_v7
abbrev db (t : Fin cfg1.N) : Vec Ideal S1024x1024 .f32 := iblk1 V c 0 t
abbrev yb (t : Fin cfg1.N) : Vec Ideal S1024x1024 .f32 := iblk1 V c 1 t
abbrev ab (t : Fin cfg1.N) : Vec Ideal S1024x512 .bf16 := iblk1 V c 2 t
abbrev bb (t : Fin cfg1.N) : Vec Ideal S1024x1024 .bf16 := iblk1 V c 3 t
abbrev cb (t : Fin cfg1.N) : Vec Ideal S1024x512 .bf16 := iblk1 V c 4 t
abbrev wb (t : Fin cfg1.N) : Vec Ideal S2048x1024 .bf16 := iblk1 V c 5 t
abbrev pb (t : Fin cfg1.N) : Vec Ideal S8x1024 .f32 := iblk1 V c 6 t

/-- The gradient of the product's rows. -/
abbrev dys (i : ℕ) (j : Fin 1024) : EReal := dy (rd (oys V c)) (rd (ops V c) 0) (ods V c) i j

theorem idx_facts : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

theorem db_eq (t : Fin cfg1.N) (y : S1024x1024.Idx) (q k : ℕ) (h0 : (y 0).val = q) (h1 : (y 1).val = k) : db V c t y = rd (ods V c) (1024 * t.val + q) k := by
  obtain ⟨⟨a0, a1⟩, -, -, -, -, -, -, -, -, -, -, -⟩ := idx_facts t
  exact eq_rd (ods V c) (((cfg1.win 0).blk t).view.emb y) _ _
    (show win1_0.index t (0 : Fin 2) * 1024 + 1 * (y 0).val = _ by omega) (show win1_0.index t (1 : Fin 2) * 1024 + 1 * (y 1).val = _ by omega)
theorem yb_eq (t : Fin cfg1.N) (y : S1024x1024.Idx) (q k : ℕ) (h0 : (y 0).val = q) (h1 : (y 1).val = k) : yb V c t y = rd (oys V c) (1024 * t.val + q) k := by
  obtain ⟨-, ⟨a0, a1⟩, -, -, -, -, -, -, -, -, -, -⟩ := idx_facts t
  exact eq_rd (oys V c) (((cfg1.win 1).blk t).view.emb y) _ _
    (show win1_1.index t (0 : Fin 2) * 1024 + 1 * (y 0).val = _ by omega) (show win1_1.index t (1 : Fin 2) * 1024 + 1 * (y 1).val = _ by omega)
theorem ab_eq (t : Fin cfg1.N) (y : S1024x512.Idx) (q k : ℕ) (h0 : (y 0).val = q) (h1 : (y 1).val = k) : ab V c t y = rd (oas V c) (1024 * t.val + q) k := by
  obtain ⟨-, -, ⟨a0, a1⟩, -, -, -, -, -, -, -, -, -⟩ := idx_facts t
  exact eq_rd (oas V c) (((cfg1.win 2).blk t).view.emb y) _ _
    (show win1_2.index t (0 : Fin 2) * 1024 + 1 * (y 0).val = _ by omega) (show win1_2.index t (1 : Fin 2) * 512 + 1 * (y 1).val = _ by omega)
theorem bb_eq (t : Fin cfg1.N) (y : S1024x1024.Idx) (q k : ℕ) (h0 : (y 0).val = q) (h1 : (y 1).val = k) : bb V c t y = rd (obs V c) (1024 * t.val + q) k := by
  obtain ⟨-, -, -, ⟨a0, a1⟩, -, -, -, -, -, -, -, -⟩ := idx_facts t
  exact eq_rd (obs V c) (((cfg1.win 3).blk t).view.emb y) _ _
    (show win1_3.index t (0 : Fin 2) * 1024 + 1 * (y 0).val = _ by omega) (show win1_3.index t (1 : Fin 2) * 1024 + 1 * (y 1).val = _ by omega)
theorem cb_eq (t : Fin cfg1.N) (y : S1024x512.Idx) (q k : ℕ) (h0 : (y 0).val = q) (h1 : (y 1).val = k) : cb V c t y = rd (ocs V c) (1024 * t.val + q) k := by
  obtain ⟨-, -, -, -, ⟨a0, a1⟩, -, -, -, -, -, -, -⟩ := idx_facts t
  exact eq_rd (ocs V c) (((cfg1.win 4).blk t).view.emb y) _ _
    (show win1_4.index t (0 : Fin 2) * 1024 + 1 * (y 0).val = _ by omega) (show win1_4.index t (1 : Fin 2) * 512 + 1 * (y 1).val = _ by omega)
theorem wb_eq (t : Fin cfg1.N) (y : S2048x1024.Idx) (q k : ℕ) (h0 : (y 0).val = q) (h1 : (y 1).val = k) : wb V c t y = rd (ows V c) (q) k := by
  obtain ⟨-, -, -, -, -, ⟨a0, a1⟩, -, -, -, -, -, -⟩ := idx_facts t
  exact eq_rd (ows V c) (((cfg1.win 5).blk t).view.emb y) _ _
    (show win1_5.index t (0 : Fin 2) * 2048 + 1 * (y 0).val = _ by omega) (show win1_5.index t (1 : Fin 2) * 1024 + 1 * (y 1).val = _ by omega)
theorem pb_eq (t : Fin cfg1.N) (y : S8x1024.Idx) (q k : ℕ) (h0 : (y 0).val = q) (h1 : (y 1).val = k) : pb V c t y = rd (ops V c) (q) k := by
  obtain ⟨-, -, -, -, -, -, ⟨a0, a1⟩, -, -, -, -, -⟩ := idx_facts t
  exact eq_rd (ops V c) (((cfg1.win 6).blk t).view.emb y) _ _
    (show win1_6.index t (0 : Fin 2) * 8 + 1 * (y 0).val = _ by omega) (show win1_6.index t (1 : Fin 2) * 1024 + 1 * (y 1).val = _ by omega)

/-- The block's cotangent behind the norm is the whole tables'. -/
theorem dout_blk (t : Fin cfg1.N) (r : Fin 1024) (j : Fin 1024) : dout (db V c t) (yb V c t) (pb V c t) (ix2 r j) = dys V c (1024 * t.val + r.val) j := by
  unfold dout
  rw [back_apply]
  unfold dys dy
  refine congrArg₂ (fun a b => normGrad a b j) (funext fun k => yb_eq V c t _ _ _ rfl rfl) (funext fun k => ?_)
  exact congrArg₂ (· * ·) (db_eq V c t _ _ _ rfl rfl) (pb_eq V c t (rp.emb (ix2 0 k)) 0 k.val (show 0 + 1 * 0 = _ by omega) (show 0 + 1 * k.val = _ by omega))

theorem out7_eq (t : Fin cfg1.N) : (outsAt1 V c t.val t.isLt).1 = k1_pay15 (dout (db V c t) (yb V c t) (pb V c t)) (View.ld (wb V c t) ra) := by
  by_cases h0 : t.val % 8 = 0
  · rw [outsAt1_A V c t h0 (by omega)]
    dsimp only
    rw [caseA7]
  · by_cases h1 : t.val % 8 = 7
    · rw [outsAt1_C V c t h0 h1]
      dsimp only
      rw [caseC7]
    · rw [outsAt1_B V c t h0 h1]
      dsimp only
      rw [caseB7]

theorem out8_eq (t : Fin cfg1.N) : (outsAt1 V c t.val t.isLt).2.1 = k1_pay16 (dout (db V c t) (yb V c t) (pb V c t)) (View.ld (wb V c t) rb) := by
  by_cases h0 : t.val % 8 = 0
  · rw [outsAt1_A V c t h0 (by omega)]
    dsimp only
    rw [caseA8]
  · by_cases h1 : t.val % 8 = 7
    · rw [outsAt1_C V c t h0 h1]
      dsimp only
      rw [caseC8]
    · rw [outsAt1_B V c t h0 h1]
      dsimp only
      rw [caseB8]

theorem out9_eq (t : Fin cfg1.N) : (outsAt1 V c t.val t.isLt).2.2.1 = k1_pay17 (dout (db V c t) (yb V c t) (pb V c t)) (View.ld (wb V c t) rc) := by
  by_cases h0 : t.val % 8 = 0
  · rw [outsAt1_A V c t h0 (by omega)]
    dsimp only
    rw [caseA9]
  · by_cases h1 : t.val % 8 = 7
    · rw [outsAt1_C V c t h0 h1]
      dsimp only
      rw [caseC9]
    · rw [outsAt1_B V c t h0 h1]
      dsimp only
      rw [caseB9]

/-- What point `t` adds to the gradient of the norm's weights. -/
def part (t q j : ℕ) : EReal := if q = 0 then ∑ r : Fin 1024, dqTerm (rd (oys V c)) (ods V c) (1024 * t + r.val) j else 0

theorem part_eq (t : Fin cfg1.N) (q : Fin 8) (j : Fin 1024) :
    (if q.val = 0 then ∑ r : Fin 1024, db V c t (ix2 r j) * (yb V c t (ix2 r j) * rs (fun k => yb V c t (ix2 r k))) else 0) = part V c t.val q.val j.val := by
  unfold part dqTerm factor
  refine congrArg (fun s => if q.val = 0 then s else 0) (Finset.sum_congr rfl fun r _ => ?_)
  refine congrArg₂ (· * ·) (db_eq V c t _ _ _ rfl rfl) (congrArg₂ (· * ·) (yb_eq V c t _ _ _ rfl rfl) ?_)
  exact congrArg rs (funext fun k => yb_eq V c t _ _ _ rfl rfl)

/-- One row's part of the gradient of the weights. -/
def term (i : ℕ) (j : Fin 1024) (k : ℕ) : EReal := cat (oas V c) (obs V c) (ocs V c) k i * dys V c k j

theorem cat_blk (t : Fin cfg1.N) (k : Fin 1024) (l : ℕ) (hl : l < 2048) :
    cat (ab V c t) (bb V c t) (cb V c t) k.val l = cat (oas V c) (obs V c) (ocs V c) (1024 * t.val + k.val) l := by
  by_cases h : l < 512
  · rw [← cat_a _ _ _ k l h, ab_eq V c t _ k.val l rfl rfl]
    unfold cat
    rw [if_pos h]
  · by_cases h' : l < 1536
    · rw [← cat_b _ _ _ k l h h' (by omega), bb_eq V c t _ k.val (l - 512) rfl rfl]
      unfold cat
      rw [if_neg h, if_pos h']
    · rw [← cat_c _ _ _ k l h h' (by omega), cb_eq V c t _ k.val (l - 1536) rfl rfl]
      unfold cat
      rw [if_neg h, if_neg h']

theorem term_eq (t : Fin cfg1.N) (r : Fin 2048) (j : Fin 1024) :
    ∑ k : Fin 1024, cat (ab V c t) (bb V c t) (cb V c t) k.val r.val * dout (db V c t) (yb V c t) (pb V c t) (ix2 k j)
      = ∑ k : Fin 1024, term V c r.val j (1024 * t.val + k.val) :=
  Finset.sum_congr rfl fun k _ => congrArg₂ (· * ·) (cat_blk V c t k r.val r.isLt) (dout_blk V c t k j)

theorem out10_eq (t : ℕ) (h : t < cfg1.N) (q : Fin 8) (j : Fin 1024) :
    (outsAt1 V c t h).2.2.2.1 (ix2 q j) = ∑ s ∈ Finset.range (t % 8 + 1), part V c (t / 8 * 8 + s) q.val j.val := by
  refine run_sum 8 (by decide) (fun n hn => (outsAt1 V c n hn).2.2.2.1 (ix2 q j)) (fun n => part V c n q.val j.val) (fun n hn h0 => ?_) (fun n hn h0 => ?_) t h
  · show (outsAt1 V c n hn).2.2.2.1 (ix2 q j) = _
    rw [outsAt1_A V c ⟨n, hn⟩ h0 (show ¬n % 8 = 7 by omega)]
    dsimp only
    rw [caseA10, dq_apply, start4_apply, zero_add]
    exact part_eq V c ⟨n, hn⟩ q j
  · show (outsAt1 V c n hn).2.2.2.1 (ix2 q j) = _
    by_cases h1 : n % 8 = 7
    · rw [outsAt1_C V c ⟨n, hn⟩ h0 h1]
      dsimp only
      rw [caseC10, dq_apply]
      exact congrArg _ (part_eq V c ⟨n, hn⟩ q j)
    · rw [outsAt1_B V c ⟨n, hn⟩ h0 h1]
      dsimp only
      rw [caseB10, dq_apply]
      exact congrArg _ (part_eq V c ⟨n, hn⟩ q j)

theorem out11_eq (t : ℕ) (h : t < cfg1.N) (r : Fin 2048) (j : Fin 1024) :
    (outsAt1 V c t h).2.2.2.2.1 (ix2 r j) = ∑ s ∈ Finset.range (t % 8 + 1), ∑ k : Fin 1024, term V c r.val j (1024 * (t / 8 * 8 + s) + k.val) := by
  refine run_sum 8 (by decide) (fun n hn => (outsAt1 V c n hn).2.2.2.2.1 (ix2 r j)) (fun n => ∑ k : Fin 1024, term V c r.val j (1024 * n + k.val)) (fun n hn h0 => ?_) (fun n hn h0 => ?_) t h
  · show (outsAt1 V c n hn).2.2.2.2.1 (ix2 r j) = _
    rw [outsAt1_A V c ⟨n, hn⟩ h0 (show ¬n % 8 = 7 by omega)]
    dsimp only
    rw [caseA11]
    exact term_eq V c ⟨n, hn⟩ r j
  · show (outsAt1 V c n hn).2.2.2.2.1 (ix2 r j) = _
    by_cases h1 : n % 8 = 7
    · rw [outsAt1_C V c ⟨n, hn⟩ h0 h1]
      dsimp only
      rw [caseC11]
      exact congrArg _ (term_eq V c ⟨n, hn⟩ r j)
    · rw [outsAt1_B V c ⟨n, hn⟩ h0 h1]
      dsimp only
      rw [caseB11]
      exact congrArg _ (term_eq V c ⟨n, hn⟩ r j)

/-! The result arrays. -/
abbrev das : S8192x512.Idx → EReal := dmix (ows V c) (rd (oys V c)) (rd (ops V c) 0) (ods V c) 0
abbrev dbs : S8192x1024.Idx → EReal := dmix (ows V c) (rd (oys V c)) (rd (ops V c) 0) (ods V c) 512
abbrev dcs : S8192x512.Idx → EReal := dmix (ows V c) (rd (oys V c)) (rd (ops V c) 0) (ods V c) 1536
/-- The gradient of the norm's weights in row 0 of a table of zeros. -/
def dqs : S8x1024.Idx → EReal := fun i => if (i 0).val = 0 then ∑ k : Fin 8192, dqTerm (rd (oys V c)) (ods V c) k.val (i 1).val else 0
abbrev dws : S2048x1024.Idx → EReal := dw (oas V c) (obs V c) (ocs V c) (rd (oys V c)) (rd (ops V c) 0) (ods V c)

theorem flushed7 (t : Fin cfg1.N) :
    (dat1 V c).flushed 7 t = ((cfg1.win 7).blk t).view.read (Elt Ideal) (das V c) := by
  show (cfg1.win 7).cut (grid1.coords t) ((dat1 V c).after 7 t) = _
  rw [after1_7]
  obtain ⟨-, -, -, -, -, -, -, ⟨o0, o1⟩, -, -, -, -⟩ := idx_facts t
  funext y
  have e0 : (((cfg1.win 7).blk t).view.emb y 0).val = 1024 * t.val + (y 0).val := by
    show win1_7.index t (0 : Fin 2) * 1024 + 1 * (y 0).val = _; omega
  have e1 : (((cfg1.win 7).blk t).view.emb y 1).val = (y 1).val := by
    show win1_7.index t (1 : Fin 2) * 512 + 1 * (y 1).val = _; omega
  show (outsAt1 V c t.val t.isLt).1 ((cfg1.win 7).xinj (grid1.coords t) y) = das V c (((cfg1.win 7).blk t).view.emb y)
  let r : Fin 1024 := ⟨(y 0).val, (y 0).isLt⟩
  let l : Fin 512 := ⟨(y 1).val, (y 1).isLt⟩
  have ex : (cfg1.win 7).xinj (grid1.coords t) y = ix2 r l := eq_ix2 (n0 := 1024) (n1 := 512) _
  unfold das dmix
  rw [ex, out7_eq, mixA_apply]
  refine Finset.sum_congr rfl fun k _ => congrArg₂ (· * ·) ?_ ?_
  · rw [e0]; exact dout_blk V c t r k
  · rw [e1]; exact wb_eq V c t (ra.emb (ix2 l k)) _ _ (show 0 + 1 * l.val = _ by dsimp only [l]; omega) (show 0 + 1 * k.val = _ by omega)

/-- THE RESULT ARRAY of window 7. -/
theorem final7 : (dat1 V c).arrAt 7 cfg1.N = das V c :=
  (dat1 V c).arrAt_eq_of_cover 7 _ (fun t _ => flushed7 V c t) fun i => by
    have hi0 : (i 0).val < 8192 := (i 0).isLt
    have hi1 : (i 1).val < 512 := (i 1).isLt
    let t : Fin cfg1.N := ⟨(i 0).val / 1024, lt_of_lt_of_eq (by omega : _ < 8) N_1.symm⟩
    obtain ⟨-, -, -, -, -, -, -, ⟨o0, o1⟩, -, -, -, -⟩ := idx_facts t
    refine ⟨t, flush1_7 t, ?_⟩
    show i ∈ ((View.whole main_v9_0).slice (win1_7.rect t)).set
    rw [View.set_slice_whole, Rect.mem_set_unit]
    have ht : t.val = (i 0).val / 1024 := rfl
    intro a
    match a with
    | ⟨0, _⟩ => show win1_7.index t (0 : Fin 2) * 1024 ≤ (i 0).val ∧ (i 0).val < win1_7.index t (0 : Fin 2) * 1024 + 1024; omega
    | ⟨1, _⟩ => show win1_7.index t (1 : Fin 2) * 512 ≤ (i 1).val ∧ (i 1).val < win1_7.index t (1 : Fin 2) * 512 + 512; omega

theorem flushed8 (t : Fin cfg1.N) :
    (dat1 V c).flushed 8 t = ((cfg1.win 8).blk t).view.read (Elt Ideal) (dbs V c) := by
  show (cfg1.win 8).cut (grid1.coords t) ((dat1 V c).after 8 t) = _
  rw [after1_8]
  obtain ⟨-, -, -, -, -, -, -, -, ⟨o0, o1⟩, -, -, -⟩ := idx_facts t
  funext y
  have e0 : (((cfg1.win 8).blk t).view.emb y 0).val = 1024 * t.val + (y 0).val := by
    show win1_8.index t (0 : Fin 2) * 1024 + 1 * (y 0).val = _; omega
  have e1 : (((cfg1.win 8).blk t).view.emb y 1).val = (y 1).val := by
    show win1_8.index t (1 : Fin 2) * 1024 + 1 * (y 1).val = _; omega
  show (outsAt1 V c t.val t.isLt).2.1 ((cfg1.win 8).xinj (grid1.coords t) y) = dbs V c (((cfg1.win 8).blk t).view.emb y)
  let r : Fin 1024 := ⟨(y 0).val, (y 0).isLt⟩
  let l : Fin 1024 := ⟨(y 1).val, (y 1).isLt⟩
  have ex : (cfg1.win 8).xinj (grid1.coords t) y = ix2 r l := eq_ix2 (n0 := 1024) (n1 := 1024) _
  unfold dbs dmix
  rw [ex, out8_eq, mixB_apply]
  refine Finset.sum_congr rfl fun k _ => congrArg₂ (· * ·) ?_ ?_
  · rw [e0]; exact dout_blk V c t r k
  · rw [e1]; exact wb_eq V c t (rb.emb (ix2 l k)) _ _ (show 512 + 1 * l.val = _ by dsimp only [l]; omega) (show 0 + 1 * k.val = _ by omega)

/-- THE RESULT ARRAY of window 8. -/
theorem final8 : (dat1 V c).arrAt 8 cfg1.N = dbs V c :=
  (dat1 V c).arrAt_eq_of_cover 8 _ (fun t _ => flushed8 V c t) fun i => by
    have hi0 : (i 0).val < 8192 := (i 0).isLt
    have hi1 : (i 1).val < 1024 := (i 1).isLt
    let t : Fin cfg1.N := ⟨(i 0).val / 1024, lt_of_lt_of_eq (by omega : _ < 8) N_1.symm⟩
    obtain ⟨-, -, -, -, -, -, -, -, ⟨o0, o1⟩, -, -, -⟩ := idx_facts t
    refine ⟨t, flush1_8 t, ?_⟩
    show i ∈ ((View.whole main_v9_1).slice (win1_8.rect t)).set
    rw [View.set_slice_whole, Rect.mem_set_unit]
    have ht : t.val = (i 0).val / 1024 := rfl
    intro a
    match a with
    | ⟨0, _⟩ => show win1_8.index t (0 : Fin 2) * 1024 ≤ (i 0).val ∧ (i 0).val < win1_8.index t (0 : Fin 2) * 1024 + 1024; omega
    | ⟨1, _⟩ => show win1_8.index t (1 : Fin 2) * 1024 ≤ (i 1).val ∧ (i 1).val < win1_8.index t (1 : Fin 2) * 1024 + 1024; omega

theorem flushed9 (t : Fin cfg1.N) :
    (dat1 V c).flushed 9 t = ((cfg1.win 9).blk t).view.read (Elt Ideal) (dcs V c) := by
  show (cfg1.win 9).cut (grid1.coords t) ((dat1 V c).after 9 t) = _
  rw [after1_9]
  obtain ⟨-, -, -, -, -, -, -, -, -, ⟨o0, o1⟩, -, -⟩ := idx_facts t
  funext y
  have e0 : (((cfg1.win 9).blk t).view.emb y 0).val = 1024 * t.val + (y 0).val := by
    show win1_9.index t (0 : Fin 2) * 1024 + 1 * (y 0).val = _; omega
  have e1 : (((cfg1.win 9).blk t).view.emb y 1).val = (y 1).val := by
    show win1_9.index t (1 : Fin 2) * 512 + 1 * (y 1).val = _; omega
  show (outsAt1 V c t.val t.isLt).2.2.1 ((cfg1.win 9).xinj (grid1.coords t) y) = dcs V c (((cfg1.win 9).blk t).view.emb y)
  let r : Fin 1024 := ⟨(y 0).val, (y 0).isLt⟩
  let l : Fin 512 := ⟨(y 1).val, (y 1).isLt⟩
  have ex : (cfg1.win 9).xinj (grid1.coords t) y = ix2 r l := eq_ix2 (n0 := 1024) (n1 := 512) _
  unfold dcs dmix
  rw [ex, out9_eq, mixC_apply]
  refine Finset.sum_congr rfl fun k _ => congrArg₂ (· * ·) ?_ ?_
  · rw [e0]; exact dout_blk V c t r k
  · rw [e1]; exact wb_eq V c t (rc.emb (ix2 l k)) _ _ (show 1536 + 1 * l.val = _ by dsimp only [l]; omega) (show 0 + 1 * k.val = _ by omega)

/-- THE RESULT ARRAY of window 9. -/
theorem final9 : (dat1 V c).arrAt 9 cfg1.N = dcs V c :=
  (dat1 V c).arrAt_eq_of_cover 9 _ (fun t _ => flushed9 V c t) fun i => by
    have hi0 : (i 0).val < 8192 := (i 0).isLt
    have hi1 : (i 1).val < 512 := (i 1).isLt
    let t : Fin cfg1.N := ⟨(i 0).val / 1024, lt_of_lt_of_eq (by omega : _ < 8) N_1.symm⟩
    obtain ⟨-, -, -, -, -, -, -, -, -, ⟨o0, o1⟩, -, -⟩ := idx_facts t
    refine ⟨t, flush1_9 t, ?_⟩
    show i ∈ ((View.whole main_v9_2).slice (win1_9.rect t)).set
    rw [View.set_slice_whole, Rect.mem_set_unit]
    have ht : t.val = (i 0).val / 1024 := rfl
    intro a
    match a with
    | ⟨0, _⟩ => show win1_9.index t (0 : Fin 2) * 1024 ≤ (i 0).val ∧ (i 0).val < win1_9.index t (0 : Fin 2) * 1024 + 1024; omega
    | ⟨1, _⟩ => show win1_9.index t (1 : Fin 2) * 512 ≤ (i 1).val ∧ (i 1).val < win1_9.index t (1 : Fin 2) * 512 + 512; omega

theorem flushed10 (t : Fin cfg1.N) (hf : (cfg1.win 10).flush t = true) :
    (dat1 V c).flushed 10 t = ((cfg1.win 10).blk t).view.read (Elt Ideal) (dqs V c) := by
  show (cfg1.win 10).cut (grid1.coords t) ((dat1 V c).after 10 t) = _
  rw [after1_10]
  have hm : t.val % 8 = 7 := (flush1_10 t).mp hf
  have hN : t.val < 8 := lt_of_lt_of_eq t.isLt (show cfg1.N = 8 from N_1)
  obtain ⟨-, -, -, -, -, -, -, -, -, -, ⟨o0, o1⟩, -⟩ := idx_facts t
  funext y
  have e0 : (((cfg1.win 10).blk t).view.emb y 0).val = (y 0).val := by
    show win1_10.index t (0 : Fin 2) * 8 + 1 * (y 0).val = _; omega
  have e1 : (((cfg1.win 10).blk t).view.emb y 1).val = (y 1).val := by
    show win1_10.index t (1 : Fin 2) * 1024 + 1 * (y 1).val = _; omega
  show (outsAt1 V c t.val t.isLt).2.2.2.1 ((cfg1.win 10).xinj (grid1.coords t) y) = dqs V c (((cfg1.win 10).blk t).view.emb y)
  let r : Fin 8 := ⟨(y 0).val, (y 0).isLt⟩
  let l : Fin 1024 := ⟨(y 1).val, (y 1).isLt⟩
  have ex : (cfg1.win 10).xinj (grid1.coords t) y = ix2 r l := eq_ix2 (n0 := 8) (n1 := 1024) _
  unfold dqs
  rw [ex, out10_eq, hm, e0, e1, show t.val / 8 * 8 = 0 by omega]
  unfold part
  by_cases hr : (y 0).val = 0
  · simp only [show r.val = 0 from hr, hr, if_true, zero_add]
    exact sum_blocks 8 1024 rfl fun k => dqTerm (rd (oys V c)) (ods V c) k (y 1).val
  · simp only [show r.val ≠ 0 from hr, hr, if_false, Finset.sum_const_zero]

/-- THE RESULT ARRAY of window 10. -/
theorem final10 : (dat1 V c).arrAt 10 cfg1.N = dqs V c :=
  (dat1 V c).arrAt_eq_of_cover 10 _ (fun t hf => flushed10 V c t hf) fun i => by
    have hi0 : (i 0).val < 8 := (i 0).isLt
    have hi1 : (i 1).val < 1024 := (i 1).isLt
    let t : Fin cfg1.N := ⟨7, lt_of_lt_of_eq (by decide : 7 < 8) N_1.symm⟩
    obtain ⟨-, -, -, -, -, -, -, -, -, -, ⟨o0, o1⟩, -⟩ := idx_facts t
    refine ⟨t, (flush1_10 t).mpr rfl, ?_⟩
    show i ∈ ((View.whole main_v9_3).slice (win1_10.rect t)).set
    rw [View.set_slice_whole, Rect.mem_set_unit]
    intro a
    match a with
    | ⟨0, _⟩ => show win1_10.index t (0 : Fin 2) * 8 ≤ (i 0).val ∧ (i 0).val < win1_10.index t (0 : Fin 2) * 8 + 8; omega
    | ⟨1, _⟩ => show win1_10.index t (1 : Fin 2) * 1024 ≤ (i 1).val ∧ (i 1).val < win1_10.index t (1 : Fin 2) * 1024 + 1024; omega

theorem flushed11 (t : Fin cfg1.N) (hf : (cfg1.win 11).flush t = true) :
    (dat1 V c).flushed 11 t = ((cfg1.win 11).blk t).view.read (Elt Ideal) (dws V c) := by
  show (cfg1.win 11).cut (grid1.coords t) ((dat1 V c).after 11 t) = _
  rw [after1_11]
  have hm : t.val % 8 = 7 := (flush1_11 t).mp hf
  have hN : t.val < 8 := lt_of_lt_of_eq t.isLt (show cfg1.N = 8 from N_1)
  obtain ⟨-, -, -, -, -, -, -, -, -, -, -, ⟨o0, o1⟩⟩ := idx_facts t
  funext y
  have e0 : (((cfg1.win 11).blk t).view.emb y 0).val = (y 0).val := by
    show win1_11.index t (0 : Fin 2) * 2048 + 1 * (y 0).val = _; omega
  have e1 : (((cfg1.win 11).blk t).view.emb y 1).val = (y 1).val := by
    show win1_11.index t (1 : Fin 2) * 1024 + 1 * (y 1).val = _; omega
  show (outsAt1 V c t.val t.isLt).2.2.2.2.1 ((cfg1.win 11).xinj (grid1.coords t) y) = dws V c (((cfg1.win 11).blk t).view.emb y)
  let r : Fin 2048 := ⟨(y 0).val, (y 0).isLt⟩
  let l : Fin 1024 := ⟨(y 1).val, (y 1).isLt⟩
  have ex : (cfg1.win 11).xinj (grid1.coords t) y = ix2 r l := eq_ix2 (n0 := 2048) (n1 := 1024) _
  unfold dws dw
  rw [ex, out11_eq, hm, e0, show ((cfg1.win 11).blk t).view.emb y 1 = l from Fin.ext e1, show t.val / 8 * 8 = 0 by omega]
  simp only [zero_add]
  exact sum_blocks 8 1024 rfl fun k => term V c r.val l k

/-- THE RESULT ARRAY of window 11. -/
theorem final11 : (dat1 V c).arrAt 11 cfg1.N = dws V c :=
  (dat1 V c).arrAt_eq_of_cover 11 _ (fun t hf => flushed11 V c t hf) fun i => by
    have hi0 : (i 0).val < 2048 := (i 0).isLt
    have hi1 : (i 1).val < 1024 := (i 1).isLt
    let t : Fin cfg1.N := ⟨7, lt_of_lt_of_eq (by decide : 7 < 8) N_1.symm⟩
    obtain ⟨-, -, -, -, -, -, -, -, -, -, -, ⟨o0, o1⟩⟩ := idx_facts t
    refine ⟨t, (flush1_11 t).mpr rfl, ?_⟩
    show i ∈ ((View.whole main_v9_4).slice (win1_11.rect t)).set
    rw [View.set_slice_whole, Rect.mem_set_unit]
    intro a
    match a with
    | ⟨0, _⟩ => show win1_11.index t (0 : Fin 2) * 2048 ≤ (i 0).val ∧ (i 0).val < win1_11.index t (0 : Fin 2) * 2048 + 2048; omega
    | ⟨1, _⟩ => show win1_11.index t (1 : Fin 2) * 1024 ≤ (i 1).val ∧ (i 1).val < win1_11.index t (1 : Fin 2) * 1024 + 1024; omega

end Cert.Proof.Out.Back

end
-- ==== Proof.Out.Results.lean ====
/-
  Each result array of the out-projection's kernel at the program's end, as a function of the argument arrays.
-/
module

public import proofs.«01_k».proof.Proof.Out.Spec
public import proofs.«01_k».proof.Proof.Out.Host
public import proofs.«01_k».proof.Proof.Out.Forward
public import proofs.«01_k».proof.Proof.Out.Back
public import proofs.«01_k».proof.Proof.Gen.Kernel2Ideal.Frame

@[expose] public section

set_option maxRecDepth 16384

noncomputable section

namespace Cert.Proof.Out

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Argument 0 as launched. -/
abbrev a0 : S8192x512.Idx → EReal := m ((c : Thread nD τ).loc main_arg0)
/-- Argument 1 as launched. -/
abbrev a1 : S8192x1024.Idx → EReal := m ((c : Thread nD τ).loc main_arg1)
/-- Argument 2 as launched. -/
abbrev a2 : S8192x512.Idx → EReal := m ((c : Thread nD τ).loc main_arg2)
/-- Argument 3 as launched. -/
abbrev a3 : S2048x1024.Idx → EReal := m ((c : Thread nD τ).loc main_arg3)
/-- Argument 4 as launched. -/
abbrev a4 : S8192x1024.Idx → EReal := m ((c : Thread nD τ).loc main_arg4)
/-- Argument 5 as launched. -/
abbrev a5 : S1024.Idx → EReal := m ((c : Thread nD τ).loc main_arg5)
/-- Argument 6 as launched. -/
abbrev a6 : S8192x1024.Idx → EReal := m ((c : Thread nD τ).loc main_arg6)

/-- Row 0 of the copied norm weights, read at any number. -/
theorem entry_vd : (fun k => rd (V1 m ρ c main_v7 : S8x1024.Idx → EReal) 0 k) = vd (a5 m c) :=
  funext fun k => rd_row (n := 7) _ (a5 m c) (entry_row m ρ c) k
theorem entry_arg4 : (V1 m ρ c main_arg4 : S8192x1024.Idx → EReal) = a4 m c := (W1_of m ρ c main_arg4 (by decide)).trans rfl

/-- The product's entries. -/
abbrev ys (i j : ℕ) : EReal := prod (a0 m c) (a1 m c) (a2 m c) (a3 m c) i j

theorem fwd_ys : Forward.ys (V1 m ρ) c = ys m c := by
  funext i j
  unfold Forward.ys Forward.oas Forward.obs Forward.ocs Forward.ows
  rw [entry_v0, entry_v1, entry_v2, entry_v3]

/-- The next rows. -/
theorem res_xn : (W4 m ρ c (Proc.devRef .tc main_v8_1) : S8192x1024.Idx → EReal) = next (ys m c) (vd (a5 m c)) (a4 m c) := by
  refine ((W4_of m ρ c main_v8_1 (by decide)).trans (W3_of m ρ c main_v8_1 (by decide +kernel))).trans ((W2_arr m ρ c 7).trans ((Forward.final7 (V1 m ρ) c).trans ?_))
  show next (Forward.ys (V1 m ρ) c) (rd (Forward.ops (V1 m ρ) c) 0) (Forward.oxs (V1 m ρ) c) = _
  rw [fwd_ys]
  exact congrArg₂ (next (ys m c)) (entry_vd m ρ c) (entry_arg4 m ρ c)

/-! ## What the backward call finds -/

theorem at_p : rd (Back.ops (V2 m ρ) c) 0 = vd (a5 m c) := by
  have e : Back.ops (V2 m ρ) c = (V1 m ρ c main_v7 : S8x1024.Idx → EReal) := W2_of m ρ c main_v7 (by decide +kernel)
  rw [e]
  exact entry_vd m ρ c
theorem at_d : Back.ods (V2 m ρ) c = a6 m c := ((W2_of m ρ c main_arg6 (by decide +kernel)).trans (W1_of m ρ c main_arg6 (by decide))).trans rfl
theorem at_a : Back.oas (V2 m ρ) c = a0 m c := (W2_of m ρ c main_v0 (by decide +kernel)).trans (entry_v0 m ρ c)
theorem at_b : Back.obs (V2 m ρ) c = a1 m c := (W2_of m ρ c main_v1 (by decide +kernel)).trans (entry_v1 m ρ c)
theorem at_c : Back.ocs (V2 m ρ) c = a2 m c := (W2_of m ρ c main_v2 (by decide +kernel)).trans (entry_v2 m ρ c)
theorem at_w : Back.ows (V2 m ρ) c = a3 m c := (W2_of m ρ c main_v3 (by decide +kernel)).trans (entry_v3 m ρ c)

/-! The specification reads the product's rows only inside their table. -/

theorem inside (i : Fin 8192) (j : Fin 1024) : rd (Back.oys (V2 m ρ) c) i.val j.val = ys m c i.val j.val := by
  have e : Back.oys (V2 m ρ) c = Forward.out (V1 m ρ) c := (W2_arr m ρ c 6).trans (Forward.final6 (V1 m ρ) c)
  rw [e]
  refine (rd_ix2 (Forward.out (V1 m ρ) c) i j).trans ?_
  show Forward.ys (V1 m ρ) c i.val j.val = _
  rw [fwd_ys]
theorem dy_at (i : Fin 8192) (j : Fin 1024) : dy (rd (Back.oys (V2 m ρ) c)) (rd (Back.ops (V2 m ρ) c) 0) (Back.ods (V2 m ρ) c) i.val j
    = dy (ys m c) (vd (a5 m c)) (a6 m c) i.val j := by
  rw [at_p, at_d]
  unfold dy
  exact congrArg (fun y => normGrad y _ j) (funext fun k => inside m ρ c i k)
theorem dmix_at (off : ℕ) {n : ℕ} : dmix (Back.ows (V2 m ρ) c) (rd (Back.oys (V2 m ρ) c)) (rd (Back.ops (V2 m ρ) c) 0) (Back.ods (V2 m ρ) c) off (n := n)
    = dmix (a3 m c) (ys m c) (vd (a5 m c)) (a6 m c) off := by
  funext i
  unfold dmix
  refine Finset.sum_congr rfl fun k _ => congrArg₂ (· * ·) (dy_at m ρ c (i 0) k) ?_
  rw [at_w]

/-- The gradient of a mixer's output. -/
theorem res_da : (W4 m ρ c (Proc.devRef .tc main_v10) : S8192x512.Idx → EReal) = dmix (a3 m c) (ys m c) (vd (a5 m c)) (a6 m c) 0 := by
  have h : (W4 m ρ c (Proc.devRef .tc main_v10) : S8192x512.Idx → EReal) = (W3 m ρ c (Proc.devRef .tc main_v9_0) : S8192x512.Idx → EReal) := by
    show (StableHlo.after hostOps2 (W3 m ρ c) (Proc.devRef .tc main_v10) : S8192x512.Idx → EReal) = _
    generalize W3 m ρ c = w
    after_reads_at
    rfl
  exact h.trans ((W3_arr m ρ c 7).trans ((Back.final7 (V2 m ρ) c).trans (dmix_at m ρ c 0)))

/-- The gradient of a mixer's output. -/
theorem res_db : (W4 m ρ c (Proc.devRef .tc main_v11) : S8192x1024.Idx → EReal) = dmix (a3 m c) (ys m c) (vd (a5 m c)) (a6 m c) 512 := by
  have h : (W4 m ρ c (Proc.devRef .tc main_v11) : S8192x1024.Idx → EReal) = (W3 m ρ c (Proc.devRef .tc main_v9_1) : S8192x1024.Idx → EReal) := by
    show (StableHlo.after hostOps2 (W3 m ρ c) (Proc.devRef .tc main_v11) : S8192x1024.Idx → EReal) = _
    generalize W3 m ρ c = w
    after_reads_at
    rfl
  exact h.trans ((W3_arr m ρ c 8).trans ((Back.final8 (V2 m ρ) c).trans (dmix_at m ρ c 512)))

/-- The gradient of a mixer's output. -/
theorem res_dc : (W4 m ρ c (Proc.devRef .tc main_v12) : S8192x512.Idx → EReal) = dmix (a3 m c) (ys m c) (vd (a5 m c)) (a6 m c) 1536 := by
  have h : (W4 m ρ c (Proc.devRef .tc main_v12) : S8192x512.Idx → EReal) = (W3 m ρ c (Proc.devRef .tc main_v9_2) : S8192x512.Idx → EReal) := by
    show (StableHlo.after hostOps2 (W3 m ρ c) (Proc.devRef .tc main_v12) : S8192x512.Idx → EReal) = _
    generalize W3 m ρ c = w
    after_reads_at
    rfl
  exact h.trans ((W3_arr m ρ c 9).trans ((Back.final9 (V2 m ρ) c).trans (dmix_at m ρ c 1536)))

/-- The gradient of the norm's weights. -/
theorem res_dq : (W4 m ρ c (Proc.devRef .tc main_v14) : S1024.Idx → EReal) = dq (ys m c) (a6 m c) := by
  have h : (W4 m ρ c (Proc.devRef .tc main_v14) : S1024.Idx → EReal) = fun i => (W3 m ρ c (Proc.devRef .tc main_v9_3) : S8x1024.Idx → EReal) (ix2 0 (i 0)) := by
    show (StableHlo.after hostOps2 (W3 m ρ c) (Proc.devRef .tc main_v14) : S1024.Idx → EReal) = _
    generalize W3 m ρ c = w
    after_reads_at
  rw [h, show (W3 m ρ c (Proc.devRef .tc main_v9_3) : S8x1024.Idx → EReal) = Back.dqs (V2 m ρ) c from (W3_arr m ρ c 10).trans (Back.final10 (V2 m ρ) c)]
  funext i
  unfold Back.dqs dq dqTerm
  rw [if_pos (show ((ix2 0 (i 0) : S8x1024.Idx) 0).val = 0 from rfl)]
  refine Finset.sum_congr rfl fun k _ => ?_
  rw [at_d]
  refine congrArg (_ * ·) (congrArg₂ (· * ·) (inside m ρ c k (i 0)) ?_)
  exact congrArg rs (funext fun q => inside m ρ c k q)

/-- The gradient of the weights. -/
theorem res_dw : (W4 m ρ c (Proc.devRef .tc main_v9_4) : S2048x1024.Idx → EReal)
    = dw (a0 m c) (a1 m c) (a2 m c) (ys m c) (vd (a5 m c)) (a6 m c) := by
  refine (W4_of m ρ c main_v9_4 (by decide)).trans ((W3_arr m ρ c 11).trans ((Back.final11 (V2 m ρ) c).trans ?_))
  funext i
  unfold Back.dws dw
  rw [at_a, at_b, at_c]
  exact Finset.sum_congr rfl fun k _ => congrArg (_ * ·) (dy_at m ρ c k (i 1))

end Cert.Proof.Out

end
-- ==== Proof.Out.Ref.lean ====
/-
  The results of the out-projection's reference, as functions of the argument arrays.
-/
module

public import proofs.«01_k».proof.Proof.Out.Spec
public import proofs.«01_k».proof.Proof.Gen.Reference2Ideal.Read

@[expose] public section

set_option maxRecDepth 16384

noncomputable section

namespace Cert.Proof.Out.Ref

open Cert.Reference2Ideal Cert.Reference2Ideal.Gen Cert.Reference2Ideal.Read Idealize.ShloMosaic Idealize.ShloMosaic.TcCoe Idealize.SL.Sem

variable (x0 : S8192x512.Idx → EReal) (x1 : S8192x1024.Idx → EReal) (x2 : S8192x512.Idx → EReal) (x3 : S2048x1024.Idx → EReal)
  (x4 : S8192x1024.Idx → EReal) (x5 : S1024.Idx → EReal) (x6 : S8192x1024.Idx → EReal)

/-- The three mixers' outputs side by side. -/
theorem v0_at (i : Fin 8192) (l : Fin 2048) : val_main_v0 (F := Ideal) x0 x1 x2 (ix2 i l) = cat x0 x1 x2 i.val l.val := by
  pointwise [val_main_v0]
  unfold cat
  by_cases h1 : l.val < 512
  · rw [dif_pos h1, if_pos h1]
    exact (rd_ix2 x0 i ⟨l.val, h1⟩).symm
  · rw [dif_neg h1, if_neg h1]
    by_cases h2 : l.val < 1536
    · rw [dif_pos (show l.val - 512 < 1024 by omega), if_pos h2]
      exact (rd_ix2 x1 i ⟨l.val - 512, by omega⟩).symm
    · rw [dif_neg (show ¬l.val - 512 < 1024 by omega), if_neg h2]
      have hl := l.isLt
      refine (rd_ix2 x2 i ⟨l.val - 512 - 1024, by omega⟩).symm.trans (congrArg (rd x2 i.val) ?_)
      dsimp only
      omega

/-- A sum over all 2048 columns is the sum over the three bands. -/
theorem sum_bands (f : ℕ → EReal) : ∑ l : Fin 2048, f l.val
    = ∑ k : Fin 512, f k.val + ∑ k : Fin 1024, f (512 + k.val) + ∑ k : Fin 512, f (1536 + k.val) := by
  simp only [Fin.sum_univ_eq_sum_range (fun k => f k), Fin.sum_univ_eq_sum_range (fun k => f (512 + k)), Fin.sum_univ_eq_sum_range (fun k => f (1536 + k))]
  rw [← Finset.sum_range_add f 512 1024, ← Finset.sum_range_add f 1536 512]

/-- The product's rows. -/
theorem v1_at (i : Fin 8192) (j : Fin 1024) : val_main_v1 (F := Ideal) x0 x1 x2 x3 (ix2 i j) = prod x0 x1 x2 x3 i.val j.val := by
  rw [val_main_v1_apply]
  have e : ∀ k : Fin 2048, val_main_v0 (F := Ideal) x0 x1 x2 (lidx_main_v1 (ix2 i j) k) * x3 (ridx_main_v1 (ix2 i j) k)
      = (fun l => cat x0 x1 x2 i.val l * rd x3 l j.val) k.val := fun k =>
    congrArg₂ (· * ·) ((congrArg _ (eq_ix2 _)).trans (v0_at x0 x1 x2 i k)) (eq_rd x3 _ _ _ rfl rfl)
  refine (Finset.sum_congr rfl fun k _ => e k).trans ((sum_bands (fun l => cat x0 x1 x2 i.val l * rd x3 l j.val)).trans ?_)
  unfold prod
  refine congrArg₂ (· + ·) (congrArg₂ (· + ·) ?_ ?_) ?_ <;>
    refine Finset.sum_congr rfl fun k _ => congrArg (· * _) ?_ <;> (have hk := k.isLt; unfold cat)
  · rw [if_pos hk]
  · rw [if_neg (by omega), if_pos (by omega), Nat.add_sub_cancel_left]
  · rw [if_neg (by omega), if_neg (by omega), Nat.add_sub_cancel_left]

/-- The product's entries from the argument arrays. -/
abbrev ys (i j : ℕ) : EReal := prod x0 x1 x2 x3 i j

/-- The mean square of a row, with the small constant added. -/
theorem v8_at (i : Fin 8192) : val_main_v8 (F := Ideal) x0 x1 x2 x3 (ix2 i 0) = ms (fun q : Fin 1024 => ys x0 x1 x2 x3 i.val q.val) := by
  have e : val_main_v8 (F := Ideal) x0 x1 x2 x3 (ix2 i 0)
      = Ideal.div (∑ k : Fin 1024, val_main_v1 (F := Ideal) x0 x1 x2 x3 (ix2 i k) * val_main_v1 (F := Ideal) x0 x1 x2 x3 (ix2 i k)) (Ideal.ofBits .f32 0x44800000#32) + eps := by
    unfold eps
    pointwise [val_main_v8, val_main_v7, val_main_v6, val_main_v5, val_main_v4, val_main_v3, val_main_v2, val_main_cst, val_main_cst_0, val_main_cst_1]
  rw [e]
  unfold ms
  rw [lit_1024, div_1024]
  simp only [v1_at]

/-- The factor of a row. -/
theorem v9_at (i : Fin 8192) : val_main_v9 (F := Ideal) x0 x1 x2 x3 (ix2 i 0) = factor (ys x0 x1 x2 x3) i.val := by
  rw [val_main_v9_apply, factor, rs, ← v8_at]
  rfl

/-- The scaled rows. -/
theorem v14_at (i : Fin 8192) (k : Fin 1024) :
    val_main_v14 (F := Ideal) x0 x1 x2 x3 (ix2 i k) = ys x0 x1 x2 x3 i.val k.val * factor (ys x0 x1 x2 x3) i.val := by
  have e : val_main_v14 (F := Ideal) x0 x1 x2 x3 (ix2 i k) = val_main_v1 (F := Ideal) x0 x1 x2 x3 (ix2 i k) * val_main_v9 (F := Ideal) x0 x1 x2 x3 (ix2 i 0) := by
    pointwise [val_main_v14, val_main_v13]
  rw [e, v1_at, v9_at]

/-- The next rows. -/
theorem res_xn : val_main_v18 (F := Ideal) x0 x1 x2 x3 x4 x5 = next (ys x0 x1 x2 x3) (vd x5) x4 := by
  funext y
  obtain ⟨i, j, rfl⟩ : ∃ (i : Fin 8192) (j : Fin 1024), y = ix2 i j := ⟨y 0, y 1, eq_ix2 y⟩
  have e : val_main_v18 (F := Ideal) x0 x1 x2 x3 x4 x5 (ix2 i j) = x4 (ix2 i j) + val_main_v14 (F := Ideal) x0 x1 x2 x3 (ix2 i j) * x5 (ix1 j) := by
    pointwise [val_main_v18, val_main_v17, val_main_v16, val_main_v15]
  rw [e, v14_at, ← vd_ix1 x5 j]
  rfl

/-- The gradient of the norm's weights. -/
theorem res_dq : val_main_v25 (F := Ideal) x0 x1 x2 x3 x6 = dq (ys x0 x1 x2 x3) x6 := by
  funext i
  obtain ⟨j, rfl⟩ : ∃ j : Fin 1024, i = ix1 j := ⟨i 0, eq_ix1 i⟩
  have e : val_main_v25 (F := Ideal) x0 x1 x2 x3 x6 (ix1 j) = ∑ k : Fin 8192, val_main_v14 (F := Ideal) x0 x1 x2 x3 (ix2 k j) * x6 (ix2 k j) := by
    pointwise [val_main_v25, val_main_v22, val_main_v21, val_main_v20, val_main_v19, val_main_cst_3, val_main_cst_4]
    rw [Fin.sum_univ_one]
  rw [e]
  unfold dq dqTerm
  refine Finset.sum_congr rfl fun k _ => ?_
  rw [v14_at, mul_comm, ← rd_ix2 x6 k j]
  rfl

/-- The cotangent of the scaled rows. -/
theorem v24_at (i : Fin 8192) (j : Fin 1024) : val_main_v24 (F := Ideal) x5 x6 (ix2 i j) = rd x6 i.val j.val * vd x5 j.val := by
  rw [rd_ix2, vd_ix1]
  pointwise [val_main_v24, val_main_v23, val_main_v19, val_main_v15]

/-- The part of the gradient that comes through the row's factor. -/
theorem v35_at (i : Fin 8192) (j : Fin 1024) : val_main_v35 (F := Ideal) x0 x1 x2 x3 x5 x6 (ix2 i j)
    = viaFactor (fun k : Fin 1024 => ys x0 x1 x2 x3 i.val k.val) (fun k : Fin 1024 => rd x6 i.val k.val * vd x5 k.val) := by
  have e : val_main_v35 (F := Ideal) x0 x1 x2 x3 x5 x6 (ix2 i j)
      = Ideal.div ((∑ k : Fin 1024, val_main_v1 (F := Ideal) x0 x1 x2 x3 (ix2 i k) * val_main_v24 (F := Ideal) x5 x6 (ix2 i k))
          * (Ideal.ofBits .f32 0xBF000000#32 * Ideal.div (val_main_v9 (F := Ideal) x0 x1 x2 x3 (ix2 i 0)) (val_main_v8 (F := Ideal) x0 x1 x2 x3 (ix2 i 0))))
        (Ideal.ofBits .f32 0x44800000#32) := by
    pointwise [val_main_v35, val_main_v34, val_main_v33, val_main_v32, val_main_v31, val_main_v28, val_main_v27, val_main_v26, val_main_v12,
      val_main_v11, val_main_v10, val_main_cst_2, val_main_cst_5, val_main_cst_6, val_main_cst_7]
    rw [Fin.sum_univ_one]
  rw [e, v9_at, v8_at, lit_neg_half, lit_1024]
  unfold viaFactor factor
  simp only [v24_at, v1_at]

/-- The gradient of the product's rows. -/
theorem v39_at (i : Fin 8192) (j : Fin 1024) : val_main_v39 (F := Ideal) x0 x1 x2 x3 x5 x6 (ix2 i j) = dy (ys x0 x1 x2 x3) (vd x5) x6 i.val j := by
  have e : val_main_v39 (F := Ideal) x0 x1 x2 x3 x5 x6 (ix2 i j)
      = val_main_v24 (F := Ideal) x5 x6 (ix2 i j) * val_main_v9 (F := Ideal) x0 x1 x2 x3 (ix2 i 0)
          + val_main_v1 (F := Ideal) x0 x1 x2 x3 (ix2 i j) * val_main_v35 (F := Ideal) x0 x1 x2 x3 x5 x6 (ix2 i j)
        + val_main_v35 (F := Ideal) x0 x1 x2 x3 x5 x6 (ix2 i j) * val_main_v1 (F := Ideal) x0 x1 x2 x3 (ix2 i j) := by
    pointwise [val_main_v39, val_main_v38, val_main_v37, val_main_v36, val_main_v30, val_main_v29]
  rw [e, v24_at, v9_at, v35_at, v1_at]
  unfold dy factor
  rw [normGrad_eq]

/-- The gradient of the weights. -/
theorem res_dw : val_main_v41 (F := Ideal) x0 x1 x2 x3 x5 x6 = dw x0 x1 x2 (ys x0 x1 x2 x3) (vd x5) x6 := by
  funext y
  obtain ⟨i, j, rfl⟩ : ∃ (i : Fin 2048) (j : Fin 1024), y = ix2 i j := ⟨y 0, y 1, eq_ix2 y⟩
  have e : val_main_v41 (F := Ideal) x0 x1 x2 x3 x5 x6 (ix2 i j) = val_main_v40 (F := Ideal) x0 x1 x2 x3 x5 x6 (ix2 j i) := by
    pointwise [val_main_v41]
  rw [e, val_main_v40_apply]
  unfold dw
  refine Finset.sum_congr rfl fun k _ => ?_
  rw [mul_comm]
  exact congrArg₂ (· * ·) ((congrArg _ (eq_ix2 _)).trans (v0_at x0 x1 x2 k i)) ((congrArg _ (eq_ix2 _)).trans (v39_at x0 x1 x2 x3 x5 x6 k j))

/-- The gradient of the mixers' outputs side by side. -/
theorem v42_at (i : Fin 8192) (l : Fin 2048) : val_main_v42 (F := Ideal) x0 x1 x2 x3 x5 x6 (ix2 i l)
    = ∑ k : Fin 1024, dy (ys x0 x1 x2 x3) (vd x5) x6 i.val k * rd x3 l.val k.val := by
  rw [val_main_v42_apply]
  exact Finset.sum_congr rfl fun k _ => congrArg₂ (· * ·) ((congrArg _ (eq_ix2 _)).trans (v39_at x0 x1 x2 x3 x5 x6 i k)) (eq_rd x3 _ _ _ rfl rfl)

/-- The gradient of a mixer's output, columns 0 to 511 of the concatenation. -/
theorem res_da : val_main_v43 (F := Ideal) x0 x1 x2 x3 x5 x6 = dmix x3 (ys x0 x1 x2 x3) (vd x5) x6 0 := by
  funext y
  obtain ⟨i, l, rfl⟩ : ∃ (i : Fin 8192) (l : Fin 512), y = ix2 i l := ⟨y 0, y 1, eq_ix2 y⟩
  have hl : l.val < 512 := l.isLt
  have e : val_main_v43 (F := Ideal) x0 x1 x2 x3 x5 x6 (ix2 i l) = val_main_v42 (F := Ideal) x0 x1 x2 x3 x5 x6 (ix2 i ⟨l.val, by omega⟩) := by
    pointwise [val_main_v43]
  rw [e, v42_at]
  unfold dmix
  refine Finset.sum_congr rfl fun k _ => ?_
  exact congrArg (fun q => dy (ys x0 x1 x2 x3) (vd x5) x6 i.val k * rd x3 q k.val) (Nat.zero_add l.val).symm

/-- The gradient of a mixer's output, columns 512 to 1535 of the concatenation. -/
theorem res_db : val_main_v44 (F := Ideal) x0 x1 x2 x3 x5 x6 = dmix x3 (ys x0 x1 x2 x3) (vd x5) x6 512 := by
  funext y
  obtain ⟨i, l, rfl⟩ : ∃ (i : Fin 8192) (l : Fin 1024), y = ix2 i l := ⟨y 0, y 1, eq_ix2 y⟩
  have hl : l.val < 1024 := l.isLt
  have e : val_main_v44 (F := Ideal) x0 x1 x2 x3 x5 x6 (ix2 i l) = val_main_v42 (F := Ideal) x0 x1 x2 x3 x5 x6 (ix2 i ⟨512 + l.val, by omega⟩) := by
    pointwise [val_main_v44]
  rw [e, v42_at]
  unfold dmix
  rfl

/-- The gradient of a mixer's output, columns 1536 to 2047 of the concatenation. -/
theorem res_dc : val_main_v45 (F := Ideal) x0 x1 x2 x3 x5 x6 = dmix x3 (ys x0 x1 x2 x3) (vd x5) x6 1536 := by
  funext y
  obtain ⟨i, l, rfl⟩ : ∃ (i : Fin 8192) (l : Fin 512), y = ix2 i l := ⟨y 0, y 1, eq_ix2 y⟩
  have hl : l.val < 512 := l.isLt
  have e : val_main_v45 (F := Ideal) x0 x1 x2 x3 x5 x6 (ix2 i l) = val_main_v42 (F := Ideal) x0 x1 x2 x3 x5 x6 (ix2 i ⟨1536 + l.val, by omega⟩) := by
    pointwise [val_main_v45]
  rw [e, v42_at]
  unfold dmix
  rfl

end Cert.Proof.Out.Ref

end
-- ==== Proof.Out.Claim.lean ====
/-
  The value claim of the out-projection: over the reals the kernel's results are the reference's.
-/
module

public import proofs.«01_k».proof.Defs
public import proofs.«01_k».proof.Proof.Out.Launch
public import proofs.«01_k».proof.Proof.Out.Results
public import proofs.«01_k».proof.Proof.Out.Ref

@[expose] public section

set_option maxRecDepth 16384

noncomputable section

namespace Cert.Proof.Out

open Cert.Kernel2Ideal Cert.Kernel2Ideal.Gen Idealize.ShloMosaic Idealize.ShloMosaic.TcCoe Idealize.SL.Sem
open Idealize.ShloMosaic.Pipeline (Dat)

/-! ## The reference's results are the kernel's -/

section Agree
variable (m : (ℓ : Loc nD τ sig) → Buf (Elt Ideal) ℓ) (ρ : Dev nD → PrngReg) (c : Dev nD)
  (y0 : S8192x512.Idx → EReal)
  (y1 : S8192x1024.Idx → EReal)
  (y2 : S8192x512.Idx → EReal)
  (y3 : S2048x1024.Idx → EReal)
  (y4 : S8192x1024.Idx → EReal)
  (y5 : S1024.Idx → EReal)
  (y6 : S8192x1024.Idx → EReal)

theorem agree_xn (h0 : y0 = a0 m c) (h1 : y1 = a1 m c) (h2 : y2 = a2 m c) (h3 : y3 = a3 m c) (h4 : y4 = a4 m c) (h5 : y5 = a5 m c) :
    (Cert.Reference2Ideal.Read.val_main_v18 (F := Ideal) y0 y1 y2 y3 y4 y5 : S8192x1024.Idx → EReal) = W4 m ρ c (Proc.devRef .tc main_v8_1) := by
  subst h0 h1 h2 h3 h4 h5
  exact (Ref.res_xn _ _ _ _ _ _).trans (res_xn m ρ c).symm

theorem agree_da (h0 : y0 = a0 m c) (h1 : y1 = a1 m c) (h2 : y2 = a2 m c) (h3 : y3 = a3 m c) (h5 : y5 = a5 m c) (h6 : y6 = a6 m c) :
    (Cert.Reference2Ideal.Read.val_main_v43 (F := Ideal) y0 y1 y2 y3 y5 y6 : S8192x512.Idx → EReal) = W4 m ρ c (Proc.devRef .tc main_v10) := by
  subst h0 h1 h2 h3 h5 h6
  exact (Ref.res_da _ _ _ _ _ _).trans (res_da m ρ c).symm

theorem agree_db (h0 : y0 = a0 m c) (h1 : y1 = a1 m c) (h2 : y2 = a2 m c) (h3 : y3 = a3 m c) (h5 : y5 = a5 m c) (h6 : y6 = a6 m c) :
    (Cert.Reference2Ideal.Read.val_main_v44 (F := Ideal) y0 y1 y2 y3 y5 y6 : S8192x1024.Idx → EReal) = W4 m ρ c (Proc.devRef .tc main_v11) := by
  subst h0 h1 h2 h3 h5 h6
  exact (Ref.res_db _ _ _ _ _ _).trans (res_db m ρ c).symm

theorem agree_dc (h0 : y0 = a0 m c) (h1 : y1 = a1 m c) (h2 : y2 = a2 m c) (h3 : y3 = a3 m c) (h5 : y5 = a5 m c) (h6 : y6 = a6 m c) :
    (Cert.Reference2Ideal.Read.val_main_v45 (F := Ideal) y0 y1 y2 y3 y5 y6 : S8192x512.Idx → EReal) = W4 m ρ c (Proc.devRef .tc main_v12) := by
  subst h0 h1 h2 h3 h5 h6
  exact (Ref.res_dc _ _ _ _ _ _).trans (res_dc m ρ c).symm

theorem agree_dq (h0 : y0 = a0 m c) (h1 : y1 = a1 m c) (h2 : y2 = a2 m c) (h3 : y3 = a3 m c) (h6 : y6 = a6 m c) :
    (Cert.Reference2Ideal.Read.val_main_v25 (F := Ideal) y0 y1 y2 y3 y6 : S1024.Idx → EReal) = W4 m ρ c (Proc.devRef .tc main_v14) := by
  subst h0 h1 h2 h3 h6
  exact (Ref.res_dq _ _ _ _ _).trans (res_dq m ρ c).symm

theorem agree_dw (h0 : y0 = a0 m c) (h1 : y1 = a1 m c) (h2 : y2 = a2 m c) (h3 : y3 = a3 m c) (h5 : y5 = a5 m c) (h6 : y6 = a6 m c) :
    (Cert.Reference2Ideal.Read.val_main_v41 (F := Ideal) y0 y1 y2 y3 y5 y6 : S2048x1024.Idx → EReal) = W4 m ρ c (Proc.devRef .tc main_v9_4) := by
  subst h0 h1 h2 h3 h5 h6
  exact (Ref.res_dw _ _ _ _ _ _).trans (res_dw m ρ c).symm

end Agree

/-- Over the reals the kernel and the reference leave the same results, and neither changes an argument. -/
theorem algebraic : Cert.algebraic_Kernel2Ideal_Reference2Ideal := by
  intro m g m' g' _ hargs
  refine ⟨fun c => W4 m g c (Proc.devRef .tc main_v8_1), fun c => W4 m g c (Proc.devRef .tc main_v10), fun c => W4 m g c (Proc.devRef .tc main_v11), fun c => W4 m g c (Proc.devRef .tc main_v12), fun c => W4 m g c (Proc.devRef .tc main_v14), fun c => W4 m g c (Proc.devRef .tc main_v9_4), ?_, ?_⟩
  · refine (θ_run defs _ _).mono (fun r h c => ⟨h.1 c _ (mem_uc main_v8_1 (by decide)), h.1 c _ (mem_uc main_v10 (by decide)), h.1 c _ (mem_uc main_v11 (by decide)), h.1 c _ (mem_uc main_v12 (by decide)), h.1 c _ (mem_uc main_v14 (by decide)), h.1 c _ (mem_uc main_v9_4 (by decide)),
      (h.1 c _ (mem_uc main_arg0 (by decide))).trans (W4_main_arg0 m g c),
      (h.1 c _ (mem_uc main_arg1 (by decide))).trans (W4_main_arg1 m g c),
      (h.1 c _ (mem_uc main_arg2 (by decide))).trans (W4_main_arg2 m g c),
      (h.1 c _ (mem_uc main_arg3 (by decide))).trans (W4_main_arg3 m g c),
      (h.1 c _ (mem_uc main_arg4 (by decide))).trans (W4_main_arg4 m g c),
      (h.1 c _ (mem_uc main_arg5 (by decide))).trans (W4_main_arg5 m g c),
      (h.1 c _ (mem_uc main_arg6 (by decide))).trans (W4_main_arg6 m g c)⟩) (run_all m g)
  · refine (θ_run Cert.Reference2Ideal.defs _ _).mono (fun r h c => ?_) (Cert.Reference2Ideal.Value.run (F := Ideal) m' g')
    obtain ⟨r0, r1, r2, r3, r4, r5, rest⟩ := h c
    obtain ⟨e0, e1, e2, e3, e4, e5, e6⟩ := hargs c
    exact ⟨
      r0.trans ((Cert.Reference2Ideal.Read.val_main_v18_eq _ _ _ _ _ _).trans (agree_xn m g c _ _ _ _ _ _ e0 e1 e2 e3 e4 e5)),
      r1.trans ((Cert.Reference2Ideal.Read.val_main_v43_eq m' c).trans (agree_da m g c _ _ _ _ _ _ e0 e1 e2 e3 e5 e6)),
      r2.trans ((Cert.Reference2Ideal.Read.val_main_v44_eq m' c).trans (agree_db m g c _ _ _ _ _ _ e0 e1 e2 e3 e5 e6)),
      r3.trans ((Cert.Reference2Ideal.Read.val_main_v45_eq m' c).trans (agree_dc m g c _ _ _ _ _ _ e0 e1 e2 e3 e5 e6)),
      r4.trans ((Cert.Reference2Ideal.Read.val_main_v25_eq _ _ _ _ _).trans (agree_dq m g c _ _ _ _ _ e0 e1 e2 e3 e6)),
      r5.trans ((Cert.Reference2Ideal.Read.val_main_v41_eq m' c).trans (agree_dw m g c _ _ _ _ _ _ e0 e1 e2 e3 e5 e6)),
      rest⟩

end Cert.Proof.Out

end
-- ==== Proof.Opt.Launch.lean ====
/-
  The run of the whole program: every buffer of every core ends at the contents the program's segments leave there, and every
  semaphore counter ends at zero.
-/
module

public import proofs.«01_k».proof.Proof.Gen.Kernel3Ideal.Frame

@[expose] public section

set_option maxRecDepth 16384

noncomputable section

namespace Cert.Proof.Opt

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

end Cert.Proof.Opt

end
-- ==== Proof.Opt.Spec.lean ====
/-
  One step of the optimiser at an entry of a weight: the new first and second moments and the change of the weight, as functions
  of the weight, its gradient and the old moments, in the order of operations that both programs use.
-/
module

public import Idealize.ShloMosaic.Lib.Pointwise

@[expose] public section

noncomputable section

namespace Cert.Proof.Opt

open Idealize.ShloMosaic

/-- A constant of the step, by its single-precision bits. -/
abbrev lit (b : BitVec 32) : EReal := Ideal.ofBits .f32 b

/-- The new first moment: 0.9 of the old one and 0.1 of the gradient. -/
def mom (g m : EReal) : EReal := lit 0x3F666666#32 * m + lit 0x3DCCCCCD#32 * g

/-- The new second moment: 0.999 of the old one and 0.001 of the gradient's square. -/
def sec (g v : EReal) : EReal := lit 0x3F7FBE77#32 * v + lit 0x3A83126F#32 * (g * g)

/-- The change of the weight. -/
def step (w g m v : EReal) : EReal :=
  lit 0xBA83126F#32 * (Ideal.div (Ideal.div (mom g m) (lit 0x3F26BD02#32)) (Ideal.sqrt (Ideal.div (sec g v) (lit 0x3C231ACC#32)) + lit 0x322BCC77#32)
    + lit 0x3C23D70A#32 * w)

/-- The new first moments of a table. -/
abbrev moms {S : Shape} (g m : S.Idx → EReal) : S.Idx → EReal := fun i => mom (g i) (m i)
/-- The new second moments of a table. -/
abbrev secs {S : Shape} (g v : S.Idx → EReal) : S.Idx → EReal := fun i => sec (g i) (v i)
/-- The changes of a table. -/
abbrev steps {S : Shape} (w g m v : S.Idx → EReal) : S.Idx → EReal := fun i => step (w i) (g i) (m i) (v i)

/-- Two layers' gradients stacked, each the sum of two parts. -/
def stack {r k : ℕ} (a0 b0 a1 b1 : (⟨3, ![1, r, k]⟩ : Shape).Idx → EReal) : (⟨3, ![2, r, k]⟩ : Shape).Idx → EReal := fun i =>
  if (i 0).val = 0 then a0 (ix3 0 (i 1) (i 2)) + b0 (ix3 0 (i 1) (i 2)) else a1 (ix3 0 (i 1) (i 2)) + b1 (ix3 0 (i 1) (i 2))

end Cert.Proof.Opt

end
-- ==== Proof.Opt.Whole.lean ====
/-
  What the optimiser's calls share: a body's single store through the whole block leaves its payload at the whole blocks read;
  the step on equal and on reshaped tables.
-/
module

public import proofs.«01_k».proof.Proof.Opt.Spec
public import Idealize.ShloMosaic.Lib.Pipeline.Value

@[expose] public section

noncomputable section

namespace Cert.Proof.Opt

open Idealize.ShloMosaic

theorem hz2 : (![0, 0] : Fin 2 → Nat) = fun _ => 0 := funext fun a => by fin_cases a <;> rfl

theorem hz3 : (![0, 0, 0] : Fin 3 → Nat) = fun _ => 0 := funext fun a => by fin_cases a <;> rfl

/-- An index of a block of one layer, by its row and column. -/
theorem entry {n k : ℕ} (y : (⟨3, ![1, n, k]⟩ : Shape).Idx) : ∃ (r : Fin n) (l : Fin k), y = ix3 0 r l :=
  ⟨y 1, y 2, funext fun a => by match a with | ⟨0, _⟩ => exact Fin.ext (Nat.lt_one_iff.mp (y 0).isLt) | ⟨1, _⟩ => rfl | ⟨2, _⟩ => rfl⟩

section
variable {S : Shape} {off : Fin S.rank → Nat}

/-- One store of a function of two whole blocks. -/
theorem store2 (h : off = fun _ => 0) (inb : ∀ a, off a + S.size a ≤ S.size a) (p : Vec Ideal S .f32 → Vec Ideal S .f32 → Vec Ideal S .f32) (x y : Vec Ideal S .f32) :
    View.canon [⟨Rect.unit off S.size inb,
      p (View.ld x (Rect.unit off S.size inb)) (View.ld y (Rect.unit off S.size inb))⟩]
      = p x y := by
  rw [View.canon_unit_zero h, View.ld_unit_zero h, View.ld_unit_zero h]

/-- One store of a function of four whole blocks. -/
theorem store4 (h : off = fun _ => 0) (inb : ∀ a, off a + S.size a ≤ S.size a) (p : Vec Ideal S .f32 → Vec Ideal S .f32 → Vec Ideal S .f32 → Vec Ideal S .f32 → Vec Ideal S .f32) (x y z u : Vec Ideal S .f32) :
    View.canon [⟨Rect.unit off S.size inb,
      p (View.ld x (Rect.unit off S.size inb)) (View.ld y (Rect.unit off S.size inb))
        (View.ld z (Rect.unit off S.size inb)) (View.ld u (Rect.unit off S.size inb))⟩]
      = p x y z u := by
  rw [View.canon_unit_zero h, View.ld_unit_zero h, View.ld_unit_zero h, View.ld_unit_zero h, View.ld_unit_zero h]

end

/-! ## Equal tables have equal steps -/

section
variable {S T : Shape} {w g m v w' g' m' v' : S.Idx → EReal}

theorem moms_congr (hg : g = g') (hm : m = m') : moms g m = moms g' m' := by rw [hg, hm]
theorem secs_congr (hg : g = g') (hv : v = v') : secs g v = secs g' v' := by rw [hg, hv]
theorem steps_congr (hw : w = w') (hg : g = g') (hm : m = m') (hv : v = v') : steps w g m v = steps w' g' m' v' := by rw [hw, hg, hm, hv]

/-! The step's results on reshaped tables, shaped back, are its results on the tables. -/

variable {h : T.ShapeCasts S} {h' : S.ShapeCasts T} {x : S.Idx → EReal} {w₁ g₁ m₁ v₁ : T.Idx → EReal}

theorem moms_refold (hx : x = moms g m) (hg : g = shapeCast S g₁ h) (hm : m = shapeCast S m₁ h) : shapeCast T x h' = moms g₁ m₁ := by
  subst hx hg hm; exact shapeCast_shapeCast (moms g₁ m₁) h h'
theorem secs_refold (hx : x = secs g v) (hg : g = shapeCast S g₁ h) (hv : v = shapeCast S v₁ h) : shapeCast T x h' = secs g₁ v₁ := by
  subst hx hg hv; exact shapeCast_shapeCast (secs g₁ v₁) h h'
theorem steps_refold (hx : x = steps w g m v) (hw : w = shapeCast S w₁ h) (hg : g = shapeCast S g₁ h) (hm : m = shapeCast S m₁ h)
    (hv : v = shapeCast S v₁ h) : shapeCast T x h' = steps w₁ g₁ m₁ v₁ := by
  subst hx hw hg hm hv; exact shapeCast_shapeCast (steps w₁ g₁ m₁ v₁) h h'

end

end Cert.Proof.Opt

end
-- ==== Proof.Opt.In.lean ====
/-
  The optimiser's call for the in-projection's weights: eight blocks of 256 rows, four for each layer. A layer's gradient is the
  sum of the two cores' parts, each part in an array of its own, and the call chooses the layer's pair by the first grid coordinate.
-/
module

public import proofs.«01_k».proof.Proof.Opt.Whole
public import proofs.«01_k».proof.Proof.Gen.Kernel3Ideal.Frame
public import Idealize.ShloMosaic.Lib.Pipeline.ValueKit

@[expose] public section

set_option maxRecDepth 16384

noncomputable section

namespace Cert.Proof.Opt.In

open Cert.Kernel3Ideal Cert.Kernel3Ideal.Gen Idealize.ShloMosaic Idealize.ShloMosaic.TcCoe Idealize.SL.Sem
open Idealize.ShloMosaic.Pipeline (Dat)

/-! ## One entry of each payload -/

/-- The gradient's entry in a block. -/
def grad (i : grid0.Coords) (a0 b0 a1 b1 : Vec Ideal S1x256x1670 .f32) (y : S1x256x1670.Idx) : EReal :=
  if (i 0).val = 0 then a0 y + b0 y else a1 y + b1 y

theorem first (i : grid0.Coords) : Scalar.cmpi .eq (BitVec.ofNat 32 (i 0).val) 0#32 = if (i 0).val = 0 then 1#1 else 0#1 :=
  (by decide +kernel : ∀ n : Fin 2, Scalar.cmpi .eq (BitVec.ofNat 32 n.val) 0#32 = if n.val = 0 then 1#1 else 0#1) (i 0)

theorem grad_apply (i : grid0.Coords) (a0 b0 a1 b1 : Vec Ideal S1x256x1670 .f32) (r : Fin 256) (l : Fin 1670) :
    k0_pay5 (F := Ideal) i a0 b0 a1 b1 (ix2 r l) = grad i a0 b0 a1 b1 (ix3 0 r l) := by
  unfold k0_pay5 grad
  rw [first]
  split
  · rw [show Scalar.select (1#1) (_ : FVec Ideal S256x1670 .f32) _ = _ from rfl]; pointwise []
  · rw [show Scalar.select (0#1) (_ : FVec Ideal S256x1670 .f32) _ = _ from rfl]; pointwise []

theorem gout_apply (i : grid0.Coords) (a0 b0 a1 b1 : Vec Ideal S1x256x1670 .f32) (r : Fin 256) (l : Fin 1670) :
    k0_pay6 (F := Ideal) i a0 b0 a1 b1 (ix3 0 r l) = grad i a0 b0 a1 b1 (ix3 0 r l) := by
  rw [← grad_apply]; pointwise [k0_pay6]

theorem mom_apply (i : grid0.Coords) (a0 b0 a1 b1 m : Vec Ideal S1x256x1670 .f32) (r : Fin 256) (l : Fin 1670) :
    k0_pay8 (F := Ideal) i a0 b0 a1 b1 m (ix2 r l) = mom (grad i a0 b0 a1 b1 (ix3 0 r l)) (m (ix3 0 r l)) := by
  rw [← grad_apply]; unfold mom lit; pointwise [k0_pay8]

theorem sec_apply (i : grid0.Coords) (a0 b0 a1 b1 v : Vec Ideal S1x256x1670 .f32) (r : Fin 256) (l : Fin 1670) :
    k0_pay1 (F := Ideal) (k0_pay9 v) (k0_pay10 i a0 b0 a1 b1) (ix2 r l) = sec (grad i a0 b0 a1 b1 (ix3 0 r l)) (v (ix3 0 r l)) := by
  rw [← grad_apply]; unfold sec lit; pointwise [k0_pay1, k0_pay9, k0_pay10]

theorem step_apply (i : grid0.Coords) (w a0 b0 a1 b1 m v : Vec Ideal S1x256x1670 .f32) (r : Fin 256) (l : Fin 1670) :
    k0_pay2 (F := Ideal) (k0_pay7 w) (k0_pay8 i a0 b0 a1 b1 m) (k0_pay9 v) (k0_pay10 i a0 b0 a1 b1) (ix3 0 r l)
      = step (w (ix3 0 r l)) (grad i a0 b0 a1 b1 (ix3 0 r l)) (m (ix3 0 r l)) (v (ix3 0 r l)) := by
  unfold step
  rw [← mom_apply, ← sec_apply]; unfold lit; pointwise [k0_pay2, k0_pay7]

/-! ## The blocks -/

variable (V : (c : Dev nD) → (b : Ref sig .tc) → Buf (Elt Ideal) ((c : Thread nD τ).loc b)) (c : Dev nD)

/-! The weights, the two layers' pairs of partial gradients and the old moments. -/
abbrev ow : S2x1024x1670.Idx → EReal := V c main_arg0
abbrev oa0 : S1x1024x1670.Idx → EReal := V c main_arg1
abbrev ob0 : S1x1024x1670.Idx → EReal := V c main_arg2
abbrev oa1 : S1x1024x1670.Idx → EReal := V c main_arg3
abbrev ob1 : S1x1024x1670.Idx → EReal := V c main_arg4
abbrev om : S2x1024x1670.Idx → EReal := V c main_arg5
abbrev ov : S2x1024x1670.Idx → EReal := V c main_arg6
/-- The two layers' gradients. -/
abbrev og : S2x1024x1670.Idx → EReal := stack (oa0 V c) (ob0 V c) (oa1 V c) (ob1 V c)

theorem idx_facts : ∀ t : Fin cfg0.N, (grid0.coords t (0 : Fin 2)).val = t.val / 4
    ∧ (win0_1.index t (0 : Fin 3) = 0 ∧ (t.val / 4 = 0 → win0_1.index t (1 : Fin 3) = t.val % 4) ∧ win0_1.index t (2 : Fin 3) = 0)
    ∧ (win0_3.index t (0 : Fin 3) = 0 ∧ (t.val / 4 ≠ 0 → win0_3.index t (1 : Fin 3) = t.val % 4) ∧ win0_3.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- A block's place in the whole tables. -/
abbrev at_ (t : Fin cfg0.N) (y : S1x256x1670.Idx) : S2x1024x1670.Idx := ((cfg0.win 7).blk t).view.emb y

/-- A block's gradient is the stacked gradients' entry. -/
theorem grad_blk (t : Fin cfg0.N) (y : S1x256x1670.Idx) :
    grad (grid0.coords t) (iblk0 V c 1 t) (iblk0 V c 2 t) (iblk0 V c 3 t) (iblk0 V c 4 t) y = og V c (at_ t y) := by
  obtain ⟨h, ⟨a0, a1, a2⟩, ⟨b0, b1, b2⟩, o0, o1, o2⟩ := idx_facts t
  have y0 : (y 0).val = 0 := Nat.lt_one_iff.mp (y 0).isLt
  have e0 : (at_ t y 0).val = t.val / 4 := by show win0_7.index t (0 : Fin 3) * 1 + 1 * (y 0).val = _; omega
  have e1 : (at_ t y 1).val = 256 * (t.val % 4) + (y 1).val := by show win0_7.index t (1 : Fin 3) * 256 + 1 * (y 1).val = _; omega
  have e2 : (at_ t y 2).val = (y 2).val := by show win0_7.index t (2 : Fin 3) * 1670 + 1 * (y 2).val = _; omega
  unfold grad og stack
  rw [h, e0]
  by_cases hl : t.val / 4 = 0
  · have p : ((cfg0.win 1).blk t).view.emb y = ix3 0 (at_ t y 1) (at_ t y 2) := funext fun a => Fin.ext (by
      match a with
      | ⟨0, _⟩ => show win0_1.index t (0 : Fin 3) * 1 + 1 * (y 0).val = 0; omega
      | ⟨1, _⟩ => show win0_1.index t (1 : Fin 3) * 256 + 1 * (y 1).val = (at_ t y 1).val; rw [e1, a1 hl]; omega
      | ⟨2, _⟩ => show win0_1.index t (2 : Fin 3) * 1670 + 1 * (y 2).val = (at_ t y 2).val; omega)
    rw [if_pos hl, if_pos hl]
    exact congrArg₂ (· + ·) (congrArg (oa0 V c) p) (congrArg (ob0 V c) p)
  · have p : ((cfg0.win 3).blk t).view.emb y = ix3 0 (at_ t y 1) (at_ t y 2) := funext fun a => Fin.ext (by
      match a with
      | ⟨0, _⟩ => show win0_3.index t (0 : Fin 3) * 1 + 1 * (y 0).val = 0; omega
      | ⟨1, _⟩ => show win0_3.index t (1 : Fin 3) * 256 + 1 * (y 1).val = (at_ t y 1).val; rw [e1, b1 hl]; omega
      | ⟨2, _⟩ => show win0_3.index t (2 : Fin 3) * 1670 + 1 * (y 2).val = (at_ t y 2).val; omega)
    rw [if_neg hl, if_neg hl]
    exact congrArg₂ (· + ·) (congrArg (oa1 V c) p) (congrArg (ob1 V c) p)

/-! ## The four results -/

/-- The summed gradients. -/
theorem final7 : (dat0 V c).arrAt 7 cfg0.N = og V c :=
  (dat0 V c).arrAt_eq_of_covers 7 _ (by decide +kernel) fun t _ y => by
    obtain ⟨r, l, rfl⟩ := entry y
    refine (congrFun (after0_7 V c t) _).trans ?_
    show out0_7 (grid0.coords t) (iblk0 V c 0 t) (iblk0 V c 1 t) (iblk0 V c 2 t) (iblk0 V c 3 t) (iblk0 V c 4 t) (iblk0 V c 5 t) (iblk0 V c 6 t) (ix3 0 r l) = og V c (at_ t (ix3 0 r l))
    unfold out0_7
    rw [View.canon_unit_zero hz3]
    simp only [View.ld_unit_zero (S := S1x256x1670) hz3]
    rw [gout_apply, grad_blk]

/-- The changes of the weights. -/
theorem final8 : (dat0 V c).arrAt 8 cfg0.N = steps (ow V c) (og V c) (om V c) (ov V c) :=
  (dat0 V c).arrAt_eq_of_covers 8 _ (by decide +kernel) fun t _ y => by
    obtain ⟨r, l, rfl⟩ := entry y
    refine (congrFun (after0_8 V c t) _).trans ?_
    show out0_8 (grid0.coords t) (iblk0 V c 0 t) (iblk0 V c 1 t) (iblk0 V c 2 t) (iblk0 V c 3 t) (iblk0 V c 4 t) (iblk0 V c 5 t) (iblk0 V c 6 t) (ix3 0 r l)
      = steps (ow V c) (og V c) (om V c) (ov V c) (at_ t (ix3 0 r l))
    unfold out0_8 k0_pay11 k0_pay12 k0_pay13
    rw [View.canon_unit_zero hz3]
    simp only [View.ld_unit_zero (S := S1x256x1670) hz3]
    rw [step_apply, grad_blk]
    rfl

/-- The new first moments. -/
theorem final9 : (dat0 V c).arrAt 9 cfg0.N = moms (og V c) (om V c) :=
  (dat0 V c).arrAt_eq_of_covers 9 _ (by decide +kernel) fun t _ y => by
    obtain ⟨r, l, rfl⟩ := entry y
    refine (congrFun (after0_9 V c t) _).trans ?_
    show out0_9 (grid0.coords t) (iblk0 V c 0 t) (iblk0 V c 1 t) (iblk0 V c 2 t) (iblk0 V c 3 t) (iblk0 V c 4 t) (iblk0 V c 5 t) (iblk0 V c 6 t) (ix3 0 r l)
      = moms (og V c) (om V c) (at_ t (ix3 0 r l))
    unfold out0_9 k0_pay11
    rw [View.canon_unit_zero hz3]
    simp only [View.ld_unit_zero (S := S1x256x1670) hz3]
    rw [show ∀ p : Vec Ideal S256x1670 .f32, k0_pay3 (F := Ideal) p (ix3 0 r l) = p (ix2 r l) from fun p => by pointwise [k0_pay3], mom_apply, grad_blk]
    rfl

/-- The new second moments. -/
theorem final10 : (dat0 V c).arrAt 10 cfg0.N = secs (og V c) (ov V c) :=
  (dat0 V c).arrAt_eq_of_covers 10 _ (by decide +kernel) fun t _ y => by
    obtain ⟨r, l, rfl⟩ := entry y
    refine (congrFun (after0_10 V c t) _).trans ?_
    show out0_10 (grid0.coords t) (iblk0 V c 0 t) (iblk0 V c 1 t) (iblk0 V c 2 t) (iblk0 V c 3 t) (iblk0 V c 4 t) (iblk0 V c 5 t) (iblk0 V c 6 t) (ix3 0 r l)
      = secs (og V c) (ov V c) (at_ t (ix3 0 r l))
    unfold out0_10 k0_pay12 k0_pay13
    rw [View.canon_unit_zero hz3]
    simp only [View.ld_unit_zero (S := S1x256x1670) hz3]
    rw [show ∀ p q : Vec Ideal S256x1670 .f32, k0_pay4 (F := Ideal) p q (ix3 0 r l) = k0_pay1 p q (ix2 r l) from fun p q => by pointwise [k0_pay4], sec_apply, grad_blk]
    rfl

end Cert.Proof.Opt.In

end
-- ==== Proof.Opt.Out.lean ====
/-
  The optimiser's call for the out-projection's weights: four blocks of 256 rows, two for each layer. A layer's gradient is the
  sum of the two cores' parts, each part in an array of its own, and the call chooses the layer's pair by the first grid coordinate.
-/
module

public import proofs.«01_k».proof.Proof.Opt.Whole
public import proofs.«01_k».proof.Proof.Gen.Kernel3Ideal.Frame
public import Idealize.ShloMosaic.Lib.Pipeline.ValueKit

@[expose] public section

set_option maxRecDepth 16384

noncomputable section

namespace Cert.Proof.Opt.Out

open Cert.Kernel3Ideal Cert.Kernel3Ideal.Gen Idealize.ShloMosaic Idealize.ShloMosaic.TcCoe Idealize.SL.Sem
open Idealize.ShloMosaic.Pipeline (Dat)

/-! ## One entry of each payload -/

/-- The gradient's entry in a block. -/
def grad (i : grid1.Coords) (a0 b0 a1 b1 : Vec Ideal S1x256x1024 .f32) (y : S1x256x1024.Idx) : EReal :=
  if (i 0).val = 0 then a0 y + b0 y else a1 y + b1 y

theorem first (i : grid1.Coords) : Scalar.cmpi .eq (BitVec.ofNat 32 (i 0).val) 0#32 = if (i 0).val = 0 then 1#1 else 0#1 :=
  (by decide +kernel : ∀ n : Fin 2, Scalar.cmpi .eq (BitVec.ofNat 32 n.val) 0#32 = if n.val = 0 then 1#1 else 0#1) (i 0)

theorem grad_apply (i : grid1.Coords) (a0 b0 a1 b1 : Vec Ideal S1x256x1024 .f32) (r : Fin 256) (l : Fin 1024) :
    k1_pay5 (F := Ideal) i a0 b0 a1 b1 (ix2 r l) = grad i a0 b0 a1 b1 (ix3 0 r l) := by
  unfold k1_pay5 grad
  rw [first]
  split
  · rw [show Scalar.select (1#1) (_ : FVec Ideal S256x1024 .f32) _ = _ from rfl]; pointwise []
  · rw [show Scalar.select (0#1) (_ : FVec Ideal S256x1024 .f32) _ = _ from rfl]; pointwise []

theorem gout_apply (i : grid1.Coords) (a0 b0 a1 b1 : Vec Ideal S1x256x1024 .f32) (r : Fin 256) (l : Fin 1024) :
    k1_pay6 (F := Ideal) i a0 b0 a1 b1 (ix3 0 r l) = grad i a0 b0 a1 b1 (ix3 0 r l) := by
  rw [← grad_apply]; pointwise [k1_pay6]

theorem mom_apply (i : grid1.Coords) (a0 b0 a1 b1 m : Vec Ideal S1x256x1024 .f32) (r : Fin 256) (l : Fin 1024) :
    k1_pay8 (F := Ideal) i a0 b0 a1 b1 m (ix2 r l) = mom (grad i a0 b0 a1 b1 (ix3 0 r l)) (m (ix3 0 r l)) := by
  rw [← grad_apply]; unfold mom lit; pointwise [k1_pay8]

theorem sec_apply (i : grid1.Coords) (a0 b0 a1 b1 v : Vec Ideal S1x256x1024 .f32) (r : Fin 256) (l : Fin 1024) :
    k1_pay1 (F := Ideal) (k1_pay9 v) (k1_pay10 i a0 b0 a1 b1) (ix2 r l) = sec (grad i a0 b0 a1 b1 (ix3 0 r l)) (v (ix3 0 r l)) := by
  rw [← grad_apply]; unfold sec lit; pointwise [k1_pay1, k1_pay9, k1_pay10]

theorem step_apply (i : grid1.Coords) (w a0 b0 a1 b1 m v : Vec Ideal S1x256x1024 .f32) (r : Fin 256) (l : Fin 1024) :
    k1_pay2 (F := Ideal) (k1_pay7 w) (k1_pay8 i a0 b0 a1 b1 m) (k1_pay9 v) (k1_pay10 i a0 b0 a1 b1) (ix3 0 r l)
      = step (w (ix3 0 r l)) (grad i a0 b0 a1 b1 (ix3 0 r l)) (m (ix3 0 r l)) (v (ix3 0 r l)) := by
  unfold step
  rw [← mom_apply, ← sec_apply]; unfold lit; pointwise [k1_pay2, k1_pay7]

/-! ## The blocks -/

variable (V : (c : Dev nD) → (b : Ref sig .tc) → Buf (Elt Ideal) ((c : Thread nD τ).loc b)) (c : Dev nD)

/-! The weights, the two layers' pairs of partial gradients and the old moments. -/
abbrev ow : S2x512x1024.Idx → EReal := V c main_arg7
abbrev oa0 : S1x512x1024.Idx → EReal := V c main_arg8
abbrev ob0 : S1x512x1024.Idx → EReal := V c main_arg9
abbrev oa1 : S1x512x1024.Idx → EReal := V c main_arg10
abbrev ob1 : S1x512x1024.Idx → EReal := V c main_arg11
abbrev om : S2x512x1024.Idx → EReal := V c main_arg12
abbrev ov : S2x512x1024.Idx → EReal := V c main_arg13
/-- The two layers' gradients. -/
abbrev og : S2x512x1024.Idx → EReal := stack (oa0 V c) (ob0 V c) (oa1 V c) (ob1 V c)

theorem idx_facts : ∀ t : Fin cfg1.N, (grid1.coords t (0 : Fin 2)).val = t.val / 2
    ∧ (win1_1.index t (0 : Fin 3) = 0 ∧ (t.val / 2 = 0 → win1_1.index t (1 : Fin 3) = t.val % 2) ∧ win1_1.index t (2 : Fin 3) = 0)
    ∧ (win1_3.index t (0 : Fin 3) = 0 ∧ (t.val / 2 ≠ 0 → win1_3.index t (1 : Fin 3) = t.val % 2) ∧ win1_3.index t (2 : Fin 3) = 0)
    ∧ (win1_7.index t (0 : Fin 3) = t.val / 2 ∧ win1_7.index t (1 : Fin 3) = t.val % 2 ∧ win1_7.index t (2 : Fin 3) = 0) :=
  (by decide +kernel : ∀ t : Fin grid1.N, _)

/-- A block's place in the whole tables. -/
abbrev at_ (t : Fin cfg1.N) (y : S1x256x1024.Idx) : S2x512x1024.Idx := ((cfg1.win 7).blk t).view.emb y

/-- A block's gradient is the stacked gradients' entry. -/
theorem grad_blk (t : Fin cfg1.N) (y : S1x256x1024.Idx) :
    grad (grid1.coords t) (iblk1 V c 1 t) (iblk1 V c 2 t) (iblk1 V c 3 t) (iblk1 V c 4 t) y = og V c (at_ t y) := by
  obtain ⟨h, ⟨a0, a1, a2⟩, ⟨b0, b1, b2⟩, o0, o1, o2⟩ := idx_facts t
  have y0 : (y 0).val = 0 := Nat.lt_one_iff.mp (y 0).isLt
  have e0 : (at_ t y 0).val = t.val / 2 := by show win1_7.index t (0 : Fin 3) * 1 + 1 * (y 0).val = _; omega
  have e1 : (at_ t y 1).val = 256 * (t.val % 2) + (y 1).val := by show win1_7.index t (1 : Fin 3) * 256 + 1 * (y 1).val = _; omega
  have e2 : (at_ t y 2).val = (y 2).val := by show win1_7.index t (2 : Fin 3) * 1024 + 1 * (y 2).val = _; omega
  unfold grad og stack
  rw [h, e0]
  by_cases hl : t.val / 2 = 0
  · have p : ((cfg1.win 1).blk t).view.emb y = ix3 0 (at_ t y 1) (at_ t y 2) := funext fun a => Fin.ext (by
      match a with
      | ⟨0, _⟩ => show win1_1.index t (0 : Fin 3) * 1 + 1 * (y 0).val = 0; omega
      | ⟨1, _⟩ => show win1_1.index t (1 : Fin 3) * 256 + 1 * (y 1).val = (at_ t y 1).val; rw [e1, a1 hl]; omega
      | ⟨2, _⟩ => show win1_1.index t (2 : Fin 3) * 1024 + 1 * (y 2).val = (at_ t y 2).val; omega)
    rw [if_pos hl, if_pos hl]
    exact congrArg₂ (· + ·) (congrArg (oa0 V c) p) (congrArg (ob0 V c) p)
  · have p : ((cfg1.win 3).blk t).view.emb y = ix3 0 (at_ t y 1) (at_ t y 2) := funext fun a => Fin.ext (by
      match a with
      | ⟨0, _⟩ => show win1_3.index t (0 : Fin 3) * 1 + 1 * (y 0).val = 0; omega
      | ⟨1, _⟩ => show win1_3.index t (1 : Fin 3) * 256 + 1 * (y 1).val = (at_ t y 1).val; rw [e1, b1 hl]; omega
      | ⟨2, _⟩ => show win1_3.index t (2 : Fin 3) * 1024 + 1 * (y 2).val = (at_ t y 2).val; omega)
    rw [if_neg hl, if_neg hl]
    exact congrArg₂ (· + ·) (congrArg (oa1 V c) p) (congrArg (ob1 V c) p)

/-! ## The four results -/

/-- The summed gradients. -/
theorem final7 : (dat1 V c).arrAt 7 cfg1.N = og V c :=
  (dat1 V c).arrAt_eq_of_covers 7 _ (by decide +kernel) fun t _ y => by
    obtain ⟨r, l, rfl⟩ := entry y
    refine (congrFun (after1_7 V c t) _).trans ?_
    show out1_7 (grid1.coords t) (iblk1 V c 0 t) (iblk1 V c 1 t) (iblk1 V c 2 t) (iblk1 V c 3 t) (iblk1 V c 4 t) (iblk1 V c 5 t) (iblk1 V c 6 t) (ix3 0 r l) = og V c (at_ t (ix3 0 r l))
    unfold out1_7
    rw [View.canon_unit_zero hz3]
    simp only [View.ld_unit_zero (S := S1x256x1024) hz3]
    rw [gout_apply, grad_blk]

/-- The changes of the weights. -/
theorem final8 : (dat1 V c).arrAt 8 cfg1.N = steps (ow V c) (og V c) (om V c) (ov V c) :=
  (dat1 V c).arrAt_eq_of_covers 8 _ (by decide +kernel) fun t _ y => by
    obtain ⟨r, l, rfl⟩ := entry y
    refine (congrFun (after1_8 V c t) _).trans ?_
    show out1_8 (grid1.coords t) (iblk1 V c 0 t) (iblk1 V c 1 t) (iblk1 V c 2 t) (iblk1 V c 3 t) (iblk1 V c 4 t) (iblk1 V c 5 t) (iblk1 V c 6 t) (ix3 0 r l)
      = steps (ow V c) (og V c) (om V c) (ov V c) (at_ t (ix3 0 r l))
    unfold out1_8 k1_pay11 k1_pay12 k1_pay13
    rw [View.canon_unit_zero hz3]
    simp only [View.ld_unit_zero (S := S1x256x1024) hz3]
    rw [step_apply, grad_blk]
    rfl

/-- The new first moments. -/
theorem final9 : (dat1 V c).arrAt 9 cfg1.N = moms (og V c) (om V c) :=
  (dat1 V c).arrAt_eq_of_covers 9 _ (by decide +kernel) fun t _ y => by
    obtain ⟨r, l, rfl⟩ := entry y
    refine (congrFun (after1_9 V c t) _).trans ?_
    show out1_9 (grid1.coords t) (iblk1 V c 0 t) (iblk1 V c 1 t) (iblk1 V c 2 t) (iblk1 V c 3 t) (iblk1 V c 4 t) (iblk1 V c 5 t) (iblk1 V c 6 t) (ix3 0 r l)
      = moms (og V c) (om V c) (at_ t (ix3 0 r l))
    unfold out1_9 k1_pay11
    rw [View.canon_unit_zero hz3]
    simp only [View.ld_unit_zero (S := S1x256x1024) hz3]
    rw [show ∀ p : Vec Ideal S256x1024 .f32, k1_pay3 (F := Ideal) p (ix3 0 r l) = p (ix2 r l) from fun p => by pointwise [k1_pay3], mom_apply, grad_blk]
    rfl

/-- The new second moments. -/
theorem final10 : (dat1 V c).arrAt 10 cfg1.N = secs (og V c) (ov V c) :=
  (dat1 V c).arrAt_eq_of_covers 10 _ (by decide +kernel) fun t _ y => by
    obtain ⟨r, l, rfl⟩ := entry y
    refine (congrFun (after1_10 V c t) _).trans ?_
    show out1_10 (grid1.coords t) (iblk1 V c 0 t) (iblk1 V c 1 t) (iblk1 V c 2 t) (iblk1 V c 3 t) (iblk1 V c 4 t) (iblk1 V c 5 t) (iblk1 V c 6 t) (ix3 0 r l)
      = secs (og V c) (ov V c) (at_ t (ix3 0 r l))
    unfold out1_10 k1_pay12 k1_pay13
    rw [View.canon_unit_zero hz3]
    simp only [View.ld_unit_zero (S := S1x256x1024) hz3]
    rw [show ∀ p q : Vec Ideal S256x1024 .f32, k1_pay4 (F := Ideal) p q (ix3 0 r l) = k1_pay1 p q (ix2 r l) from fun p q => by pointwise [k1_pay4], sec_apply, grad_blk]
    rfl

end Cert.Proof.Opt.Out

end
-- ==== Proof.Opt.Ref.lean ====
/-
  The reference's results: the two layers' gradients are stacked, and the step is taken on the stacked tables.
-/
module

public import proofs.«01_k».proof.Proof.Opt.Spec
public import proofs.«01_k».proof.Proof.Gen.Reference3Ideal.Read

@[expose] public section

set_option maxRecDepth 16384

noncomputable section

namespace Cert.Proof.Opt.Ref

open Cert.Reference3Ideal Cert.Reference3Ideal.Gen Cert.Reference3Ideal.Read Idealize.ShloMosaic Idealize.ShloMosaic.StableHlo

/-- Two sums of layers joined on the layers' axis are the stacked gradients. -/
theorem stack_eq {r k : ℕ} (a0 b0 a1 b1 : (⟨3, ![1, r, k]⟩ : Shape).Idx → EReal)
    (h : Shape.Concatenates [⟨3, ![1, r, k]⟩, ⟨3, ![1, r, k]⟩] ⟨3, ![2, r, k]⟩ 0) :
    concatenate (α := EReal) ⟨3, ![2, r, k]⟩ 0 [⟨⟨3, ![1, r, k]⟩, fun i => a0 i + b0 i⟩, ⟨⟨3, ![1, r, k]⟩, fun i => a1 i + b1 i⟩] h = stack a0 b0 a1 b1 := by
  funext i
  have h0 : (i 0).val < 2 := (i 0).isLt
  unfold stack
  by_cases hi : (i 0).val = 0
  · rw [if_pos hi]
    exact concatenate_pair_apply_left 0 _ _ h i rfl (ix3 0 (i 1) (i 2)) (fun a => by match a with | ⟨0, _⟩ => exact hi.symm | ⟨1, _⟩ => rfl | ⟨2, _⟩ => rfl)
  · rw [if_neg hi]
    exact concatenate_pair_apply_right 0 _ _ h i rfl rfl (ix3 0 (i 1) (i 2))
      (fun a ha => by match a, ha with | ⟨0, _⟩, ha => exact absurd rfl ha | ⟨1, _⟩, _ => rfl | ⟨2, _⟩, _ => rfl)
      (show 0 + 1 = (i 0).val by omega)

section In
variable (w m v : S2x1024x1670.Idx → EReal) (a0 b0 a1 b1 : S1x1024x1670.Idx → EReal)

/-- The stacked gradients of the in-projection's weights. -/
theorem grad_in : (val_main_v2 (F := Ideal) a0 b0 a1 b1 : S2x1024x1670.Idx → EReal) = stack a0 b0 a1 b1 := stack_eq a0 b0 a1 b1 _

/-- Their new first moments. -/
theorem mom_in : (val_main_v10 (F := Ideal) a0 b0 a1 b1 m : S2x1024x1670.Idx → EReal) = moms (stack a0 b0 a1 b1) m := by
  rw [← grad_in]; rfl

/-- Their new second moments. -/
theorem sec_in : (val_main_v16 (F := Ideal) a0 b0 a1 b1 v : S2x1024x1670.Idx → EReal) = secs (stack a0 b0 a1 b1) v := by
  rw [← grad_in]; rfl

/-- The changes of the weights. -/
theorem step_in : (val_main_v29 (F := Ideal) w a0 b0 a1 b1 m v : S2x1024x1670.Idx → EReal) = steps w (stack a0 b0 a1 b1) m v := by
  rw [← grad_in]; rfl

end In

section Out
variable (w m v : S2x512x1024.Idx → EReal) (a0 b0 a1 b1 : S1x512x1024.Idx → EReal)

/-- The stacked gradients of the out-projection's weights. -/
theorem grad_out : (val_main_v5 (F := Ideal) a0 b0 a1 b1 : S2x512x1024.Idx → EReal) = stack a0 b0 a1 b1 := stack_eq a0 b0 a1 b1 _

/-- Their new first moments. -/
theorem mom_out : (val_main_v34 (F := Ideal) a0 b0 a1 b1 m : S2x512x1024.Idx → EReal) = moms (stack a0 b0 a1 b1) m := by
  rw [← grad_out]; rfl

/-- Their new second moments. -/
theorem sec_out : (val_main_v40 (F := Ideal) a0 b0 a1 b1 v : S2x512x1024.Idx → EReal) = secs (stack a0 b0 a1 b1) v := by
  rw [← grad_out]; rfl

/-- The changes of the weights. -/
theorem step_out : (val_main_v53 (F := Ideal) w a0 b0 a1 b1 m v : S2x512x1024.Idx → EReal) = steps w (stack a0 b0 a1 b1) m v := by
  rw [← grad_out]; rfl

end Out

end Cert.Proof.Opt.Ref

end
-- ==== Proof.Opt.Claim.lean ====
/-
  The value claim of the optimiser's two calls for the projections' weights: over the reals the kernel's results are the reference's.
-/
module

public import proofs.«01_k».proof.Defs
public import proofs.«01_k».proof.Proof.Opt.Launch
public import proofs.«01_k».proof.Proof.Opt.In
public import proofs.«01_k».proof.Proof.Opt.Out
public import proofs.«01_k».proof.Proof.Opt.Ref

@[expose] public section

set_option maxRecDepth 16384

noncomputable section

namespace Cert.Proof.Opt

open Cert.Kernel3Ideal Cert.Kernel3Ideal.Gen Idealize.ShloMosaic Idealize.ShloMosaic.TcCoe Idealize.SL.Sem
open Idealize.ShloMosaic.Pipeline (Dat)

section Results
variable (m : (ℓ : Loc nD τ sig) → Buf (Elt Ideal) ℓ) (ρ : Dev nD → PrngReg) (c : Dev nD)

/-- Argument 0 as launched. -/
abbrev a0 : S2x1024x1670.Idx → EReal := m ((c : Thread nD τ).loc main_arg0)
/-- Argument 1 as launched. -/
abbrev a1 : S1x1024x1670.Idx → EReal := m ((c : Thread nD τ).loc main_arg1)
/-- Argument 2 as launched. -/
abbrev a2 : S1x1024x1670.Idx → EReal := m ((c : Thread nD τ).loc main_arg2)
/-- Argument 3 as launched. -/
abbrev a3 : S1x1024x1670.Idx → EReal := m ((c : Thread nD τ).loc main_arg3)
/-- Argument 4 as launched. -/
abbrev a4 : S1x1024x1670.Idx → EReal := m ((c : Thread nD τ).loc main_arg4)
/-- Argument 5 as launched. -/
abbrev a5 : S2x1024x1670.Idx → EReal := m ((c : Thread nD τ).loc main_arg5)
/-- Argument 6 as launched. -/
abbrev a6 : S2x1024x1670.Idx → EReal := m ((c : Thread nD τ).loc main_arg6)
/-- Argument 7 as launched. -/
abbrev a7 : S2x512x1024.Idx → EReal := m ((c : Thread nD τ).loc main_arg7)
/-- Argument 8 as launched. -/
abbrev a8 : S1x512x1024.Idx → EReal := m ((c : Thread nD τ).loc main_arg8)
/-- Argument 9 as launched. -/
abbrev a9 : S1x512x1024.Idx → EReal := m ((c : Thread nD τ).loc main_arg9)
/-- Argument 10 as launched. -/
abbrev a10 : S1x512x1024.Idx → EReal := m ((c : Thread nD τ).loc main_arg10)
/-- Argument 11 as launched. -/
abbrev a11 : S1x512x1024.Idx → EReal := m ((c : Thread nD τ).loc main_arg11)
/-- Argument 12 as launched. -/
abbrev a12 : S2x512x1024.Idx → EReal := m ((c : Thread nD τ).loc main_arg12)
/-- Argument 13 as launched. -/
abbrev a13 : S2x512x1024.Idx → EReal := m ((c : Thread nD τ).loc main_arg13)

/-! ## The in-projection's weights -/

theorem grad_in : (W2 m ρ c (Proc.devRef .tc main_v0_0) : S2x1024x1670.Idx → EReal) = stack (a1 m c) (a2 m c) (a3 m c) (a4 m c) :=
  (W2_of m ρ c main_v0_0 (by decide)).trans ((W1_arr m ρ c 7).trans (In.final7 (V0 m ρ) c))
theorem step_in : (W2 m ρ c (Proc.devRef .tc main_v0_1) : S2x1024x1670.Idx → EReal)
    = steps (a0 m c) (stack (a1 m c) (a2 m c) (a3 m c) (a4 m c)) (a5 m c) (a6 m c) :=
  (W2_of m ρ c main_v0_1 (by decide)).trans ((W1_arr m ρ c 8).trans (In.final8 (V0 m ρ) c))
theorem mom_in : (W2 m ρ c (Proc.devRef .tc main_v0_2) : S2x1024x1670.Idx → EReal) = moms (stack (a1 m c) (a2 m c) (a3 m c) (a4 m c)) (a5 m c) :=
  (W2_of m ρ c main_v0_2 (by decide)).trans ((W1_arr m ρ c 9).trans (In.final9 (V0 m ρ) c))
theorem sec_in : (W2 m ρ c (Proc.devRef .tc main_v0_3) : S2x1024x1670.Idx → EReal) = secs (stack (a1 m c) (a2 m c) (a3 m c) (a4 m c)) (a6 m c) :=
  (W2_of m ρ c main_v0_3 (by decide)).trans ((W1_arr m ρ c 10).trans (In.final10 (V0 m ρ) c))

/-! ## The out-projection's weights: the first call leaves the second's arguments alone -/

theorem entry_w : Out.ow (V1 m ρ) c = a7 m c := W1_args m ρ c main_arg7 (by decide)
theorem entry_g : Out.og (V1 m ρ) c = stack (a8 m c) (a9 m c) (a10 m c) (a11 m c) := by
  show stack (V1 m ρ c main_arg8 : S1x512x1024.Idx → EReal) (V1 m ρ c main_arg9) (V1 m ρ c main_arg10) (V1 m ρ c main_arg11) = _
  rw [show V1 m ρ c main_arg8 = _ from W1_args m ρ c main_arg8 (by decide), show V1 m ρ c main_arg9 = _ from W1_args m ρ c main_arg9 (by decide),
    show V1 m ρ c main_arg10 = _ from W1_args m ρ c main_arg10 (by decide), show V1 m ρ c main_arg11 = _ from W1_args m ρ c main_arg11 (by decide)]
theorem entry_m : Out.om (V1 m ρ) c = a12 m c := W1_args m ρ c main_arg12 (by decide)
theorem entry_v : Out.ov (V1 m ρ) c = a13 m c := W1_args m ρ c main_arg13 (by decide)

theorem grad_out : (W2 m ρ c (Proc.devRef .tc main_v1_0) : S2x512x1024.Idx → EReal) = stack (a8 m c) (a9 m c) (a10 m c) (a11 m c) :=
  ((W2_arr m ρ c 7).trans (Out.final7 (V1 m ρ) c)).trans (entry_g m ρ c)
theorem step_out : (W2 m ρ c (Proc.devRef .tc main_v1_1) : S2x512x1024.Idx → EReal)
    = steps (a7 m c) (stack (a8 m c) (a9 m c) (a10 m c) (a11 m c)) (a12 m c) (a13 m c) := by
  refine ((W2_arr m ρ c 8).trans (Out.final8 (V1 m ρ) c)).trans ?_
  rw [entry_w, entry_g, entry_m, entry_v]
theorem mom_out : (W2 m ρ c (Proc.devRef .tc main_v1_2) : S2x512x1024.Idx → EReal) = moms (stack (a8 m c) (a9 m c) (a10 m c) (a11 m c)) (a12 m c) := by
  refine ((W2_arr m ρ c 9).trans (Out.final9 (V1 m ρ) c)).trans ?_
  rw [entry_g, entry_m]
theorem sec_out : (W2 m ρ c (Proc.devRef .tc main_v1_3) : S2x512x1024.Idx → EReal) = secs (stack (a8 m c) (a9 m c) (a10 m c) (a11 m c)) (a13 m c) := by
  refine ((W2_arr m ρ c 10).trans (Out.final10 (V1 m ρ) c)).trans ?_
  rw [entry_g, entry_v]

end Results

/-- Over the reals the kernel and the reference leave the same results, and neither changes an argument. -/
theorem algebraic : Cert.algebraic_Kernel3Ideal_Reference3Ideal := by
  intro m g m' g' _ hargs
  refine ⟨fun c => W2 m g c (Proc.devRef .tc main_v0_0), fun c => W2 m g c (Proc.devRef .tc main_v0_1), fun c => W2 m g c (Proc.devRef .tc main_v0_2), fun c => W2 m g c (Proc.devRef .tc main_v0_3), fun c => W2 m g c (Proc.devRef .tc main_v1_0), fun c => W2 m g c (Proc.devRef .tc main_v1_1), fun c => W2 m g c (Proc.devRef .tc main_v1_2), fun c => W2 m g c (Proc.devRef .tc main_v1_3), ?_, ?_⟩
  · refine (θ_run defs _ _).mono (fun r h c => ⟨h.1 c _ (mem_uc main_v0_0 (by decide)), h.1 c _ (mem_uc main_v0_1 (by decide)), h.1 c _ (mem_uc main_v0_2 (by decide)), h.1 c _ (mem_uc main_v0_3 (by decide)), h.1 c _ (mem_uc main_v1_0 (by decide)), h.1 c _ (mem_uc main_v1_1 (by decide)), h.1 c _ (mem_uc main_v1_2 (by decide)), h.1 c _ (mem_uc main_v1_3 (by decide)),
      (h.1 c _ (mem_uc main_arg0 (by decide))).trans (W2_main_arg0 m g c),
      (h.1 c _ (mem_uc main_arg1 (by decide))).trans (W2_main_arg1 m g c),
      (h.1 c _ (mem_uc main_arg2 (by decide))).trans (W2_main_arg2 m g c),
      (h.1 c _ (mem_uc main_arg3 (by decide))).trans (W2_main_arg3 m g c),
      (h.1 c _ (mem_uc main_arg4 (by decide))).trans (W2_main_arg4 m g c),
      (h.1 c _ (mem_uc main_arg5 (by decide))).trans (W2_main_arg5 m g c),
      (h.1 c _ (mem_uc main_arg6 (by decide))).trans (W2_main_arg6 m g c),
      (h.1 c _ (mem_uc main_arg7 (by decide))).trans (W2_main_arg7 m g c),
      (h.1 c _ (mem_uc main_arg8 (by decide))).trans (W2_main_arg8 m g c),
      (h.1 c _ (mem_uc main_arg9 (by decide))).trans (W2_main_arg9 m g c),
      (h.1 c _ (mem_uc main_arg10 (by decide))).trans (W2_main_arg10 m g c),
      (h.1 c _ (mem_uc main_arg11 (by decide))).trans (W2_main_arg11 m g c),
      (h.1 c _ (mem_uc main_arg12 (by decide))).trans (W2_main_arg12 m g c),
      (h.1 c _ (mem_uc main_arg13 (by decide))).trans (W2_main_arg13 m g c)⟩) (run_all m g)
  · refine (θ_run Cert.Reference3Ideal.defs _ _).mono (fun r h c => ?_) (Cert.Reference3Ideal.Value.run (F := Ideal) m' g')
    obtain ⟨r0, r1, r2, r3, r4, r5, r6, r7, rest⟩ := h c
    obtain ⟨e0, e1, e2, e3, e4, e5, e6, e7, e8, e9, e10, e11, e12, e13⟩ := hargs c
    exact ⟨
      r0.trans ((Cert.Reference3Ideal.Read.val_main_v2_eq _ _ _ _).trans (by rw [e1, e2, e3, e4]; exact (Ref.grad_in _ _ _ _).trans (grad_in m g c).symm)),
      r1.trans ((Cert.Reference3Ideal.Read.val_main_v29_eq _ _ _ _ _ _ _).trans (by rw [e0, e1, e2, e3, e4, e5, e6]; exact (Ref.step_in _ _ _ _ _ _ _).trans (step_in m g c).symm)),
      r2.trans ((Cert.Reference3Ideal.Read.val_main_v10_eq _ _ _ _ _).trans (by rw [e1, e2, e3, e4, e5]; exact (Ref.mom_in _ _ _ _ _).trans (mom_in m g c).symm)),
      r3.trans ((Cert.Reference3Ideal.Read.val_main_v16_eq _ _ _ _ _).trans (by rw [e1, e2, e3, e4, e6]; exact (Ref.sec_in _ _ _ _ _).trans (sec_in m g c).symm)),
      r4.trans ((Cert.Reference3Ideal.Read.val_main_v5_eq _ _ _ _).trans (by rw [e8, e9, e10, e11]; exact (Ref.grad_out _ _ _ _).trans (grad_out m g c).symm)),
      r5.trans ((Cert.Reference3Ideal.Read.val_main_v53_eq _ _ _ _ _ _ _).trans (by rw [e7, e8, e9, e10, e11, e12, e13]; exact (Ref.step_out _ _ _ _ _ _ _).trans (step_out m g c).symm)),
      r6.trans ((Cert.Reference3Ideal.Read.val_main_v34_eq _ _ _ _ _).trans (by rw [e8, e9, e10, e11, e12]; exact (Ref.mom_out _ _ _ _ _).trans (mom_out m g c).symm)),
      r7.trans ((Cert.Reference3Ideal.Read.val_main_v40_eq _ _ _ _ _).trans (by rw [e8, e9, e10, e11, e13]; exact (Ref.sec_out _ _ _ _ _).trans (sec_out m g c).symm)),
      rest⟩

end Cert.Proof.Opt

end
-- ==== Proof.Vectors.Launch.lean ====
/-
  The run of the whole program: every buffer of every core ends at the contents the program's segments leave there, and every
  semaphore counter ends at zero.
-/
module

public import proofs.«01_k».proof.Proof.Gen.Kernel4Ideal.Frame

@[expose] public section

set_option maxRecDepth 16384

noncomputable section

namespace Cert.Proof.Vectors

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Proof.Vectors

end
-- ==== Proof.Vectors.Regions.lean ====
/-
  The optimiser's calls for the norms' weights and the SSD convolution's bias: each call's three result arrays, as functions of
  its four argument arrays as the call finds them. A call has one block, the whole of its arrays.
-/
module

public import proofs.«01_k».proof.Proof.Opt.Whole
public import proofs.«01_k».proof.Proof.Gen.Kernel4Ideal.Frame
public import Idealize.ShloMosaic.Lib.Pipeline.ValueKit

@[expose] public section

set_option maxRecDepth 16384

noncomputable section

namespace Cert.Proof.Vectors

open Cert.Kernel4Ideal Cert.Kernel4Ideal.Gen Cert.Proof.Opt Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## Norm before the mixers -/

theorem final0_4 : (dat0 V c).arrAt 4 cfg0.N = steps (V c main_arg0 : S2x1024.Idx → EReal) (V c main_arg6) (V c main_arg12) (V c main_arg18) :=
  (dat0 V c).arrAt_eq_of_covers 4 _ (by decide +kernel) fun t _ => congrFun ((after0_4 V c t).trans (store4 hz2 _ _ _ _ _ _))

theorem final0_5 : (dat0 V c).arrAt 5 cfg0.N = moms (V c main_arg6 : S2x1024.Idx → EReal) (V c main_arg12) :=
  (dat0 V c).arrAt_eq_of_covers 5 _ (by decide +kernel) fun t _ => congrFun ((after0_5 V c t).trans (store2 hz2 _ _ _ _))

theorem final0_6 : (dat0 V c).arrAt 6 cfg0.N = secs (V c main_arg6 : S2x1024.Idx → EReal) (V c main_arg18) :=
  (dat0 V c).arrAt_eq_of_covers 6 _ (by decide +kernel) fun t _ => congrFun ((after0_6 V c t).trans (store2 hz2 _ _ _ _))

/-! ## Norm after the mixers -/

theorem final1_4 : (dat1 V c).arrAt 4 cfg1.N = steps (V c main_arg1 : S2x1024.Idx → EReal) (V c main_arg7) (V c main_arg13) (V c main_arg19) :=
  (dat1 V c).arrAt_eq_of_covers 4 _ (by decide +kernel) fun t _ => congrFun ((after1_4 V c t).trans (store4 hz2 _ _ _ _ _ _))

theorem final1_5 : (dat1 V c).arrAt 5 cfg1.N = moms (V c main_arg7 : S2x1024.Idx → EReal) (V c main_arg13) :=
  (dat1 V c).arrAt_eq_of_covers 5 _ (by decide +kernel) fun t _ => congrFun ((after1_5 V c t).trans (store2 hz2 _ _ _ _))

theorem final1_6 : (dat1 V c).arrAt 6 cfg1.N = secs (V c main_arg7 : S2x1024.Idx → EReal) (V c main_arg19) :=
  (dat1 V c).arrAt_eq_of_covers 6 _ (by decide +kernel) fun t _ => congrFun ((after1_6 V c t).trans (store2 hz2 _ _ _ _))

/-! ## Gated delta norm -/

theorem final2_4 : (dat2 V c).arrAt 4 cfg2.N = steps (V c main_arg2 : S2x128.Idx → EReal) (V c main_arg8) (V c main_arg14) (V c main_arg20) :=
  (dat2 V c).arrAt_eq_of_covers 4 _ (by decide +kernel) fun t _ => congrFun ((after2_4 V c t).trans (store4 hz2 _ _ _ _ _ _))

theorem final2_5 : (dat2 V c).arrAt 5 cfg2.N = moms (V c main_arg8 : S2x128.Idx → EReal) (V c main_arg14) :=
  (dat2 V c).arrAt_eq_of_covers 5 _ (by decide +kernel) fun t _ => congrFun ((after2_5 V c t).trans (store2 hz2 _ _ _ _))

theorem final2_6 : (dat2 V c).arrAt 6 cfg2.N = secs (V c main_arg8 : S2x128.Idx → EReal) (V c main_arg20) :=
  (dat2 V c).arrAt_eq_of_covers 6 _ (by decide +kernel) fun t _ => congrFun ((after2_6 V c t).trans (store2 hz2 _ _ _ _))

/-! ## SSD convolution's bias -/

theorem final3_4 : (dat3 V c).arrAt 4 cfg3.N = steps (V c main_arg3 : S2x1536.Idx → EReal) (V c main_arg9) (V c main_arg15) (V c main_arg21) :=
  (dat3 V c).arrAt_eq_of_covers 4 _ (by decide +kernel) fun t _ => congrFun ((after3_4 V c t).trans (store4 hz2 _ _ _ _ _ _))

theorem final3_5 : (dat3 V c).arrAt 5 cfg3.N = moms (V c main_arg9 : S2x1536.Idx → EReal) (V c main_arg15) :=
  (dat3 V c).arrAt_eq_of_covers 5 _ (by decide +kernel) fun t _ => congrFun ((after3_5 V c t).trans (store2 hz2 _ _ _ _))

theorem final3_6 : (dat3 V c).arrAt 6 cfg3.N = secs (V c main_arg9 : S2x1536.Idx → EReal) (V c main_arg21) :=
  (dat3 V c).arrAt_eq_of_covers 6 _ (by decide +kernel) fun t _ => congrFun ((after3_6 V c t).trans (store2 hz2 _ _ _ _))

/-! ## SSD norm -/

theorem final4_4 : (dat4 V c).arrAt 4 cfg4.N = steps (V c main_arg4 : S2x1024.Idx → EReal) (V c main_arg10) (V c main_arg16) (V c main_arg22) :=
  (dat4 V c).arrAt_eq_of_covers 4 _ (by decide +kernel) fun t _ => congrFun ((after4_4 V c t).trans (store4 hz2 _ _ _ _ _ _))

theorem final4_5 : (dat4 V c).arrAt 5 cfg4.N = moms (V c main_arg10 : S2x1024.Idx → EReal) (V c main_arg16) :=
  (dat4 V c).arrAt_eq_of_covers 5 _ (by decide +kernel) fun t _ => congrFun ((after4_5 V c t).trans (store2 hz2 _ _ _ _))

theorem final4_6 : (dat4 V c).arrAt 6 cfg4.N = secs (V c main_arg10 : S2x1024.Idx → EReal) (V c main_arg22) :=
  (dat4 V c).arrAt_eq_of_covers 6 _ (by decide +kernel) fun t _ => congrFun ((after4_6 V c t).trans (store2 hz2 _ _ _ _))

/-! ## Retention norm -/

theorem final5_4 : (dat5 V c).arrAt 4 cfg5.N = steps (V c main_arg5 : S2x128.Idx → EReal) (V c main_arg11) (V c main_arg17) (V c main_arg23) :=
  (dat5 V c).arrAt_eq_of_covers 4 _ (by decide +kernel) fun t _ => congrFun ((after5_4 V c t).trans (store4 hz2 _ _ _ _ _ _))

theorem final5_5 : (dat5 V c).arrAt 5 cfg5.N = moms (V c main_arg11 : S2x128.Idx → EReal) (V c main_arg17) :=
  (dat5 V c).arrAt_eq_of_covers 5 _ (by decide +kernel) fun t _ => congrFun ((after5_5 V c t).trans (store2 hz2 _ _ _ _))

theorem final5_6 : (dat5 V c).arrAt 6 cfg5.N = secs (V c main_arg11 : S2x128.Idx → EReal) (V c main_arg23) :=
  (dat5 V c).arrAt_eq_of_covers 6 _ (by decide +kernel) fun t _ => congrFun ((after5_6 V c t).trans (store2 hz2 _ _ _ _))

end Cert.Proof.Vectors

end
-- ==== Proof.Vectors.Claim.lean ====
/-
  The value claim of the optimiser's calls for the norms' weights and the SSD convolution's bias: over the reals
  the kernel's results are the reference's.
-/
module

public import proofs.«01_k».proof.Defs
public import proofs.«01_k».proof.Proof.Vectors.Launch
public import proofs.«01_k».proof.Proof.Vectors.Regions
public import proofs.«01_k».proof.Proof.Gen.Reference4Ideal.Run
public import proofs.«01_k».proof.Proof.Gen.Reference4Ideal.Read
public import Idealize.ShloMosaic.Lib.StableHlo.ReadAt

@[expose] public section

set_option maxRecDepth 16384

noncomputable section

namespace Cert.Proof.Vectors

open Cert.Kernel4Ideal Cert.Kernel4Ideal.Gen Cert.Proof.Opt Idealize.ShloMosaic Idealize.ShloMosaic.TcCoe Idealize.ShloMosaic.Tactic Idealize.SL.Sem
open Idealize.ShloMosaic.Pipeline (Dat)

section Results
variable (m : (ℓ : Loc nD τ sig) → Buf (Elt Ideal) ℓ) (ρ : Dev nD → PrngReg) (c : Dev nD)

/-- An argument as launched. -/
abbrev A (c : Dev nD) (b : Ref sig .tc) : Buf (Elt Ideal) ((c : Thread nD τ).loc b) := m ((c : Thread nD τ).loc b)

/-! ## What no later part of the program writes keeps its contents to the end -/

abbrev Kept5 (r : Ref sig .tc) : Prop := ∀ w : Fin cfg5.W, Pipeline.arrRef spec5 w = r → (cfg5.win w).isOut = false
theorem kept5 (r : Ref sig .tc) (h : Kept5 r) : W6 m ρ c (Proc.devRef .tc r) = W5 m ρ c (Proc.devRef .tc r) := W6_of m ρ c r h
abbrev Kept4 (r : Ref sig .tc) : Prop := (∀ w : Fin cfg4.W, Pipeline.arrRef spec4 w = r → (cfg4.win w).isOut = false) ∧ Kept5 r
theorem kept4 (r : Ref sig .tc) (h : Kept4 r) : W6 m ρ c (Proc.devRef .tc r) = W4 m ρ c (Proc.devRef .tc r) :=
  (kept5 m ρ c r h.2).trans (W5_of m ρ c r h.1)
abbrev Kept3 (r : Ref sig .tc) : Prop := (∀ w : Fin cfg3.W, Pipeline.arrRef spec3 w = r → (cfg3.win w).isOut = false) ∧ Kept4 r
theorem kept3 (r : Ref sig .tc) (h : Kept3 r) : W6 m ρ c (Proc.devRef .tc r) = W3 m ρ c (Proc.devRef .tc r) :=
  (kept4 m ρ c r h.2).trans (W4_of m ρ c r h.1)
abbrev Kept2 (r : Ref sig .tc) : Prop := (∀ w : Fin cfg2.W, Pipeline.arrRef spec2 w = r → (cfg2.win w).isOut = false) ∧ Kept3 r
theorem kept2 (r : Ref sig .tc) (h : Kept2 r) : W6 m ρ c (Proc.devRef .tc r) = W2 m ρ c (Proc.devRef .tc r) :=
  (kept3 m ρ c r h.2).trans (W3_of m ρ c r h.1)
abbrev Kept1 (r : Ref sig .tc) : Prop := (∀ w : Fin cfg1.W, Pipeline.arrRef spec1 w = r → (cfg1.win w).isOut = false) ∧ Kept2 r
theorem kept1 (r : Ref sig .tc) (h : Kept1 r) : W6 m ρ c (Proc.devRef .tc r) = W1 m ρ c (Proc.devRef .tc r) :=
  (kept2 m ρ c r h.2).trans (W2_of m ρ c r h.1)
/-! ## Norm before the mixers -/

theorem step0 : (W6 m ρ c (Proc.devRef .tc main_v0_0) : S2x1024.Idx → EReal) = steps (A m c main_arg0 : S2x1024.Idx → EReal) (A m c main_arg6) (A m c main_arg12) (A m c main_arg18) :=
  (kept1 m ρ c main_v0_0 (by decide)).trans ((W1_arr m ρ c 4).trans ((final0_4 (V0 m ρ) c).trans
    (steps_congr (W0_args m ρ c main_arg0 (by decide)) (W0_args m ρ c main_arg6 (by decide)) (W0_args m ρ c main_arg12 (by decide)) (W0_args m ρ c main_arg18 (by decide)))))
theorem mom0 : (W6 m ρ c (Proc.devRef .tc main_v0_1) : S2x1024.Idx → EReal) = moms (A m c main_arg6 : S2x1024.Idx → EReal) (A m c main_arg12) :=
  (kept1 m ρ c main_v0_1 (by decide)).trans ((W1_arr m ρ c 5).trans ((final0_5 (V0 m ρ) c).trans
    (moms_congr (W0_args m ρ c main_arg6 (by decide)) (W0_args m ρ c main_arg12 (by decide)))))
theorem sec0 : (W6 m ρ c (Proc.devRef .tc main_v0_2) : S2x1024.Idx → EReal) = secs (A m c main_arg6 : S2x1024.Idx → EReal) (A m c main_arg18) :=
  (kept1 m ρ c main_v0_2 (by decide)).trans ((W1_arr m ρ c 6).trans ((final0_6 (V0 m ρ) c).trans
    (secs_congr (W0_args m ρ c main_arg6 (by decide)) (W0_args m ρ c main_arg18 (by decide)))))

/-! ## Norm after the mixers -/

theorem step1 : (W6 m ρ c (Proc.devRef .tc main_v1_0) : S2x1024.Idx → EReal) = steps (A m c main_arg1 : S2x1024.Idx → EReal) (A m c main_arg7) (A m c main_arg13) (A m c main_arg19) :=
  (kept2 m ρ c main_v1_0 (by decide)).trans ((W2_arr m ρ c 4).trans ((final1_4 (V1 m ρ) c).trans
    (steps_congr (W1_args m ρ c main_arg1 (by decide)) (W1_args m ρ c main_arg7 (by decide)) (W1_args m ρ c main_arg13 (by decide)) (W1_args m ρ c main_arg19 (by decide)))))
theorem mom1 : (W6 m ρ c (Proc.devRef .tc main_v1_1) : S2x1024.Idx → EReal) = moms (A m c main_arg7 : S2x1024.Idx → EReal) (A m c main_arg13) :=
  (kept2 m ρ c main_v1_1 (by decide)).trans ((W2_arr m ρ c 5).trans ((final1_5 (V1 m ρ) c).trans
    (moms_congr (W1_args m ρ c main_arg7 (by decide)) (W1_args m ρ c main_arg13 (by decide)))))
theorem sec1 : (W6 m ρ c (Proc.devRef .tc main_v1_2) : S2x1024.Idx → EReal) = secs (A m c main_arg7 : S2x1024.Idx → EReal) (A m c main_arg19) :=
  (kept2 m ρ c main_v1_2 (by decide)).trans ((W2_arr m ρ c 6).trans ((final1_6 (V1 m ρ) c).trans
    (secs_congr (W1_args m ρ c main_arg7 (by decide)) (W1_args m ρ c main_arg19 (by decide)))))

/-! ## Gated delta norm -/

theorem step2 : (W6 m ρ c (Proc.devRef .tc main_v2_0) : S2x128.Idx → EReal) = steps (A m c main_arg2 : S2x128.Idx → EReal) (A m c main_arg8) (A m c main_arg14) (A m c main_arg20) :=
  (kept3 m ρ c main_v2_0 (by decide)).trans ((W3_arr m ρ c 4).trans ((final2_4 (V2 m ρ) c).trans
    (steps_congr (W2_args m ρ c main_arg2 (by decide)) (W2_args m ρ c main_arg8 (by decide)) (W2_args m ρ c main_arg14 (by decide)) (W2_args m ρ c main_arg20 (by decide)))))
theorem mom2 : (W6 m ρ c (Proc.devRef .tc main_v2_1) : S2x128.Idx → EReal) = moms (A m c main_arg8 : S2x128.Idx → EReal) (A m c main_arg14) :=
  (kept3 m ρ c main_v2_1 (by decide)).trans ((W3_arr m ρ c 5).trans ((final2_5 (V2 m ρ) c).trans
    (moms_congr (W2_args m ρ c main_arg8 (by decide)) (W2_args m ρ c main_arg14 (by decide)))))
theorem sec2 : (W6 m ρ c (Proc.devRef .tc main_v2_2) : S2x128.Idx → EReal) = secs (A m c main_arg8 : S2x128.Idx → EReal) (A m c main_arg20) :=
  (kept3 m ρ c main_v2_2 (by decide)).trans ((W3_arr m ρ c 6).trans ((final2_6 (V2 m ρ) c).trans
    (secs_congr (W2_args m ρ c main_arg8 (by decide)) (W2_args m ρ c main_arg20 (by decide)))))

/-! ## SSD convolution's bias -/

theorem step3 : (W6 m ρ c (Proc.devRef .tc main_v3_0) : S2x1536.Idx → EReal) = steps (A m c main_arg3 : S2x1536.Idx → EReal) (A m c main_arg9) (A m c main_arg15) (A m c main_arg21) :=
  (kept4 m ρ c main_v3_0 (by decide)).trans ((W4_arr m ρ c 4).trans ((final3_4 (V3 m ρ) c).trans
    (steps_congr (W3_args m ρ c main_arg3 (by decide)) (W3_args m ρ c main_arg9 (by decide)) (W3_args m ρ c main_arg15 (by decide)) (W3_args m ρ c main_arg21 (by decide)))))
theorem mom3 : (W6 m ρ c (Proc.devRef .tc main_v3_1) : S2x1536.Idx → EReal) = moms (A m c main_arg9 : S2x1536.Idx → EReal) (A m c main_arg15) :=
  (kept4 m ρ c main_v3_1 (by decide)).trans ((W4_arr m ρ c 5).trans ((final3_5 (V3 m ρ) c).trans
    (moms_congr (W3_args m ρ c main_arg9 (by decide)) (W3_args m ρ c main_arg15 (by decide)))))
theorem sec3 : (W6 m ρ c (Proc.devRef .tc main_v3_2) : S2x1536.Idx → EReal) = secs (A m c main_arg9 : S2x1536.Idx → EReal) (A m c main_arg21) :=
  (kept4 m ρ c main_v3_2 (by decide)).trans ((W4_arr m ρ c 6).trans ((final3_6 (V3 m ρ) c).trans
    (secs_congr (W3_args m ρ c main_arg9 (by decide)) (W3_args m ρ c main_arg21 (by decide)))))

/-! ## SSD norm -/

theorem step4 : (W6 m ρ c (Proc.devRef .tc main_v4_0) : S2x1024.Idx → EReal) = steps (A m c main_arg4 : S2x1024.Idx → EReal) (A m c main_arg10) (A m c main_arg16) (A m c main_arg22) :=
  (kept5 m ρ c main_v4_0 (by decide)).trans ((W5_arr m ρ c 4).trans ((final4_4 (V4 m ρ) c).trans
    (steps_congr (W4_args m ρ c main_arg4 (by decide)) (W4_args m ρ c main_arg10 (by decide)) (W4_args m ρ c main_arg16 (by decide)) (W4_args m ρ c main_arg22 (by decide)))))
theorem mom4 : (W6 m ρ c (Proc.devRef .tc main_v4_1) : S2x1024.Idx → EReal) = moms (A m c main_arg10 : S2x1024.Idx → EReal) (A m c main_arg16) :=
  (kept5 m ρ c main_v4_1 (by decide)).trans ((W5_arr m ρ c 5).trans ((final4_5 (V4 m ρ) c).trans
    (moms_congr (W4_args m ρ c main_arg10 (by decide)) (W4_args m ρ c main_arg16 (by decide)))))
theorem sec4 : (W6 m ρ c (Proc.devRef .tc main_v4_2) : S2x1024.Idx → EReal) = secs (A m c main_arg10 : S2x1024.Idx → EReal) (A m c main_arg22) :=
  (kept5 m ρ c main_v4_2 (by decide)).trans ((W5_arr m ρ c 6).trans ((final4_6 (V4 m ρ) c).trans
    (secs_congr (W4_args m ρ c main_arg10 (by decide)) (W4_args m ρ c main_arg22 (by decide)))))

/-! ## Retention norm -/

theorem step5 : (W6 m ρ c (Proc.devRef .tc main_v5_0) : S2x128.Idx → EReal) = steps (A m c main_arg5 : S2x128.Idx → EReal) (A m c main_arg11) (A m c main_arg17) (A m c main_arg23) :=
  (W6_arr m ρ c 4).trans ((final5_4 (V5 m ρ) c).trans
    (steps_congr (W5_args m ρ c main_arg5 (by decide)) (W5_args m ρ c main_arg11 (by decide)) (W5_args m ρ c main_arg17 (by decide)) (W5_args m ρ c main_arg23 (by decide))))
theorem mom5 : (W6 m ρ c (Proc.devRef .tc main_v5_1) : S2x128.Idx → EReal) = moms (A m c main_arg11 : S2x128.Idx → EReal) (A m c main_arg17) :=
  (W6_arr m ρ c 5).trans ((final5_5 (V5 m ρ) c).trans
    (moms_congr (W5_args m ρ c main_arg11 (by decide)) (W5_args m ρ c main_arg17 (by decide))))
theorem sec5 : (W6 m ρ c (Proc.devRef .tc main_v5_2) : S2x128.Idx → EReal) = secs (A m c main_arg11 : S2x128.Idx → EReal) (A m c main_arg23) :=
  (W6_arr m ρ c 6).trans ((final5_6 (V5 m ρ) c).trans
    (secs_congr (W5_args m ρ c main_arg11 (by decide)) (W5_args m ρ c main_arg23 (by decide))))

end Results

set_option maxHeartbeats 2000000 in
/-- Over the reals the kernel and the reference leave the same results, and neither changes an argument. -/
theorem algebraic : Cert.algebraic_Kernel4Ideal_Reference4Ideal := by
  intro m g m' g' _ hargs
  refine ⟨fun c => W6 m g c (Proc.devRef .tc main_v0_0),
    fun c => W6 m g c (Proc.devRef .tc main_v0_1),
    fun c => W6 m g c (Proc.devRef .tc main_v0_2),
    fun c => W6 m g c (Proc.devRef .tc main_v1_0),
    fun c => W6 m g c (Proc.devRef .tc main_v1_1),
    fun c => W6 m g c (Proc.devRef .tc main_v1_2),
    fun c => W6 m g c (Proc.devRef .tc main_v2_0),
    fun c => W6 m g c (Proc.devRef .tc main_v2_1),
    fun c => W6 m g c (Proc.devRef .tc main_v2_2),
    fun c => W6 m g c (Proc.devRef .tc main_v3_0),
    fun c => W6 m g c (Proc.devRef .tc main_v3_1),
    fun c => W6 m g c (Proc.devRef .tc main_v3_2),
    fun c => W6 m g c (Proc.devRef .tc main_v4_0),
    fun c => W6 m g c (Proc.devRef .tc main_v4_1),
    fun c => W6 m g c (Proc.devRef .tc main_v4_2),
    fun c => W6 m g c (Proc.devRef .tc main_v5_0),
    fun c => W6 m g c (Proc.devRef .tc main_v5_1),
    fun c => W6 m g c (Proc.devRef .tc main_v5_2), ?_, ?_⟩
  · refine (θ_run defs _ _).mono (fun r h c => ⟨h.1 c _ (mem_uc main_v0_0 (by decide)),
      h.1 c _ (mem_uc main_v0_1 (by decide)),
      h.1 c _ (mem_uc main_v0_2 (by decide)),
      h.1 c _ (mem_uc main_v1_0 (by decide)),
      h.1 c _ (mem_uc main_v1_1 (by decide)),
      h.1 c _ (mem_uc main_v1_2 (by decide)),
      h.1 c _ (mem_uc main_v2_0 (by decide)),
      h.1 c _ (mem_uc main_v2_1 (by decide)),
      h.1 c _ (mem_uc main_v2_2 (by decide)),
      h.1 c _ (mem_uc main_v3_0 (by decide)),
      h.1 c _ (mem_uc main_v3_1 (by decide)),
      h.1 c _ (mem_uc main_v3_2 (by decide)),
      h.1 c _ (mem_uc main_v4_0 (by decide)),
      h.1 c _ (mem_uc main_v4_1 (by decide)),
      h.1 c _ (mem_uc main_v4_2 (by decide)),
      h.1 c _ (mem_uc main_v5_0 (by decide)),
      h.1 c _ (mem_uc main_v5_1 (by decide)),
      h.1 c _ (mem_uc main_v5_2 (by decide)),
      (h.1 c _ (mem_uc main_arg0 (by decide))).trans (W6_main_arg0 m g c),
      (h.1 c _ (mem_uc main_arg1 (by decide))).trans (W6_main_arg1 m g c),
      (h.1 c _ (mem_uc main_arg2 (by decide))).trans (W6_main_arg2 m g c),
      (h.1 c _ (mem_uc main_arg3 (by decide))).trans (W6_main_arg3 m g c),
      (h.1 c _ (mem_uc main_arg4 (by decide))).trans (W6_main_arg4 m g c),
      (h.1 c _ (mem_uc main_arg5 (by decide))).trans (W6_main_arg5 m g c),
      (h.1 c _ (mem_uc main_arg6 (by decide))).trans (W6_main_arg6 m g c),
      (h.1 c _ (mem_uc main_arg7 (by decide))).trans (W6_main_arg7 m g c),
      (h.1 c _ (mem_uc main_arg8 (by decide))).trans (W6_main_arg8 m g c),
      (h.1 c _ (mem_uc main_arg9 (by decide))).trans (W6_main_arg9 m g c),
      (h.1 c _ (mem_uc main_arg10 (by decide))).trans (W6_main_arg10 m g c),
      (h.1 c _ (mem_uc main_arg11 (by decide))).trans (W6_main_arg11 m g c),
      (h.1 c _ (mem_uc main_arg12 (by decide))).trans (W6_main_arg12 m g c),
      (h.1 c _ (mem_uc main_arg13 (by decide))).trans (W6_main_arg13 m g c),
      (h.1 c _ (mem_uc main_arg14 (by decide))).trans (W6_main_arg14 m g c),
      (h.1 c _ (mem_uc main_arg15 (by decide))).trans (W6_main_arg15 m g c),
      (h.1 c _ (mem_uc main_arg16 (by decide))).trans (W6_main_arg16 m g c),
      (h.1 c _ (mem_uc main_arg17 (by decide))).trans (W6_main_arg17 m g c),
      (h.1 c _ (mem_uc main_arg18 (by decide))).trans (W6_main_arg18 m g c),
      (h.1 c _ (mem_uc main_arg19 (by decide))).trans (W6_main_arg19 m g c),
      (h.1 c _ (mem_uc main_arg20 (by decide))).trans (W6_main_arg20 m g c),
      (h.1 c _ (mem_uc main_arg21 (by decide))).trans (W6_main_arg21 m g c),
      (h.1 c _ (mem_uc main_arg22 (by decide))).trans (W6_main_arg22 m g c),
      (h.1 c _ (mem_uc main_arg23 (by decide))).trans (W6_main_arg23 m g c)⟩) (run_all m g)
  · refine (θ_run Cert.Reference4Ideal.defs _ _).mono (fun r h c => ?_) (Cert.Reference4Ideal.Value.run (F := Ideal) m' g')
    obtain ⟨r0, r1, r2, r3, r4, r5, r6, r7, r8, r9, r10, r11, r12, r13, r14, r15, r16, r17, rest⟩ := h c
    obtain ⟨e0, e1, e2, e3, e4, e5, e6, e7, e8, e9, e10, e11, e12, e13, e14, e15, e16, e17, e18, e19, e20, e21, e22, e23⟩ := hargs c
    exact ⟨
      (r0.trans (steps_congr (S := Cert.Reference4Ideal.S2x1024) e0 e6 e12 e18)).trans (step0 m g c).symm,
      (r1.trans (moms_congr (S := Cert.Reference4Ideal.S2x1024) e6 e12)).trans (mom0 m g c).symm,
      (r2.trans (secs_congr (S := Cert.Reference4Ideal.S2x1024) e6 e18)).trans (sec0 m g c).symm,
      (r3.trans (steps_congr (S := Cert.Reference4Ideal.S2x1024) e1 e7 e13 e19)).trans (step1 m g c).symm,
      (r4.trans (moms_congr (S := Cert.Reference4Ideal.S2x1024) e7 e13)).trans (mom1 m g c).symm,
      (r5.trans (secs_congr (S := Cert.Reference4Ideal.S2x1024) e7 e19)).trans (sec1 m g c).symm,
      (r6.trans (steps_congr (S := Cert.Reference4Ideal.S2x128) e2 e8 e14 e20)).trans (step2 m g c).symm,
      (r7.trans (moms_congr (S := Cert.Reference4Ideal.S2x128) e8 e14)).trans (mom2 m g c).symm,
      (r8.trans (secs_congr (S := Cert.Reference4Ideal.S2x128) e8 e20)).trans (sec2 m g c).symm,
      (r9.trans (steps_congr (S := Cert.Reference4Ideal.S2x1536) e3 e9 e15 e21)).trans (step3 m g c).symm,
      (r10.trans (moms_congr (S := Cert.Reference4Ideal.S2x1536) e9 e15)).trans (mom3 m g c).symm,
      (r11.trans (secs_congr (S := Cert.Reference4Ideal.S2x1536) e9 e21)).trans (sec3 m g c).symm,
      (r12.trans (steps_congr (S := Cert.Reference4Ideal.S2x1024) e4 e10 e16 e22)).trans (step4 m g c).symm,
      (r13.trans (moms_congr (S := Cert.Reference4Ideal.S2x1024) e10 e16)).trans (mom4 m g c).symm,
      (r14.trans (secs_congr (S := Cert.Reference4Ideal.S2x1024) e10 e22)).trans (sec4 m g c).symm,
      (r15.trans (steps_congr (S := Cert.Reference4Ideal.S2x128) e5 e11 e17 e23)).trans (step5 m g c).symm,
      (r16.trans (moms_congr (S := Cert.Reference4Ideal.S2x128) e11 e17)).trans (mom5 m g c).symm,
      (r17.trans (secs_congr (S := Cert.Reference4Ideal.S2x128) e11 e23)).trans (sec5 m g c).symm,
      rest⟩

end Cert.Proof.Vectors

end
-- ==== Proof.Heads.Launch.lean ====
/-
  The run of the whole program: every buffer of every core ends at the contents the program's segments leave there, and every
  semaphore counter ends at zero.
-/
module

public import proofs.«01_k».proof.Proof.Gen.Kernel5Ideal.Frame

@[expose] public section

set_option maxRecDepth 16384

noncomputable section

namespace Cert.Proof.Heads

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Cert.Proof.Heads

end
-- ==== Proof.Heads.Regions.lean ====
/-
  The optimiser's calls for the convolutions' weights and the per-head parameters: each call's three result arrays, as functions of
  its four argument arrays as the call finds them. A call has one block, the whole of its arrays.
-/
module

public import proofs.«01_k».proof.Proof.Opt.Whole
public import proofs.«01_k».proof.Proof.Gen.Kernel5Ideal.Frame
public import Idealize.ShloMosaic.Lib.Pipeline.ValueKit

@[expose] public section

set_option maxRecDepth 16384

noncomputable section

namespace Cert.Proof.Heads

open Cert.Kernel5Ideal Cert.Kernel5Ideal.Gen Cert.Proof.Opt Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The payloads of call 0, whose casts to their own shape change nothing. -/
theorem pay0 (w g m v : S8x384.Idx → EReal) :
    k0_pay4 (F := Ideal) w g m v = steps w g m v ∧ k0_pay2 (F := Ideal) g m = moms g m ∧ k0_pay3 (F := Ideal) g v = secs g v := by
  simp only [k0_pay1, k0_pay2, k0_pay3, k0_pay4, shapeCast_id]
  exact ⟨rfl, rfl, rfl⟩

/-- The payloads of call 3, whose casts to their own shape change nothing. -/
theorem pay3 (w g m v : S8x384.Idx → EReal) :
    k3_pay4 (F := Ideal) w g m v = steps w g m v ∧ k3_pay2 (F := Ideal) g m = moms g m ∧ k3_pay3 (F := Ideal) g v = secs g v := by
  simp only [k3_pay1, k3_pay2, k3_pay3, k3_pay4, shapeCast_id]
  exact ⟨rfl, rfl, rfl⟩

/-! ## Gated delta convolution -/

theorem final0_4 : (dat0 V c).arrAt 4 cfg0.N = steps (V c main_v0 : S8x384.Idx → EReal) (V c main_v1) (V c main_v2) (V c main_v3) :=
  (dat0 V c).arrAt_eq_of_covers 4 _ (by decide +kernel) fun t _ => congrFun ((after0_4 V c t).trans ((store4 hz2 _ _ _ _ _ _).trans (pay0 _ _ _ _).1))

theorem final0_5 : (dat0 V c).arrAt 5 cfg0.N = moms (V c main_v1 : S8x384.Idx → EReal) (V c main_v2) :=
  (dat0 V c).arrAt_eq_of_covers 5 _ (by decide +kernel) fun t _ => congrFun ((after0_5 V c t).trans ((store2 hz2 _ _ _ _).trans (pay0 0 _ _ 0).2.1))

theorem final0_6 : (dat0 V c).arrAt 6 cfg0.N = secs (V c main_v1 : S8x384.Idx → EReal) (V c main_v3) :=
  (dat0 V c).arrAt_eq_of_covers 6 _ (by decide +kernel) fun t _ => congrFun ((after0_6 V c t).trans ((store2 hz2 _ _ _ _).trans (pay0 0 _ 0 _).2.2))

/-! ## Gated delta decays -/

theorem final1_4 : (dat1 V c).arrAt 4 cfg1.N = steps (V c main_arg1 : S2x4.Idx → EReal) (V c main_arg8) (V c main_arg15) (V c main_arg22) :=
  (dat1 V c).arrAt_eq_of_covers 4 _ (by decide +kernel) fun t _ => congrFun ((after1_4 V c t).trans (store4 hz2 _ _ _ _ _ _))

theorem final1_5 : (dat1 V c).arrAt 5 cfg1.N = moms (V c main_arg8 : S2x4.Idx → EReal) (V c main_arg15) :=
  (dat1 V c).arrAt_eq_of_covers 5 _ (by decide +kernel) fun t _ => congrFun ((after1_5 V c t).trans (store2 hz2 _ _ _ _))

theorem final1_6 : (dat1 V c).arrAt 6 cfg1.N = secs (V c main_arg8 : S2x4.Idx → EReal) (V c main_arg22) :=
  (dat1 V c).arrAt_eq_of_covers 6 _ (by decide +kernel) fun t _ => congrFun ((after1_6 V c t).trans (store2 hz2 _ _ _ _))

/-! ## Gated delta time steps -/

theorem final2_4 : (dat2 V c).arrAt 4 cfg2.N = steps (V c main_arg2 : S2x4.Idx → EReal) (V c main_arg9) (V c main_arg16) (V c main_arg23) :=
  (dat2 V c).arrAt_eq_of_covers 4 _ (by decide +kernel) fun t _ => congrFun ((after2_4 V c t).trans (store4 hz2 _ _ _ _ _ _))

theorem final2_5 : (dat2 V c).arrAt 5 cfg2.N = moms (V c main_arg9 : S2x4.Idx → EReal) (V c main_arg16) :=
  (dat2 V c).arrAt_eq_of_covers 5 _ (by decide +kernel) fun t _ => congrFun ((after2_5 V c t).trans (store2 hz2 _ _ _ _))

theorem final2_6 : (dat2 V c).arrAt 6 cfg2.N = secs (V c main_arg9 : S2x4.Idx → EReal) (V c main_arg23) :=
  (dat2 V c).arrAt_eq_of_covers 6 _ (by decide +kernel) fun t _ => congrFun ((after2_6 V c t).trans (store2 hz2 _ _ _ _))

/-! ## SSD convolution -/

theorem final3_4 : (dat3 V c).arrAt 4 cfg3.N = steps (V c main_v10 : S8x384.Idx → EReal) (V c main_v11) (V c main_v12) (V c main_v13) :=
  (dat3 V c).arrAt_eq_of_covers 4 _ (by decide +kernel) fun t _ => congrFun ((after3_4 V c t).trans ((store4 hz2 _ _ _ _ _ _).trans (pay3 _ _ _ _).1))

theorem final3_5 : (dat3 V c).arrAt 5 cfg3.N = moms (V c main_v11 : S8x384.Idx → EReal) (V c main_v12) :=
  (dat3 V c).arrAt_eq_of_covers 5 _ (by decide +kernel) fun t _ => congrFun ((after3_5 V c t).trans ((store2 hz2 _ _ _ _).trans (pay3 0 _ _ 0).2.1))

theorem final3_6 : (dat3 V c).arrAt 6 cfg3.N = secs (V c main_v11 : S8x384.Idx → EReal) (V c main_v13) :=
  (dat3 V c).arrAt_eq_of_covers 6 _ (by decide +kernel) fun t _ => congrFun ((after3_6 V c t).trans ((store2 hz2 _ _ _ _).trans (pay3 0 _ 0 _).2.2))

/-! ## SSD decays -/

theorem final4_4 : (dat4 V c).arrAt 4 cfg4.N = steps (V c main_arg4 : S2x16.Idx → EReal) (V c main_arg11) (V c main_arg18) (V c main_arg25) :=
  (dat4 V c).arrAt_eq_of_covers 4 _ (by decide +kernel) fun t _ => congrFun ((after4_4 V c t).trans (store4 hz2 _ _ _ _ _ _))

theorem final4_5 : (dat4 V c).arrAt 5 cfg4.N = moms (V c main_arg11 : S2x16.Idx → EReal) (V c main_arg18) :=
  (dat4 V c).arrAt_eq_of_covers 5 _ (by decide +kernel) fun t _ => congrFun ((after4_5 V c t).trans (store2 hz2 _ _ _ _))

theorem final4_6 : (dat4 V c).arrAt 6 cfg4.N = secs (V c main_arg11 : S2x16.Idx → EReal) (V c main_arg25) :=
  (dat4 V c).arrAt_eq_of_covers 6 _ (by decide +kernel) fun t _ => congrFun ((after4_6 V c t).trans (store2 hz2 _ _ _ _))

/-! ## SSD time steps -/

theorem final5_4 : (dat5 V c).arrAt 4 cfg5.N = steps (V c main_arg5 : S2x16.Idx → EReal) (V c main_arg12) (V c main_arg19) (V c main_arg26) :=
  (dat5 V c).arrAt_eq_of_covers 4 _ (by decide +kernel) fun t _ => congrFun ((after5_4 V c t).trans (store4 hz2 _ _ _ _ _ _))

theorem final5_5 : (dat5 V c).arrAt 5 cfg5.N = moms (V c main_arg12 : S2x16.Idx → EReal) (V c main_arg19) :=
  (dat5 V c).arrAt_eq_of_covers 5 _ (by decide +kernel) fun t _ => congrFun ((after5_5 V c t).trans (store2 hz2 _ _ _ _))

theorem final5_6 : (dat5 V c).arrAt 6 cfg5.N = secs (V c main_arg12 : S2x16.Idx → EReal) (V c main_arg26) :=
  (dat5 V c).arrAt_eq_of_covers 6 _ (by decide +kernel) fun t _ => congrFun ((after5_6 V c t).trans (store2 hz2 _ _ _ _))

/-! ## SSD skip -/

theorem final6_4 : (dat6 V c).arrAt 4 cfg6.N = steps (V c main_arg6 : S2x16.Idx → EReal) (V c main_arg13) (V c main_arg20) (V c main_arg27) :=
  (dat6 V c).arrAt_eq_of_covers 4 _ (by decide +kernel) fun t _ => congrFun ((after6_4 V c t).trans (store4 hz2 _ _ _ _ _ _))

theorem final6_5 : (dat6 V c).arrAt 5 cfg6.N = moms (V c main_arg13 : S2x16.Idx → EReal) (V c main_arg20) :=
  (dat6 V c).arrAt_eq_of_covers 5 _ (by decide +kernel) fun t _ => congrFun ((after6_5 V c t).trans (store2 hz2 _ _ _ _))

theorem final6_6 : (dat6 V c).arrAt 6 cfg6.N = secs (V c main_arg13 : S2x16.Idx → EReal) (V c main_arg27) :=
  (dat6 V c).arrAt_eq_of_covers 6 _ (by decide +kernel) fun t _ => congrFun ((after6_6 V c t).trans (store2 hz2 _ _ _ _))

end Cert.Proof.Heads

end
-- ==== Proof.Heads.Claim.lean ====
/-
  The value claim of the optimiser's calls for the convolutions' weights and the per-head parameters: over the reals
  the kernel's results are the reference's.
-/
module

public import proofs.«01_k».proof.Defs
public import proofs.«01_k».proof.Proof.Heads.Launch
public import proofs.«01_k».proof.Proof.Heads.Regions
public import proofs.«01_k».proof.Proof.Gen.Reference5Ideal.Run
public import proofs.«01_k».proof.Proof.Gen.Reference5Ideal.Read
public import Idealize.ShloMosaic.Lib.StableHlo.ReadAt

@[expose] public section

set_option maxRecDepth 16384

noncomputable section

namespace Cert.Proof.Heads

open Cert.Kernel5Ideal Cert.Kernel5Ideal.Gen Cert.Proof.Opt Idealize.ShloMosaic Idealize.ShloMosaic.TcCoe Idealize.ShloMosaic.Tactic Idealize.SL.Sem
open Idealize.ShloMosaic.Pipeline (Dat)

section Results
variable (m : (ℓ : Loc nD τ sig) → Buf (Elt Ideal) ℓ) (ρ : Dev nD → PrngReg) (c : Dev nD)

/-- An argument as launched. -/
abbrev A (c : Dev nD) (b : Ref sig .tc) : Buf (Elt Ideal) ((c : Thread nD τ).loc b) := m ((c : Thread nD τ).loc b)

/-! ## What no later part of the program writes keeps its contents to the end -/

abbrev Kept10 (r : Ref sig .tc) : Prop := ∀ w : Fin cfg6.W, Pipeline.arrRef spec6 w = r → (cfg6.win w).isOut = false
theorem kept10 (r : Ref sig .tc) (h : Kept10 r) : W11 m ρ c (Proc.devRef .tc r) = W10 m ρ c (Proc.devRef .tc r) := W11_of m ρ c r h
abbrev Kept9 (r : Ref sig .tc) : Prop := (∀ w : Fin cfg5.W, Pipeline.arrRef spec5 w = r → (cfg5.win w).isOut = false) ∧ Kept10 r
theorem kept9 (r : Ref sig .tc) (h : Kept9 r) : W11 m ρ c (Proc.devRef .tc r) = W9 m ρ c (Proc.devRef .tc r) :=
  (kept10 m ρ c r h.2).trans (W10_of m ρ c r h.1)
abbrev Kept8 (r : Ref sig .tc) : Prop := (∀ w : Fin cfg4.W, Pipeline.arrRef spec4 w = r → (cfg4.win w).isOut = false) ∧ Kept9 r
theorem kept8 (r : Ref sig .tc) (h : Kept8 r) : W11 m ρ c (Proc.devRef .tc r) = W8 m ρ c (Proc.devRef .tc r) :=
  (kept9 m ρ c r h.2).trans (W9_of m ρ c r h.1)
abbrev Kept7 (r : Ref sig .tc) : Prop := r ∉ hostOps4_W ∧ Kept8 r
theorem kept7 (r : Ref sig .tc) (h : Kept7 r) : W11 m ρ c (Proc.devRef .tc r) = W7 m ρ c (Proc.devRef .tc r) :=
  (kept8 m ρ c r h.2).trans (W8_of m ρ c r h.1)
abbrev Kept6 (r : Ref sig .tc) : Prop := (∀ w : Fin cfg3.W, Pipeline.arrRef spec3 w = r → (cfg3.win w).isOut = false) ∧ Kept7 r
theorem kept6 (r : Ref sig .tc) (h : Kept6 r) : W11 m ρ c (Proc.devRef .tc r) = W6 m ρ c (Proc.devRef .tc r) :=
  (kept7 m ρ c r h.2).trans (W7_of m ρ c r h.1)
abbrev Kept5 (r : Ref sig .tc) : Prop := r ∉ hostOps3_W ∧ Kept6 r
theorem kept5 (r : Ref sig .tc) (h : Kept5 r) : W11 m ρ c (Proc.devRef .tc r) = W5 m ρ c (Proc.devRef .tc r) :=
  (kept6 m ρ c r h.2).trans (W6_of m ρ c r h.1)
abbrev Kept4 (r : Ref sig .tc) : Prop := (∀ w : Fin cfg2.W, Pipeline.arrRef spec2 w = r → (cfg2.win w).isOut = false) ∧ Kept5 r
theorem kept4 (r : Ref sig .tc) (h : Kept4 r) : W11 m ρ c (Proc.devRef .tc r) = W4 m ρ c (Proc.devRef .tc r) :=
  (kept5 m ρ c r h.2).trans (W5_of m ρ c r h.1)
abbrev Kept3 (r : Ref sig .tc) : Prop := (∀ w : Fin cfg1.W, Pipeline.arrRef spec1 w = r → (cfg1.win w).isOut = false) ∧ Kept4 r
theorem kept3 (r : Ref sig .tc) (h : Kept3 r) : W11 m ρ c (Proc.devRef .tc r) = W3 m ρ c (Proc.devRef .tc r) :=
  (kept4 m ρ c r h.2).trans (W4_of m ρ c r h.1)
abbrev Kept2 (r : Ref sig .tc) : Prop := r ∉ hostOps1_W ∧ Kept3 r
theorem kept2 (r : Ref sig .tc) (h : Kept2 r) : W11 m ρ c (Proc.devRef .tc r) = W2 m ρ c (Proc.devRef .tc r) :=
  (kept3 m ρ c r h.2).trans (W3_of m ρ c r h.1)
abbrev Kept1 (r : Ref sig .tc) : Prop := (∀ w : Fin cfg0.W, Pipeline.arrRef spec0 w = r → (cfg0.win w).isOut = false) ∧ Kept2 r
theorem kept1 (r : Ref sig .tc) (h : Kept1 r) : W11 m ρ c (Proc.devRef .tc r) = W1 m ρ c (Proc.devRef .tc r) :=
  (kept2 m ρ c r h.2).trans (W2_of m ρ c r h.1)

/-! ## The stretches between the calls reshape the convolutions' tables: rows folded together before, taken apart after -/

theorem fold0 (W : Valuation τ sig (Elt Ideal)) :
    (StableHlo.after hostOps0 W (Proc.devRef .tc main_v0) : S8x384.Idx → EReal) = shapeCast S8x384 (W (Proc.devRef .tc main_arg0) : S2x4x384.Idx → EReal) shapeCasts_S2x4x384_S8x384
    ∧ (StableHlo.after hostOps0 W (Proc.devRef .tc main_v1) : S8x384.Idx → EReal) = shapeCast S8x384 (W (Proc.devRef .tc main_arg7) : S2x4x384.Idx → EReal) shapeCasts_S2x4x384_S8x384
    ∧ (StableHlo.after hostOps0 W (Proc.devRef .tc main_v2) : S8x384.Idx → EReal) = shapeCast S8x384 (W (Proc.devRef .tc main_arg14) : S2x4x384.Idx → EReal) shapeCasts_S2x4x384_S8x384
    ∧ (StableHlo.after hostOps0 W (Proc.devRef .tc main_v3) : S8x384.Idx → EReal) = shapeCast S8x384 (W (Proc.devRef .tc main_arg21) : S2x4x384.Idx → EReal) shapeCasts_S2x4x384_S8x384 := by
  refine ⟨?_, ?_, ?_, ?_⟩ <;> (after_reads_simp; rfl)
theorem unfold0 (W : Valuation τ sig (Elt Ideal)) :
    (StableHlo.after hostOps1 W (Proc.devRef .tc main_v5) : S2x4x384.Idx → EReal) = shapeCast S2x4x384 (W (Proc.devRef .tc main_v4_0) : S8x384.Idx → EReal) shapeCasts_S8x384_S2x4x384
    ∧ (StableHlo.after hostOps1 W (Proc.devRef .tc main_v6) : S2x4x384.Idx → EReal) = shapeCast S2x4x384 (W (Proc.devRef .tc main_v4_1) : S8x384.Idx → EReal) shapeCasts_S8x384_S2x4x384
    ∧ (StableHlo.after hostOps1 W (Proc.devRef .tc main_v7) : S2x4x384.Idx → EReal) = shapeCast S2x4x384 (W (Proc.devRef .tc main_v4_2) : S8x384.Idx → EReal) shapeCasts_S8x384_S2x4x384 := by
  refine ⟨?_, ?_, ?_⟩ <;> (after_reads_simp; rfl)
theorem entry_v0 : (V1 m ρ c main_v0 : S8x384.Idx → EReal) = shapeCast S8x384 (A m c main_arg0 : S2x4x384.Idx → EReal) shapeCasts_S2x4x384_S8x384 :=
  (fold0 (W0 m ρ c)).1.trans (congrArg (fun x : S2x4x384.Idx → EReal => shapeCast S8x384 x shapeCasts_S2x4x384_S8x384) (W0_args m ρ c main_arg0 (by decide)))
theorem entry_v1 : (V1 m ρ c main_v1 : S8x384.Idx → EReal) = shapeCast S8x384 (A m c main_arg7 : S2x4x384.Idx → EReal) shapeCasts_S2x4x384_S8x384 :=
  (fold0 (W0 m ρ c)).2.1.trans (congrArg (fun x : S2x4x384.Idx → EReal => shapeCast S8x384 x shapeCasts_S2x4x384_S8x384) (W0_args m ρ c main_arg7 (by decide)))
theorem entry_v2 : (V1 m ρ c main_v2 : S8x384.Idx → EReal) = shapeCast S8x384 (A m c main_arg14 : S2x4x384.Idx → EReal) shapeCasts_S2x4x384_S8x384 :=
  (fold0 (W0 m ρ c)).2.2.1.trans (congrArg (fun x : S2x4x384.Idx → EReal => shapeCast S8x384 x shapeCasts_S2x4x384_S8x384) (W0_args m ρ c main_arg14 (by decide)))
theorem entry_v3 : (V1 m ρ c main_v3 : S8x384.Idx → EReal) = shapeCast S8x384 (A m c main_arg21 : S2x4x384.Idx → EReal) shapeCasts_S2x4x384_S8x384 :=
  (fold0 (W0 m ρ c)).2.2.2.trans (congrArg (fun x : S2x4x384.Idx → EReal => shapeCast S8x384 x shapeCasts_S2x4x384_S8x384) (W0_args m ρ c main_arg21 (by decide)))

theorem fold3 (W : Valuation τ sig (Elt Ideal)) :
    (StableHlo.after hostOps3 W (Proc.devRef .tc main_v10) : S8x384.Idx → EReal) = shapeCast S8x384 (W (Proc.devRef .tc main_arg3) : S2x4x384.Idx → EReal) shapeCasts_S2x4x384_S8x384
    ∧ (StableHlo.after hostOps3 W (Proc.devRef .tc main_v11) : S8x384.Idx → EReal) = shapeCast S8x384 (W (Proc.devRef .tc main_arg10) : S2x4x384.Idx → EReal) shapeCasts_S2x4x384_S8x384
    ∧ (StableHlo.after hostOps3 W (Proc.devRef .tc main_v12) : S8x384.Idx → EReal) = shapeCast S8x384 (W (Proc.devRef .tc main_arg17) : S2x4x384.Idx → EReal) shapeCasts_S2x4x384_S8x384
    ∧ (StableHlo.after hostOps3 W (Proc.devRef .tc main_v13) : S8x384.Idx → EReal) = shapeCast S8x384 (W (Proc.devRef .tc main_arg24) : S2x4x384.Idx → EReal) shapeCasts_S2x4x384_S8x384 := by
  refine ⟨?_, ?_, ?_, ?_⟩ <;> (after_reads_simp; rfl)
theorem unfold3 (W : Valuation τ sig (Elt Ideal)) :
    (StableHlo.after hostOps4 W (Proc.devRef .tc main_v15) : S2x4x384.Idx → EReal) = shapeCast S2x4x384 (W (Proc.devRef .tc main_v14_0) : S8x384.Idx → EReal) shapeCasts_S8x384_S2x4x384
    ∧ (StableHlo.after hostOps4 W (Proc.devRef .tc main_v16) : S2x4x384.Idx → EReal) = shapeCast S2x4x384 (W (Proc.devRef .tc main_v14_1) : S8x384.Idx → EReal) shapeCasts_S8x384_S2x4x384
    ∧ (StableHlo.after hostOps4 W (Proc.devRef .tc main_v17) : S2x4x384.Idx → EReal) = shapeCast S2x4x384 (W (Proc.devRef .tc main_v14_2) : S8x384.Idx → EReal) shapeCasts_S8x384_S2x4x384 := by
  refine ⟨?_, ?_, ?_⟩ <;> (after_reads_simp; rfl)
theorem entry_v10 : (V6 m ρ c main_v10 : S8x384.Idx → EReal) = shapeCast S8x384 (A m c main_arg3 : S2x4x384.Idx → EReal) shapeCasts_S2x4x384_S8x384 :=
  (fold3 (W5 m ρ c)).1.trans (congrArg (fun x : S2x4x384.Idx → EReal => shapeCast S8x384 x shapeCasts_S2x4x384_S8x384) (W5_args m ρ c main_arg3 (by decide)))
theorem entry_v11 : (V6 m ρ c main_v11 : S8x384.Idx → EReal) = shapeCast S8x384 (A m c main_arg10 : S2x4x384.Idx → EReal) shapeCasts_S2x4x384_S8x384 :=
  (fold3 (W5 m ρ c)).2.1.trans (congrArg (fun x : S2x4x384.Idx → EReal => shapeCast S8x384 x shapeCasts_S2x4x384_S8x384) (W5_args m ρ c main_arg10 (by decide)))
theorem entry_v12 : (V6 m ρ c main_v12 : S8x384.Idx → EReal) = shapeCast S8x384 (A m c main_arg17 : S2x4x384.Idx → EReal) shapeCasts_S2x4x384_S8x384 :=
  (fold3 (W5 m ρ c)).2.2.1.trans (congrArg (fun x : S2x4x384.Idx → EReal => shapeCast S8x384 x shapeCasts_S2x4x384_S8x384) (W5_args m ρ c main_arg17 (by decide)))
theorem entry_v13 : (V6 m ρ c main_v13 : S8x384.Idx → EReal) = shapeCast S8x384 (A m c main_arg24 : S2x4x384.Idx → EReal) shapeCasts_S2x4x384_S8x384 :=
  (fold3 (W5 m ρ c)).2.2.2.trans (congrArg (fun x : S2x4x384.Idx → EReal => shapeCast S8x384 x shapeCasts_S2x4x384_S8x384) (W5_args m ρ c main_arg24 (by decide)))

/-! ## Gated delta convolution -/

theorem step0 : (W11 m ρ c (Proc.devRef .tc main_v5) : S2x4x384.Idx → EReal) = steps (A m c main_arg0 : S2x4x384.Idx → EReal) (A m c main_arg7) (A m c main_arg14) (A m c main_arg21) :=
  (kept3 m ρ c main_v5 (by decide)).trans ((unfold0 (W2 m ρ c)).1.trans
    (steps_refold ((W2_arr m ρ c 4).trans (final0_4 (V1 m ρ) c)) (entry_v0 m ρ c) (entry_v1 m ρ c) (entry_v2 m ρ c) (entry_v3 m ρ c)))
theorem mom0 : (W11 m ρ c (Proc.devRef .tc main_v6) : S2x4x384.Idx → EReal) = moms (A m c main_arg7 : S2x4x384.Idx → EReal) (A m c main_arg14) :=
  (kept3 m ρ c main_v6 (by decide)).trans ((unfold0 (W2 m ρ c)).2.1.trans
    (moms_refold ((W2_arr m ρ c 5).trans (final0_5 (V1 m ρ) c)) (entry_v1 m ρ c) (entry_v2 m ρ c)))
theorem sec0 : (W11 m ρ c (Proc.devRef .tc main_v7) : S2x4x384.Idx → EReal) = secs (A m c main_arg7 : S2x4x384.Idx → EReal) (A m c main_arg21) :=
  (kept3 m ρ c main_v7 (by decide)).trans ((unfold0 (W2 m ρ c)).2.2.trans
    (secs_refold ((W2_arr m ρ c 6).trans (final0_6 (V1 m ρ) c)) (entry_v1 m ρ c) (entry_v3 m ρ c)))

/-! ## Gated delta decays -/

theorem step1 : (W11 m ρ c (Proc.devRef .tc main_v8_0) : S2x4.Idx → EReal) = steps (A m c main_arg1 : S2x4.Idx → EReal) (A m c main_arg8) (A m c main_arg15) (A m c main_arg22) :=
  (kept4 m ρ c main_v8_0 (by decide)).trans ((W4_arr m ρ c 4).trans ((final1_4 (V3 m ρ) c).trans
    (steps_congr (W3_args m ρ c main_arg1 (by decide)) (W3_args m ρ c main_arg8 (by decide)) (W3_args m ρ c main_arg15 (by decide)) (W3_args m ρ c main_arg22 (by decide)))))
theorem mom1 : (W11 m ρ c (Proc.devRef .tc main_v8_1) : S2x4.Idx → EReal) = moms (A m c main_arg8 : S2x4.Idx → EReal) (A m c main_arg15) :=
  (kept4 m ρ c main_v8_1 (by decide)).trans ((W4_arr m ρ c 5).trans ((final1_5 (V3 m ρ) c).trans
    (moms_congr (W3_args m ρ c main_arg8 (by decide)) (W3_args m ρ c main_arg15 (by decide)))))
theorem sec1 : (W11 m ρ c (Proc.devRef .tc main_v8_2) : S2x4.Idx → EReal) = secs (A m c main_arg8 : S2x4.Idx → EReal) (A m c main_arg22) :=
  (kept4 m ρ c main_v8_2 (by decide)).trans ((W4_arr m ρ c 6).trans ((final1_6 (V3 m ρ) c).trans
    (secs_congr (W3_args m ρ c main_arg8 (by decide)) (W3_args m ρ c main_arg22 (by decide)))))

/-! ## Gated delta time steps -/

theorem step2 : (W11 m ρ c (Proc.devRef .tc main_v9_0) : S2x4.Idx → EReal) = steps (A m c main_arg2 : S2x4.Idx → EReal) (A m c main_arg9) (A m c main_arg16) (A m c main_arg23) :=
  (kept5 m ρ c main_v9_0 (by decide)).trans ((W5_arr m ρ c 4).trans ((final2_4 (V4 m ρ) c).trans
    (steps_congr (W4_args m ρ c main_arg2 (by decide)) (W4_args m ρ c main_arg9 (by decide)) (W4_args m ρ c main_arg16 (by decide)) (W4_args m ρ c main_arg23 (by decide)))))
theorem mom2 : (W11 m ρ c (Proc.devRef .tc main_v9_1) : S2x4.Idx → EReal) = moms (A m c main_arg9 : S2x4.Idx → EReal) (A m c main_arg16) :=
  (kept5 m ρ c main_v9_1 (by decide)).trans ((W5_arr m ρ c 5).trans ((final2_5 (V4 m ρ) c).trans
    (moms_congr (W4_args m ρ c main_arg9 (by decide)) (W4_args m ρ c main_arg16 (by decide)))))
theorem sec2 : (W11 m ρ c (Proc.devRef .tc main_v9_2) : S2x4.Idx → EReal) = secs (A m c main_arg9 : S2x4.Idx → EReal) (A m c main_arg23) :=
  (kept5 m ρ c main_v9_2 (by decide)).trans ((W5_arr m ρ c 6).trans ((final2_6 (V4 m ρ) c).trans
    (secs_congr (W4_args m ρ c main_arg9 (by decide)) (W4_args m ρ c main_arg23 (by decide)))))

/-! ## SSD convolution -/

theorem step3 : (W11 m ρ c (Proc.devRef .tc main_v15) : S2x4x384.Idx → EReal) = steps (A m c main_arg3 : S2x4x384.Idx → EReal) (A m c main_arg10) (A m c main_arg17) (A m c main_arg24) :=
  (kept8 m ρ c main_v15 (by decide)).trans ((unfold3 (W7 m ρ c)).1.trans
    (steps_refold ((W7_arr m ρ c 4).trans (final3_4 (V6 m ρ) c)) (entry_v10 m ρ c) (entry_v11 m ρ c) (entry_v12 m ρ c) (entry_v13 m ρ c)))
theorem mom3 : (W11 m ρ c (Proc.devRef .tc main_v16) : S2x4x384.Idx → EReal) = moms (A m c main_arg10 : S2x4x384.Idx → EReal) (A m c main_arg17) :=
  (kept8 m ρ c main_v16 (by decide)).trans ((unfold3 (W7 m ρ c)).2.1.trans
    (moms_refold ((W7_arr m ρ c 5).trans (final3_5 (V6 m ρ) c)) (entry_v11 m ρ c) (entry_v12 m ρ c)))
theorem sec3 : (W11 m ρ c (Proc.devRef .tc main_v17) : S2x4x384.Idx → EReal) = secs (A m c main_arg10 : S2x4x384.Idx → EReal) (A m c main_arg24) :=
  (kept8 m ρ c main_v17 (by decide)).trans ((unfold3 (W7 m ρ c)).2.2.trans
    (secs_refold ((W7_arr m ρ c 6).trans (final3_6 (V6 m ρ) c)) (entry_v11 m ρ c) (entry_v13 m ρ c)))

/-! ## SSD decays -/

theorem step4 : (W11 m ρ c (Proc.devRef .tc main_v18_0) : S2x16.Idx → EReal) = steps (A m c main_arg4 : S2x16.Idx → EReal) (A m c main_arg11) (A m c main_arg18) (A m c main_arg25) :=
  (kept9 m ρ c main_v18_0 (by decide)).trans ((W9_arr m ρ c 4).trans ((final4_4 (V8 m ρ) c).trans
    (steps_congr (W8_args m ρ c main_arg4 (by decide)) (W8_args m ρ c main_arg11 (by decide)) (W8_args m ρ c main_arg18 (by decide)) (W8_args m ρ c main_arg25 (by decide)))))
theorem mom4 : (W11 m ρ c (Proc.devRef .tc main_v18_1) : S2x16.Idx → EReal) = moms (A m c main_arg11 : S2x16.Idx → EReal) (A m c main_arg18) :=
  (kept9 m ρ c main_v18_1 (by decide)).trans ((W9_arr m ρ c 5).trans ((final4_5 (V8 m ρ) c).trans
    (moms_congr (W8_args m ρ c main_arg11 (by decide)) (W8_args m ρ c main_arg18 (by decide)))))
theorem sec4 : (W11 m ρ c (Proc.devRef .tc main_v18_2) : S2x16.Idx → EReal) = secs (A m c main_arg11 : S2x16.Idx → EReal) (A m c main_arg25) :=
  (kept9 m ρ c main_v18_2 (by decide)).trans ((W9_arr m ρ c 6).trans ((final4_6 (V8 m ρ) c).trans
    (secs_congr (W8_args m ρ c main_arg11 (by decide)) (W8_args m ρ c main_arg25 (by decide)))))

/-! ## SSD time steps -/

theorem step5 : (W11 m ρ c (Proc.devRef .tc main_v19_0) : S2x16.Idx → EReal) = steps (A m c main_arg5 : S2x16.Idx → EReal) (A m c main_arg12) (A m c main_arg19) (A m c main_arg26) :=
  (kept10 m ρ c main_v19_0 (by decide)).trans ((W10_arr m ρ c 4).trans ((final5_4 (V9 m ρ) c).trans
    (steps_congr (W9_args m ρ c main_arg5 (by decide)) (W9_args m ρ c main_arg12 (by decide)) (W9_args m ρ c main_arg19 (by decide)) (W9_args m ρ c main_arg26 (by decide)))))
theorem mom5 : (W11 m ρ c (Proc.devRef .tc main_v19_1) : S2x16.Idx → EReal) = moms (A m c main_arg12 : S2x16.Idx → EReal) (A m c main_arg19) :=
  (kept10 m ρ c main_v19_1 (by decide)).trans ((W10_arr m ρ c 5).trans ((final5_5 (V9 m ρ) c).trans
    (moms_congr (W9_args m ρ c main_arg12 (by decide)) (W9_args m ρ c main_arg19 (by decide)))))
theorem sec5 : (W11 m ρ c (Proc.devRef .tc main_v19_2) : S2x16.Idx → EReal) = secs (A m c main_arg12 : S2x16.Idx → EReal) (A m c main_arg26) :=
  (kept10 m ρ c main_v19_2 (by decide)).trans ((W10_arr m ρ c 6).trans ((final5_6 (V9 m ρ) c).trans
    (secs_congr (W9_args m ρ c main_arg12 (by decide)) (W9_args m ρ c main_arg26 (by decide)))))

/-! ## SSD skip -/

theorem step6 : (W11 m ρ c (Proc.devRef .tc main_v20_0) : S2x16.Idx → EReal) = steps (A m c main_arg6 : S2x16.Idx → EReal) (A m c main_arg13) (A m c main_arg20) (A m c main_arg27) :=
  (W11_arr m ρ c 4).trans ((final6_4 (V10 m ρ) c).trans
    (steps_congr (W10_args m ρ c main_arg6 (by decide)) (W10_args m ρ c main_arg13 (by decide)) (W10_args m ρ c main_arg20 (by decide)) (W10_args m ρ c main_arg27 (by decide))))
theorem mom6 : (W11 m ρ c (Proc.devRef .tc main_v20_1) : S2x16.Idx → EReal) = moms (A m c main_arg13 : S2x16.Idx → EReal) (A m c main_arg20) :=
  (W11_arr m ρ c 5).trans ((final6_5 (V10 m ρ) c).trans
    (moms_congr (W10_args m ρ c main_arg13 (by decide)) (W10_args m ρ c main_arg20 (by decide))))
theorem sec6 : (W11 m ρ c (Proc.devRef .tc main_v20_2) : S2x16.Idx → EReal) = secs (A m c main_arg13 : S2x16.Idx → EReal) (A m c main_arg27) :=
  (W11_arr m ρ c 6).trans ((final6_6 (V10 m ρ) c).trans
    (secs_congr (W10_args m ρ c main_arg13 (by decide)) (W10_args m ρ c main_arg27 (by decide))))

end Results

set_option maxHeartbeats 2000000 in
/-- Over the reals the kernel and the reference leave the same results, and neither changes an argument. -/
theorem algebraic : Cert.algebraic_Kernel5Ideal_Reference5Ideal := by
  intro m g m' g' _ hargs
  refine ⟨fun c => W11 m g c (Proc.devRef .tc main_v5),
    fun c => W11 m g c (Proc.devRef .tc main_v6),
    fun c => W11 m g c (Proc.devRef .tc main_v7),
    fun c => W11 m g c (Proc.devRef .tc main_v8_0),
    fun c => W11 m g c (Proc.devRef .tc main_v8_1),
    fun c => W11 m g c (Proc.devRef .tc main_v8_2),
    fun c => W11 m g c (Proc.devRef .tc main_v9_0),
    fun c => W11 m g c (Proc.devRef .tc main_v9_1),
    fun c => W11 m g c (Proc.devRef .tc main_v9_2),
    fun c => W11 m g c (Proc.devRef .tc main_v15),
    fun c => W11 m g c (Proc.devRef .tc main_v16),
    fun c => W11 m g c (Proc.devRef .tc main_v17),
    fun c => W11 m g c (Proc.devRef .tc main_v18_0),
    fun c => W11 m g c (Proc.devRef .tc main_v18_1),
    fun c => W11 m g c (Proc.devRef .tc main_v18_2),
    fun c => W11 m g c (Proc.devRef .tc main_v19_0),
    fun c => W11 m g c (Proc.devRef .tc main_v19_1),
    fun c => W11 m g c (Proc.devRef .tc main_v19_2),
    fun c => W11 m g c (Proc.devRef .tc main_v20_0),
    fun c => W11 m g c (Proc.devRef .tc main_v20_1),
    fun c => W11 m g c (Proc.devRef .tc main_v20_2), ?_, ?_⟩
  · refine (θ_run defs _ _).mono (fun r h c => ⟨h.1 c _ (mem_uc main_v5 (by decide)),
      h.1 c _ (mem_uc main_v6 (by decide)),
      h.1 c _ (mem_uc main_v7 (by decide)),
      h.1 c _ (mem_uc main_v8_0 (by decide)),
      h.1 c _ (mem_uc main_v8_1 (by decide)),
      h.1 c _ (mem_uc main_v8_2 (by decide)),
      h.1 c _ (mem_uc main_v9_0 (by decide)),
      h.1 c _ (mem_uc main_v9_1 (by decide)),
      h.1 c _ (mem_uc main_v9_2 (by decide)),
      h.1 c _ (mem_uc main_v15 (by decide)),
      h.1 c _ (mem_uc main_v16 (by decide)),
      h.1 c _ (mem_uc main_v17 (by decide)),
      h.1 c _ (mem_uc main_v18_0 (by decide)),
      h.1 c _ (mem_uc main_v18_1 (by decide)),
      h.1 c _ (mem_uc main_v18_2 (by decide)),
      h.1 c _ (mem_uc main_v19_0 (by decide)),
      h.1 c _ (mem_uc main_v19_1 (by decide)),
      h.1 c _ (mem_uc main_v19_2 (by decide)),
      h.1 c _ (mem_uc main_v20_0 (by decide)),
      h.1 c _ (mem_uc main_v20_1 (by decide)),
      h.1 c _ (mem_uc main_v20_2 (by decide)),
      (h.1 c _ (mem_uc main_arg0 (by decide))).trans (W11_main_arg0 m g c),
      (h.1 c _ (mem_uc main_arg1 (by decide))).trans (W11_main_arg1 m g c),
      (h.1 c _ (mem_uc main_arg2 (by decide))).trans (W11_main_arg2 m g c),
      (h.1 c _ (mem_uc main_arg3 (by decide))).trans (W11_main_arg3 m g c),
      (h.1 c _ (mem_uc main_arg4 (by decide))).trans (W11_main_arg4 m g c),
      (h.1 c _ (mem_uc main_arg5 (by decide))).trans (W11_main_arg5 m g c),
      (h.1 c _ (mem_uc main_arg6 (by decide))).trans (W11_main_arg6 m g c),
      (h.1 c _ (mem_uc main_arg7 (by decide))).trans (W11_main_arg7 m g c),
      (h.1 c _ (mem_uc main_arg8 (by decide))).trans (W11_main_arg8 m g c),
      (h.1 c _ (mem_uc main_arg9 (by decide))).trans (W11_main_arg9 m g c),
      (h.1 c _ (mem_uc main_arg10 (by decide))).trans (W11_main_arg10 m g c),
      (h.1 c _ (mem_uc main_arg11 (by decide))).trans (W11_main_arg11 m g c),
      (h.1 c _ (mem_uc main_arg12 (by decide))).trans (W11_main_arg12 m g c),
      (h.1 c _ (mem_uc main_arg13 (by decide))).trans (W11_main_arg13 m g c),
      (h.1 c _ (mem_uc main_arg14 (by decide))).trans (W11_main_arg14 m g c),
      (h.1 c _ (mem_uc main_arg15 (by decide))).trans (W11_main_arg15 m g c),
      (h.1 c _ (mem_uc main_arg16 (by decide))).trans (W11_main_arg16 m g c),
      (h.1 c _ (mem_uc main_arg17 (by decide))).trans (W11_main_arg17 m g c),
      (h.1 c _ (mem_uc main_arg18 (by decide))).trans (W11_main_arg18 m g c),
      (h.1 c _ (mem_uc main_arg19 (by decide))).trans (W11_main_arg19 m g c),
      (h.1 c _ (mem_uc main_arg20 (by decide))).trans (W11_main_arg20 m g c),
      (h.1 c _ (mem_uc main_arg21 (by decide))).trans (W11_main_arg21 m g c),
      (h.1 c _ (mem_uc main_arg22 (by decide))).trans (W11_main_arg22 m g c),
      (h.1 c _ (mem_uc main_arg23 (by decide))).trans (W11_main_arg23 m g c),
      (h.1 c _ (mem_uc main_arg24 (by decide))).trans (W11_main_arg24 m g c),
      (h.1 c _ (mem_uc main_arg25 (by decide))).trans (W11_main_arg25 m g c),
      (h.1 c _ (mem_uc main_arg26 (by decide))).trans (W11_main_arg26 m g c),
      (h.1 c _ (mem_uc main_arg27 (by decide))).trans (W11_main_arg27 m g c)⟩) (run_all m g)
  · refine (θ_run Cert.Reference5Ideal.defs _ _).mono (fun r h c => ?_) (Cert.Reference5Ideal.Value.run (F := Ideal) m' g')
    obtain ⟨r0, r1, r2, r3, r4, r5, r6, r7, r8, r9, r10, r11, r12, r13, r14, r15, r16, r17, r18, r19, r20, rest⟩ := h c
    obtain ⟨e0, e1, e2, e3, e4, e5, e6, e7, e8, e9, e10, e11, e12, e13, e14, e15, e16, e17, e18, e19, e20, e21, e22, e23, e24, e25, e26, e27⟩ := hargs c
    exact ⟨
      (r0.trans (steps_congr (S := Cert.Reference5Ideal.S2x4x384) e0 e7 e14 e21)).trans (step0 m g c).symm,
      (r1.trans (moms_congr (S := Cert.Reference5Ideal.S2x4x384) e7 e14)).trans (mom0 m g c).symm,
      (r2.trans (secs_congr (S := Cert.Reference5Ideal.S2x4x384) e7 e21)).trans (sec0 m g c).symm,
      (r3.trans (steps_congr (S := Cert.Reference5Ideal.S2x4) e1 e8 e15 e22)).trans (step1 m g c).symm,
      (r4.trans (moms_congr (S := Cert.Reference5Ideal.S2x4) e8 e15)).trans (mom1 m g c).symm,
      (r5.trans (secs_congr (S := Cert.Reference5Ideal.S2x4) e8 e22)).trans (sec1 m g c).symm,
      (r6.trans (steps_congr (S := Cert.Reference5Ideal.S2x4) e2 e9 e16 e23)).trans (step2 m g c).symm,
      (r7.trans (moms_congr (S := Cert.Reference5Ideal.S2x4) e9 e16)).trans (mom2 m g c).symm,
      (r8.trans (secs_congr (S := Cert.Reference5Ideal.S2x4) e9 e23)).trans (sec2 m g c).symm,
      (r9.trans (steps_congr (S := Cert.Reference5Ideal.S2x4x384) e3 e10 e17 e24)).trans (step3 m g c).symm,
      (r10.trans (moms_congr (S := Cert.Reference5Ideal.S2x4x384) e10 e17)).trans (mom3 m g c).symm,
      (r11.trans (secs_congr (S := Cert.Reference5Ideal.S2x4x384) e10 e24)).trans (sec3 m g c).symm,
      (r12.trans (steps_congr (S := Cert.Reference5Ideal.S2x16) e4 e11 e18 e25)).trans (step4 m g c).symm,
      (r13.trans (moms_congr (S := Cert.Reference5Ideal.S2x16) e11 e18)).trans (mom4 m g c).symm,
      (r14.trans (secs_congr (S := Cert.Reference5Ideal.S2x16) e11 e25)).trans (sec4 m g c).symm,
      (r15.trans (steps_congr (S := Cert.Reference5Ideal.S2x16) e5 e12 e19 e26)).trans (step5 m g c).symm,
      (r16.trans (moms_congr (S := Cert.Reference5Ideal.S2x16) e12 e19)).trans (mom5 m g c).symm,
      (r17.trans (secs_congr (S := Cert.Reference5Ideal.S2x16) e12 e26)).trans (sec5 m g c).symm,
      (r18.trans (steps_congr (S := Cert.Reference5Ideal.S2x16) e6 e13 e20 e27)).trans (step6 m g c).symm,
      (r19.trans (moms_congr (S := Cert.Reference5Ideal.S2x16) e13 e20)).trans (mom6 m g c).symm,
      (r20.trans (secs_congr (S := Cert.Reference5Ideal.S2x16) e13 e27)).trans (sec6 m g c).symm,
      rest⟩

end Cert.Proof.Heads

end
-- ==== Proof.Loss.Spec.lean ====
/-
  The loss of the last rows against the target, and its gradient, as functions of the two tables: what both the kernel and the
  reference are shown to compute.
-/
module

public import proofs.«01_k».proof.Proof.Out.Spec

@[expose] public section

noncomputable section

namespace Cert.Proof.Loss

open Idealize.ShloMosaic

section Spec
variable (N T : (⟨2, ![8192, 1024]⟩ : Shape).Idx → EReal)

/-- One entry's squared error. -/
def sq (i j : ℕ) : EReal := (rd N i j - rd T i j) * (rd N i j - rd T i j)

/-- One row's part of the loss: half of the mean squared error. -/
def rowLoss (i : ℕ) : EReal := ((1 / 2048 : ℝ) : EReal) * ∑ k : Fin 1024, sq N T i k.val

/-- The loss of all rows. -/
def loss : EReal := ∑ i : Fin 8192, rowLoss N T i.val

/-- The gradient of the loss with respect to the rows. -/
def grad : (⟨2, ![8192, 1024]⟩ : Shape).Idx → EReal := fun i => (N i - T i) * ((1 / 1024 : ℝ) : EReal)

end Spec

theorem lit_inv2048 : Ideal.ofBits .f32 0x3A000000#32 = ((1 / 2048 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

end Cert.Proof.Loss

end
-- ==== Proof.Loss.Cases.lean ====
/-
  The loss call at one point: a block of 1024 rows of the three mixers' outputs goes through the out-projection and its norm, is
  added to the residual stream and compared with the target. The block's gradient is stored; its part of the loss is added to
  entry (0, 0) of a table that starts as zeros at the first point.
-/
module

public import proofs.«01_k».proof.Proof.Loss.Spec
public import proofs.«01_k».proof.Proof.Gen.Kernel6Ideal.Frame
public import Idealize.ShloMosaic.Lib.Pipeline.Value
public import Idealize.ShloMosaic.Lib.Pipeline.ReadBack

@[expose] public section

set_option maxRecDepth 16384

noncomputable section

namespace Cert.Proof.Loss

open Cert.Kernel6Ideal Cert.Kernel6Ideal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Entries
variable (a : Vec Ideal S1024x512 .bf16) (u : Vec Ideal S512x1024 .bf16) (b : Vec Ideal S1024x1024 .bf16) (v : Vec Ideal S1024x1024 .bf16)
  (e : Vec Ideal S1024x512 .bf16) (w : Vec Ideal S512x1024 .bf16) (p : Vec Ideal S1x1024 .f32) (x d : Vec Ideal S1024x1024 .f32)

/-- One entry of a block's product. -/
theorem prod_apply (r : Fin 1024) (j : Fin 1024) :
    k0_pay5 (F := Ideal) a u b v e w (ix2 r j)
      = ∑ k : Fin 512, a (ix2 r k) * u (ix2 k j) + ∑ k : Fin 1024, b (ix2 r k) * v (ix2 k j) + ∑ k : Fin 512, e (ix2 r k) * w (ix2 k j) := by
  pointwise [k0_pay5]

/-- One entry of a block's errors. -/
theorem err_apply (r : Fin 1024) (j : Fin 1024) :
    k0_pay1 (F := Ideal) (k0_pay6 p) (k0_pay7 a u b v e w) x d (ix2 r j)
      = x (ix2 r j) + k0_pay5 a u b v e w (ix2 r j) * rs (fun k => k0_pay5 a u b v e w (ix2 r k)) * p (ix2 0 j) - d (ix2 r j) := by
  unfold rs ms eps
  rw [← lit_inv1024]
  pointwise [k0_pay1, k0_pay6, k0_pay7]

end Entries

section Errors
variable (g : FVec Ideal S1x1024 .f32) (f : FVec Ideal S1024x1024 .f32) (x d : Vec Ideal S1024x1024 .f32)

/-- One entry of a block's gradient. -/
theorem grad_apply (r : Fin 1024) (j : Fin 1024) :
    k0_pay2 (F := Ideal) g f x d (ix2 r j) = k0_pay1 g f x d (ix2 r j) * ((1 / 1024 : ℝ) : EReal) := by
  rw [← lit_inv1024]
  pointwise [k0_pay2]

/-- The accumulation of the loss adds the block's part to entry (0, 0). -/
theorem loss_apply (acc : Vec Ideal S8x128 .f32) :
    k0_pay3 (F := Ideal) g f x d acc (ix2 0 0)
      = acc (ix2 0 0) + (∑ r : Fin 1024, ∑ k : Fin 1024, k0_pay1 g f x d (ix2 r k) * k0_pay1 g f x d (ix2 r k)) * ((1 / 2048 : ℝ) : EReal) := by
  rw [← lit_inv2048]
  pointwise [k0_pay3]
  rfl

theorem start_apply (y : S8x128.Idx) : k0_pay4 (F := Ideal) y = 0 := by
  pointwise [k0_pay4]

end Errors

/-- The weights' three bands of rows and the row of the norm's weights. -/
abbrev ra : Rect S2048x1024 := Rect.unit (s := S2048x1024) ![0, 0] S512x1024.size inb_S2048x1024_S512x1024_0_0
abbrev rb : Rect S2048x1024 := Rect.unit (s := S2048x1024) ![512, 0] S1024x1024.size inb_S2048x1024_S1024x1024_512_0
abbrev rc : Rect S2048x1024 := Rect.unit (s := S2048x1024) ![1536, 0] S512x1024.size inb_S2048x1024_S512x1024_1536_0
abbrev rp : Rect S8x1024 := Rect.unit (s := S8x1024) ![0, 0] S1x1024.size inb_S8x1024_S1x1024_0_0

section Cases
variable (c : Dev nD) (i : grid0.Coords)
  (arg1 : Memref sig .tc .vmem S1024x512 .bf16) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S8x128 .f32) (harg10 : arg10.IsWhole)
  (x0 : Vec Ideal S1024x512 .bf16) (x1 : Vec Ideal S1024x1024 .bf16) (x2 : Vec Ideal S1024x512 .bf16) (x3 : Vec Ideal S2048x1024 .bf16) (x4 : Vec Ideal S1024x1024 .f32) (x5 : Vec Ideal S8x1024 .f32) (x6 : Vec Ideal S1024x1024 .f32)

/-- The block's product with its rows' factors. -/
abbrev scaled : FVec Ideal S1024x1024 .f32 := k0_pay7 x0 (View.ld x3 ra) x1 (View.ld x3 rb) x2 (View.ld x3 rc)
/-- The norm's weights. -/
abbrev weights : FVec Ideal S1x1024 .f32 := k0_pay6 (View.ld x5 rp)

theorem caseA8 (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 x6
      = k0_pay2 (weights x5) (scaled x0 x1 x2 x3) x4 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg10.read_unread, View.ld_unit_zero (S := S1024x1024) hz, View.ld_unit_zero (S := S1024x512) hz, View.ld_unit_zero (S := S8x128) hz]

theorem caseA9 (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 x6
      = k0_pay3 (weights x5) (scaled x0 x1 x2 x3) x4 x6 (k0_pay4 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, harg4.read_unread, harg5.read_unread, harg6.read_unread, harg7.read_unread, harg10.read_unread, View.ld_unit_zero (S := S1024x1024) hz, View.ld_unit_zero (S := S1024x512) hz, View.ld_unit_zero (S := S8x128) hz]

theorem caseB8 (hc0 : ¬cond0_0 i) (acc : Vec Ideal S8x128 .f32) :
    out0_B_8 c i arg1 harg1 arg2 harg2 arg3 harg3 arg4 harg4 arg5 harg5 arg6 harg6 arg7 harg7 arg8 harg8 arg9 harg9 arg10 harg10 hc0 x0 x1 x2 x3 x4 x5 x6 acc
      = k0_pay2 (weights x5) (scaled x0 x1 x2 x3) x4 x6 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 acc)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg10.read_unread, View.ld_unit_zero (S := S1024x1024) hz, View.ld_unit_zero (S := S1024x512) hz, View.ld_unit_zero (S := S8x128) hz]

theorem caseB9 (hc0 : ¬cond0_0 i) (acc : Vec Ideal S8x128 .f32) :
    out0_B_9 c i arg1 harg1 arg2 harg2 arg3 harg3 arg4 harg4 arg5 harg5 arg6 harg6 arg7 harg7 arg8 harg8 arg9 harg9 arg10 harg10 hc0 x0 x1 x2 x3 x4 x5 x6 acc
      = k0_pay3 (weights x5) (scaled x0 x1 x2 x3) x4 x6 acc := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 acc)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg10.read_unread, View.ld_unit_zero (S := S1024x1024) hz, View.ld_unit_zero (S := S1024x512) hz, View.ld_unit_zero (S := S8x128) hz]

end Cases

end Cert.Proof.Loss

end
-- ==== Proof.Loss.Kernel.lean ====
/-
  The result arrays of the loss call: each point's blocks from the whole tables, the accumulated loss as a sum over the points, and
  the arrays after the last point.
-/
module

public import proofs.«01_k».proof.Proof.Loss.Cases

@[expose] public section

set_option maxRecDepth 16384

noncomputable section

namespace Cert.Proof.Loss

open Cert.Kernel6Ideal Cert.Kernel6Ideal.Gen Idealize.ShloMosaic Idealize.ShloMosaic.TcCoe Idealize.SL.Sem
open Idealize.ShloMosaic.Pipeline (Dat)
open Cert.Proof.Out (prod next)

variable (m : (ℓ : Loc nD τ sig) → Buf (Elt Ideal) ℓ) (c : Dev nD)

/-! The three mixers' outputs, the weights, the residual stream, the norm's weights and the target, and their blocks at point `t`. -/
abbrev oas : S8192x512.Idx → EReal := V m c main_v0
abbrev obs : S8192x1024.Idx → EReal := V m c main_v1
abbrev ocs : S8192x512.Idx → EReal := V m c main_v2
abbrev ows : S2048x1024.Idx → EReal := V m c main_v3
abbrev oxs : S8192x1024.Idx → EReal := V m c main_arg4
abbrev ops : S8x1024.Idx → EReal := V m c main_v7
abbrev ots : S8192x1024.Idx → EReal := V m c main_arg6
abbrev ab (t : Fin cfg0.N) : Vec Ideal S1024x512 .bf16 := iblk m c 0 t
abbrev bb (t : Fin cfg0.N) : Vec Ideal S1024x1024 .bf16 := iblk m c 1 t
abbrev cb (t : Fin cfg0.N) : Vec Ideal S1024x512 .bf16 := iblk m c 2 t
abbrev wb (t : Fin cfg0.N) : Vec Ideal S2048x1024 .bf16 := iblk m c 3 t
abbrev xb (t : Fin cfg0.N) : Vec Ideal S1024x1024 .f32 := iblk m c 4 t
abbrev pb (t : Fin cfg0.N) : Vec Ideal S8x1024 .f32 := iblk m c 5 t
abbrev tb (t : Fin cfg0.N) : Vec Ideal S1024x1024 .f32 := iblk m c 6 t

/-- The product's entries and the rows that the loss is taken of, from the whole tables. -/
abbrev ys (i j : ℕ) : EReal := prod (oas m c) (obs m c) (ocs m c) (ows m c) i j
abbrev rows : S8192x1024.Idx → EReal := next (ys m c) (rd (ops m c) 0) (oxs m c)

theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

theorem ab_eq (t : Fin cfg0.N) (y : S1024x512.Idx) (q k : ℕ) (h0 : (y 0).val = q) (h1 : (y 1).val = k) : ab m c t y = rd (oas m c) (1024 * t.val + q) k := by
  obtain ⟨⟨a0, a1⟩, -⟩ := idx_facts t
  exact eq_rd (oas m c) (((cfg0.win 0).blk t).view.emb y) _ _
    (show win0_0.index t (0 : Fin 2) * 1024 + 1 * (y 0).val = _ by omega) (show win0_0.index t (1 : Fin 2) * 512 + 1 * (y 1).val = _ by omega)
theorem bb_eq (t : Fin cfg0.N) (y : S1024x1024.Idx) (q k : ℕ) (h0 : (y 0).val = q) (h1 : (y 1).val = k) : bb m c t y = rd (obs m c) (1024 * t.val + q) k := by
  obtain ⟨-, ⟨a0, a1⟩, -⟩ := idx_facts t
  exact eq_rd (obs m c) (((cfg0.win 1).blk t).view.emb y) _ _
    (show win0_1.index t (0 : Fin 2) * 1024 + 1 * (y 0).val = _ by omega) (show win0_1.index t (1 : Fin 2) * 1024 + 1 * (y 1).val = _ by omega)
theorem cb_eq (t : Fin cfg0.N) (y : S1024x512.Idx) (q k : ℕ) (h0 : (y 0).val = q) (h1 : (y 1).val = k) : cb m c t y = rd (ocs m c) (1024 * t.val + q) k := by
  obtain ⟨-, -, ⟨a0, a1⟩, -⟩ := idx_facts t
  exact eq_rd (ocs m c) (((cfg0.win 2).blk t).view.emb y) _ _
    (show win0_2.index t (0 : Fin 2) * 1024 + 1 * (y 0).val = _ by omega) (show win0_2.index t (1 : Fin 2) * 512 + 1 * (y 1).val = _ by omega)
theorem wb_eq (t : Fin cfg0.N) (y : S2048x1024.Idx) (q k : ℕ) (h0 : (y 0).val = q) (h1 : (y 1).val = k) : wb m c t y = rd (ows m c) q k := by
  obtain ⟨-, -, -, ⟨a0, a1⟩, -⟩ := idx_facts t
  exact eq_rd (ows m c) (((cfg0.win 3).blk t).view.emb y) _ _
    (show win0_3.index t (0 : Fin 2) * 2048 + 1 * (y 0).val = _ by omega) (show win0_3.index t (1 : Fin 2) * 1024 + 1 * (y 1).val = _ by omega)
theorem xb_eq (t : Fin cfg0.N) (y : S1024x1024.Idx) (q k : ℕ) (h0 : (y 0).val = q) (h1 : (y 1).val = k) : xb m c t y = rd (oxs m c) (1024 * t.val + q) k := by
  obtain ⟨-, -, -, -, ⟨a0, a1⟩, -⟩ := idx_facts t
  exact eq_rd (oxs m c) (((cfg0.win 4).blk t).view.emb y) _ _
    (show win0_4.index t (0 : Fin 2) * 1024 + 1 * (y 0).val = _ by omega) (show win0_4.index t (1 : Fin 2) * 1024 + 1 * (y 1).val = _ by omega)
theorem pb_eq (t : Fin cfg0.N) (y : S8x1024.Idx) (q k : ℕ) (h0 : (y 0).val = q) (h1 : (y 1).val = k) : pb m c t y = rd (ops m c) q k := by
  obtain ⟨-, -, -, -, -, ⟨a0, a1⟩, -⟩ := idx_facts t
  exact eq_rd (ops m c) (((cfg0.win 5).blk t).view.emb y) _ _
    (show win0_5.index t (0 : Fin 2) * 8 + 1 * (y 0).val = _ by omega) (show win0_5.index t (1 : Fin 2) * 1024 + 1 * (y 1).val = _ by omega)
theorem tb_eq (t : Fin cfg0.N) (y : S1024x1024.Idx) (q k : ℕ) (h0 : (y 0).val = q) (h1 : (y 1).val = k) : tb m c t y = rd (ots m c) (1024 * t.val + q) k := by
  obtain ⟨-, -, -, -, -, -, ⟨a0, a1⟩, -⟩ := idx_facts t
  exact eq_rd (ots m c) (((cfg0.win 6).blk t).view.emb y) _ _
    (show win0_6.index t (0 : Fin 2) * 1024 + 1 * (y 0).val = _ by omega) (show win0_6.index t (1 : Fin 2) * 1024 + 1 * (y 1).val = _ by omega)

/-- The block's product is the whole tables'. -/
theorem prod_blk (t : Fin cfg0.N) (r : Fin 1024) (j : Fin 1024) :
    k0_pay5 (F := Ideal) (ab m c t) (View.ld (wb m c t) ra) (bb m c t) (View.ld (wb m c t) rb) (cb m c t) (View.ld (wb m c t) rc) (ix2 r j)
      = ys m c (1024 * t.val + r.val) j.val := by
  rw [prod_apply]
  unfold ys prod
  refine congrArg₂ (· + ·) (congrArg₂ (· + ·) ?_ ?_) ?_
  · exact Finset.sum_congr rfl fun k _ => congrArg₂ (· * ·) (ab_eq m c t _ _ _ rfl rfl) (wb_eq m c t (ra.emb (ix2 k j)) _ _ (show 0 + 1 * k.val = _ by omega) (show 0 + 1 * j.val = _ by omega))
  · exact Finset.sum_congr rfl fun k _ => congrArg₂ (· * ·) (bb_eq m c t _ _ _ rfl rfl) (wb_eq m c t (rb.emb (ix2 k j)) _ _ (show 512 + 1 * k.val = _ by omega) (show 0 + 1 * j.val = _ by omega))
  · exact Finset.sum_congr rfl fun k _ => congrArg₂ (· * ·) (cb_eq m c t _ _ _ rfl rfl) (wb_eq m c t (rc.emb (ix2 k j)) _ _ (show 1536 + 1 * k.val = _ by omega) (show 0 + 1 * j.val = _ by omega))

/-- The block's errors. -/
abbrev eb (t : Fin cfg0.N) : FVec Ideal S1024x1024 .f32 :=
  k0_pay1 (weights (pb m c t)) (scaled (ab m c t) (bb m c t) (cb m c t) (wb m c t)) (xb m c t) (tb m c t)

/-- The row and column of the whole tables behind a block's entry. -/
def at_ (t : Fin cfg0.N) (r j : Fin 1024) : S8192x1024.Idx :=
  ix2 ⟨1024 * t.val + r.val, by have := lt_of_lt_of_eq t.isLt (show cfg0.N = 8 from N_0); omega⟩ j

/-- The block's errors are the whole tables'. -/
theorem err_blk (t : Fin cfg0.N) (r j : Fin 1024) : eb m c t (ix2 r j) = rows m c (at_ t r j) - ots m c (at_ t r j) := by
  unfold eb
  rw [err_apply, prod_blk, tb_eq m c t (ix2 r j) r.val j.val rfl rfl, xb_eq m c t (ix2 r j) r.val j.val rfl rfl]
  refine congrArg₂ (· - ·) ?_ (rd_ix2 (ots m c) (at_ t r j 0) j)
  unfold rows next Out.factor
  refine congrArg₂ (· + ·) (rd_ix2 (oxs m c) (at_ t r j 0) j) (congrArg₂ (· * ·) (congrArg₂ (· * ·) rfl ?_) ?_)
  · exact congrArg rs (funext fun k => prod_blk m c t r k)
  · exact pb_eq m c t (rp.emb (ix2 0 j)) 0 j.val (show 0 + 1 * 0 = _ by omega) (show 0 + 1 * j.val = _ by omega)

/-- The block's part of the loss. -/
theorem part_eq (t : Fin cfg0.N) : (∑ r : Fin 1024, ∑ k : Fin 1024, eb m c t (ix2 r k) * eb m c t (ix2 r k)) * ((1 / 2048 : ℝ) : EReal)
    = ∑ r : Fin 1024, rowLoss (rows m c) (ots m c) (1024 * t.val + r.val) := by
  rw [mul_comm, mul_sum_nonneg _ (by exact_mod_cast (by norm_num : (0 : ℝ) ≤ 1 / 2048)) (EReal.coe_ne_top _)]
  refine Finset.sum_congr rfl fun r _ => ?_
  unfold rowLoss sq
  refine congrArg _ (Finset.sum_congr rfl fun k _ => ?_)
  rw [err_blk]
  have h1 := rd_ix2 (rows m c) (at_ t r k 0) k
  have h2 := rd_ix2 (ots m c) (at_ t r k 0) k
  exact (congrArg₂ (· * ·) (congrArg₂ (· - ·) h1 h2) (congrArg₂ (· - ·) h1 h2)).symm

/-- What a point stores of the gradient. -/
theorem out8_eq (t : Fin cfg0.N) (r j : Fin 1024) :
    (outsAt0 m c t.val t.isLt).2.1 (ix2 r j) = grad (rows m c) (ots m c) (at_ t r j) := by
  have h : (outsAt0 m c t.val t.isLt).2.1
      = k0_pay2 (weights (pb m c t)) (scaled (ab m c t) (bb m c t) (cb m c t) (wb m c t)) (xb m c t) (tb m c t) := by
    by_cases h0 : t.val % 8 = 0
    · rw [outsAt0_A m c t h0]
      dsimp only
      rw [caseA8]
    · rw [outsAt0_B m c t h0]
      dsimp only
      rw [caseB8]
  rw [h, grad_apply]
  exact congrArg (· * _) (err_blk m c t r j)

/-- The accumulated loss after a point. -/
theorem out9_eq (t : ℕ) (h : t < cfg0.N) :
    (outsAt0 m c t h).2.2 (ix2 0 0) = ∑ s ∈ Finset.range (t % 8 + 1), ∑ r : Fin 1024, rowLoss (rows m c) (ots m c) (1024 * (t / 8 * 8 + s) + r.val) := by
  refine run_sum 8 (by decide) (fun n hn => (outsAt0 m c n hn).2.2 (ix2 0 0)) (fun n => ∑ r : Fin 1024, rowLoss (rows m c) (ots m c) (1024 * n + r.val))
    (fun n hn h0 => ?_) (fun n hn h0 => ?_) t h
  · show (outsAt0 m c n hn).2.2 (ix2 0 0) = _
    rw [outsAt0_A m c ⟨n, hn⟩ h0]
    dsimp only
    rw [caseA9, loss_apply, start_apply, zero_add]
    exact part_eq m c ⟨n, hn⟩
  · show (outsAt0 m c n hn).2.2 (ix2 0 0) = _
    rw [outsAt0_B m c ⟨n, hn⟩ h0]
    dsimp only
    rw [caseB9, loss_apply]
    exact congrArg _ (part_eq m c ⟨n, hn⟩)

theorem flushed8 (t : Fin cfg0.N) :
    (dats m 0 c).flushed 8 t = ((cfg0.win 8).blk t).view.read (Elt Ideal) (grad (rows m c) (ots m c)) := by
  show (cfg0.win 8).cut (grid0.coords t) ((dats m 0 c).after 8 t) = _
  rw [after0_8]
  obtain ⟨-, -, -, -, -, -, -, ⟨o0, o1⟩, -⟩ := idx_facts t
  funext y
  have e0 : (((cfg0.win 8).blk t).view.emb y 0).val = 1024 * t.val + (y 0).val := by
    show win0_8.index t (0 : Fin 2) * 1024 + 1 * (y 0).val = _; omega
  have e1 : (((cfg0.win 8).blk t).view.emb y 1).val = (y 1).val := by
    show win0_8.index t (1 : Fin 2) * 1024 + 1 * (y 1).val = _; omega
  show (outsAt0 m c t.val t.isLt).2.1 ((cfg0.win 8).xinj (grid0.coords t) y) = grad (rows m c) (ots m c) (((cfg0.win 8).blk t).view.emb y)
  let r : Fin 1024 := ⟨(y 0).val, (y 0).isLt⟩
  let l : Fin 1024 := ⟨(y 1).val, (y 1).isLt⟩
  have ex : (cfg0.win 8).xinj (grid0.coords t) y = ix2 r l := eq_ix2 (n0 := 1024) (n1 := 1024) _
  rw [ex, out8_eq]
  refine congrArg (grad (rows m c) (ots m c)) (funext fun a => Fin.ext ?_)
  match a with
  | ⟨0, _⟩ => exact e0.symm
  | ⟨1, _⟩ => exact e1.symm

/-- The gradient's array after the call. -/
theorem final8 : (dats m 0 c).arrAt 8 cfg0.N = grad (rows m c) (ots m c) :=
  (dats m 0 c).arrAt_eq_of_cover 8 _ (fun t _ => flushed8 m c t) fun i => by
    have hi0 : (i 0).val < 8192 := (i 0).isLt
    have hi1 : (i 1).val < 1024 := (i 1).isLt
    let t : Fin cfg0.N := ⟨(i 0).val / 1024, lt_of_lt_of_eq (by omega : _ < 8) N_0.symm⟩
    obtain ⟨-, -, -, -, -, -, -, ⟨o0, o1⟩, -⟩ := idx_facts t
    refine ⟨t, flush0_8 t, ?_⟩
    show i ∈ ((View.whole main_v8_1).slice (win0_8.rect t)).set
    rw [View.set_slice_whole, Rect.mem_set_unit]
    have ht : t.val = (i 0).val / 1024 := rfl
    intro a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 1024 ≤ (i 1).val ∧ (i 1).val < win0_8.index t (1 : Fin 2) * 1024 + 1024; omega

/-- The last point. -/
abbrev last : Fin cfg0.N := ⟨7, lt_of_lt_of_eq (by decide : 7 < 8) N_0.symm⟩

theorem flushed9 (t : Fin cfg0.N) (hf : (cfg0.win 9).flush t = true) :
    (dats m 0 c).flushed 9 t = ((cfg0.win 9).blk t).view.read (Elt Ideal) (outsAt0 m c last.val last.isLt).2.2 := by
  show (cfg0.win 9).cut (grid0.coords t) ((dats m 0 c).after 9 t) = _
  rw [after0_9]
  have hm : t.val % 8 = 7 := (flush0_9 t).mp hf
  have hN : t.val < 8 := lt_of_lt_of_eq t.isLt (show cfg0.N = 8 from N_0)
  obtain rfl : t = last := Fin.ext (show t.val = 7 by omega)
  obtain ⟨-, -, -, -, -, -, -, -, ⟨o0, o1⟩⟩ := idx_facts last
  funext y
  refine congrArg (outsAt0 m c last.val last.isLt).2.2 (funext fun a => Fin.ext ?_)
  match a with
  | ⟨0, _⟩ => show (y 0).val = win0_9.index last (0 : Fin 2) * 8 + 1 * (y 0).val; omega
  | ⟨1, _⟩ => show (y 1).val = win0_9.index last (1 : Fin 2) * 128 + 1 * (y 1).val; omega

/-- The loss's table after the call is the last point's. -/
theorem final9 : (dats m 0 c).arrAt 9 cfg0.N = (outsAt0 m c last.val last.isLt).2.2 :=
  (dats m 0 c).arrAt_eq_of_cover 9 _ (fun t hf => flushed9 m c t hf) fun i => by
    have hi0 : (i 0).val < 8 := (i 0).isLt
    have hi1 : (i 1).val < 128 := (i 1).isLt
    obtain ⟨-, -, -, -, -, -, -, -, ⟨o0, o1⟩⟩ := idx_facts last
    refine ⟨last, (flush0_9 last).mpr rfl, ?_⟩
    show i ∈ ((View.whole main_v8_2).slice (win0_9.rect last)).set
    rw [View.set_slice_whole, Rect.mem_set_unit]
    intro a
    match a with
    | ⟨0, _⟩ => show win0_9.index last (0 : Fin 2) * 8 ≤ (i 0).val ∧ (i 0).val < win0_9.index last (0 : Fin 2) * 8 + 8; omega
    | ⟨1, _⟩ => show win0_9.index last (1 : Fin 2) * 128 ≤ (i 1).val ∧ (i 1).val < win0_9.index last (1 : Fin 2) * 128 + 128; omega

/-- Its entry (0, 0) is the loss of all rows. -/
theorem final9_at : ((dats m 0 c).arrAt 9 cfg0.N : S8x128.Idx → EReal) (ix2 0 0) = loss (rows m c) (ots m c) := by
  rw [final9, out9_eq]
  simp only [Nat.reduceMod, Nat.reduceDiv, Nat.zero_mul, Nat.zero_add, Nat.reduceAdd]
  exact sum_blocks 8 1024 rfl fun k => rowLoss (rows m c) (ots m c) k

end Cert.Proof.Loss

end
-- ==== Proof.Loss.Results.lean ====
/-
  The two results of the loss's kernel at the program's end, as functions of the argument arrays.
-/
module

public import proofs.«01_k».proof.Proof.Loss.Kernel
public import Idealize.ShloMosaic.Lib.StableHlo.ReadAt
public import Idealize.ShloMosaic.Lib.Routing.OpsSet
public import Idealize.ShloMosaic.Lib.Routing.OpsPair

@[expose] public section

set_option maxRecDepth 16384

noncomputable section

namespace Cert.Proof.Loss

open Cert.Kernel6Ideal Cert.Kernel6Ideal.Gen Idealize.ShloMosaic Idealize.ShloMosaic.TcCoe Idealize.SL.Sem
open Idealize.ShloMosaic.Pipeline (Dat)
open Idealize.ShloMosaic.Tactic
open Cert.Proof.Out (prod next)

variable (m : (ℓ : Loc nD τ sig) → Buf (Elt Ideal) ℓ) (c : Dev nD)

/-! The arguments as launched. -/
abbrev a0 : S8192x512.Idx → EReal := m ((c : Thread nD τ).loc main_arg0)
abbrev a1 : S8192x1024.Idx → EReal := m ((c : Thread nD τ).loc main_arg1)
abbrev a2 : S8192x512.Idx → EReal := m ((c : Thread nD τ).loc main_arg2)
abbrev a3 : S2048x1024.Idx → EReal := m ((c : Thread nD τ).loc main_arg3)
abbrev a4 : S8192x1024.Idx → EReal := m ((c : Thread nD τ).loc main_arg4)
abbrev a5 : S1024.Idx → EReal := m ((c : Thread nD τ).loc main_arg5)
abbrev a6 : S8192x1024.Idx → EReal := m ((c : Thread nD τ).loc main_arg6)

/-! The lines before the call leave four arguments in lower-precision copies: over the reals the same numbers. -/
theorem entry_v0 : (V m c main_v0 : S8192x512.Idx → EReal) = (m ((c : Thread nD τ).loc main_arg0) : S8192x512.Idx → EReal) := by
  show (StableHlo.after hostOps0 (fun b => m (c, b)) (Proc.devRef .tc main_v0) : S8192x512.Idx → EReal) = _
  after_reads_simp
  rfl
theorem entry_v1 : (V m c main_v1 : S8192x1024.Idx → EReal) = (m ((c : Thread nD τ).loc main_arg1) : S8192x1024.Idx → EReal) := by
  show (StableHlo.after hostOps0 (fun b => m (c, b)) (Proc.devRef .tc main_v1) : S8192x1024.Idx → EReal) = _
  after_reads_simp
  rfl
theorem entry_v2 : (V m c main_v2 : S8192x512.Idx → EReal) = (m ((c : Thread nD τ).loc main_arg2) : S8192x512.Idx → EReal) := by
  show (StableHlo.after hostOps0 (fun b => m (c, b)) (Proc.devRef .tc main_v2) : S8192x512.Idx → EReal) = _
  after_reads_simp
  rfl
theorem entry_v3 : (V m c main_v3 : S2048x1024.Idx → EReal) = (m ((c : Thread nD τ).loc main_arg3) : S2048x1024.Idx → EReal) := by
  show (StableHlo.after hostOps0 (fun b => m (c, b)) (Proc.devRef .tc main_v3) : S2048x1024.Idx → EReal) = _
  after_reads_simp
  rfl

/-- Row 0 of the eight-row copy of the norm's weights is the weights themselves. -/
theorem entry_row (k : Fin 1024) : (V m c main_v7 : S8x1024.Idx → EReal) (ix2 0 k) = a5 m c (ix1 k) := by
  show (StableHlo.after hostOps0 (fun b => m (c, b)) (Proc.devRef .tc main_v7) : S8x1024.Idx → EReal) _ = _
  after_reads_simp
  have st : ∀ (j : S1x1024.Idx) (a : Fin 2) (x : IVec S1 32), (∀ y, x y = 0#32) →
      scatter_S8x1024_S1_S1x1024_01_n_0_0.start j x a = 0 := by
    intro j a x hx
    unfold ScatterDims.start
    split
    · rw [hx]; rfl
    · rfl
  have wi : ∀ (j : S1x1024.Idx) (a : Fin 2), scatter_S8x1024_S1_S1x1024_01_n_0_0.window j a = (j a).val := by
    intro j a
    fin_cases a <;> rfl
  have hit : ∀ (j : S1x1024.Idx) (x : IVec S1 32) (_ : ∀ y, x y = 0#32) (i : S8x1024.Idx),
      scatter_S8x1024_S1_S1x1024_01_n_0_0.resultIdx? j x = some i ↔ ∀ a : Fin 2, ((j a).val : Int) = ((i a).val : Int) := by
    intro j x hx i
    rw [Routing.resultIdx?_eq_some]
    exact forall_congr' fun a => by rw [st j a x hx, wi j a, zero_add]
  refine (Routing.scatter_set_hit _ _ _ _ (ix2 0 k) ((m ((c : Thread nD τ).loc main_arg5) : S1024.Idx → EReal) (ix1 k)) (fun j hj => ?_)
    (ix2 0 k) ((hit _ _ (fun _ => rfl) _).2 fun a => by fin_cases a <;> rfl))
  have h := (hit _ _ (fun _ => rfl) _).1 hj
  have hj' : j = ix2 0 k := by
    funext a
    fin_cases a
    · exact Subsingleton.elim (α := Fin 1) _ _
    · exact Fin.ext (Int.ofNat_inj.1 (h 1))
  rw [hj']
  pointwise

/-- The rows that the loss is taken of, from the arguments. -/
abbrev rowsOf : S8192x1024.Idx → EReal := next (prod (a0 m c) (a1 m c) (a2 m c) (a3 m c)) (vd (a5 m c)) (a4 m c)

theorem rows_eq : rows m c = rowsOf m c := by
  have hy : ys m c = prod (a0 m c) (a1 m c) (a2 m c) (a3 m c) := by
    funext i j
    unfold ys oas obs ocs ows
    rw [entry_v0, entry_v1, entry_v2, entry_v3]
  unfold rows
  rw [hy]
  exact congrArg₂ (next _) (funext fun k => rd_row (n := 7) _ (a5 m c) (entry_row m c) k) (V_main_arg4 m c)

theorem target_eq : ots m c = a6 m c := V_main_arg6 m c

/-- The gradient of the loss. -/
theorem res_dy : ((dats m 0 c).arrAt 8 cfg0.N : S8192x1024.Idx → EReal) = grad (rowsOf m c) (a6 m c) := by
  rw [final8, rows_eq, target_eq]

/-- The contents at the program's end of a buffer that the lines after the call write. -/
abbrev atEnd (b : Ref sig .tc) : Buf (Elt Ideal) ((c.tc : Thread nD τ).loc b) :=
  Pipeline.afterTail₀ cfgs (dats m) 0 (V0 m) [hostOps1] c b

/-- The loss. -/
theorem res_loss : (atEnd m c main_v10 : S_.Idx → EReal) = fun _ => loss (rowsOf m c) (a6 m c) := by
  have hw := Pipeline.withArrays_arr (win := spec0) (by decide) c (V0 m c) (fun w => (dats m 0 c).arrAt w cfg0.N) 9
  have h : (atEnd m c main_v10 : S_.Idx → EReal) = fun _ => ((dats m 0 c).arrAt 9 cfg0.N : S8x128.Idx → EReal) (ix2 0 0) := by
    rw [← hw]
    show (StableHlo.after hostOps1 (Pipeline.withArrays spec0 c (V0 m c) fun w => (dats m 0 c).arrAt w cfg0.N) (Proc.devRef .tc main_v10) : S_.Idx → EReal) = _
    generalize (Pipeline.withArrays spec0 c (V0 m c) fun w => (dats m 0 c).arrAt w cfg0.N) = w
    after_reads_at
  rw [h, final9_at, rows_eq, target_eq]

end Cert.Proof.Loss

end
-- ==== Proof.Loss.Ref.lean ====
/-
  The results of the loss's reference, as functions of the argument arrays.
-/
module

public import proofs.«01_k».proof.Proof.Loss.Spec
public import proofs.«01_k».proof.Proof.Out.Ref
public import proofs.«01_k».proof.Proof.Gen.Reference6Ideal.Read

@[expose] public section

set_option maxRecDepth 16384

noncomputable section

namespace Cert.Proof.Loss.Ref

open Cert.Reference6Ideal Cert.Reference6Ideal.Gen Cert.Reference6Ideal.Read Idealize.ShloMosaic Idealize.ShloMosaic.TcCoe Idealize.SL.Sem
open Cert.Proof.Out (prod next)

variable (x0 : S8192x512.Idx → EReal) (x1 : S8192x1024.Idx → EReal) (x2 : S8192x512.Idx → EReal) (x3 : S2048x1024.Idx → EReal)
  (x4 : S8192x1024.Idx → EReal) (x5 : S1024.Idx → EReal) (x6 : S8192x1024.Idx → EReal)

/-- The rows that the loss is taken of. -/
abbrev rows : S8192x1024.Idx → EReal := next (prod x0 x1 x2 x3) (vd x5) x4

/-- They are computed by the out-projection's own lines. -/
theorem v15_eq : val_main_v15 (F := Ideal) x0 x1 x2 x3 x4 x5 = rows x0 x1 x2 x3 x4 x5 :=
  (show val_main_v15 (F := Ideal) x0 x1 x2 x3 x4 x5 = Cert.Reference2Ideal.Read.val_main_v18 (F := Ideal) x0 x1 x2 x3 x4 x5 from rfl).trans
    (Out.Ref.res_xn x0 x1 x2 x3 x4 x5)

/-- The errors. -/
theorem v16_at (i : S8192x1024.Idx) : val_main_v16 (F := Ideal) x0 x1 x2 x3 x4 x5 x6 i = rows x0 x1 x2 x3 x4 x5 i - x6 i := by
  rw [val_main_v16_apply, v15_eq]
  rfl

theorem half_grad (e : EReal) : ((1 / 2048 : ℝ) : EReal) * (((2 : ℝ) : EReal) * e) = e * ((1 / 1024 : ℝ) : EReal) := by
  rw [← mul_assoc, ← EReal.coe_mul, mul_comm]
  norm_num

theorem half_mean (s : EReal) : ((1 / 2 : ℝ) : EReal) * (s * ((1 / 1024 : ℝ) : EReal)) = ((1 / 2048 : ℝ) : EReal) * s := by
  rw [mul_comm s, ← mul_assoc, ← EReal.coe_mul]
  norm_num

/-- The gradient of the loss. -/
theorem res_dy : val_main_v30 (F := Ideal) x0 x1 x2 x3 x4 x5 x6 = grad (rows x0 x1 x2 x3 x4 x5) x6 := by
  funext y
  obtain ⟨i, j, rfl⟩ : ∃ (i : Fin 8192) (j : Fin 1024), y = ix2 i j := ⟨y 0, y 1, eq_ix2 y⟩
  have e : val_main_v30 (F := Ideal) x0 x1 x2 x3 x4 x5 x6 (ix2 i j)
      = Ideal.div (Ideal.ofBits .f32 0x3F000000#32 * Ideal.ofBits .f32 0x3F800000#32) (Ideal.ofBits .f32 0x44800000#32)
        * (Ideal.ofBits .f32 0x40000000#32 * val_main_v16 (F := Ideal) x0 x1 x2 x3 x4 x5 x6 (ix2 i j)) := by
    pointwise [val_main_v30, val_main_v29, val_main_v28, val_main_v27, val_main_v26, val_main_v25, val_main_v19, val_main_v18,
      val_main_cst_2, val_main_cst_7, val_main_cst_8, val_main_cst_9]
  rw [e, v16_at, lit_half, lit_one, lit_two, lit_1024, div_1024, ← EReal.coe_mul, ← EReal.coe_mul]
  unfold grad
  rw [← half_grad]
  norm_num

/-- The loss. -/
theorem res_loss : val_main_v24 (F := Ideal) x0 x1 x2 x3 x4 x5 x6 = fun _ => loss (rows x0 x1 x2 x3 x4 x5) x6 := by
  funext y
  have e : val_main_v24 (F := Ideal) x0 x1 x2 x3 x4 x5 x6 y
      = Ideal.ofBits .f32 0x3F000000#32 * ∑ i : Fin 8192, Ideal.div (∑ k : Fin 1024, val_main_v16 (F := Ideal) x0 x1 x2 x3 x4 x5 x6 (ix2 i k)
          * val_main_v16 (F := Ideal) x0 x1 x2 x3 x4 x5 x6 (ix2 i k)) (Ideal.ofBits .f32 0x44800000#32) := by
    pointwise [val_main_v24, val_main_v23, val_main_v22, val_main_v21, val_main_v20, val_main_v17, val_main_cst_3, val_main_cst_4, val_main_cst_5, val_main_cst_6]
  rw [e, lit_half, lit_1024, mul_sum_nonneg _ (by exact_mod_cast (by norm_num : (0 : ℝ) ≤ 1 / 2)) (EReal.coe_ne_top _)]
  unfold loss rowLoss sq
  refine Finset.sum_congr rfl fun i _ => ?_
  rw [div_1024, half_mean]
  refine congrArg _ (Finset.sum_congr rfl fun k _ => ?_)
  rw [v16_at, rd_ix2 (rows x0 x1 x2 x3 x4 x5) i k, rd_ix2 x6 i k]

end Cert.Proof.Loss.Ref

end
-- ==== Proof.Loss.Claim.lean ====
/-
  The value claim of the loss: over the reals the kernel's results are the reference's.
-/
module

public import proofs.«01_k».proof.Defs
public import proofs.«01_k».proof.Proof.Loss.Results
public import proofs.«01_k».proof.Proof.Loss.Ref

@[expose] public section

set_option maxRecDepth 16384

noncomputable section

namespace Cert.Proof.Loss

open Cert.Kernel6Ideal Cert.Kernel6Ideal.Gen Idealize.ShloMosaic Idealize.ShloMosaic.TcCoe Idealize.SL.Sem
open Idealize.ShloMosaic.Pipeline (Dat)

/-- Over the reals the kernel and the reference leave the same results, and neither changes an argument. -/
theorem algebraic : Cert.algebraic_Kernel6Ideal_Reference6Ideal := by
  intro m g m' g' _ hargs
  refine ⟨fun c => (dats m 0 c).arrAt 8 cfg0.N, fun c => atEnd m c main_v10, ?_, ?_⟩
  · exact (θ_run defs _ _).mono (fun r h c => ⟨(h.1 c).1 8, (h.1 c).2 main_v10 (Pipeline.mem_restRefs_of main_v10 (by decide) (by decide)),
      (((h.1 c).2 main_arg0 (Pipeline.mem_restRefs_of main_arg0 (by decide) (by decide))).trans (W_main_arg0 m (dats m) c)),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      (((h.1 c).1 4).trans (((dats m 0 c).arrAt_in 4 rfl _).trans ((A_eq m c 4).trans (V_main_arg4 m c)))),
      (((h.1 c).2 main_arg5 (Pipeline.mem_restRefs_of main_arg5 (by decide) (by decide))).trans (W_main_arg5 m (dats m) c)),
      (((h.1 c).1 6).trans (((dats m 0 c).arrAt_in 6 rfl _).trans ((A_eq m c 6).trans (V_main_arg6 m c))))⟩) (run_main_quiescent m g)
  · refine (θ_run Cert.Reference6Ideal.defs _ _).mono (fun r h c => ?_) (Cert.Reference6Ideal.Value.run (F := Ideal) m' g')
    obtain ⟨r0, r1, rest⟩ := h c
    obtain ⟨e0, e1, e2, e3, e4, e5, e6⟩ := hargs c
    refine ⟨r0.trans ?_, r1.trans ?_, rest⟩
    · rw [e0, e1, e2, e3, e4, e5, e6]
      exact (Cert.Reference6Ideal.Read.val_main_v30_eq _ _ _ _ _ _ _).trans ((Ref.res_dy _ _ _ _ _ _ _).trans (res_dy m c).symm)
    · rw [Cert.Reference6Ideal.Read.val_main_v24_eq, e0, e1, e2, e3, e4, e5, e6]
      exact (Ref.res_loss _ _ _ _ _ _ _).trans (res_loss m c).symm

end Cert.Proof.Loss

end
-- ==== Proof.Layout.Launch.lean ====
/-
  The run of the whole program: every buffer of every core ends at the contents the program's segments leave there, and every
  semaphore counter ends at zero.
-/
module

public import proofs.«01_k».proof.Proof.Gen.Kernel7Ideal.Frame

@[expose] public section

set_option maxRecDepth 16384

noncomputable section

namespace Cert.Proof.Layout

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

-- the launch theorem's implicit arguments are found by unifying its conclusion with the statement below
set_option backward.isDefEq.respectTransparency.types false in
/-- From any memory and zero counters, every fair execution ends, nothing failing, with each core's buffers at the contents the
    last segment leaves and all counters at zero. -/
theorem run_all : θ_run defs (onTc (τ := τ) (main (F := F))) ⟨m, fun _ => 0, ρ⟩ (fun r =>
      (∀ (c : Dev nD), ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
              sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
          ⊢ bigSep Finset.univ (fun _ : Dev nD => (BI.emp : sProp (MT nD τ sig Unit (Elt F) ℕ (UR sig nD τ) ℕ)))
          from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Proof.Layout

end
-- ==== Proof.Layout.Spec.lean ====
/-
  The rearrangement of the in-projection's columns and back, entry by entry, and what joining, cutting and padding a table's columns
  leave at an entry.
-/
module

public import proofs.«01_k».proof.Proof.Math
public import Idealize.ShloMosaic.Lib.Pointwise
public import Idealize.ShloMosaic.Lib.Pipeline.Value

@[expose] public section

set_option maxRecDepth 16384

noncomputable section

namespace Cert.Proof.Layout

open Idealize.ShloMosaic

/-- The entry of the stack `A` in table `j`, row `i` and column `l`, zero outside it. -/
def rd3 {k n m : ℕ} (A : (⟨3, ![k, n, m]⟩ : Shape).Idx → EReal) (j i l : ℕ) : EReal :=
  if h : j < k ∧ i < n ∧ l < m then A (ix3 ⟨j, h.1⟩ ⟨i, h.2.1⟩ ⟨l, h.2.2⟩) else 0

theorem eq_rd3 {k n m : ℕ} (A : (⟨3, ![k, n, m]⟩ : Shape).Idx → EReal) (y : (⟨3, ![k, n, m]⟩ : Shape).Idx) (j i l : ℕ)
    (hj : (y 0).val = j) (hi : (y 1).val = i) (hl : (y 2).val = l) : A y = rd3 A j i l := by
  subst hj; subst hi; subst hl
  unfold rd3
  rw [dif_pos ⟨(y 0).isLt, (y 1).isLt, (y 2).isLt⟩]
  exact congrArg A (eq_ix3 y)

/-! ## The two rearrangements -/

/-- Columns in the order of the bands: three bands, the first's eight gate columns and the second's sixteen, each of the two in a
    block of 128 filled with zeros. -/
def place (f : ℕ → EReal) (l : ℕ) : EReal :=
  if l < 2048 then f l
  else if l - 2048 < 2560 then f (2056 + (l - 2048))
  else if l - 2048 - 2560 < 2048 then f (4632 + (l - 2048 - 2560))
  else if l - 2048 - 2560 - 2048 < 8 then f (2048 + (l - 2048 - 2560 - 2048))
  else if l - 2048 - 2560 - 2048 - 8 < 120 then 0
  else if l - 2048 - 2560 - 2048 - 8 - 120 < 16 then f (4616 + (l - 2048 - 2560 - 2048 - 8 - 120))
  else 0

/-- The bands' columns in the order of the weights. -/
def back (g s r m : ℕ → EReal) (e : ℕ) : EReal :=
  if e < 2048 then g e
  else if e - 2048 < 8 then m (e - 2048)
  else if e - 2048 - 8 < 2560 then s (e - 2048 - 8)
  else if e - 2048 - 8 - 2560 < 16 then m (128 + (e - 2048 - 8 - 2560))
  else r (e - 2048 - 8 - 2560 - 16)

/-- The order reads the columns in its range alone. -/
theorem place_congr (f g : ℕ → EReal) (h : ∀ e, e < 6680 → f e = g e) (l : ℕ) (hl : l < 6912) : place f l = place g l := by
  unfold place
  split_ifs
  · exact h _ (by omega)
  · exact h _ (by omega)
  · exact h _ (by omega)
  · exact h _ (by omega)
  · rfl
  · exact h _ (by omega)
  · rfl

theorem back_congr {g s r m g' s' r' m' : ℕ → EReal} (hg : ∀ l, l < 2048 → g l = g' l) (hs : ∀ l, l < 2560 → s l = s' l)
    (hr : ∀ l, l < 2048 → r l = r' l) (hm : ∀ l, l < 256 → m l = m' l) (e : ℕ) (he : e < 6680) : back g s r m e = back g' s' r' m' e := by
  unfold back
  split_ifs
  · exact hg _ (by omega)
  · exact hm _ (by omega)
  · exact hs _ (by omega)
  · exact hm _ (by omega)
  · exact hr _ (by omega)

/-- The weights, four quarters of the columns, in the order of the bands. -/
def relaid {n : ℕ} (w : (⟨3, ![4, n, 1670]⟩ : Shape).Idx → EReal) : (⟨2, ![n, 6912]⟩ : Shape).Idx → EReal :=
  fun y => place (fun e => rd3 w (e / 1670) (y 0).val (e % 1670)) (y 1).val

/-- The bands' gradients as four quarters of the weights' columns. -/
def quarters {n : ℕ} (g : (⟨2, ![n, 2048]⟩ : Shape).Idx → EReal) (s : (⟨2, ![n, 2560]⟩ : Shape).Idx → EReal)
    (r : (⟨2, ![n, 2048]⟩ : Shape).Idx → EReal) (m : (⟨2, ![n, 256]⟩ : Shape).Idx → EReal) : (⟨3, ![4, n, 1670]⟩ : Shape).Idx → EReal :=
  fun y => back (rd g (y 1).val) (rd s (y 1).val) (rd r (y 1).val) (rd m (y 1).val) (1670 * (y 0).val + (y 2).val)

/-! ## Joined columns -/

section
variable {n k m : ℕ}

theorem at_last (r : Fin n) (l : Fin k) (x : (⟨2, ![n, m]⟩ : Shape).Idx → EReal)
    (hs : ∀ s' ∈ ([⟨⟨2, ![n, m]⟩, x⟩] : List ((s : Shape) × (s.Idx → EReal))).map (·.1), s'.FitsOff ⟨2, ![n, k]⟩ 1) (c : ℕ)
    (hc : c < (axisSizes ⟨2, ![n, k]⟩ 1 [⟨⟨2, ![n, m]⟩, x⟩]).sum) :
    concatenateAt ⟨2, ![n, k]⟩ 1 (ix2 r l) [⟨⟨2, ![n, m]⟩, x⟩] hs c hc = rd x r.val c := by
  rw [concatenateAt_singleton]
  exact eq_rd x _ _ _ rfl rfl

theorem at_cons (r : Fin n) (l : Fin k) (x : (⟨2, ![n, m]⟩ : Shape).Idx → EReal) (q : (s : Shape) × (s.Idx → EReal))
    (xs : List ((s : Shape) × (s.Idx → EReal)))
    (hs : ∀ s' ∈ (⟨⟨2, ![n, m]⟩, x⟩ :: q :: xs : List ((s : Shape) × (s.Idx → EReal))).map (·.1), s'.FitsOff ⟨2, ![n, k]⟩ 1) (c : ℕ)
    (hc : c < (axisSizes ⟨2, ![n, k]⟩ 1 (⟨⟨2, ![n, m]⟩, x⟩ :: q :: xs)).sum) (z : EReal)
    (hz : ∀ hs' hc', concatenateAt ⟨2, ![n, k]⟩ 1 (ix2 r l) (q :: xs) hs' (c - m) hc' = z) :
    concatenateAt ⟨2, ![n, k]⟩ 1 (ix2 r l) (⟨⟨2, ![n, m]⟩, x⟩ :: q :: xs) hs c hc = if c < m then rd x r.val c else z := by
  rw [concatenateAt_cons]
  by_cases h : c < m
  · rw [if_pos h]
    exact (dif_pos h).trans (eq_rd x _ _ _ rfl rfl)
  · rw [if_neg h]
    exact (dif_neg h).trans (hz _ _)

end

section
variable {n : ℕ}

theorem join4 (a b c d : (⟨2, ![n, 1670]⟩ : Shape).Idx → EReal) (h : Shape.Concatenates _ _ _) (r : Fin n) (l : Fin 6680) :
    concatenate ⟨2, ![n, 6680]⟩ 1 [⟨⟨2, ![n, 1670]⟩, a⟩, ⟨⟨2, ![n, 1670]⟩, b⟩, ⟨⟨2, ![n, 1670]⟩, c⟩, ⟨⟨2, ![n, 1670]⟩, d⟩] h (ix2 r l)
      = if l.val < 1670 then rd a r.val l.val else if l.val - 1670 < 1670 then rd b r.val (l.val - 1670)
        else if l.val - 1670 - 1670 < 1670 then rd c r.val (l.val - 1670 - 1670) else rd d r.val (l.val - 1670 - 1670 - 1670) := by
  rw [concatenate_apply]
  exact at_cons r l a _ _ _ _ _ _ fun _ _ => at_cons r l b _ _ _ _ _ _ fun _ _ => at_cons r l c _ _ _ _ _ _ fun _ _ => at_last r l d _ _ _

theorem join5 (a : (⟨2, ![n, 2048]⟩ : Shape).Idx → EReal) (b : (⟨2, ![n, 8]⟩ : Shape).Idx → EReal) (c : (⟨2, ![n, 2560]⟩ : Shape).Idx → EReal)
    (d : (⟨2, ![n, 16]⟩ : Shape).Idx → EReal) (e : (⟨2, ![n, 2048]⟩ : Shape).Idx → EReal) (h : Shape.Concatenates _ _ _) (r : Fin n) (l : Fin 6680) :
    concatenate ⟨2, ![n, 6680]⟩ 1 [⟨⟨2, ![n, 2048]⟩, a⟩, ⟨⟨2, ![n, 8]⟩, b⟩, ⟨⟨2, ![n, 2560]⟩, c⟩, ⟨⟨2, ![n, 16]⟩, d⟩, ⟨⟨2, ![n, 2048]⟩, e⟩] h (ix2 r l)
      = if l.val < 2048 then rd a r.val l.val else if l.val - 2048 < 8 then rd b r.val (l.val - 2048)
        else if l.val - 2048 - 8 < 2560 then rd c r.val (l.val - 2048 - 8)
        else if l.val - 2048 - 8 - 2560 < 16 then rd d r.val (l.val - 2048 - 8 - 2560)
        else rd e r.val (l.val - 2048 - 8 - 2560 - 16) := by
  rw [concatenate_apply]
  exact at_cons r l a _ _ _ _ _ _ fun _ _ => at_cons r l b _ _ _ _ _ _ fun _ _ => at_cons r l c _ _ _ _ _ _ fun _ _ =>
    at_cons r l d _ _ _ _ _ _ fun _ _ => at_last r l e _ _ _

theorem join7 (a : (⟨2, ![n, 2048]⟩ : Shape).Idx → EReal) (b : (⟨2, ![n, 2560]⟩ : Shape).Idx → EReal) (c : (⟨2, ![n, 2048]⟩ : Shape).Idx → EReal)
    (d : (⟨2, ![n, 8]⟩ : Shape).Idx → EReal) (e : (⟨2, ![n, 120]⟩ : Shape).Idx → EReal) (f : (⟨2, ![n, 16]⟩ : Shape).Idx → EReal)
    (g : (⟨2, ![n, 112]⟩ : Shape).Idx → EReal) (h : Shape.Concatenates _ _ _) (r : Fin n) (l : Fin 6912) :
    concatenate ⟨2, ![n, 6912]⟩ 1 [⟨⟨2, ![n, 2048]⟩, a⟩, ⟨⟨2, ![n, 2560]⟩, b⟩, ⟨⟨2, ![n, 2048]⟩, c⟩, ⟨⟨2, ![n, 8]⟩, d⟩, ⟨⟨2, ![n, 120]⟩, e⟩,
        ⟨⟨2, ![n, 16]⟩, f⟩, ⟨⟨2, ![n, 112]⟩, g⟩] h (ix2 r l)
      = if l.val < 2048 then rd a r.val l.val else if l.val - 2048 < 2560 then rd b r.val (l.val - 2048)
        else if l.val - 2048 - 2560 < 2048 then rd c r.val (l.val - 2048 - 2560)
        else if l.val - 2048 - 2560 - 2048 < 8 then rd d r.val (l.val - 2048 - 2560 - 2048)
        else if l.val - 2048 - 2560 - 2048 - 8 < 120 then rd e r.val (l.val - 2048 - 2560 - 2048 - 8)
        else if l.val - 2048 - 2560 - 2048 - 8 - 120 < 16 then rd f r.val (l.val - 2048 - 2560 - 2048 - 8 - 120)
        else rd g r.val (l.val - 2048 - 2560 - 2048 - 8 - 120 - 16) := by
  rw [concatenate_apply]
  exact at_cons r l a _ _ _ _ _ _ fun _ _ => at_cons r l b _ _ _ _ _ _ fun _ _ => at_cons r l c _ _ _ _ _ _ fun _ _ =>
    at_cons r l d _ _ _ _ _ _ fun _ _ => at_cons r l e _ _ _ _ _ _ fun _ _ => at_cons r l f _ _ _ _ _ _ fun _ _ => at_last r l g _ _ _

section
variable {k m : ℕ}

theorem only_row (x : (⟨3, ![1, n, m]⟩ : Shape).Idx → EReal) (r : Fin n) (l : Fin m) (i : (⟨3, ![1, n, m]⟩ : Shape).Idx)
    (h1 : (i 1).val = r.val) (h2 : (i 2).val = l.val) : x i = x (ix3 0 r l) :=
  congrArg x (funext fun
    | ⟨0, _⟩ => Fin.ext (Nat.lt_one_iff.mp (i 0).isLt)
    | ⟨1, _⟩ => Fin.ext h1
    | ⟨2, _⟩ => Fin.ext h2)

theorem stack_last (j : Fin k) (r : Fin n) (l : Fin m) (x : (⟨3, ![1, n, m]⟩ : Shape).Idx → EReal)
    (hs : ∀ s' ∈ ([⟨⟨3, ![1, n, m]⟩, x⟩] : List ((s : Shape) × (s.Idx → EReal))).map (·.1), s'.FitsOff ⟨3, ![k, n, m]⟩ 0) (c : ℕ)
    (hc : c < (axisSizes ⟨3, ![k, n, m]⟩ 0 [⟨⟨3, ![1, n, m]⟩, x⟩]).sum) :
    concatenateAt ⟨3, ![k, n, m]⟩ 0 (ix3 j r l) [⟨⟨3, ![1, n, m]⟩, x⟩] hs c hc = x (ix3 0 r l) := by
  rw [concatenateAt_singleton]
  exact only_row x r l _ rfl rfl

theorem stack_cons (j : Fin k) (r : Fin n) (l : Fin m) (x : (⟨3, ![1, n, m]⟩ : Shape).Idx → EReal) (q : (s : Shape) × (s.Idx → EReal))
    (xs : List ((s : Shape) × (s.Idx → EReal)))
    (hs : ∀ s' ∈ (⟨⟨3, ![1, n, m]⟩, x⟩ :: q :: xs : List ((s : Shape) × (s.Idx → EReal))).map (·.1), s'.FitsOff ⟨3, ![k, n, m]⟩ 0) (c : ℕ)
    (hc : c < (axisSizes ⟨3, ![k, n, m]⟩ 0 (⟨⟨3, ![1, n, m]⟩, x⟩ :: q :: xs)).sum) (z : EReal)
    (hz : ∀ hs' hc', concatenateAt ⟨3, ![k, n, m]⟩ 0 (ix3 j r l) (q :: xs) hs' (c - 1) hc' = z) :
    concatenateAt ⟨3, ![k, n, m]⟩ 0 (ix3 j r l) (⟨⟨3, ![1, n, m]⟩, x⟩ :: q :: xs) hs c hc = if c < 1 then x (ix3 0 r l) else z := by
  rw [concatenateAt_cons]
  by_cases h : c < 1
  · rw [if_pos h]
    exact (dif_pos h).trans (only_row x r l _ rfl rfl)
  · rw [if_neg h]
    exact (dif_neg h).trans (hz _ _)

/-- Four tables stacked. -/
theorem stack4 (a b c d : (⟨3, ![1, n, m]⟩ : Shape).Idx → EReal) (h : Shape.Concatenates _ _ _) (j : Fin 4) (r : Fin n) (l : Fin m) :
    concatenate ⟨3, ![4, n, m]⟩ 0 [⟨⟨3, ![1, n, m]⟩, a⟩, ⟨⟨3, ![1, n, m]⟩, b⟩, ⟨⟨3, ![1, n, m]⟩, c⟩, ⟨⟨3, ![1, n, m]⟩, d⟩] h (ix3 j r l)
      = if j.val < 1 then a (ix3 0 r l) else if j.val - 1 < 1 then b (ix3 0 r l) else if j.val - 1 - 1 < 1 then c (ix3 0 r l) else d (ix3 0 r l) := by
  rw [concatenate_apply]
  exact stack_cons j r l a _ _ _ _ _ _ fun _ _ => stack_cons j r l b _ _ _ _ _ _ fun _ _ => stack_cons j r l c _ _ _ _ _ _ fun _ _ =>
    stack_last j r l d _ _ _

end

/-! ## Cut and padded columns -/

theorem rd_slice {m k o : ℕ} (x : (⟨2, ![n, k]⟩ : Shape).Idx → EReal) (h : (⟨2, ![n, k]⟩ : Shape).Slices ![0, o] ⟨2, ![n, m]⟩) (r c : ℕ)
    (hr : r < n) (hc : c < m) : rd (extractStridedSlice ⟨2, ![n, m]⟩ ![0, o] x h) r c = rd x r (o + c) := by
  unfold rd
  rw [dif_pos ⟨hr, hc⟩]
  unfold extractStridedSlice
  exact eq_rd x _ r (o + c) (Nat.zero_add _) rfl

theorem rd_cast {m : ℕ} (x : (⟨3, ![1, n, m]⟩ : Shape).Idx → EReal) (h : (⟨3, ![1, n, m]⟩ : Shape).ShapeCasts ⟨2, ![n, m]⟩) (r c : ℕ)
    (hr : r < n) (hc : c < m) : rd (shapeCast ⟨2, ![n, m]⟩ x h) r c = rd3 x 0 r c := by
  unfold rd
  rw [dif_pos ⟨hr, hc⟩]
  refine (shapeCast_apply x h (ix2 ⟨r, hr⟩ ⟨c, hc⟩) (ix3 0 ⟨r, hr⟩ ⟨c, hc⟩) ?_).trans (eq_rd3 x _ _ _ _ rfl rfl rfl)
  rw [Shape.rowMajor_val_three, Shape.rowMajor_val_two]
  show (0 * n + r) * m + c = r * m + c
  rw [Nat.zero_mul, Nat.zero_add]

theorem cast_at {m : ℕ} (x : (⟨2, ![n, m]⟩ : Shape).Idx → EReal) (h : (⟨2, ![n, m]⟩ : Shape).ShapeCasts ⟨3, ![1, n, m]⟩)
    (j : Fin 1) (r : Fin n) (c : Fin m) : shapeCast ⟨3, ![1, n, m]⟩ x h (ix3 j r c) = rd x r.val c.val := by
  refine (shapeCast_apply x h (ix3 j r c) (ix2 r c) ?_).trans (rd_ix2 x r c).symm
  rw [Shape.rowMajor_val_three, Shape.rowMajor_val_two]
  show r.val * m + c.val = (j.val * n + r.val) * m + c.val
  rw [Nat.lt_one_iff.mp j.isLt, Nat.zero_mul, Nat.zero_add]

/-- Columns padded with zeros before and after. -/
theorem pad_at {m k o p : ℕ} (x : (⟨2, ![n, m]⟩ : Shape).Idx → EReal) {u : Shape} (v : u.Idx → EReal)
    (h : (⟨2, ![n, m]⟩ : Shape).Pads ![0, o] ![0, p] ![0, 0] ⟨2, ![n, k]⟩) (hu : 0 < u.numel) (hv : ∀ i, v i = 0) (r : Fin n) (l : Fin k) :
    pad ⟨2, ![n, k]⟩ ![0, o] ![0, p] ![0, 0] x v h hu (ix2 r l)
      = if o ≤ l.val ∧ l.val - o < m then rd x r.val (l.val - o) else 0 := by
  rw [pad_apply]
  by_cases hl : o ≤ l.val ∧ l.val - o < m
  · rw [if_pos hl]
    refine (dif_pos fun a => ?_).trans (eq_rd x _ _ _ ?_ ?_)
    · match a with
      | ⟨0, _⟩ => exact ⟨Nat.zero_le _, Nat.mod_one _, by show (r.val - 0) / 1 < n; rw [Nat.div_one]; exact r.isLt⟩
      | ⟨1, _⟩ => exact ⟨hl.1, Nat.mod_one _, by show (l.val - o) / 1 < m; rw [Nat.div_one]; exact hl.2⟩
    · show (r.val - 0) / 1 = r.val
      rw [Nat.div_one, Nat.sub_zero]
    · show (l.val - o) / 1 = l.val - o
      rw [Nat.div_one]
  · rw [if_neg hl]
    refine (dif_neg fun hin => hl ?_).trans (hv _)
    obtain ⟨h1, -, h2⟩ := hin 1
    exact ⟨h1, by have h3 : (l.val - o) / 1 < m := h2; rwa [Nat.div_one] at h3⟩

end

/-! ## The four quarters, and the sum of the bands padded -/

/-- A column's quarter and its place there. -/
theorem quarter (f : ℕ → ℕ → EReal) (e : ℕ) (he : e < 6680) :
    (if e < 1670 then f 0 e else if e - 1670 < 1670 then f 1 (e - 1670)
      else if e - 1670 - 1670 < 1670 then f 2 (e - 1670 - 1670) else f 3 (e - 1670 - 1670 - 1670)) = f (e / 1670) (e % 1670) := by
  split_ifs
  · rw [show e / 1670 = 0 by omega, show e % 1670 = e by omega]
  · rw [show e / 1670 = 1 by omega, show e % 1670 = e - 1670 by omega]
  · rw [show e / 1670 = 2 by omega, show e % 1670 = e - 1670 - 1670 by omega]
  · rw [show e / 1670 = 3 by omega, show e % 1670 = e - 1670 - 1670 - 1670 by omega]

/-- Each column lies in one band alone. -/
theorem one_band (g s r m : ℕ → EReal) (e : ℕ) (he : e < 6680) :
    ((((if 4616 ≤ e ∧ e - 4616 < 16 then m (128 + (e - 4616)) else 0) + (if 2048 ≤ e ∧ e - 2048 < 8 then m (e - 2048) else 0))
      + (if 4632 ≤ e ∧ e - 4632 < 2048 then r (e - 4632) else 0)) + (if 2056 ≤ e ∧ e - 2056 < 2560 then s (e - 2056) else 0))
      + (if 0 ≤ e ∧ e - 0 < 2048 then g (e - 0) else 0) = back g s r m e := by
  unfold back
  by_cases h1 : e < 2048
  · rw [if_neg (by omega), if_neg (by omega), if_neg (by omega), if_neg (by omega), if_pos (by omega), if_pos h1]
    simp
  rw [if_neg h1]
  by_cases h2 : e - 2048 < 8
  · rw [if_neg (by omega), if_pos (by omega), if_neg (by omega), if_neg (by omega), if_neg (by omega), if_pos h2]
    simp
  rw [if_neg h2]
  by_cases h3 : e - 2048 - 8 < 2560
  · rw [if_neg (by omega), if_neg (by omega), if_neg (by omega), if_pos (by omega), if_neg (by omega), if_pos h3]
    simp [show e - 2056 = e - 2048 - 8 by omega]
  rw [if_neg h3]
  by_cases h4 : e - 2048 - 8 - 2560 < 16
  · rw [if_pos (by omega), if_neg (by omega), if_neg (by omega), if_neg (by omega), if_neg (by omega), if_pos h4]
    simp [show e - 4616 = e - 2048 - 8 - 2560 by omega]
  · rw [if_neg (by omega), if_neg (by omega), if_pos (by omega), if_neg (by omega), if_neg (by omega), if_neg h4]
    simp [show e - 4632 = e - 2048 - 8 - 2560 - 16 by omega]

end Cert.Proof.Layout

end
-- ==== Proof.Layout.Kernel.lean ====
/-
  The two calls that rearrange the in-projection's columns: each in eight blocks of 128 rows.
-/
module

public import proofs.«01_k».proof.Proof.Layout.Spec
public import proofs.«01_k».proof.Proof.Gen.Kernel7Ideal.Frame
public import Idealize.ShloMosaic.Lib.Pipeline.ValueKit

@[expose] public section

set_option maxRecDepth 16384

noncomputable section

namespace Cert.Proof.Layout

open Cert.Kernel7Ideal Cert.Kernel7Ideal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl

/-- A store's row among the four. -/
theorem row (j : ℕ) (x : Fin 1) : j + 1 * x.val = j := by omega

theorem same (l : ℕ) : 0 + 1 * l = l := by omega

/-! ## A block of the first call -/

section
variable (w : Vec Ideal S4x128x1670 .bf16)

/-- One quarter of a block, its leading axis dropped. -/
theorem load_rd {o : ℕ} (h : ∀ a : Fin 3, (![o, 0, 0] : Fin 3 → ℕ) a + S1x128x1670.size a ≤ S4x128x1670.size a) (hc : S1x128x1670.ShapeCasts S128x1670)
    (r c : ℕ) (hr : r < 128) (hl : c < 1670) :
    rd (shapeCast S128x1670 (View.ld w (Rect.unit (s := S4x128x1670) ![o, 0, 0] S1x128x1670.size h) : S1x128x1670.Idx → EReal) hc) r c
      = rd3 (w : S4x128x1670.Idx → EReal) o r c := by
  refine (rd_cast _ hc r c hr hl).trans ?_
  conv_lhs => unfold rd3
  rw [dif_pos ⟨Nat.one_pos, hr, hl⟩]
  exact eq_rd3 (w : S4x128x1670.Idx → EReal) _ o r c rfl (show 0 + 1 * r = r by omega) (show 0 + 1 * c = c by omega)

theorem zero_bits : (Ideal.ofBits .bf16 0x0000#16 : EReal) = 0 := by simp [Ideal.ofBits, Ideal.ieee]

theorem zeros {m : ℕ} (x : (⟨2, ![128, m]⟩ : Shape).Idx → EReal) (hx : ∀ i, x i = 0) (r c : ℕ) : rd x r c = 0 := by
  unfold rd
  split
  · exact hx _
  · rfl

/-- A block rearranged. -/
theorem block_w (y : S128x6912.Idx) : (out0_1 w y : EReal) = relaid (w : S4x128x1670.Idx → EReal) y := by
  obtain ⟨r, l, rfl⟩ : ∃ (r : Fin 128) (l : Fin 6912), y = ix2 r l := ⟨y 0, y 1, eq_ix2 y⟩
  unfold out0_1
  rw [View.canon_unit_zero hz2]
  have whole : ∀ (x : S128x6680.Idx → EReal) (hx : x = concatenate S128x6680 1 [⟨S128x1670, shapeCast S128x1670 (View.ld w r0_0) shapeCasts_S1x128x1670_S128x1670⟩,
      ⟨S128x1670, shapeCast S128x1670 (View.ld w r0_1) shapeCasts_S1x128x1670_S128x1670⟩, ⟨S128x1670, shapeCast S128x1670 (View.ld w r0_2) shapeCasts_S1x128x1670_S128x1670⟩,
      ⟨S128x1670, shapeCast S128x1670 (View.ld w r0_3) shapeCasts_S1x128x1670_S128x1670⟩] concatenates_S128x1670_S128x1670_S128x1670_S128x1670_S128x6680_d1)
      (e : ℕ) (he : e < 6680), rd x r.val e = rd3 (w : S4x128x1670.Idx → EReal) (e / 1670) r.val (e % 1670) := by
    intro x hx e he
    subst hx
    refine Eq.trans ?_ (quarter (fun j c => rd3 (w : S4x128x1670.Idx → EReal) j r.val c) e he)
    refine (rd_ix2 (n := 128) (m := 6680) _ r ⟨e, he⟩).trans ((join4 _ _ _ _ _ r ⟨e, he⟩).trans ?_)
    dsimp only
    split_ifs
    · exact load_rd w _ _ _ _ r.isLt (by omega)
    · exact load_rd w _ _ _ _ r.isLt (by omega)
    · exact load_rd w _ _ _ _ r.isLt (by omega)
    · exact load_rd w _ _ _ _ r.isLt (by omega)
  refine (join7 _ _ _ _ _ _ _ concatenates_S128x2048_S128x2560_S128x2048_S128x8_S128x120_S128x16_S128x112_S128x6912_d1 r l).trans ?_
  show _ = place (fun e => rd3 (w : S4x128x1670.Idx → EReal) (e / 1670) r.val (e % 1670)) l.val
  unfold place
  have hl := l.isLt
  split_ifs
  · exact (rd_slice (o := 0) _ _ _ _ r.isLt (by omega)).trans ((whole _ rfl _ (by omega)).trans (by rw [Nat.zero_add]))
  · exact (rd_slice _ _ _ _ r.isLt (by omega)).trans (whole _ rfl _ (by omega))
  · exact (rd_slice _ _ _ _ r.isLt (by omega)).trans (whole _ rfl _ (by omega))
  · exact (rd_slice _ _ _ _ r.isLt (by omega)).trans (whole _ rfl _ (by omega))
  · exact zeros _ (fun _ => zero_bits) _ _
  · exact (rd_slice _ _ _ _ r.isLt (by omega)).trans (whole _ rfl _ (by omega))
  · exact zeros _ (fun _ => zero_bits) _ _

end

/-! ## A block of the second call -/

section
variable (g : Vec Ideal S128x2048 .f32) (s : Vec Ideal S128x2560 .f32) (q : Vec Ideal S128x2048 .f32) (d : Vec Ideal S128x256 .f32)

/-- Some columns of the small block. -/
theorem load_small {m o : ℕ} (h : ∀ a : Fin 2, (![0, o] : Fin 2 → ℕ) a + (⟨2, ![128, m]⟩ : Shape).size a ≤ S128x256.size a) (r c : ℕ)
    (hr : r < 128) (hl : c < m) :
    rd (View.ld d (Rect.unit (s := S128x256) ![0, o] (⟨2, ![128, m]⟩ : Shape).size h) : (⟨2, ![128, m]⟩ : Shape).Idx → EReal) r c
      = rd (d : S128x256.Idx → EReal) r (o + c) := by
  conv_lhs => unfold rd
  rw [dif_pos ⟨hr, hl⟩]
  exact eq_rd (d : S128x256.Idx → EReal) _ _ _ (show 0 + 1 * r = r by omega) (show o + 1 * c = o + c by omega)

/-- The bands joined. -/
theorem joined (r : Fin 128) (e : ℕ) (he : e < 6680) :
    rd (k1_pay5 (View.ld g r1_0) (View.ld d r1_1) (View.ld s r1_2) (View.ld d r1_3) (View.ld q r1_0) : S128x6680.Idx → EReal) r.val e
      = back (rd g r.val) (rd s r.val) (rd q r.val) (rd d r.val) e := by
  refine (rd_ix2 (n := 128) (m := 6680) _ r ⟨e, he⟩).trans ((join5 _ _ _ _ _ concatenates_S128x2048_S128x8_S128x2560_S128x16_S128x2048_S128x6680_d1 r ⟨e, he⟩).trans ?_)
  unfold back
  dsimp only
  split_ifs
  · exact congrArg (fun x => rd x _ _) (View.ld_unit_zero (S := S128x2048) hz2 _ _)
  · exact (load_small (o := 0) d _ _ _ r.isLt (by omega)).trans (by rw [Nat.zero_add])
  · exact congrArg (fun x => rd x _ _) (View.ld_unit_zero (S := S128x2560) hz2 _ _)
  · exact load_small (o := 128) d _ _ _ r.isLt (by omega)
  · exact congrArg (fun x => rd x _ _) (View.ld_unit_zero (S := S128x2048) hz2 _ _)

/-- One quarter of the joined columns, as it is stored. -/
theorem quarter_at {o : ℕ} (ho : o ≤ 5010) (h : S128x6680.Slices ![0, o] S128x1670) (x : S1x128x1670.Idx) :
    shapeCast S1x128x1670 (extractStridedSlice S128x1670 ![0, o] (k1_pay5 (View.ld g r1_0) (View.ld d r1_1) (View.ld s r1_2) (View.ld d r1_3) (View.ld q r1_0) : S128x6680.Idx → EReal) h)
        shapeCasts_S128x1670_S1x128x1670 x
      = back (rd g (x 1).val) (rd s (x 1).val) (rd q (x 1).val) (rd d (x 1).val) (o + (x 2).val) := by
  obtain ⟨j, r, l, rfl⟩ : ∃ (j : Fin 1) (r : Fin 128) (l : Fin 1670), x = ix3 j r l := ⟨x 0, x 1, x 2, eq_ix3 x⟩
  have hl := l.isLt
  exact (cast_at _ _ j r l).trans ((rd_slice _ h _ _ r.isLt hl).trans (joined g s q d r _ (show o + l.val < 6680 by omega)))

/-- A quarter's place among the columns. -/
theorem quarter_eq {j o : ℕ} (ho : o = 1670 * j) (z : S4x128x1670.Idx) (r l : ℕ) (h0 : (z 0).val = j) (h1 : (z 1).val = r) (h2 : (z 2).val = l) :
    back (rd g r) (rd s r) (rd q r) (rd d r) (o + l) = quarters (n := 128) g s q d z := by
  subst ho h0 h1 h2
  rfl

/-- A block rearranged: each of its four stores is a quarter. -/
theorem block_g (y : S4x128x1670.Idx) : (out1_4 g s q d y : EReal) = quarters (n := 128) g s q d y := by
  unfold out1_4
  refine View.canon_apply_of_pieces (Val := Elt Ideal) (quarters (n := 128) g s q d) _ (fun p hp x => ?_) y (cover1_4 _ _ _ _ y)
  simp only [List.mem_cons, List.mem_nil_iff, or_false] at hp
  rcases hp with rfl | rfl | rfl | rfl
  · exact (quarter_at g s q d (o := 5010) (by omega) slices_S128x6680_o0_5010_S128x1670 x).trans
      (quarter_eq g s q d (j := 3) rfl _ _ _ (row 3 (x 0)) (same _) (same _))
  · exact (quarter_at g s q d (o := 3340) (by omega) slices_S128x6680_o0_3340_S128x1670 x).trans
      (quarter_eq g s q d (j := 2) rfl _ _ _ (row 2 (x 0)) (same _) (same _))
  · exact (quarter_at g s q d (o := 1670) (by omega) slices_S128x6680_o0_1670_S128x1670 x).trans
      (quarter_eq g s q d (j := 1) rfl _ _ _ (row 1 (x 0)) (same _) (same _))
  · exact (quarter_at g s q d (o := 0) (by omega) slices_S128x6680_o0_0_S128x1670 x).trans
      (quarter_eq g s q d (j := 0) rfl _ _ _ (row 0 (x 0)) (same _) (same _))

end

/-! ## The two calls -/

variable (V : (c : Dev nD) → (b : Ref sig .tc) → Buf (Elt Ideal) ((c : Thread nD τ).loc b)) (c : Dev nD)

theorem idx_facts0 : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) :=
  (by decide +kernel : ∀ t : Fin grid0.N, _)

theorem idx_facts1 : ∀ t : Fin cfg1.N,
    (win1_0.index t (0 : Fin 2) = t.val ∧ win1_0.index t (1 : Fin 2) = 0) ∧ (win1_1.index t (0 : Fin 2) = t.val ∧ win1_1.index t (1 : Fin 2) = 0)
    ∧ (win1_2.index t (0 : Fin 2) = t.val ∧ win1_2.index t (1 : Fin 2) = 0) ∧ (win1_3.index t (0 : Fin 2) = t.val ∧ win1_3.index t (1 : Fin 2) = 0)
    ∧ (win1_4.index t (0 : Fin 3) = 0 ∧ win1_4.index t (1 : Fin 3) = t.val ∧ win1_4.index t (2 : Fin 3) = 0) :=
  (by decide +kernel : ∀ t : Fin grid1.N, _)

/-- The weights rearranged. -/
theorem final_w : ((dat0 V c).arrAt 1 cfg0.N : S1024x6912.Idx → EReal) = relaid (V c main_v0 : S4x1024x1670.Idx → EReal) :=
  (dat0 V c).arrAt_eq_of_covers 1 _ (by decide +kernel) fun t _ y => by
    refine (congrFun (after0_1 V c t) _).trans ((block_w (iblk0 V c 0 t) y).trans ?_)
    obtain ⟨⟨a0, a1, a2⟩, b0, b1⟩ := idx_facts0 t
    have y0 : (y 0).val < 128 := (y 0).isLt
    have e0 : (((cfg0.win 1).blk t).view.emb y 0).val = 128 * t.val + (y 0).val := by
      show win0_1.index t (0 : Fin 2) * 128 + 1 * (y 0).val = _
      omega
    have e1 : (((cfg0.win 1).blk t).view.emb y 1).val = (y 1).val := by
      show win0_1.index t (1 : Fin 2) * 6912 + 1 * (y 1).val = _
      omega
    show place (fun e => rd3 (iblk0 V c 0 t : S4x128x1670.Idx → EReal) (e / 1670) (y 0).val (e % 1670)) (y 1).val
      = place (fun e => rd3 (V c main_v0 : S4x1024x1670.Idx → EReal) (e / 1670) (((cfg0.win 1).blk t).view.emb y 0).val (e % 1670)) (((cfg0.win 1).blk t).view.emb y 1).val
    rw [e0, e1]
    refine place_congr _ _ (fun e he => ?_) _ (y 1).isLt
    conv_lhs => unfold rd3
    rw [dif_pos ⟨by omega, y0, by omega⟩]
    refine eq_rd3 (V c main_v0 : S4x1024x1670.Idx → EReal) _ _ _ _ ?_ ?_ ?_
    · show win0_0.index t (0 : Fin 3) * 4 + 1 * (e / 1670) = _
      omega
    · show win0_0.index t (1 : Fin 3) * 128 + 1 * (y 0).val = _
      omega
    · show win0_0.index t (2 : Fin 3) * 1670 + 1 * (e % 1670) = _
      omega

/-- The gradients rearranged. -/
theorem final_g : ((dat1 V c).arrAt 4 cfg1.N : S4x1024x1670.Idx → EReal)
    = quarters (n := 1024) (V c main_arg1) (V c main_arg2) (V c main_arg3) (V c main_arg4) :=
  (dat1 V c).arrAt_eq_of_covers 4 _ (by decide +kernel) fun t _ y => by
    refine (congrFun (after1_4 V c t) _).trans ((block_g (iblk1 V c 0 t) (iblk1 V c 1 t) (iblk1 V c 2 t) (iblk1 V c 3 t) y).trans ?_)
    obtain ⟨⟨a0, a1⟩, ⟨b0, b1⟩, ⟨c0, c1⟩, ⟨d0, d1⟩, o0, o1, o2⟩ := idx_facts1 t
    have y0 : (y 0).val < 4 := (y 0).isLt
    have y1 : (y 1).val < 128 := (y 1).isLt
    have y2 : (y 2).val < 1670 := (y 2).isLt
    have e0 : (((cfg1.win 4).blk t).view.emb y 0).val = (y 0).val := by
      show win1_4.index t (0 : Fin 3) * 4 + 1 * (y 0).val = _
      omega
    have e1 : (((cfg1.win 4).blk t).view.emb y 1).val = 128 * t.val + (y 1).val := by
      show win1_4.index t (1 : Fin 3) * 128 + 1 * (y 1).val = _
      omega
    have e2 : (((cfg1.win 4).blk t).view.emb y 2).val = (y 2).val := by
      show win1_4.index t (2 : Fin 3) * 1670 + 1 * (y 2).val = _
      omega
    show _ = quarters (n := 1024) (V c main_arg1) (V c main_arg2) (V c main_arg3) (V c main_arg4) (((cfg1.win 4).blk t).view.emb y)
    unfold quarters
    rw [e0, e1, e2]
    refine back_congr (fun l hl => ?_) (fun l hl => ?_) (fun l hl => ?_) (fun l hl => ?_) _ (by omega)
    · conv_lhs => unfold rd
      rw [dif_pos ⟨y1, hl⟩]
      refine eq_rd (V c main_arg1 : S1024x2048.Idx → EReal) _ _ _ ?_ ?_
      · show win1_0.index t (0 : Fin 2) * 128 + 1 * (y 1).val = _
        omega
      · show win1_0.index t (1 : Fin 2) * 2048 + 1 * l = _
        omega
    · conv_lhs => unfold rd
      rw [dif_pos ⟨y1, hl⟩]
      refine eq_rd (V c main_arg2 : S1024x2560.Idx → EReal) _ _ _ ?_ ?_
      · show win1_1.index t (0 : Fin 2) * 128 + 1 * (y 1).val = _
        omega
      · show win1_1.index t (1 : Fin 2) * 2560 + 1 * l = _
        omega
    · conv_lhs => unfold rd
      rw [dif_pos ⟨y1, hl⟩]
      refine eq_rd (V c main_arg3 : S1024x2048.Idx → EReal) _ _ _ ?_ ?_
      · show win1_2.index t (0 : Fin 2) * 128 + 1 * (y 1).val = _
        omega
      · show win1_2.index t (1 : Fin 2) * 2048 + 1 * l = _
        omega
    · conv_lhs => unfold rd
      rw [dif_pos ⟨y1, hl⟩]
      refine eq_rd (V c main_arg4 : S1024x256.Idx → EReal) _ _ _ ?_ ?_
      · show win1_3.index t (0 : Fin 2) * 128 + 1 * (y 1).val = _
        omega
      · show win1_3.index t (1 : Fin 2) * 256 + 1 * l = _
        omega

end Cert.Proof.Layout

end
-- ==== Proof.Layout.Ref.lean ====
/-
  The results of the rearrangement's reference, as functions of the argument arrays.
-/
module

public import proofs.«01_k».proof.Proof.Layout.Spec
public import proofs.«01_k».proof.Proof.Gen.Reference7Ideal.Read

@[expose] public section

set_option maxRecDepth 16384

noncomputable section

namespace Cert.Proof.Layout.Ref

open Cert.Reference7Ideal Cert.Reference7Ideal.Gen Cert.Reference7Ideal.Read Idealize.ShloMosaic Idealize.ShloMosaic.TcCoe Idealize.SL.Sem

variable (x0 : S4x1024x1670.Idx → EReal) (x1 : S1024x2048.Idx → EReal) (x2 : S1024x2560.Idx → EReal) (x3 : S1024x2048.Idx → EReal)
  (x4 : S1024x256.Idx → EReal)

/-! ## The weights -/

/-- One quarter of the columns, cut out of the four and its leading axis dropped. -/
theorem cut_rd {o : ℕ} (h : S4x1024x1670.Slices ![o, 0, 0] S1x1024x1670) (hc : S1x1024x1670.ShapeCasts S1024x1670) (r c : ℕ)
    (hr : r < 1024) (hl : c < 1670) :
    rd (shapeCast S1024x1670 (extractStridedSlice S1x1024x1670 ![o, 0, 0] x0 h) hc) r c = rd3 x0 o r c := by
  refine (rd_cast _ hc r c hr hl).trans ?_
  unfold rd3
  rw [dif_pos ⟨Nat.one_pos, hr, hl⟩]
  unfold extractStridedSlice
  exact eq_rd3 x0 _ o r c rfl (Nat.zero_add _) (Nat.zero_add _)

/-- All columns in one table. -/
theorem whole_rd (r e : ℕ) (hr : r < 1024) (he : e < 6680) :
    rd (val_main_v8 (F := Ideal) x0 : S1024x6680.Idx → EReal) r e = rd3 x0 (e / 1670) r (e % 1670) := by
  refine Eq.trans ?_ (quarter (fun j c => rd3 x0 j r c) e he)
  refine (rd_ix2 (n := 1024) (m := 6680) _ ⟨r, hr⟩ ⟨e, he⟩).trans ((join4 _ _ _ _ _ ⟨r, hr⟩ ⟨e, he⟩).trans ?_)
  dsimp only
  split_ifs
  · exact cut_rd x0 _ _ _ _ hr (by omega)
  · exact cut_rd x0 _ _ _ _ hr (by omega)
  · exact cut_rd x0 _ _ _ _ hr (by omega)
  · exact cut_rd x0 _ _ _ _ hr (by omega)

theorem zeros120 (r c : ℕ) : rd (val_main_v14 (F := Ideal) : S1024x120.Idx → EReal) r c = 0 := by
  unfold rd
  split
  · exact Ideal.ofBits_zero_f32
  · rfl

theorem zeros112 (r c : ℕ) : rd (val_main_v26 (F := Ideal) : S1024x112.Idx → EReal) r c = 0 := by
  unfold rd
  split
  · exact Ideal.ofBits_zero_f32
  · rfl

/-- The weights in the order of the bands. -/
theorem res_w : val_main_v27 (F := Ideal) x0 = relaid x0 := by
  funext y
  obtain ⟨r, l, rfl⟩ : ∃ (r : Fin 1024) (l : Fin 6912), y = ix2 r l := ⟨y 0, y 1, eq_ix2 y⟩
  refine (join7 _ _ _ _ _ _ _ _ r l).trans ?_
  show _ = place (fun e => rd3 x0 (e / 1670) r.val (e % 1670)) l.val
  unfold place
  have hl := l.isLt
  split_ifs
  · exact (rd_slice (o := 0) _ _ _ _ r.isLt (by omega)).trans ((whole_rd x0 _ _ r.isLt (by omega)).trans (by rw [Nat.zero_add]))
  · exact (rd_slice _ _ _ _ r.isLt (by omega)).trans (whole_rd x0 _ _ r.isLt (by omega))
  · exact (rd_slice _ _ _ _ r.isLt (by omega)).trans (whole_rd x0 _ _ r.isLt (by omega))
  · exact (rd_slice _ _ _ _ r.isLt (by omega)).trans (whole_rd x0 _ _ r.isLt (by omega))
  · exact zeros120 _ _
  · exact (rd_slice _ _ _ _ r.isLt (by omega)).trans (whole_rd x0 _ _ r.isLt (by omega))
  · exact zeros112 _ _

/-! ## The gradients -/

theorem zero : ∀ i : S_.Idx, constant (F := Ideal) S_ .f32 0x00000000#32 i = (0 : EReal) := fun _ => Ideal.ofBits_zero_f32

/-- The bands' gradients, each padded to all the columns, summed. -/
theorem sum_rd (r e : ℕ) (hr : r < 1024) (he : e < 6680) :
    rd (val_main_v25 (F := Ideal) x1 x2 x3 x4 : S1024x6680.Idx → EReal) r e = back (rd x1 r) (rd x2 r) (rd x3 r) (rd x4 r) e := by
  refine (rd_ix2 (n := 1024) (m := 6680) _ ⟨r, hr⟩ ⟨e, he⟩).trans (Eq.trans ?_ (one_band (rd x1 r) (rd x2 r) (rd x3 r) (rd x4 r) e he))
  refine congrArg₂ (· + ·) (congrArg₂ (· + ·) (congrArg₂ (· + ·) (congrArg₂ (· + ·) ?_ ?_) ?_) ?_) ?_
  · refine (pad_at (o := 4616) _ _ _ _ zero ⟨r, hr⟩ ⟨e, he⟩).trans ?_
    dsimp only
    split_ifs
    · exact rd_slice (o := 128) _ _ _ _ hr (by omega)
    · rfl
  · refine (pad_at (o := 2048) _ _ _ _ zero ⟨r, hr⟩ ⟨e, he⟩).trans ?_
    dsimp only
    split_ifs
    · exact (rd_slice (o := 0) _ _ _ _ hr (by omega)).trans (by rw [Nat.zero_add])
    · rfl
  · exact pad_at (o := 4632) _ _ _ _ zero ⟨r, hr⟩ ⟨e, he⟩
  · exact pad_at (o := 2056) _ _ _ _ zero ⟨r, hr⟩ ⟨e, he⟩
  · exact pad_at (o := 0) _ _ _ _ zero ⟨r, hr⟩ ⟨e, he⟩

/-- One quarter of them. -/
theorem quarter_at {o : ℕ} (ho : o ≤ 5010) (h : S1024x6680.Slices ![0, o] S1024x1670) (r : Fin 1024) (l : Fin 1670) :
    broadcastInDim S1x1024x1670 ![1, 2] bcast_S1024x1670_S1x1024x1670_1_2
        (extractStridedSlice S1024x1670 ![0, o] (val_main_v25 (F := Ideal) x1 x2 x3 x4) h) (ix3 0 r l)
      = back (rd x1 r.val) (rd x2 r.val) (rd x3 r.val) (rd x4 r.val) (o + l.val) := by
  have hl := l.isLt
  refine Eq.trans ?_ ((rd_slice _ h r.val l.val r.isLt hl).trans (sum_rd x1 x2 x3 x4 r.val (o + l.val) r.isLt (by omega)))
  refine (broadcastInDim_apply _ bcast_S1024x1670_S1x1024x1670_1_2 _ (ix3 0 r l) (ix2 r l) fun a => ?_).trans (rd_ix2 _ r l).symm
  match a with
  | ⟨0, _⟩ => show r.val = if (1024 : ℕ) = 1 then 0 else r.val; rw [if_neg (by decide)]
  | ⟨1, _⟩ => show l.val = if (1670 : ℕ) = 1 then 0 else l.val; rw [if_neg (by decide)]

/-- The gradients in the order of the weights. -/
theorem res_g : val_main_v36 (F := Ideal) x1 x2 x3 x4 = quarters x1 x2 x3 x4 := by
  funext y
  obtain ⟨j, r, l, rfl⟩ : ∃ (j : Fin 4) (r : Fin 1024) (l : Fin 1670), y = ix3 j r l := ⟨y 0, y 1, y 2, eq_ix3 y⟩
  refine (stack4 _ _ _ _ _ j r l).trans ?_
  show _ = back (rd x1 r.val) (rd x2 r.val) (rd x3 r.val) (rd x4 r.val) (1670 * j.val + l.val)
  have hj := j.isLt
  split_ifs with h0 h1 h2
  · exact (quarter_at x1 x2 x3 x4 (o := 0) (by omega) _ r l).trans (congrArg _ (by omega))
  · exact (quarter_at x1 x2 x3 x4 (o := 1670) (by omega) _ r l).trans (congrArg _ (by omega))
  · exact (quarter_at x1 x2 x3 x4 (o := 3340) (by omega) _ r l).trans (congrArg _ (by omega))
  · exact (quarter_at x1 x2 x3 x4 (o := 5010) (by omega) _ r l).trans (congrArg _ (by omega))

end Cert.Proof.Layout.Ref

end
-- ==== Proof.Layout.Claim.lean ====
/-
  The value claim of the two calls that rearrange the in-projection's columns: over the reals the kernel's results are the reference's.
-/
module

public import proofs.«01_k».proof.Defs
public import proofs.«01_k».proof.Proof.Layout.Launch
public import proofs.«01_k».proof.Proof.Layout.Kernel
public import proofs.«01_k».proof.Proof.Layout.Ref
public import Idealize.ShloMosaic.Lib.StableHlo.ReadAt

@[expose] public section

set_option maxRecDepth 16384

noncomputable section

namespace Cert.Proof.Layout

open Cert.Kernel7Ideal Cert.Kernel7Ideal.Gen Idealize.ShloMosaic Idealize.ShloMosaic.TcCoe Idealize.SL.Sem
open Idealize.ShloMosaic.Pipeline (Dat)

section Results
variable (m : (ℓ : Loc nD τ sig) → Buf (Elt Ideal) ℓ) (ρ : Dev nD → PrngReg) (c : Dev nD)

/-- Argument 0 as launched. -/
abbrev a0 : S4x1024x1670.Idx → EReal := m ((c : Thread nD τ).loc main_arg0)
/-- Argument 1 as launched. -/
abbrev a1 : S1024x2048.Idx → EReal := m ((c : Thread nD τ).loc main_arg1)
/-- Argument 2 as launched. -/
abbrev a2 : S1024x2560.Idx → EReal := m ((c : Thread nD τ).loc main_arg2)
/-- Argument 3 as launched. -/
abbrev a3 : S1024x2048.Idx → EReal := m ((c : Thread nD τ).loc main_arg3)
/-- Argument 4 as launched. -/
abbrev a4 : S1024x256.Idx → EReal := m ((c : Thread nD τ).loc main_arg4)

/-- The first call finds argument 0 in its lower-precision copy: over the reals the same numbers. -/
theorem entry_w : (V1 m ρ c main_v0 : S4x1024x1670.Idx → EReal) = a0 m c := by
  show (StableHlo.after hostOps0 (W0 m ρ c) (Proc.devRef .tc main_v0) : S4x1024x1670.Idx → EReal) = _
  after_reads_simp
  rfl

/-- Its result is copied to the higher precision. -/
theorem copied : (W3 m ρ c (Proc.devRef .tc main_v2) : S1024x6912.Idx → EReal) = W2 m ρ c (Proc.devRef .tc main_v1) := by
  show (StableHlo.after hostOps1 (W2 m ρ c) (Proc.devRef .tc main_v2) : S1024x6912.Idx → EReal) = _
  after_reads_simp
  rfl

/-- The weights in the order of the bands. -/
theorem res_w : (W4 m ρ c (Proc.devRef .tc main_v2) : S1024x6912.Idx → EReal) = relaid (a0 m c) := by
  refine (W4_of m ρ c main_v2 (by decide)).trans ((copied m ρ c).trans ((W2_arr m ρ c 1).trans ((final_w (V1 m ρ) c).trans ?_)))
  rw [entry_w]

/-- The gradients in the order of the weights. -/
theorem res_g : (W4 m ρ c (Proc.devRef .tc main_v3_0) : S4x1024x1670.Idx → EReal)
    = quarters (n := 1024) (a1 m c) (a2 m c) (a3 m c) (a4 m c) := by
  refine (W4_arr m ρ c 4).trans ((final_g (V3 m ρ) c).trans ?_)
  rw [show V3 m ρ c main_arg1 = _ from W3_args m ρ c main_arg1 (by decide), show V3 m ρ c main_arg2 = _ from W3_args m ρ c main_arg2 (by decide),
    show V3 m ρ c main_arg3 = _ from W3_args m ρ c main_arg3 (by decide), show V3 m ρ c main_arg4 = _ from W3_args m ρ c main_arg4 (by decide)]

end Results

/-- Over the reals the kernel and the reference leave the same results, and neither changes an argument. -/
theorem algebraic : Cert.algebraic_Kernel7Ideal_Reference7Ideal := by
  intro m g m' g' _ hargs
  refine ⟨fun c => W4 m g c (Proc.devRef .tc main_v2), fun c => W4 m g c (Proc.devRef .tc main_v3_0), ?_, ?_⟩
  · refine (θ_run defs _ _).mono (fun r h c => ⟨h.1 c _ (mem_uc main_v2 (by decide)), h.1 c _ (mem_uc main_v3_0 (by decide)),
      (h.1 c _ (mem_uc main_arg0 (by decide))).trans (W4_main_arg0 m g c),
      (h.1 c _ (mem_uc main_arg1 (by decide))).trans (W4_main_arg1 m g c),
      (h.1 c _ (mem_uc main_arg2 (by decide))).trans (W4_main_arg2 m g c),
      (h.1 c _ (mem_uc main_arg3 (by decide))).trans (W4_main_arg3 m g c),
      (h.1 c _ (mem_uc main_arg4 (by decide))).trans (W4_main_arg4 m g c)⟩) (run_all m g)
  · refine (θ_run Cert.Reference7Ideal.defs _ _).mono (fun r h c => ?_) (Cert.Reference7Ideal.Value.run (F := Ideal) m' g')
    obtain ⟨r0, r1, rest⟩ := h c
    obtain ⟨e0, e1, e2, e3, e4⟩ := hargs c
    exact ⟨
      r0.trans ((Cert.Reference7Ideal.Read.val_main_v27_eq _ _).trans (by rw [e0]; exact (Ref.res_w _).trans (res_w m g c).symm)),
      r1.trans ((Cert.Reference7Ideal.Read.val_main_v36_eq _ _).trans (by rw [e1, e2, e3, e4]; exact (Ref.res_g _ _ _ _).trans (res_g m g c).symm)),
      rest⟩

end Cert.Proof.Layout

end
-- ==== Proof.lean ====
/-
  The proof of everything that the statement claims: the frames, the agreement of each program with its idealized text, and the
  equality of each kernel's results with its reference's over the reals. The mathematics is in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import proofs.«01_k».proof.Proof.In.Claim
public import proofs.«01_k».proof.Proof.Out.Claim
public import proofs.«01_k».proof.Proof.Opt.Claim
public import proofs.«01_k».proof.Proof.Vectors.Claim
public import proofs.«01_k».proof.Proof.Heads.Claim
public import proofs.«01_k».proof.Proof.Loss.Claim
public import proofs.«01_k».proof.Proof.Layout.Claim

@[expose] public section

noncomputable section

namespace Cert.Proof

open Idealize.ShloMosaic Idealize.SL.Sem

/-- The in-projection's reference runs, leaves its arguments alone and has every counter at zero. -/
theorem frame_reference : Cert.quiescent_ReferenceIdeal := fun m ρ _ =>
  (θ_run Cert.ReferenceIdeal.defs _ _).mono (fun r h => ⟨fun c => (h c).2.2.2.2.2.2.2.2.2.2.2, sem_eq_zero_of_no_sems (by decide) _⟩)
    (Cert.ReferenceIdeal.Value.run (F := Ideal) m ρ)

/-- The out-projection's reference runs, leaves its arguments alone and has every counter at zero. -/
theorem frame_reference2 : Cert.quiescent_Reference2Ideal := fun m ρ _ =>
  (θ_run Cert.Reference2Ideal.defs _ _).mono (fun r h => ⟨fun c => (h c).2.2.2.2.2.2, sem_eq_zero_of_no_sems (by decide) _⟩)
    (Cert.Reference2Ideal.Value.run (F := Ideal) m ρ)

/-- The optimiser's reference for the projections' weights runs, leaves its arguments alone and has every counter at zero. -/
theorem frame_reference3 : Cert.quiescent_Reference3Ideal := fun m ρ _ =>
  (θ_run Cert.Reference3Ideal.defs _ _).mono (fun r h => ⟨fun c => (h c).2.2.2.2.2.2.2.2, sem_eq_zero_of_no_sems (by decide) _⟩)
    (Cert.Reference3Ideal.Value.run (F := Ideal) m ρ)

/-- The optimiser's reference for the vectors runs, leaves its arguments alone and has every counter at zero. -/
theorem frame_reference4 : Cert.quiescent_Reference4Ideal := fun m ρ _ =>
  (θ_run Cert.Reference4Ideal.defs _ _).mono (fun r h => ⟨fun c => (h c).2.2.2.2.2.2.2.2.2.2.2.2.2.2.2.2.2.2, sem_eq_zero_of_no_sems (by decide) _⟩)
    (Cert.Reference4Ideal.Value.run (F := Ideal) m ρ)

/-- The optimiser's reference for the convolutions and the per-head parameters runs, leaves its arguments alone and has every counter at zero. -/
theorem frame_reference5 : Cert.quiescent_Reference5Ideal := fun m ρ _ =>
  (θ_run Cert.Reference5Ideal.defs _ _).mono (fun r h => ⟨fun c => (h c).2.2.2.2.2.2.2.2.2.2.2.2.2.2.2.2.2.2.2.2.2, sem_eq_zero_of_no_sems (by decide) _⟩)
    (Cert.Reference5Ideal.Value.run (F := Ideal) m ρ)

/-- The loss's reference runs, leaves its arguments alone and has every counter at zero. -/
theorem frame_reference6 : Cert.quiescent_Reference6Ideal := fun m ρ _ =>
  (θ_run Cert.Reference6Ideal.defs _ _).mono (fun r h => ⟨fun c => (h c).2.2, sem_eq_zero_of_no_sems (by decide) _⟩)
    (Cert.Reference6Ideal.Value.run (F := Ideal) m ρ)

/-- The reference of the columns' rearrangement runs, leaves its arguments alone and has every counter at zero. -/
theorem frame_reference7 : Cert.quiescent_Reference7Ideal := fun m ρ _ =>
  (θ_run Cert.Reference7Ideal.defs _ _).mono (fun r h => ⟨fun c => (h c).2.2, sem_eq_zero_of_no_sems (by decide) _⟩)
    (Cert.Reference7Ideal.Value.run (F := Ideal) m ρ)

/-- Everything claimed: the frames of all programs and their references, and the value claims over the reals. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, In.algebraic, trivial, Out.algebraic, trivial, Opt.algebraic, trivial, Vectors.algebraic, trivial, Heads.algebraic,
    trivial, Loss.algebraic, trivial, Layout.algebraic⟩

end Cert.Proof

end
